-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "inv_q_rank" .f32 0x3BAAAAAB#32 ((192⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v50_0)) (v1 : (c : Dev Cert.Kernel2Ideal.nD) → Buf (Elt Ideal) ((c.tc : Thread Cert.Kernel2Ideal.nD Cert.Kernel2Ideal.τ).loc Cert.Kernel2Ideal.main_v50_1)) (v2 : (c : Dev Cert.Kernel2Ideal.nD) → Buf (Elt Ideal) ((c.tc : Thread Cert.Kernel2Ideal.nD Cert.Kernel2Ideal.τ).loc Cert.Kernel2Ideal.main_v50_2)) (v3 : (c : Dev Cert.Kernel2Ideal.nD) → Buf (Elt Ideal) ((c.tc : Thread Cert.Kernel2Ideal.nD Cert.Kernel2Ideal.τ).loc Cert.Kernel2Ideal.main_v50_3)) (v4 : (c : Dev Cert.Kernel2Ideal.nD) → Buf (Elt Ideal) ((c.tc : Thread Cert.Kernel2Ideal.nD Cert.Kernel2Ideal.τ).loc Cert.Kernel2Ideal.main_v50_4)) (v5 : (c : Dev Cert.Kernel2Ideal.nD) → Buf (Elt Ideal) ((c.tc : Thread Cert.Kernel2Ideal.nD Cert.Kernel2Ideal.τ).loc Cert.Kernel2Ideal.main_v50_5)) (v6 : (c : Dev Cert.Kernel2Ideal.nD) → Buf (Elt Ideal) ((c.tc : Thread Cert.Kernel2Ideal.nD Cert.Kernel2Ideal.τ).loc Cert.Kernel2Ideal.main_v50_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50_0) = v0 c
          ∧ r.2.mem ((c.tc : Thread Cert.Kernel2Ideal.nD Cert.Kernel2Ideal.τ).loc Cert.Kernel2Ideal.main_v50_1) = v1 c
          ∧ r.2.mem ((c.tc : Thread Cert.Kernel2Ideal.nD Cert.Kernel2Ideal.τ).loc Cert.Kernel2Ideal.main_v50_2) = v2 c
          ∧ r.2.mem ((c.tc : Thread Cert.Kernel2Ideal.nD Cert.Kernel2Ideal.τ).loc Cert.Kernel2Ideal.main_v50_3) = v3 c
          ∧ r.2.mem ((c.tc : Thread Cert.Kernel2Ideal.nD Cert.Kernel2Ideal.τ).loc Cert.Kernel2Ideal.main_v50_4) = v4 c
          ∧ r.2.mem ((c.tc : Thread Cert.Kernel2Ideal.nD Cert.Kernel2Ideal.τ).loc Cert.Kernel2Ideal.main_v50_5) = v5 c
          ∧ r.2.mem ((c.tc : Thread Cert.Kernel2Ideal.nD Cert.Kernel2Ideal.τ).loc Cert.Kernel2Ideal.main_v50_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v126) = v0 c
          ∧ r.2.mem ((c.tc : Thread Cert.Reference2Ideal.nD Cert.Reference2Ideal.τ).loc Cert.Reference2Ideal.main_v129) = v1 c
          ∧ r.2.mem ((c.tc : Thread Cert.Reference2Ideal.nD Cert.Reference2Ideal.τ).loc Cert.Reference2Ideal.main_v131) = v2 c
          ∧ r.2.mem ((c.tc : Thread Cert.Reference2Ideal.nD Cert.Reference2Ideal.τ).loc Cert.Reference2Ideal.main_v132) = v3 c
          ∧ r.2.mem ((c.tc : Thread Cert.Reference2Ideal.nD Cert.Reference2Ideal.τ).loc Cert.Reference2Ideal.main_v133) = v4 c
          ∧ r.2.mem ((c.tc : Thread Cert.Reference2Ideal.nD Cert.Reference2Ideal.τ).loc Cert.Reference2Ideal.main_v134) = v5 c
          ∧ r.2.mem ((c.tc : Thread Cert.Reference2Ideal.nD Cert.Reference2Ideal.τ).loc Cert.Reference2Ideal.main_v135) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v76) = v4 c
          ∧ r.2.mem ((c.tc : Thread Cert.Reference3Ideal.nD Cert.Reference3Ideal.τ).loc Cert.Reference3Ideal.main_v77) = v5 c
          ∧ r.2.mem ((c.tc : Thread Cert.Reference3Ideal.nD Cert.Reference3Ideal.τ).loc Cert.Reference3Ideal.main_v79) = v6 c
          ∧ r.2.mem ((c.tc : Thread Cert.Reference3Ideal.nD Cert.Reference3Ideal.τ).loc Cert.Reference3Ideal.main_v81) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "inv_q_rank" .f32 0x3BAAAAAB#32 ((192⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)) (v2 : (c : Dev Cert.Kernel4Ideal.nD) → Buf (Elt Ideal) ((c.tc : Thread Cert.Kernel4Ideal.nD Cert.Kernel4Ideal.τ).loc Cert.Kernel4Ideal.main_v57_2)) (v3 : (c : Dev Cert.Kernel4Ideal.nD) → Buf (Elt Ideal) ((c.tc : Thread Cert.Kernel4Ideal.nD Cert.Kernel4Ideal.τ).loc Cert.Kernel4Ideal.main_v57_3)) (v4 : (c : Dev Cert.Kernel4Ideal.nD) → Buf (Elt Ideal) ((c.tc : Thread Cert.Kernel4Ideal.nD Cert.Kernel4Ideal.τ).loc Cert.Kernel4Ideal.main_v57_4)) (v5 : (c : Dev Cert.Kernel4Ideal.nD) → Buf (Elt Ideal) ((c.tc : Thread Cert.Kernel4Ideal.nD Cert.Kernel4Ideal.τ).loc Cert.Kernel4Ideal.main_v57_5)) (v6 : (c : Dev Cert.Kernel4Ideal.nD) → Buf (Elt Ideal) ((c.tc : Thread Cert.Kernel4Ideal.nD Cert.Kernel4Ideal.τ).loc Cert.Kernel4Ideal.main_v57_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_v57_2) = v2 c
          ∧ r.2.mem ((c.tc : Thread Cert.Kernel4Ideal.nD Cert.Kernel4Ideal.τ).loc Cert.Kernel4Ideal.main_v57_3) = v3 c
          ∧ r.2.mem ((c.tc : Thread Cert.Kernel4Ideal.nD Cert.Kernel4Ideal.τ).loc Cert.Kernel4Ideal.main_v57_4) = v4 c
          ∧ r.2.mem ((c.tc : Thread Cert.Kernel4Ideal.nD Cert.Kernel4Ideal.τ).loc Cert.Kernel4Ideal.main_v57_5) = v5 c
          ∧ r.2.mem ((c.tc : Thread Cert.Kernel4Ideal.nD Cert.Kernel4Ideal.τ).loc Cert.Kernel4Ideal.main_v57_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v134) = v1 c
          ∧ r.2.mem ((c.tc : Thread Cert.Reference4Ideal.nD Cert.Reference4Ideal.τ).loc Cert.Reference4Ideal.main_v137) = v2 c
          ∧ r.2.mem ((c.tc : Thread Cert.Reference4Ideal.nD Cert.Reference4Ideal.τ).loc Cert.Reference4Ideal.main_v139) = v3 c
          ∧ r.2.mem ((c.tc : Thread Cert.Reference4Ideal.nD Cert.Reference4Ideal.τ).loc Cert.Reference4Ideal.main_v141) = v4 c
          ∧ r.2.mem ((c.tc : Thread Cert.Reference4Ideal.nD Cert.Reference4Ideal.τ).loc Cert.Reference4Ideal.main_v143) = v5 c
          ∧ r.2.mem ((c.tc : Thread Cert.Reference4Ideal.nD Cert.Reference4Ideal.τ).loc Cert.Reference4Ideal.main_v145) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v77) = v1 c
          ∧ r.2.mem ((c.tc : Thread Cert.Reference5Ideal.nD Cert.Reference5Ideal.τ).loc Cert.Reference5Ideal.main_v79) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_v83) = v4 c
          ∧ r.2.mem ((c.tc : Thread Cert.Reference5Ideal.nD Cert.Reference5Ideal.τ).loc Cert.Reference5Ideal.main_v85) = v5 c
          ∧ r.2.mem ((c.tc : Thread Cert.Reference5Ideal.nD Cert.Reference5Ideal.τ).loc Cert.Reference5Ideal.main_v88) = v6 c
          ∧ r.2.mem ((c.tc : Thread Cert.Reference5Ideal.nD Cert.Reference5Ideal.τ).loc Cert.Reference5Ideal.main_v91) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S32x2048x8x128 : Shape := ⟨4, ![32, 2048, 8, 128]⟩
abbrev S32x2048x8x32 : Shape := ⟨4, ![32, 2048, 8, 32]⟩
abbrev S32x2048x128 : Shape := ⟨3, ![32, 2048, 128]⟩
abbrev S32x2048x32 : Shape := ⟨3, ![32, 2048, 32]⟩
abbrev S_ : Shape := ⟨0, ![]⟩

class Facts : Prop where
  bcast_S_S32x2048x8x128 : S_.BroadcastsInDim S32x2048x8x128 (![] : Fin 0 → Fin S32x2048x8x128.rank)
  reducesTo_S32x2048x8x128_S_d0_1_2_3 : S32x2048x8x128.ReducesTo [0, 1, 2, 3] S_
  h_S_ : 0 < S_.numel
  bcast_S_S32x2048x8x32 : S_.BroadcastsInDim S32x2048x8x32 (![] : Fin 0 → Fin S32x2048x8x32.rank)
  reducesTo_S32x2048x8x32_S_d0_1_2_3 : S32x2048x8x32.ReducesTo [0, 1, 2, 3] S_
  bcast_S_S32x2048x128 : S_.BroadcastsInDim S32x2048x128 (![] : Fin 0 → Fin S32x2048x128.rank)
  reducesTo_S32x2048x128_S_d0_1_2 : S32x2048x128.ReducesTo [0, 1, 2] S_
  bcast_S_S32x2048x32 : S_.BroadcastsInDim S32x2048x32 (![] : Fin 0 → Fin S32x2048x32.rank)
  reducesTo_S32x2048x32_S_d0_1_2 : S32x2048x32.ReducesTo [0, 1, 2] S_

variable [Facts]

def fn_part1 {F : FTy → Type} [FloatOps F] (main_v13 : IVec S_ 1) (main_v16 : IVec S32x2048x32 1) : IVec S_ 1 :=
  let main_c_5 : IVec S_ 1 := constantI S_ 1 1#1
  let main_v17 : IVec S_ 1 := (fun x v => Host.reduce IntOp.andi x v reducesTo_S32x2048x32_S_d0_1_2 h_S_) main_v16 main_c_5
  let main_v18 : IVec S_ 1 := andi main_v13 main_v17
  main_v18

def fn {F : FTy → Type} [FloatOps F] (main_arg0 : FVec F S32x2048x8x128 .f32) (main_arg1 : FVec F S32x2048x8x32 .f32) (main_arg2 : FVec F S32x2048x128 .f32) (main_arg3 : FVec F S32x2048x32 .f32) : IVec S_ 1 :=
  let main_v0 : FVec F S32x2048x8x128 .f32 := Host.absf main_arg0
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_c : IVec S_ 1 := constantI S_ 1 1#1
  let main_v3 : IVec S_ 1 := (fun x v => Host.reduce IntOp.andi x v reducesTo_S32x2048x8x128_S_d0_1_2_3 h_S_) main_v2 main_c
  let main_v4 : FVec F S32x2048x8x32 .f32 := Host.absf main_arg1
  let main_cst_0 : FVec F S_ .f32 := constant S_ .f32 0x7F800000#32
  let main_v5 : FVec F S32x2048x8x32 .f32 := broadcastInDim S32x2048x8x32 ![] bcast_S_S32x2048x8x32 main_cst_0
  let main_v6 : IVec S32x2048x8x32 1 := cmpf .olt main_v4 main_v5
  let main_c_1 : IVec S_ 1 := constantI S_ 1 1#1
  let main_v7 : IVec S_ 1 := (fun x v => Host.reduce IntOp.andi x v reducesTo_S32x2048x8x32_S_d0_1_2_3 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  let main_v14 : FVec F S32x2048x32 .f32 := Host.absf main_arg3
  let main_cst_4 : FVec F S_ .f32 := constant S_ .f32 0x7F800000#32
  let main_v15 : FVec F S32x2048x32 .f32 := broadcastInDim S32x2048x32 ![] bcast_S_S32x2048x32 main_cst_4
  let main_v16 : IVec S32x2048x32 1 := cmpf .olt main_v14 main_v15
  fn_part1 (F := F) main_v13 main_v16
-- ==== Pre_finite2.lean ====
abbrev S32x2048x1024 : Shape := ⟨3, ![32, 2048, 1024]⟩
abbrev S1024 : Shape := ⟨1, ![1024]⟩
abbrev S1024x2144 : Shape := ⟨2, ![1024, 2144]⟩
abbrev S192 : Shape := ⟨1, ![192]⟩
abbrev S192x8x96 : Shape := ⟨3, ![192, 8, 96]⟩
abbrev S128 : Shape := ⟨1, ![128]⟩
abbrev S128x8x64 : Shape := ⟨3, ![128, 8, 64]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2144 : S_.BroadcastsInDim S1024x2144 (![] : Fin 0 → Fin S1024x2144.rank)
  reducesTo_S1024x2144_S_d0_1 : S1024x2144.ReducesTo [0, 1] S_
  bcast_S_S192 : S_.BroadcastsInDim S192 (![] : Fin 0 → Fin S192.rank)
  reducesTo_S192_S_d0 : S192.ReducesTo [0] S_
  bcast_S_S192x8x96 : S_.BroadcastsInDim S192x8x96 (![] : Fin 0 → Fin S192x8x96.rank)
  reducesTo_S192x8x96_S_d0_1_2 : S192x8x96.ReducesTo [0, 1, 2] S_
  bcast_S_S128 : S_.BroadcastsInDim S128 (![] : Fin 0 → Fin S128.rank)
  reducesTo_S128_S_d0 : S128.ReducesTo [0] S_
  bcast_S_S128x8x64 : S_.BroadcastsInDim S128x8x64 (![] : Fin 0 → Fin S128x8x64.rank)
  reducesTo_S128x8x64_S_d0_1_2 : S128x8x64.ReducesTo [0, 1, 2] S_

variable [Facts]

def fn_part2 {F : FTy → Type} [FloatOps F] (main_arg7 : FVec F S128x8x64 .f32) (main_v33 : IVec S_ 1) : IVec S_ 1 :=
  let main_v34 : FVec F S128x8x64 .f32 := Host.absf main_arg7
  let main_cst_12 : FVec F S_ .f32 := constant S_ .f32 0x7F800000#32
  let main_v35 : FVec F S128x8x64 .f32 := broadcastInDim S128x8x64 ![] bcast_S_S128x8x64 main_cst_12
  let main_v36 : IVec S128x8x64 1 := cmpf .olt main_v34 main_v35
  let main_c_13 : IVec S_ 1 := constantI S_ 1 1#1
  let main_v37 : IVec S_ 1 := (fun x v => Host.reduce IntOp.andi x v reducesTo_S128x8x64_S_d0_1_2 h_S_) main_v36 main_c_13
  let main_v38 : IVec S_ 1 := andi main_v33 main_v37
  main_v38

def fn_part1 {F : FTy → Type} [FloatOps F] (main_arg4 : FVec F S192 .f32) (main_arg5 : FVec F S192x8x96 .f32) (main_arg6 : FVec F S128 .f32) (main_arg7 : FVec F S128x8x64 .f32) (main_v13 : IVec S_ 1) (main_v16 : IVec S1024x2144 1) : IVec S_ 1 :=
  let main_c_5 : IVec S_ 1 := constantI S_ 1 1#1
  let main_v17 : IVec S_ 1 := (fun x v => Host.reduce IntOp.andi x v reducesTo_S1024x2144_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x8x96 .f32 := Host.absf main_arg5
  let main_cst_8 : FVec F S_ .f32 := constant S_ .f32 0x7F800000#32
  let main_v25 : FVec F S192x8x96 .f32 := broadcastInDim S192x8x96 ![] bcast_S_S192x8x96 main_cst_8
  let main_v26 : IVec S192x8x96 1 := cmpf .olt main_v24 main_v25
  let main_c_9 : IVec S_ 1 := constantI S_ 1 1#1
  let main_v27 : IVec S_ 1 := (fun x v => Host.reduce IntOp.andi x v reducesTo_S192x8x96_S_d0_1_2 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S32x2048x1024 .f32) (main_arg1 : FVec F S1024 .f32) (main_arg2 : FVec F S1024 .f32) (main_arg3 : FVec F S1024x2144 .f32) (main_arg4 : FVec F S192 .f32) (main_arg5 : FVec F S192x8x96 .f32) (main_arg6 : FVec F S128 .f32) (main_arg7 : FVec F S128x8x64 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2144 .f32 := Host.absf main_arg3
  let main_cst_4 : FVec F S_ .f32 := constant S_ .f32 0x7F800000#32
  let main_v15 : FVec F S1024x2144 .f32 := broadcastInDim S1024x2144 ![] bcast_S_S1024x2144 main_cst_4
  let main_v16 : IVec S1024x2144 1 := cmpf .olt main_v14 main_v15
  fn_part1 (F := F) main_arg4 main_arg5 main_arg6 main_arg7 main_v13 main_v16
-- ==== Pre_finite4.lean ====
abbrev S128x4x1024 : Shape := ⟨3, ![128, 4, 1024]⟩
abbrev S1024 : Shape := ⟨1, ![1024]⟩
abbrev S1024x2144 : Shape := ⟨2, ![1024, 2144]⟩
abbrev S192 : Shape := ⟨1, ![192]⟩
abbrev S192x8x96 : Shape := ⟨3, ![192, 8, 96]⟩
abbrev S128 : Shape := ⟨1, ![128]⟩
abbrev S128x8x64 : Shape := ⟨3, ![128, 8, 64]⟩
abbrev S_ : Shape := ⟨0, ![]⟩

class Facts : Prop where
  bcast_S_S128x4x1024 : S_.BroadcastsInDim S128x4x1024 (![] : Fin 0 → Fin S128x4x1024.rank)
  reducesTo_S128x4x1024_S_d0_1_2 : S128x4x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2144 : S_.BroadcastsInDim S1024x2144 (![] : Fin 0 → Fin S1024x2144.rank)
  reducesTo_S1024x2144_S_d0_1 : S1024x2144.ReducesTo [0, 1] S_
  bcast_S_S192 : S_.BroadcastsInDim S192 (![] : Fin 0 → Fin S192.rank)
  reducesTo_S192_S_d0 : S192.ReducesTo [0] S_
  bcast_S_S192x8x96 : S_.BroadcastsInDim S192x8x96 (![] : Fin 0 → Fin S192x8x96.rank)
  reducesTo_S192x8x96_S_d0_1_2 : S192x8x96.ReducesTo [0, 1, 2] S_
  bcast_S_S128 : S_.BroadcastsInDim S128 (![] : Fin 0 → Fin S128.rank)
  reducesTo_S128_S_d0 : S128.ReducesTo [0] S_
  bcast_S_S128x8x64 : S_.BroadcastsInDim S128x8x64 (![] : Fin 0 → Fin S128x8x64.rank)
  reducesTo_S128x8x64_S_d0_1_2 : S128x8x64.ReducesTo [0, 1, 2] S_

variable [Facts]

def fn_part2 {F : FTy → Type} [FloatOps F] (main_arg7 : FVec F S128x8x64 .f32) (main_v33 : IVec S_ 1) : IVec S_ 1 :=
  let main_v34 : FVec F S128x8x64 .f32 := Host.absf main_arg7
  let main_cst_12 : FVec F S_ .f32 := constant S_ .f32 0x7F800000#32
  let main_v35 : FVec F S128x8x64 .f32 := broadcastInDim S128x8x64 ![] bcast_S_S128x8x64 main_cst_12
  let main_v36 : IVec S128x8x64 1 := cmpf .olt main_v34 main_v35
  let main_c_13 : IVec S_ 1 := constantI S_ 1 1#1
  let main_v37 : IVec S_ 1 := (fun x v => Host.reduce IntOp.andi x v reducesTo_S128x8x64_S_d0_1_2 h_S_) main_v36 main_c_13
  let main_v38 : IVec S_ 1 := andi main_v33 main_v37
  main_v38

def fn_part1 {F : FTy → Type} [FloatOps F] (main_arg4 : FVec F S192 .f32) (main_arg5 : FVec F S192x8x96 .f32) (main_arg6 : FVec F S128 .f32) (main_arg7 : FVec F S128x8x64 .f32) (main_v13 : IVec S_ 1) (main_v16 : IVec S1024x2144 1) : IVec S_ 1 :=
  let main_c_5 : IVec S_ 1 := constantI S_ 1 1#1
  let main_v17 : IVec S_ 1 := (fun x v => Host.reduce IntOp.andi x v reducesTo_S1024x2144_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x8x96 .f32 := Host.absf main_arg5
  let main_cst_8 : FVec F S_ .f32 := constant S_ .f32 0x7F800000#32
  let main_v25 : FVec F S192x8x96 .f32 := broadcastInDim S192x8x96 ![] bcast_S_S192x8x96 main_cst_8
  let main_v26 : IVec S192x8x96 1 := cmpf .olt main_v24 main_v25
  let main_c_9 : IVec S_ 1 := constantI S_ 1 1#1
  let main_v27 : IVec S_ 1 := (fun x v => Host.reduce IntOp.andi x v reducesTo_S192x8x96_S_d0_1_2 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S128x4x1024 .f32) (main_arg1 : FVec F S1024 .f32) (main_arg2 : FVec F S1024 .f32) (main_arg3 : FVec F S1024x2144 .f32) (main_arg4 : FVec F S192 .f32) (main_arg5 : FVec F S192x8x96 .f32) (main_arg6 : FVec F S128 .f32) (main_arg7 : FVec F S128x8x64 .f32) : IVec S_ 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_c : IVec S_ 1 := constantI S_ 1 1#1
  let main_v3 : IVec S_ 1 := (fun x v => Host.reduce IntOp.andi x v reducesTo_S128x4x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2144 .f32 := Host.absf main_arg3
  let main_cst_4 : FVec F S_ .f32 := constant S_ .f32 0x7F800000#32
  let main_v15 : FVec F S1024x2144 .f32 := broadcastInDim S1024x2144 ![] bcast_S_S1024x2144 main_cst_4
  let main_v16 : IVec S1024x2144 1 := cmpf .olt main_v14 main_v15
  fn_part1 (F := F) main_arg4 main_arg5 main_arg6 main_arg7 main_v13 main_v16
-- ==== Kernel.lean ====
abbrev S32x2048x8x128 : Shape := ⟨4, ![32, 2048, 8, 128]⟩
abbrev S32x2048x8x32 : Shape := ⟨4, ![32, 2048, 8, 32]⟩
abbrev S32x2048x128 : Shape := ⟨3, ![32, 2048, 128]⟩
abbrev S32x2048x32 : Shape := ⟨3, ![32, 2048, 32]⟩
abbrev S_ : Shape := ⟨0, ![]⟩
abbrev S32x2048x8x96 : Shape := ⟨4, ![32, 2048, 8, 96]⟩
abbrev S32x2048x8x256 : Shape := ⟨4, ![32, 2048, 8, 256]⟩
abbrev S65536x8x256 : Shape := ⟨3, ![65536, 8, 256]⟩
abbrev S8x65536x256 : Shape := ⟨3, ![8, 65536, 256]⟩
abbrev S32x2048x95 : Shape := ⟨3, ![32, 2048, 95]⟩
abbrev S32x2048x1 : Shape := ⟨3, ![32, 2048, 1]⟩
abbrev S32x2048x256 : Shape := ⟨3, ![32, 2048, 256]⟩
abbrev S65536x256 : Shape := ⟨2, ![65536, 256]⟩
abbrev S65536x1024 : Shape := ⟨2, ![65536, 1024]⟩
abbrev S8x256x256 : Shape := ⟨3, ![8, 256, 256]⟩
abbrev S2048x256 : Shape := ⟨2, ![2048, 256]⟩
abbrev S256x1024 : Shape := ⟨2, ![256, 1024]⟩
abbrev S2048x512 : Shape := ⟨2, ![2048, 512]⟩
abbrev S8x256x512 : Shape := ⟨3, ![8, 256, 512]⟩
abbrev S2048x1 : Shape := ⟨2, ![2048, 1]⟩
abbrev S256x256 : Shape := ⟨2, ![256, 256]⟩
abbrev S2048 : Shape := ⟨1, ![2048]⟩
abbrev S2048x128 : Shape := ⟨2, ![2048, 128]⟩
abbrev S256x128 : Shape := ⟨2, ![256, 128]⟩
abbrev S512x256 : Shape := ⟨2, ![512, 256]⟩

abbrev nBuf : Space → Nat
  | .hbm => 24
  | .vmem => 7
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x8x32, .f32⟩
  | .hbm, ⟨2, _⟩ => ⟨S32x2048x128, .f32⟩
  | .hbm, ⟨3, _⟩ => ⟨S32x2048x32, .f32⟩
  | .hbm, ⟨4, _⟩ => ⟨S_, .f32⟩
  | .hbm, ⟨5, _⟩ => ⟨S32x2048x8x96, .f32⟩
  | .hbm, ⟨6, _⟩ => ⟨S32x2048x8x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x2048x8x256, .f32⟩
  | .hbm, ⟨12, _⟩ => ⟨S32x2048x8x256, .f32⟩
  | .hbm, ⟨13, _⟩ => ⟨S32x2048x8x256, .bf16⟩
  | .hbm, ⟨14, _⟩ => ⟨S65536x8x256, .bf16⟩
  | .hbm, ⟨15, _⟩ => ⟨S8x65536x256, .bf16⟩
  | .hbm, ⟨16, _⟩ => ⟨S_, .f32⟩
  | .hbm, ⟨17, _⟩ => ⟨S32x2048x95, .f32⟩
  | .hbm, ⟨18, _⟩ => ⟨S_, .f32⟩
  | .hbm, ⟨19, _⟩ => ⟨S32x2048x1, .f32⟩
  | .hbm, ⟨20, _⟩ => ⟨S32x2048x256, .f32⟩
  | .hbm, ⟨21, _⟩ => ⟨S32x2048x256, .bf16⟩
  | .hbm, ⟨22, _⟩ => ⟨S65536x256, .bf16⟩
  | .hbm, ⟨23, _⟩ => ⟨S65536x1024, .bf16⟩
  | .local _ .vmem, ⟨0, _⟩ => ⟨S8x256x256, .bf16⟩
  | .local _ .vmem, ⟨1, _⟩ => ⟨S8x256x256, .bf16⟩
  | .local _ .vmem, ⟨2, _⟩ => ⟨S2048x256, .bf16⟩
  | .local _ .vmem, ⟨3, _⟩ => ⟨S2048x256, .bf16⟩
  | .local _ .vmem, ⟨4, _⟩ => ⟨S256x1024, .bf16⟩
  | .local _ .vmem, ⟨5, _⟩ => ⟨S256x1024, .bf16⟩
  | .local _ .vmem, ⟨6, _⟩ => ⟨S2048x512, .i32⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c0_i32_11 : BitVec 32 := 0#32
  let v29 : BitVec 1 := Scalar.cmpi .eq v25 c0_i32_11
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c0_i32_12 : BitVec 32 := 0#32
  let v30 : BitVec 1 := Scalar.cmpi .eq v28 c0_i32_12
  let v31 : BitVec 1 := Scalar.andi v29 v30
  let v32 : BitVec 32 := Scalar.extui v31
  let c0_i32_13 : BitVec 32 := 0#32
  let v33 : BitVec 1 := Scalar.cmpi .ne v32 c0_i32_13
  v33

def k0_cond3 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c0_i32_14 : BitVec 32 := 0#32
  let v34 : BitVec 1 := Scalar.cmpi .eq v25 c0_i32_14
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c256_i32_15 : BitVec 32 := 256#32
  let v35 : BitVec 1 := Scalar.cmpi .eq v28 c256_i32_15
  let v36 : BitVec 1 := Scalar.andi v34 v35
  let v37 : BitVec 32 := Scalar.extui v36
  let c0_i32_16 : BitVec 32 := 0#32
  let v38 : BitVec 1 := Scalar.cmpi .ne v37 c0_i32_16
  v38

def k0_cond4 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c1_i32_17 : BitVec 32 := 1#32
  let v39 : BitVec 1 := Scalar.cmpi .eq v25 c1_i32_17
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c0_i32_18 : BitVec 32 := 0#32
  let v40 : BitVec 1 := Scalar.cmpi .eq v28 c0_i32_18
  let v41 : BitVec 1 := Scalar.andi v39 v40
  let v42 : BitVec 32 := Scalar.extui v41
  let c0_i32_19 : BitVec 32 := 0#32
  let v43 : BitVec 1 := Scalar.cmpi .ne v42 c0_i32_19
  v43

def k0_cond5 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c1_i32_20 : BitVec 32 := 1#32
  let v44 : BitVec 1 := Scalar.cmpi .eq v25 c1_i32_20
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c256_i32_21 : BitVec 32 := 256#32
  let v45 : BitVec 1 := Scalar.cmpi .eq v28 c256_i32_21
  let v46 : BitVec 1 := Scalar.andi v44 v45
  let v47 : BitVec 32 := Scalar.extui v46
  let c0_i32_22 : BitVec 32 := 0#32
  let v48 : BitVec 1 := Scalar.cmpi .ne v47 c0_i32_22
  v48

def k0_cond6 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c2_i32 : BitVec 32 := 2#32
  let v49 : BitVec 1 := Scalar.cmpi .eq v25 c2_i32
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c0_i32_23 : BitVec 32 := 0#32
  let v50 : BitVec 1 := Scalar.cmpi .eq v28 c0_i32_23
  let v51 : BitVec 1 := Scalar.andi v49 v50
  let v52 : BitVec 32 := Scalar.extui v51
  let c0_i32_24 : BitVec 32 := 0#32
  let v53 : BitVec 1 := Scalar.cmpi .ne v52 c0_i32_24
  v53

def k0_cond7 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c2_i32_25 : BitVec 32 := 2#32
  let v54 : BitVec 1 := Scalar.cmpi .eq v25 c2_i32_25
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c256_i32_26 : BitVec 32 := 256#32
  let v55 : BitVec 1 := Scalar.cmpi .eq v28 c256_i32_26
  let v56 : BitVec 1 := Scalar.andi v54 v55
  let v57 : BitVec 32 := Scalar.extui v56
  let c0_i32_27 : BitVec 32 := 0#32
  let v58 : BitVec 1 := Scalar.cmpi .ne v57 c0_i32_27
  v58

def k0_cond8 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c3_i32 : BitVec 32 := 3#32
  let v59 : BitVec 1 := Scalar.cmpi .eq v25 c3_i32
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c0_i32_28 : BitVec 32 := 0#32
  let v60 : BitVec 1 := Scalar.cmpi .eq v28 c0_i32_28
  let v61 : BitVec 1 := Scalar.andi v59 v60
  let v62 : BitVec 32 := Scalar.extui v61
  let c0_i32_29 : BitVec 32 := 0#32
  let v63 : BitVec 1 := Scalar.cmpi .ne v62 c0_i32_29
  v63

def k0_cond9 (i : grid0.Coords) : BitVec 1 :=
  let arg1 : BitVec 32 := BitVec.ofNat 32 (i 1).val
  let c256_i32 : BitVec 32 := 256#32
  let v8 : BitVec 32 := Scalar.muli arg1 c256_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32 : BitVec 32 := 512#32
  let c0_i32_6 : BitVec 32 := 0#32
  let v15 : BitVec 1 := Scalar.cmpi .sgt c512_i32 c0_i32_6
  let v16 : BitVec 32 := Scalar.extui v15
  let c0_i32_7 : BitVec 32 := 0#32
  let v17 : BitVec 1 := Scalar.cmpi .slt c512_i32 c0_i32_7
  let v18 : BitVec 32 := Scalar.extui v17
  let v19 : BitVec 32 := Scalar.subi v16 v18
  let v20 : BitVec 1 := Scalar.cmpi .ne v14 v19
  let v21 : BitVec 32 := Scalar.remsi v8 c512_i32
  let c0_i32_8 : BitVec 32 := 0#32
  let v22 : BitVec 1 := Scalar.cmpi .ne v21 c0_i32_8
  let v23 : BitVec 1 := Scalar.andi v20 v22
  let v9 : BitVec 32 := Scalar.divsi v8 c512_i32
  let c1_i32 : BitVec 32 := 1#32
  let v24 : BitVec 32 := Scalar.subi v9 c1_i32
  let v25 : BitVec 32 := Scalar.select v23 v24 v9
  let c3_i32_30 : BitVec 32 := 3#32
  let v64 : BitVec 1 := Scalar.cmpi .eq v25 c3_i32_30
  let c256_i32_9 : BitVec 32 := 256#32
  let v26 : BitVec 32 := Scalar.muli arg1 c256_i32_9
  let c512_i32_10 : BitVec 32 := 512#32
  let v27 : BitVec 32 := Scalar.muli v25 c512_i32_10
  let v28 : BitVec 32 := Scalar.subi v26 v27
  let c256_i32_31 : BitVec 32 := 256#32
  let v65 : BitVec 1 := Scalar.cmpi .eq v28 c256_i32_31
  let v66 : BitVec 1 := Scalar.andi v64 v65
  let v67 : BitVec 32 := Scalar.extui v66
  let c0_i32_32 : BitVec 32 := 0#32
  let v68 : BitVec 1 := Scalar.cmpi .ne v67 c0_i32_32
  v68

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S32x2048x8x128 : Shape := ⟨4, ![32, 2048, 8, 128]⟩
abbrev S32x2048x8x32 : Shape := ⟨4, ![32, 2048, 8, 32]⟩
abbrev S32x2048x128 : Shape := ⟨3, ![32, 2048, 128]⟩
abbrev S32x2048x32 : Shape := ⟨3, ![32, 2048, 32]⟩
abbrev S2048 : Shape := ⟨1, ![2048]⟩
abbrev S32x2048x2048x8 : Shape := ⟨4, ![32, 2048, 2048, 8]⟩
abbrev S32x8x2048x2048 : Shape := ⟨4, ![32, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x128x8x2048 : Shape := ⟨4, ![32, 128, 8, 2048]⟩
abbrev S65536x1024 : Shape := ⟨2, ![65536, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x8x32, .f32⟩
  | .hbm, ⟨2, _⟩ => ⟨S32x2048x128, .f32⟩
  | .hbm, ⟨3, _⟩ => ⟨S32x2048x32, .f32⟩
  | .hbm, ⟨4, _⟩ => ⟨S2048, .i32⟩
  | .hbm, ⟨5, _⟩ => ⟨S2048, .i32⟩
  | .hbm, ⟨6, _⟩ => ⟨S32x2048x2048x8, .f32⟩
  | .hbm, ⟨7, _⟩ => ⟨S32x8x2048x2048, .f32⟩
  | .hbm, ⟨8, _⟩ => ⟨S32x2048x2048x8, .f32⟩
  | .hbm, ⟨9, _⟩ => ⟨S32x8x2048x2048, .f32⟩
  | .hbm, ⟨10, _⟩ => ⟨S32x8x2048x2048, .f32⟩
  | .hbm, ⟨11, _⟩ => ⟨S_, .f32⟩
  | .hbm, ⟨12, _⟩ => ⟨S32x8x2048x2048, .f32⟩
  | .hbm, ⟨13, _⟩ => ⟨S32x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S32x8x2048x2048, .i1⟩
  | .hbm, ⟨22, _⟩ => ⟨S32x8x2048x2048, .f32⟩
  | .hbm, ⟨23, _⟩ => ⟨S32x8x2048x2048, .f32⟩
  | .hbm, ⟨24, _⟩ => ⟨S_, .f32⟩
  | .hbm, ⟨25, _⟩ => ⟨S32x8x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S32x8x2048x1, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S_, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x128x8x2048, .f32⟩
  | .hbm, ⟨39, _⟩ => ⟨S32x2048x8x128, .f32⟩
  | .hbm, ⟨40, _⟩ => ⟨S65536x1024, .f32⟩
  | .hbm, ⟨41, _⟩ => ⟨S65536x1024, .bf16⟩
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x2144 : Shape := ⟨2, ![1024, 2144]⟩
abbrev S192 : Shape := ⟨1, ![192]⟩
abbrev S192x8x96 : Shape := ⟨3, ![192, 8, 96]⟩
abbrev S128 : Shape := ⟨1, ![128]⟩
abbrev S128x8x64 : Shape := ⟨3, ![128, 8, 64]⟩
abbrev S_ : Shape := ⟨0, ![]⟩
abbrev S1024x64 : Shape := ⟨2, ![1024, 64]⟩
abbrev S1024x32 : Shape := ⟨2, ![1024, 32]⟩
abbrev S1024x192 : Shape := ⟨2, ![1024, 192]⟩
abbrev S1024x128 : Shape := ⟨2, ![1024, 128]⟩
abbrev S1024x16 : Shape := ⟨2, ![1024, 16]⟩
abbrev S1024x1792 : Shape := ⟨2, ![1024, 1792]⟩
abbrev S1024x2304 : Shape := ⟨2, ![1024, 2304]⟩
abbrev S64 : Shape := ⟨1, ![64]⟩
abbrev S256 : Shape := ⟨1, ![256]⟩
abbrev S1x256 : Shape := ⟨2, ![1, 256]⟩
abbrev S192x8x64 : Shape := ⟨3, ![192, 8, 64]⟩
abbrev S8x128x192 : Shape := ⟨3, ![8, 128, 192]⟩
abbrev S192x8x128 : Shape := ⟨3, ![192, 8, 128]⟩
abbrev S192x8x32 : Shape := ⟨3, ![192, 8, 32]⟩
abbrev S192x8x16 : Shape := ⟨3, ![192, 8, 16]⟩
abbrev S192x8x256 : Shape := ⟨3, ![192, 8, 256]⟩
abbrev S192x2048 : Shape := ⟨2, ![192, 2048]⟩
abbrev S64x2048 : Shape := ⟨2, ![64, 2048]⟩
abbrev S256x2048 : Shape := ⟨2, ![256, 2048]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S65536x1024 : Shape := ⟨2, ![65536, 1024]⟩
abbrev S1x128 : Shape := ⟨2, ![1, 128]⟩
abbrev S1x1024 : Shape := ⟨2, ![1, 1024]⟩
abbrev S8x65536x256 : Shape := ⟨3, ![8, 65536, 256]⟩
abbrev S65536x256 : Shape := ⟨2, ![65536, 256]⟩
abbrev S65536x128 : Shape := ⟨2, ![65536, 128]⟩
abbrev S65536x32 : Shape := ⟨2, ![65536, 32]⟩
abbrev S65536x768 : Shape := ⟨2, ![65536, 768]⟩
abbrev S512x1024 : Shape := ⟨2, ![512, 1024]⟩
abbrev S512x128 : Shape := ⟨2, ![512, 128]⟩
abbrev S8x512x256 : Shape := ⟨3, ![8, 512, 256]⟩
abbrev S512x256 : Shape := ⟨2, ![512, 256]⟩
abbrev S512x32 : Shape := ⟨2, ![512, 32]⟩
abbrev S512x768 : Shape := ⟨2, ![512, 768]⟩
abbrev S512 : Shape := ⟨1, ![512]⟩
abbrev S512x1 : Shape := ⟨2, ![512, 1]⟩
abbrev S512x2304 : Shape := ⟨2, ![512, 2304]⟩
abbrev S512x2048 : Shape := ⟨2, ![512, 2048]⟩
abbrev S1x512x128 : Shape := ⟨3, ![1, 512, 128]⟩

abbrev nBuf : Space → Nat
  | .hbm => 73
  | .vmem => 26
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2144, .f32⟩
  | .hbm, ⟨4, _⟩ => ⟨S192, .f32⟩
  | .hbm, ⟨5, _⟩ => ⟨S192x8x96, .f32⟩
  | .hbm, ⟨6, _⟩ => ⟨S128, .f32⟩
  | .hbm, ⟨7, _⟩ => ⟨S128x8x64, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S1024x192, .f32⟩
  | .hbm, ⟨12, _⟩ => ⟨S1024x128, .f32⟩
  | .hbm, ⟨13, _⟩ => ⟨S1024x16, .f32⟩
  | .hbm, ⟨14, _⟩ => ⟨S1024x16, .f32⟩
  | .hbm, ⟨15, _⟩ => ⟨S1024x32, .f32⟩
  | .hbm, ⟨16, _⟩ => ⟨S1024x1792, .f32⟩
  | .hbm, ⟨17, _⟩ => ⟨S1024x2304, .f32⟩
  | .hbm, ⟨18, _⟩ => ⟨S1024x2304, .bf16⟩
  | .hbm, ⟨19, _⟩ => ⟨S_, .f32⟩
  | .hbm, ⟨20, _⟩ => ⟨S64, .f32⟩
  | .hbm, ⟨21, _⟩ => ⟨S256, .f32⟩
  | .hbm, ⟨22, _⟩ => ⟨S1x256, .f32⟩
  | .hbm, ⟨23, _⟩ => ⟨S192x8x64, .f32⟩
  | .hbm, ⟨24, _⟩ => ⟨S8x128x192, .f32⟩
  | .hbm, ⟨25, _⟩ => ⟨S192x8x128, .f32⟩
  | .hbm, ⟨26, _⟩ => ⟨S192x8x32, .f32⟩
  | .hbm, ⟨27, _⟩ => ⟨S192x8x16, .f32⟩
  | .hbm, ⟨28, _⟩ => ⟨S192x8x16, .f32⟩
  | .hbm, ⟨29, _⟩ => ⟨S192x8x32, .f32⟩
  | .hbm, ⟨30, _⟩ => ⟨S_, .f32⟩
  | .hbm, ⟨31, _⟩ => ⟨S192x8x64, .f32⟩
  | .hbm, ⟨32, _⟩ => ⟨S192x8x256, .f32⟩
  | .hbm, ⟨33, _⟩ => ⟨S_, .f32⟩
  | .hbm, ⟨34, _⟩ => ⟨S192x8x256, .f32⟩
  | .hbm, ⟨35, _⟩ => ⟨S192x8x256, .f32⟩
  | .hbm, ⟨36, _⟩ => ⟨S192x2048, .f32⟩
  | .hbm, ⟨37, _⟩ => ⟨S_, .f32⟩
  | .hbm, ⟨38, _⟩ => ⟨S64x2048, .f32⟩
  | .hbm, ⟨39, _⟩ => ⟨S256x2048, .f32⟩
  | .hbm, ⟨40, _⟩ => ⟨S256x2048, .bf16⟩
  | .hbm, ⟨41, _⟩ => ⟨S2048, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S2048x1, .f32⟩
  | .hbm, ⟨51, _⟩ => ⟨S1x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S_, .f32⟩
  | .hbm, ⟨58, _⟩ => ⟨S2048x96, .f32⟩
  | .hbm, ⟨59, _⟩ => ⟨S2048x128, .f32⟩
  | .hbm, ⟨60, _⟩ => ⟨S2048x16, .f32⟩
  | .hbm, ⟨61, _⟩ => ⟨S2048x128, .f32⟩
  | .hbm, ⟨62, _⟩ => ⟨S65536x1024, .f32⟩
  | .hbm, ⟨63, _⟩ => ⟨S1x128, .f32⟩
  | .hbm, ⟨64, _⟩ => ⟨S1x1024, .f32⟩
  | .hbm, ⟨65, _⟩ => ⟨S1x1024, .f32⟩
  | .hbm, ⟨66, _⟩ => ⟨S65536x1024, .f32⟩
  | .hbm, ⟨67, _⟩ => ⟨S8x65536x256, .bf16⟩
  | .hbm, ⟨68, _⟩ => ⟨S65536x256, .bf16⟩
  | .hbm, ⟨69, _⟩ => ⟨S65536x128, .f32⟩
  | .hbm, ⟨70, _⟩ => ⟨S65536x32, .f32⟩
  | .hbm, ⟨71, _⟩ => ⟨S65536x1024, .f32⟩
  | .hbm, ⟨72, _⟩ => ⟨S65536x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2304, .bf16⟩
  | .local _ .vmem, ⟨5, _⟩ => ⟨S1x256, .f32⟩
  | .local _ .vmem, ⟨6, _⟩ => ⟨S256x2048, .bf16⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S8x512x256, .bf16⟩
  | .local _ .vmem, ⟨15, _⟩ => ⟨S8x512x256, .bf16⟩
  | .local _ .vmem, ⟨16, _⟩ => ⟨S512x256, .bf16⟩
  | .local _ .vmem, ⟨17, _⟩ => ⟨S512x256, .bf16⟩
  | .local _ .vmem, ⟨18, _⟩ => ⟨S512x128, .f32⟩
  | .local _ .vmem, ⟨19, _⟩ => ⟨S512x128, .f32⟩
  | .local _ .vmem, ⟨20, _⟩ => ⟨S512x32, .f32⟩
  | .local _ .vmem, ⟨21, _⟩ => ⟨S512x32, .f32⟩
  | .local _ .vmem, ⟨22, _⟩ => ⟨S512x1024, .f32⟩
  | .local _ .vmem, ⟨23, _⟩ => ⟨S512x1024, .f32⟩
  | .local _ .vmem, ⟨24, _⟩ => ⟨S512x768, .f32⟩
  | .local _ .vmem, ⟨25, _⟩ => ⟨S512x768, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev main_v50_3 : Ref sig .tc := ⟨.hbm, 69, rfl⟩
abbrev main_v50_4 : Ref sig .tc := ⟨.hbm, 70, rfl⟩
abbrev main_v50_5 : Ref sig .tc := ⟨.hbm, 71, rfl⟩
abbrev main_v50_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "inv_q_rank" => some ((192⁻¹ : ℝ) : EReal)
  | _ => none
-- ==== Reference2Ideal.lean ====
abbrev S32x2048x1024 : Shape := ⟨3, ![32, 2048, 1024]⟩
abbrev S1024 : Shape := ⟨1, ![1024]⟩
abbrev S1024x2144 : Shape := ⟨2, ![1024, 2144]⟩
abbrev S192 : Shape := ⟨1, ![192]⟩
abbrev S192x8x96 : Shape := ⟨3, ![192, 8, 96]⟩
abbrev S128 : Shape := ⟨1, ![128]⟩
abbrev S128x8x64 : Shape := ⟨3, ![128, 8, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2144 : Shape := ⟨3, ![32, 2048, 2144]⟩
abbrev S32x2048x192 : Shape := ⟨3, ![32, 2048, 192]⟩
abbrev S32x2048x128 : Shape := ⟨3, ![32, 2048, 128]⟩
abbrev S32x2048x32 : Shape := ⟨3, ![32, 2048, 32]⟩
abbrev S32x2048x768 : Shape := ⟨3, ![32, 2048, 768]⟩
abbrev S1x1x192 : Shape := ⟨3, ![1, 1, 192]⟩
abbrev S32x2048x8x96 : Shape := ⟨4, ![32, 2048, 8, 96]⟩
abbrev S32x2048x8x64 : Shape := ⟨4, ![32, 2048, 8, 64]⟩
abbrev S8x128x32x2048 : Shape := ⟨4, ![8, 128, 32, 2048]⟩
abbrev S32x2048x8x128 : Shape := ⟨4, ![32, 2048, 8, 128]⟩
abbrev S32x2048x8x32 : Shape := ⟨4, ![32, 2048, 8, 32]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x8x16 : Shape := ⟨4, ![32, 2048, 8, 16]⟩
abbrev S1x1x128 : Shape := ⟨3, ![1, 1, 128]⟩
abbrev S1x2048x16 : Shape := ⟨3, ![1, 2048, 16]⟩
abbrev S32x2048x16 : Shape := ⟨3, ![32, 2048, 16]⟩
abbrev S32x2048x8x256 : Shape := ⟨4, ![32, 2048, 8, 256]⟩
abbrev S32x2048x95 : Shape := ⟨3, ![32, 2048, 95]⟩
abbrev S32x2048x256 : Shape := ⟨3, ![32, 2048, 256]⟩
abbrev S65536x1024 : Shape := ⟨2, ![65536, 1024]⟩
abbrev S65536x8x256 : Shape := ⟨3, ![65536, 8, 256]⟩
abbrev S8x65536x256 : Shape := ⟨3, ![8, 65536, 256]⟩
abbrev S65536x256 : Shape := ⟨2, ![65536, 256]⟩
abbrev S65536x128 : Shape := ⟨2, ![65536, 128]⟩
abbrev S65536x32 : Shape := ⟨2, ![65536, 32]⟩
abbrev S65536x768 : Shape := ⟨2, ![65536, 768]⟩

abbrev nBuf : Space → Nat
  | .hbm => 163
  | .vmem => 0
  | .smem => 0
  | _ => 0

abbrev hbmTy0_0 (i : Nat) : BufTy := match i % 128 with
  | 0 => ⟨S32x2048x1024, .f32⟩
  | 1 => ⟨S1024, .f32⟩
  | 2 => ⟨S1024, .f32⟩
  | 3 => ⟨S1024x2144, .f32⟩
  | 4 => ⟨S192, .f32⟩
  | 5 => ⟨S192x8x96, .f32⟩
  | 6 => ⟨S128, .f32⟩
  | 7 => ⟨S128x8x64, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S32x2048x1024, .f32⟩
  | 15 => ⟨S32x2048x1024, .f32⟩
  | 16 => ⟨S32x2048x1024, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S32x2048x1024, .f32⟩
  | 24 => ⟨S32x2048x1024, .f32⟩
  | 25 => ⟨S_, .f32⟩
  | 26 => ⟨S32x2048x1, .f32⟩
  | 27 => ⟨S32x2048x1, .f32⟩
  | 28 => ⟨S32x2048x1, .f32⟩
  | 29 => ⟨S32x2048x1024, .f32⟩
  | 30 => ⟨S32x2048x1024, .f32⟩
  | 31 => ⟨S1x1x1024, .f32⟩
  | 32 => ⟨S32x2048x1024, .f32⟩
  | 33 => ⟨S32x2048x1024, .f32⟩
  | 34 => ⟨S1x1x1024, .f32⟩
  | 35 => ⟨S32x2048x1024, .f32⟩
  | 36 => ⟨S32x2048x1024, .f32⟩
  | 37 => ⟨S32x2048x2144, .f32⟩
  | 38 => ⟨S32x2048x192, .f32⟩
  | 39 => ⟨S32x2048x128, .f32⟩
  | 40 => ⟨S32x2048x32, .f32⟩
  | 41 => ⟨S32x2048x1024, .f32⟩
  | 42 => ⟨S32x2048x768, .f32⟩
  | 43 => ⟨S32x2048x192, .f32⟩
  | 44 => ⟨S_, .f32⟩
  | 45 => ⟨S32x2048, .f32⟩
  | 46 => ⟨S32x2048x1, .f32⟩
  | 47 => ⟨S_, .f32⟩
  | 48 => ⟨S32x2048x1, .f32⟩
  | 49 => ⟨S32x2048x1, .f32⟩
  | 50 => ⟨S_, .f32⟩
  | 51 => ⟨S32x2048x1, .f32⟩
  | 52 => ⟨S32x2048x1, .f32⟩
  | 53 => ⟨S32x2048x1, .f32⟩
  | 54 => ⟨S32x2048x192, .f32⟩
  | 55 => ⟨S32x2048x192, .f32⟩
  | 56 => ⟨S1x1x192, .f32⟩
  | 57 => ⟨S32x2048x192, .f32⟩
  | 58 => ⟨S32x2048x192, .f32⟩
  | 59 => ⟨S32x2048x8x96, .f32⟩
  | 60 => ⟨S32x2048x8x64, .f32⟩
  | 61 => ⟨S8x128x32x2048, .f32⟩
  | 62 => ⟨S32x2048x8x128, .f32⟩
  | 63 => ⟨S32x2048x8x32, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S2048, .i32⟩
  | 73 => ⟨S2048, .f32⟩
  | 74 => ⟨S2048x1, .f32⟩
  | 75 => ⟨S1x16, .f32⟩
  | 76 => ⟨S2048x16, .f32⟩
  | 77 => ⟨S2048x16, .f32⟩
  | 78 => ⟨S2048x16, .f32⟩
  | 79 => ⟨S1x2048x1x16, .f32⟩
  | 80 => ⟨S1x2048x1x16, .f32⟩
  | 81 => ⟨S1x2048x1x16, .f32⟩
  | 82 => ⟨S32x2048x8x16, .f32⟩
  | 83 => ⟨S32x2048x8x16, .f32⟩
  | 84 => ⟨S32x2048x8x16, .f32⟩
  | 85 => ⟨S32x2048x8x16, .f32⟩
  | 86 => ⟨S32x2048x8x16, .f32⟩
  | 87 => ⟨S32x2048x8x16, .f32⟩
  | 88 => ⟨S32x2048x8x16, .f32⟩
  | 89 => ⟨S32x2048x8x16, .f32⟩
  | 90 => ⟨S32x2048x8x16, .f32⟩
  | 91 => ⟨S32x2048x8x16, .f32⟩
  | 92 => ⟨S32x2048x8x16, .f32⟩
  | 93 => ⟨S32x2048x8x16, .f32⟩
  | 94 => ⟨S32x2048x8x32, .f32⟩
  | 95 => ⟨S32x2048x128, .f32⟩
  | 96 => ⟨S_, .f32⟩
  | 97 => ⟨S32x2048, .f32⟩
  | 98 => ⟨S32x2048x1, .f32⟩
  | 99 => ⟨S_, .f32⟩
  | 100 => ⟨S32x2048x1, .f32⟩
  | 101 => ⟨S32x2048x1, .f32⟩
  | 102 => ⟨S_, .f32⟩
  | 103 => ⟨S32x2048x1, .f32⟩
  | 104 => ⟨S32x2048x1, .f32⟩
  | 105 => ⟨S32x2048x1, .f32⟩
  | 106 => ⟨S32x2048x128, .f32⟩
  | 107 => ⟨S32x2048x128, .f32⟩
  | 108 => ⟨S1x1x128, .f32⟩
  | 109 => ⟨S32x2048x128, .f32⟩
  | 110 => ⟨S32x2048x128, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S2048, .i32⟩
  | 120 => ⟨S2048, .f32⟩
  | 121 => ⟨S2048x1, .f32⟩
  | 122 => ⟨S1x16, .f32⟩
  | 123 => ⟨S2048x16, .f32⟩
  | 124 => ⟨S2048x16, .f32⟩
  | 125 => ⟨S2048x16, .f32⟩
  | 126 => ⟨S1x2048x16, .f32⟩
  | 127 => ⟨S1x2048x16, .f32⟩
  | _ => ⟨S32x2048x1024, .f32⟩

abbrev hbmTy0_1 (i : Nat) : BufTy := match i % 128 with
  | 0 => ⟨S1x2048x16, .f32⟩
  | 1 => ⟨S32x2048x16, .f32⟩
  | 2 => ⟨S32x2048x16, .f32⟩
  | 3 => ⟨S32x2048x16, .f32⟩
  | 4 => ⟨S32x2048x16, .f32⟩
  | 5 => ⟨S32x2048x16, .f32⟩
  | 6 => ⟨S32x2048x16, .f32⟩
  | 7 => ⟨S32x2048x16, .f32⟩
  | 8 => ⟨S32x2048x16, .f32⟩
  | 9 => ⟨S32x2048x16, .f32⟩
  | 10 => ⟨S32x2048x16, .f32⟩
  | 11 => ⟨S32x2048x16, .f32⟩
  | 12 => ⟨S32x2048x16, .f32⟩
  | 13 => ⟨S32x2048x32, .f32⟩
  | 14 => ⟨S_, .f32⟩
  | 15 => ⟨S32x2048x8x96, .f32⟩
  | 16 => ⟨S32x2048x8x256, .f32⟩
  | 17 => ⟨S_, .f32⟩
  | 18 => ⟨S32x2048x8x256, .f32⟩
  | 19 => ⟨S32x2048x8x256, .f32⟩
  | 20 => ⟨S_, .f32⟩
  | 21 => ⟨S32x2048x95, .f32⟩
  | 22 => ⟨S_, .f32⟩
  | 23 => ⟨S32x2048x1, .f32⟩
  | 24 => ⟨S32x2048x256, .f32⟩
  | 25 => ⟨S65536x1024, .f32⟩
  | 26 => ⟨S65536x8x256, .f32⟩
  | 27 => ⟨S8x65536x256, .f32⟩
  | 28 => ⟨S8x65536x256, .bf16⟩
  | 29 => ⟨S65536x256, .f32⟩
  | 30 => ⟨S65536x256, .bf16⟩
  | 31 => ⟨S65536x128, .f32⟩
  | 32 => ⟨S65536x32, .f32⟩
  | 33 => ⟨S65536x1024, .f32⟩
  | 34 => ⟨S65536x768, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_14 : Ref sig .tc := ⟨.hbm, 142, rfl⟩
abbrev main_v119 : Ref sig .tc := ⟨.hbm, 143, rfl⟩
abbrev main_v120 : Ref sig .tc := ⟨.hbm, 144, rfl⟩
abbrev main_cst_15 : Ref sig .tc := ⟨.hbm, 145, rfl⟩
abbrev main_v121 : Ref sig .tc := ⟨.hbm, 146, rfl⟩
abbrev main_v122 : Ref sig .tc := ⟨.hbm, 147, rfl⟩
abbrev main_cst_16 : Ref sig .tc := ⟨.hbm, 148, rfl⟩
abbrev main_v123 : Ref sig .tc := ⟨.hbm, 149, rfl⟩
abbrev main_cst_17 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩

abbrev nD : Nat := 1
abbrev τ : Topo := Topo.v7x

variable {F : FTy → Type} [FloatOps F]
-- ==== Kernel3.lean ====
abbrev S65536x1024 : Shape := ⟨2, ![65536, 1024]⟩
abbrev S65536x768 : Shape := ⟨2, ![65536, 768]⟩
abbrev S32x1024 : Shape := ⟨2, ![32, 1024]⟩
abbrev S32x2x256 : Shape := ⟨3, ![32, 2, 256]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S3x256 : Shape := ⟨2, ![3, 256]⟩
abbrev S_ : Shape := ⟨0, ![]⟩
abbrev S32x1x1024 : Shape := ⟨3, ![32, 1, 1024]⟩
abbrev S32x2x1x256 : Shape := ⟨4, ![32, 2, 1, 256]⟩
abbrev S1x1024 : Shape := ⟨2, ![1, 1024]⟩
abbrev S1x256 : Shape := ⟨2, ![1, 256]⟩
abbrev S65536x256 : Shape := ⟨2, ![65536, 256]⟩
abbrev S512x1024 : Shape := ⟨2, ![512, 1024]⟩
abbrev S512x768 : Shape := ⟨2, ![512, 768]⟩
abbrev S1x1x1024 : Shape := ⟨3, ![1, 1, 1024]⟩
abbrev S1x2x1x256 : Shape := ⟨4, ![1, 2, 1, 256]⟩
abbrev S512x256 : Shape := ⟨2, ![512, 256]⟩
abbrev S1x1x1x256 : Shape := ⟨4, ![1, 1, 1, 256]⟩
abbrev S512x128 : Shape := ⟨2, ![512, 128]⟩

abbrev nBuf : Space → Nat
  | .hbm => 31
  | .vmem => 34
  | .smem => 0
  | _ => 0

abbrev bufTy : (tb : Table) → Fin (tcTables nBuf tb) → BufTy
  | .hbm, ⟨0, _⟩ => ⟨S65536x1024, .f32⟩
  | .hbm, ⟨1, _⟩ => ⟨S65536x768, .f32⟩
  | .hbm, ⟨2, _⟩ => ⟨S32x1024, .f32⟩
  | .hbm, ⟨3, _⟩ => ⟨S32x2x256, .f32⟩
  | .hbm, ⟨4, _⟩ => ⟨S1024, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S128x256, .f32⟩
  | .hbm, ⟨10, _⟩ => ⟨S3x256, .f32⟩
  | .hbm, ⟨11, _⟩ => ⟨S_, .f32⟩
  | .hbm, ⟨12, _⟩ => ⟨S64x256, .f32⟩
  | .hbm, ⟨13, _⟩ => ⟨S128x256, .f32⟩
  | .hbm, ⟨14, _⟩ => ⟨S128x256, .bf16⟩
  | .hbm, ⟨15, _⟩ => ⟨S128x256, .f32⟩
  | .hbm, ⟨16, _⟩ => ⟨S128x256, .bf16⟩
  | .hbm, ⟨17, _⟩ => ⟨S128x256, .bf16⟩
  | .hbm, ⟨18, _⟩ => ⟨S32x1x1024, .f32⟩
  | .hbm, ⟨19, _⟩ => ⟨S32x2x1x256, .f32⟩
  | .hbm, ⟨20, _⟩ => ⟨S1x1024, .f32⟩
  | .hbm, ⟨21, _⟩ => ⟨S1x256, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .bf16⟩
  | .hbm, ⟨30, _⟩ => ⟨S65536x256, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S1x1x1024, .f32⟩
  | .local _ .vmem, ⟨5, _⟩ => ⟨S1x1x1024, .f32⟩
  | .local _ .vmem, ⟨6, _⟩ => ⟨S1x2x1x256, .f32⟩
  | .local _ .vmem, ⟨7, _⟩ => ⟨S1x2x1x256, .f32⟩
  | .local _ .vmem, ⟨8, _⟩ => ⟨S1x1024, .f32⟩
  | .local _ .vmem, ⟨9, _⟩ => ⟨S1x256, .f32⟩
  | .local _ .vmem, ⟨10, _⟩ => ⟨S1x256, .f32⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S3x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .bf16⟩
  | .local _ .vmem, ⟨28, _⟩ => ⟨S512x256, .bf16⟩
  | .local _ .vmem, ⟨29, _⟩ => ⟨S512x256, .f32⟩
  | .local _ .vmem, ⟨30, _⟩ => ⟨S512x256, .f32⟩
  | .local _ .vmem, ⟨31, _⟩ => ⟨S1x1024, .f32⟩
  | .local _ .vmem, ⟨32, _⟩ => ⟨S1x256, .f32⟩
  | .local _ .vmem, ⟨33, _⟩ => ⟨S1x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S65536x1024 : Shape := ⟨2, ![65536, 1024]⟩
abbrev S65536x768 : Shape := ⟨2, ![65536, 768]⟩
abbrev S32x1024 : Shape := ⟨2, ![32, 1024]⟩
abbrev S32x2x256 : Shape := ⟨3, ![32, 2, 256]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S3x256 : Shape := ⟨2, ![3, 256]⟩
abbrev S32x2048x1024 : Shape := ⟨3, ![32, 2048, 1024]⟩
abbrev S32x1x1024 : Shape := ⟨3, ![32, 1, 1024]⟩
abbrev S32x2047x1024 : Shape := ⟨3, ![32, 2047, 1024]⟩
abbrev S1x1x1024 : Shape := ⟨3, ![1, 1, 1024]⟩
abbrev S32x2048x256 : Shape := ⟨3, ![32, 2048, 256]⟩
abbrev S32x2048x64 : Shape := ⟨3, ![32, 2048, 64]⟩
abbrev S32x2048x128 : Shape := ⟨3, ![32, 2048, 128]⟩
abbrev S1x1x256 : Shape := ⟨3, ![1, 1, 256]⟩
abbrev S_ : Shape := ⟨0, ![]⟩
abbrev S32x2048x768 : Shape := ⟨3, ![32, 2048, 768]⟩
abbrev S32x2050x256 : Shape := ⟨3, ![32, 2050, 256]⟩
abbrev S1x256 : Shape := ⟨2, ![1, 256]⟩
abbrev S65536x256 : Shape := ⟨2, ![65536, 256]⟩

abbrev nBuf : Space → Nat
  | .hbm => 111
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x768, .f32⟩
  | .hbm, ⟨2, _⟩ => ⟨S32x1024, .f32⟩
  | .hbm, ⟨3, _⟩ => ⟨S32x2x256, .f32⟩
  | .hbm, ⟨4, _⟩ => ⟨S1024, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S128x256, .f32⟩
  | .hbm, ⟨10, _⟩ => ⟨S3x256, .f32⟩
  | .hbm, ⟨11, _⟩ => ⟨S32x2048x1024, .f32⟩
  | .hbm, ⟨12, _⟩ => ⟨S32x1x1024, .f32⟩
  | .hbm, ⟨13, _⟩ => ⟨S32x2047x1024, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x256, .f32⟩
  | .hbm, ⟨21, _⟩ => ⟨S32x2048x256, .f32⟩
  | .hbm, ⟨22, _⟩ => ⟨S32x2048x256, .f32⟩
  | .hbm, ⟨23, _⟩ => ⟨S32x2048x64, .f32⟩
  | .hbm, ⟨24, _⟩ => ⟨S32x2048x64, .f32⟩
  | .hbm, ⟨25, _⟩ => ⟨S32x2048x128, .f32⟩
  | .hbm, ⟨26, _⟩ => ⟨S32x2048x64, .f32⟩
  | .hbm, ⟨27, _⟩ => ⟨S32x2048x256, .f32⟩
  | .hbm, ⟨28, _⟩ => ⟨S1x1x256, .f32⟩
  | .hbm, ⟨29, _⟩ => ⟨S32x2048x256, .f32⟩
  | .hbm, ⟨30, _⟩ => ⟨S32x2048x256, .f32⟩
  | .hbm, ⟨31, _⟩ => ⟨S32x2048x256, .f32⟩
  | .hbm, ⟨32, _⟩ => ⟨S_, .f32⟩
  | .hbm, ⟨33, _⟩ => ⟨S32x2048x256, .f32⟩
  | .hbm, ⟨34, _⟩ => ⟨S32x2048x256, .f32⟩
  | .hbm, ⟨35, _⟩ => ⟨S32x2048x256, .f32⟩
  | .hbm, ⟨36, _⟩ => ⟨S32x2048x256, .f32⟩
  | .hbm, ⟨37, _⟩ => ⟨S32x2048x256, .i1⟩
  | .hbm, ⟨38, _⟩ => ⟨S32x2048x256, .f32⟩
  | .hbm, ⟨39, _⟩ => ⟨S32x2048x256, .f32⟩
  | .hbm, ⟨40, _⟩ => ⟨S32x2048x256, .f32⟩
  | .hbm, ⟨41, _⟩ => ⟨S32x2048x256, .f32⟩
  | .hbm, ⟨42, _⟩ => ⟨S32x2048x256, .f32⟩
  | .hbm, ⟨43, _⟩ => ⟨S32x2048x256, .f32⟩
  | .hbm, ⟨44, _⟩ => ⟨S32x2048x256, .f32⟩
  | .hbm, ⟨45, _⟩ => ⟨S32x2048x256, .f32⟩
  | .hbm, ⟨46, _⟩ => ⟨S32x2048x256, .f32⟩
  | .hbm, ⟨47, _⟩ => ⟨S_, .f32⟩
  | .hbm, ⟨48, _⟩ => ⟨S32x2048x256, .f32⟩
  | .hbm, ⟨49, _⟩ => ⟨S32x2048x256, .f32⟩
  | .hbm, ⟨50, _⟩ => ⟨S32x2048x256, .f32⟩
  | .hbm, ⟨51, _⟩ => ⟨S32x2048x256, .f32⟩
  | .hbm, ⟨52, _⟩ => ⟨S32x2048x256, .f32⟩
  | .hbm, ⟨53, _⟩ => ⟨S32x2048x256, .f32⟩
  | .hbm, ⟨54, _⟩ => ⟨S1x1x256, .f32⟩
  | .hbm, ⟨55, _⟩ => ⟨S32x2048x256, .f32⟩
  | .hbm, ⟨56, _⟩ => ⟨S32x2048x256, .f32⟩
  | .hbm, ⟨57, _⟩ => ⟨S32x2048x256, .f32⟩
  | .hbm, ⟨58, _⟩ => ⟨S32x2048x256, .f32⟩
  | .hbm, ⟨59, _⟩ => ⟨S_, .f32⟩
  | .hbm, ⟨60, _⟩ => ⟨S32x2048x256, .f32⟩
  | .hbm, ⟨61, _⟩ => ⟨S32x2048x256, .f32⟩
  | .hbm, ⟨62, _⟩ => ⟨S_, .f32⟩
  | .hbm, ⟨63, _⟩ => ⟨S32x2048x256, .f32⟩
  | .hbm, ⟨64, _⟩ => ⟨S32x2048x256, .f32⟩
  | .hbm, ⟨65, _⟩ => ⟨S32x2048x128, .f32⟩
  | .hbm, ⟨66, _⟩ => ⟨S32x2048x128, .f32⟩
  | .hbm, ⟨67, _⟩ => ⟨S_, .f32⟩
  | .hbm, ⟨68, _⟩ => ⟨S32x2048x128, .f32⟩
  | .hbm, ⟨69, _⟩ => ⟨S32x2048x128, .f32⟩
  | .hbm, ⟨70, _⟩ => ⟨S_, .f32⟩
  | .hbm, ⟨71, _⟩ => ⟨S32x2048x128, .f32⟩
  | .hbm, ⟨72, _⟩ => ⟨S32x2048x128, .f32⟩
  | .hbm, ⟨73, _⟩ => ⟨S32x2048x256, .f32⟩
  | .hbm, ⟨74, _⟩ => ⟨S32x2048x768, .f32⟩
  | .hbm, ⟨75, _⟩ => ⟨S32x2048x256, .f32⟩
  | .hbm, ⟨76, _⟩ => ⟨S32x2048x256, .f32⟩
  | .hbm, ⟨77, _⟩ => ⟨S32x2048x256, .f32⟩
  | .hbm, ⟨78, _⟩ => ⟨S32x2048x256, .f32⟩
  | .hbm, ⟨79, _⟩ => ⟨S32x2050x256, .f32⟩
  | .hbm, ⟨80, _⟩ => ⟨S1x256, .f32⟩
  | .hbm, ⟨81, _⟩ => ⟨S256, .f32⟩
  | .hbm, ⟨82, _⟩ => ⟨S32x2048x256, .f32⟩
  | .hbm, ⟨83, _⟩ => ⟨S1x1x256, .f32⟩
  | .hbm, ⟨84, _⟩ => ⟨S32x2048x256, .f32⟩
  | .hbm, ⟨85, _⟩ => ⟨S32x2048x256, .f32⟩
  | .hbm, ⟨86, _⟩ => ⟨S1x256, .f32⟩
  | .hbm, ⟨87, _⟩ => ⟨S256, .f32⟩
  | .hbm, ⟨88, _⟩ => ⟨S32x2048x256, .f32⟩
  | .hbm, ⟨89, _⟩ => ⟨S1x1x256, .f32⟩
  | .hbm, ⟨90, _⟩ => ⟨S32x2048x256, .f32⟩
  | .hbm, ⟨91, _⟩ => ⟨S32x2048x256, .f32⟩
  | .hbm, ⟨92, _⟩ => ⟨S32x2048x256, .f32⟩
  | .hbm, ⟨93, _⟩ => ⟨S1x256, .f32⟩
  | .hbm, ⟨94, _⟩ => ⟨S256, .f32⟩
  | .hbm, ⟨95, _⟩ => ⟨S32x2048x256, .f32⟩
  | .hbm, ⟨96, _⟩ => ⟨S1x1x256, .f32⟩
  | .hbm, ⟨97, _⟩ => ⟨S32x2048x256, .f32⟩
  | .hbm, ⟨98, _⟩ => ⟨S32x2048x256, .f32⟩
  | .hbm, ⟨99, _⟩ => ⟨S32x2048x256, .f32⟩
  | .hbm, ⟨100, _⟩ => ⟨S32x2048x256, .f32⟩
  | .hbm, ⟨101, _⟩ => ⟨S65536x256, .f32⟩
  | .hbm, ⟨102, _⟩ => ⟨S65536x256, .f32⟩
  | .hbm, ⟨103, _⟩ => ⟨S65536x256, .f32⟩
  | .hbm, ⟨104, _⟩ => ⟨S65536x256, .f32⟩
  | .hbm, ⟨105, _⟩ => ⟨S65536x256, .f32⟩
  | .hbm, ⟨106, _⟩ => ⟨S65536x256, .f32⟩
  | .hbm, ⟨107, _⟩ => ⟨S65536x256, .f32⟩
  | .hbm, ⟨108, _⟩ => ⟨S65536x256, .bf16⟩
  | .hbm, ⟨109, _⟩ => ⟨S32x2048x256, .f32⟩
  | .hbm, ⟨110, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_0 : Ref sig .tc := ⟨.hbm, 59, rfl⟩
abbrev main_v34 : Ref sig .tc := ⟨.hbm, 60, rfl⟩
abbrev main_v35 : Ref sig .tc := ⟨.hbm, 61, rfl⟩
abbrev main_cst_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_cst_3 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Kernel4.lean ====
abbrev S128x4x1024 : Shape := ⟨3, ![128, 4, 1024]⟩
abbrev S1024 : Shape := ⟨1, ![1024]⟩
abbrev S1024x2144 : Shape := ⟨2, ![1024, 2144]⟩
abbrev S192 : Shape := ⟨1, ![192]⟩
abbrev S192x8x96 : Shape := ⟨3, ![192, 8, 96]⟩
abbrev S128 : Shape := ⟨1, ![128]⟩
abbrev S128x8x64 : Shape := ⟨3, ![128, 8, 64]⟩
abbrev S_ : Shape := ⟨0, ![]⟩
abbrev S1024x64 : Shape := ⟨2, ![1024, 64]⟩
abbrev S1024x32 : Shape := ⟨2, ![1024, 32]⟩
abbrev S1024x192 : Shape := ⟨2, ![1024, 192]⟩
abbrev S1024x128 : Shape := ⟨2, ![1024, 128]⟩
abbrev S1024x16 : Shape := ⟨2, ![1024, 16]⟩
abbrev S1024x1792 : Shape := ⟨2, ![1024, 1792]⟩
abbrev S1024x2304 : Shape := ⟨2, ![1024, 2304]⟩
abbrev S64 : Shape := ⟨1, ![64]⟩
abbrev S256 : Shape := ⟨1, ![256]⟩
abbrev S1x256 : Shape := ⟨2, ![1, 256]⟩
abbrev S192x8x64 : Shape := ⟨3, ![192, 8, 64]⟩
abbrev S8x128x192 : Shape := ⟨3, ![8, 128, 192]⟩
abbrev S192x8x128 : Shape := ⟨3, ![192, 8, 128]⟩
abbrev S192x8x32 : Shape := ⟨3, ![192, 8, 32]⟩
abbrev S192x8x16 : Shape := ⟨3, ![192, 8, 16]⟩
abbrev S192x8x256 : Shape := ⟨3, ![192, 8, 256]⟩
abbrev S192x2048 : Shape := ⟨2, ![192, 2048]⟩
abbrev S64x2048 : Shape := ⟨2, ![64, 2048]⟩
abbrev S256x2048 : Shape := ⟨2, ![256, 2048]⟩
abbrev S4 : Shape := ⟨1, ![4]⟩
abbrev S4x1 : Shape := ⟨2, ![4, 1]⟩
abbrev S4x128 : Shape := ⟨2, ![4, 128]⟩
abbrev S512 : Shape := ⟨1, ![512]⟩
abbrev S16 : Shape := ⟨1, ![16]⟩
abbrev S512x1 : Shape := ⟨2, ![512, 1]⟩
abbrev S1x16 : Shape := ⟨2, ![1, 16]⟩
abbrev S512x16 : Shape := ⟨2, ![512, 16]⟩
abbrev S512x96 : Shape := ⟨2, ![512, 96]⟩
abbrev S512x128 : Shape := ⟨2, ![512, 128]⟩
abbrev S4x128x1024 : Shape := ⟨3, ![4, 128, 1024]⟩
abbrev S512x1024 : Shape := ⟨2, ![512, 1024]⟩
abbrev S1x128 : Shape := ⟨2, ![1, 128]⟩
abbrev S1x1024 : Shape := ⟨2, ![1, 1024]⟩
abbrev S8x512x256 : Shape := ⟨3, ![8, 512, 256]⟩
abbrev S512x256 : Shape := ⟨2, ![512, 256]⟩
abbrev S512x32 : Shape := ⟨2, ![512, 32]⟩
abbrev S512x768 : Shape := ⟨2, ![512, 768]⟩
abbrev S512x2304 : Shape := ⟨2, ![512, 2304]⟩
abbrev S512x2048 : Shape := ⟨2, ![512, 2048]⟩
abbrev S1x512x128 : Shape := ⟨3, ![1, 512, 128]⟩

abbrev nBuf : Space → Nat
  | .hbm => 81
  | .vmem => 16
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024, .f32⟩
  | .hbm, ⟨3, _⟩ => ⟨S1024x2144, .f32⟩
  | .hbm, ⟨4, _⟩ => ⟨S192, .f32⟩
  | .hbm, ⟨5, _⟩ => ⟨S192x8x96, .f32⟩
  | .hbm, ⟨6, _⟩ => ⟨S128, .f32⟩
  | .hbm, ⟨7, _⟩ => ⟨S128x8x64, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S1024x192, .f32⟩
  | .hbm, ⟨12, _⟩ => ⟨S1024x128, .f32⟩
  | .hbm, ⟨13, _⟩ => ⟨S1024x16, .f32⟩
  | .hbm, ⟨14, _⟩ => ⟨S1024x16, .f32⟩
  | .hbm, ⟨15, _⟩ => ⟨S1024x32, .f32⟩
  | .hbm, ⟨16, _⟩ => ⟨S1024x1792, .f32⟩
  | .hbm, ⟨17, _⟩ => ⟨S1024x2304, .f32⟩
  | .hbm, ⟨18, _⟩ => ⟨S1024x2304, .bf16⟩
  | .hbm, ⟨19, _⟩ => ⟨S_, .f32⟩
  | .hbm, ⟨20, _⟩ => ⟨S64, .f32⟩
  | .hbm, ⟨21, _⟩ => ⟨S256, .f32⟩
  | .hbm, ⟨22, _⟩ => ⟨S1x256, .f32⟩
  | .hbm, ⟨23, _⟩ => ⟨S192x8x64, .f32⟩
  | .hbm, ⟨24, _⟩ => ⟨S8x128x192, .f32⟩
  | .hbm, ⟨25, _⟩ => ⟨S192x8x128, .f32⟩
  | .hbm, ⟨26, _⟩ => ⟨S192x8x32, .f32⟩
  | .hbm, ⟨27, _⟩ => ⟨S192x8x16, .f32⟩
  | .hbm, ⟨28, _⟩ => ⟨S192x8x16, .f32⟩
  | .hbm, ⟨29, _⟩ => ⟨S192x8x32, .f32⟩
  | .hbm, ⟨30, _⟩ => ⟨S_, .f32⟩
  | .hbm, ⟨31, _⟩ => ⟨S192x8x64, .f32⟩
  | .hbm, ⟨32, _⟩ => ⟨S192x8x256, .f32⟩
  | .hbm, ⟨33, _⟩ => ⟨S_, .f32⟩
  | .hbm, ⟨34, _⟩ => ⟨S192x8x256, .f32⟩
  | .hbm, ⟨35, _⟩ => ⟨S192x8x256, .f32⟩
  | .hbm, ⟨36, _⟩ => ⟨S192x2048, .f32⟩
  | .hbm, ⟨37, _⟩ => ⟨S_, .f32⟩
  | .hbm, ⟨38, _⟩ => ⟨S64x2048, .f32⟩
  | .hbm, ⟨39, _⟩ => ⟨S256x2048, .f32⟩
  | .hbm, ⟨40, _⟩ => ⟨S256x2048, .bf16⟩
  | .hbm, ⟨41, _⟩ => ⟨S4, .i32⟩
  | .hbm, ⟨42, _⟩ => ⟨S_, .i32⟩
  | .hbm, ⟨43, _⟩ => ⟨S4, .i32⟩
  | .hbm, ⟨44, _⟩ => ⟨S4, .i32⟩
  | .hbm, ⟨45, _⟩ => ⟨S4x1, .i32⟩
  | .hbm, ⟨46, _⟩ => ⟨S4x128, .i32⟩
  | .hbm, ⟨47, _⟩ => ⟨S512, .i32⟩
  | .hbm, ⟨48, _⟩ => ⟨S512, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S512x1, .f32⟩
  | .hbm, ⟨58, _⟩ => ⟨S1x16, .f32⟩
  | .hbm, ⟨59, _⟩ => ⟨S512x16, .f32⟩
  | .hbm, ⟨60, _⟩ => ⟨S512x16, .f32⟩
  | .hbm, ⟨61, _⟩ => ⟨S512x16, .f32⟩
  | .hbm, ⟨62, _⟩ => ⟨S512x16, .f32⟩
  | .hbm, ⟨63, _⟩ => ⟨S512x16, .f32⟩
  | .hbm, ⟨64, _⟩ => ⟨S_, .f32⟩
  | .hbm, ⟨65, _⟩ => ⟨S512x96, .f32⟩
  | .hbm, ⟨66, _⟩ => ⟨S512x128, .f32⟩
  | .hbm, ⟨67, _⟩ => ⟨S512x16, .f32⟩
  | .hbm, ⟨68, _⟩ => ⟨S512x128, .f32⟩
  | .hbm, ⟨69, _⟩ => ⟨S4x128x1024, .f32⟩
  | .hbm, ⟨70, _⟩ => ⟨S512x1024, .f32⟩
  | .hbm, ⟨71, _⟩ => ⟨S1x128, .f32⟩
  | .hbm, ⟨72, _⟩ => ⟨S1x1024, .f32⟩
  | .hbm, ⟨73, _⟩ => ⟨S1x1024, .f32⟩
  | .hbm, ⟨74, _⟩ => ⟨S512x1024, .f32⟩
  | .hbm, ⟨75, _⟩ => ⟨S8x512x256, .bf16⟩
  | .hbm, ⟨76, _⟩ => ⟨S512x256, .bf16⟩
  | .hbm, ⟨77, _⟩ => ⟨S512x128, .f32⟩
  | .hbm, ⟨78, _⟩ => ⟨S512x32, .f32⟩
  | .hbm, ⟨79, _⟩ => ⟨S512x1024, .f32⟩
  | .hbm, ⟨80, _⟩ => ⟨S512x768, .f32⟩
  | .local _ .vmem, ⟨0, _⟩ => ⟨S512x1024, .f32⟩
  | .local _ .vmem, ⟨1, _⟩ => ⟨S1x1024, .f32⟩
  | .local _ .vmem, ⟨2, _⟩ => ⟨S1x1024, .f32⟩
  | .local _ .vmem, ⟨3, _⟩ => ⟨S1024x2304, .bf16⟩
  | .local _ .vmem, ⟨4, _⟩ => ⟨S1x256, .f32⟩
  | .local _ .vmem, ⟨5, _⟩ => ⟨S256x2048, .bf16⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x1024, .f32⟩
  | .local _ .vmem, ⟨10, _⟩ => ⟨S8x512x256, .bf16⟩
  | .local _ .vmem, ⟨11, _⟩ => ⟨S512x256, .bf16⟩
  | .local _ .vmem, ⟨12, _⟩ => ⟨S512x128, .f32⟩
  | .local _ .vmem, ⟨13, _⟩ => ⟨S512x32, .f32⟩
  | .local _ .vmem, ⟨14, _⟩ => ⟨S512x1024, .f32⟩
  | .local _ .vmem, ⟨15, _⟩ => ⟨S512x768, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev main_v57_3 : Ref sig .tc := ⟨.hbm, 77, rfl⟩
abbrev main_v57_4 : Ref sig .tc := ⟨.hbm, 78, rfl⟩
abbrev main_v57_5 : Ref sig .tc := ⟨.hbm, 79, rfl⟩
abbrev main_v57_6 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S8x512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Kernel4Ideal.lean ====
variable {F : FTy → Type} [FloatOps F] [Named F]
def κ : String → Option EReal := fun
  | "inv_q_rank" => some ((192⁻¹ : ℝ) : EReal)
  | _ => none
-- ==== Reference4Ideal.lean ====
abbrev S128x4x1024 : Shape := ⟨3, ![128, 4, 1024]⟩
abbrev S1024 : Shape := ⟨1, ![1024]⟩
abbrev S1024x2144 : Shape := ⟨2, ![1024, 2144]⟩
abbrev S192 : Shape := ⟨1, ![192]⟩
abbrev S192x8x96 : Shape := ⟨3, ![192, 8, 96]⟩
abbrev S128 : Shape := ⟨1, ![128]⟩
abbrev S128x8x64 : Shape := ⟨3, ![128, 8, 64]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x2144 : Shape := ⟨3, ![128, 4, 2144]⟩
abbrev S128x4x192 : Shape := ⟨3, ![128, 4, 192]⟩
abbrev S128x4x128 : Shape := ⟨3, ![128, 4, 128]⟩
abbrev S128x4x32 : Shape := ⟨3, ![128, 4, 32]⟩
abbrev S128x4x768 : Shape := ⟨3, ![128, 4, 768]⟩
abbrev S1x1x192 : Shape := ⟨3, ![1, 1, 192]⟩
abbrev S128x4x8x96 : Shape := ⟨4, ![128, 4, 8, 96]⟩
abbrev S128x4x8x64 : Shape := ⟨4, ![128, 4, 8, 64]⟩
abbrev S8x128x128x4 : Shape := ⟨4, ![8, 128, 128, 4]⟩
abbrev S128x4x8x128 : Shape := ⟨4, ![128, 4, 8, 128]⟩
abbrev S128x4x8x32 : Shape := ⟨4, ![128, 4, 8, 32]⟩
abbrev S16 : Shape := ⟨1, ![16]⟩
abbrev S4 : Shape := ⟨1, ![4]⟩
abbrev S4x1 : Shape := ⟨2, ![4, 1]⟩
abbrev S1x16 : Shape := ⟨2, ![1, 16]⟩
abbrev S4x16 : Shape := ⟨2, ![4, 16]⟩
abbrev S1x4x1x16 : Shape := ⟨4, ![1, 4, 1, 16]⟩
abbrev S128x4x8x16 : Shape := ⟨4, ![128, 4, 8, 16]⟩
abbrev S1x1x128 : Shape := ⟨3, ![1, 1, 128]⟩
abbrev S1x4x16 : Shape := ⟨3, ![1, 4, 16]⟩
abbrev S128x4x16 : Shape := ⟨3, ![128, 4, 16]⟩
abbrev S128x4x8x256 : Shape := ⟨4, ![128, 4, 8, 256]⟩
abbrev S128x4x95 : Shape := ⟨3, ![128, 4, 95]⟩
abbrev S128x4x256 : Shape := ⟨3, ![128, 4, 256]⟩
abbrev S4x128x1024 : Shape := ⟨3, ![4, 128, 1024]⟩
abbrev S512x1024 : Shape := ⟨2, ![512, 1024]⟩
abbrev S8x4x128x256 : Shape := ⟨4, ![8, 4, 128, 256]⟩
abbrev S8x512x256 : Shape := ⟨3, ![8, 512, 256]⟩
abbrev S4x128x256 : Shape := ⟨3, ![4, 128, 256]⟩
abbrev S512x256 : Shape := ⟨2, ![512, 256]⟩
abbrev S4x128x128 : Shape := ⟨3, ![4, 128, 128]⟩
abbrev S512x128 : Shape := ⟨2, ![512, 128]⟩
abbrev S4x128x32 : Shape := ⟨3, ![4, 128, 32]⟩
abbrev S512x32 : Shape := ⟨2, ![512, 32]⟩
abbrev S4x128x768 : Shape := ⟨3, ![4, 128, 768]⟩
abbrev S512x768 : Shape := ⟨2, ![512, 768]⟩

abbrev nBuf : Space → Nat
  | .hbm => 175
  | .vmem => 0
  | .smem => 0
  | _ => 0

abbrev hbmTy0_0 (i : Nat) : BufTy := match i % 128 with
  | 0 => ⟨S128x4x1024, .f32⟩
  | 1 => ⟨S1024, .f32⟩
  | 2 => ⟨S1024, .f32⟩
  | 3 => ⟨S1024x2144, .f32⟩
  | 4 => ⟨S192, .f32⟩
  | 5 => ⟨S192x8x96, .f32⟩
  | 6 => ⟨S128, .f32⟩
  | 7 => ⟨S128x8x64, .f32⟩
  | 8 => ⟨S_, .f32⟩
  | 9 => ⟨S128x4, .f32⟩
  | 10 => ⟨S128x4x1, .f32⟩
  | 11 => ⟨S_, .f32⟩
  | 12 => ⟨S128x4x1, .f32⟩
  | 13 => ⟨S128x4x1, .f32⟩
  | 14 => ⟨S128x4x1024, .f32⟩
  | 15 => ⟨S128x4x1024, .f32⟩
  | 16 => ⟨S128x4x1024, .f32⟩
  | 17 => ⟨S_, .f32⟩
  | 18 => ⟨S128x4, .f32⟩
  | 19 => ⟨S128x4x1, .f32⟩
  | 20 => ⟨S_, .f32⟩
  | 21 => ⟨S128x4x1, .f32⟩
  | 22 => ⟨S128x4x1, .f32⟩
  | 23 => ⟨S128x4x1024, .f32⟩
  | 24 => ⟨S128x4x1024, .f32⟩
  | 25 => ⟨S_, .f32⟩
  | 26 => ⟨S128x4x1, .f32⟩
  | 27 => ⟨S128x4x1, .f32⟩
  | 28 => ⟨S128x4x1, .f32⟩
  | 29 => ⟨S128x4x1024, .f32⟩
  | 30 => ⟨S128x4x1024, .f32⟩
  | 31 => ⟨S1x1x1024, .f32⟩
  | 32 => ⟨S128x4x1024, .f32⟩
  | 33 => ⟨S128x4x1024, .f32⟩
  | 34 => ⟨S1x1x1024, .f32⟩
  | 35 => ⟨S128x4x1024, .f32⟩
  | 36 => ⟨S128x4x1024, .f32⟩
  | 37 => ⟨S128x4x2144, .f32⟩
  | 38 => ⟨S128x4x192, .f32⟩
  | 39 => ⟨S128x4x128, .f32⟩
  | 40 => ⟨S128x4x32, .f32⟩
  | 41 => ⟨S128x4x1024, .f32⟩
  | 42 => ⟨S128x4x768, .f32⟩
  | 43 => ⟨S128x4x192, .f32⟩
  | 44 => ⟨S_, .f32⟩
  | 45 => ⟨S128x4, .f32⟩
  | 46 => ⟨S128x4x1, .f32⟩
  | 47 => ⟨S_, .f32⟩
  | 48 => ⟨S128x4x1, .f32⟩
  | 49 => ⟨S128x4x1, .f32⟩
  | 50 => ⟨S_, .f32⟩
  | 51 => ⟨S128x4x1, .f32⟩
  | 52 => ⟨S128x4x1, .f32⟩
  | 53 => ⟨S128x4x1, .f32⟩
  | 54 => ⟨S128x4x192, .f32⟩
  | 55 => ⟨S128x4x192, .f32⟩
  | 56 => ⟨S1x1x192, .f32⟩
  | 57 => ⟨S128x4x192, .f32⟩
  | 58 => ⟨S128x4x192, .f32⟩
  | 59 => ⟨S128x4x8x96, .f32⟩
  | 60 => ⟨S128x4x8x64, .f32⟩
  | 61 => ⟨S8x128x128x4, .f32⟩
  | 62 => ⟨S128x4x8x128, .f32⟩
  | 63 => ⟨S128x4x8x32, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S4, .i32⟩
  | 73 => ⟨S_, .i32⟩
  | 74 => ⟨S4, .i32⟩
  | 75 => ⟨S4, .i32⟩
  | 76 => ⟨S4, .f32⟩
  | 77 => ⟨S4x1, .f32⟩
  | 78 => ⟨S1x16, .f32⟩
  | 79 => ⟨S4x16, .f32⟩
  | 80 => ⟨S4x16, .f32⟩
  | 81 => ⟨S4x16, .f32⟩
  | 82 => ⟨S1x4x1x16, .f32⟩
  | 83 => ⟨S1x4x1x16, .f32⟩
  | 84 => ⟨S1x4x1x16, .f32⟩
  | 85 => ⟨S128x4x8x16, .f32⟩
  | 86 => ⟨S128x4x8x16, .f32⟩
  | 87 => ⟨S128x4x8x16, .f32⟩
  | 88 => ⟨S128x4x8x16, .f32⟩
  | 89 => ⟨S128x4x8x16, .f32⟩
  | 90 => ⟨S128x4x8x16, .f32⟩
  | 91 => ⟨S128x4x8x16, .f32⟩
  | 92 => ⟨S128x4x8x16, .f32⟩
  | 93 => ⟨S128x4x8x16, .f32⟩
  | 94 => ⟨S128x4x8x16, .f32⟩
  | 95 => ⟨S128x4x8x16, .f32⟩
  | 96 => ⟨S128x4x8x16, .f32⟩
  | 97 => ⟨S128x4x8x32, .f32⟩
  | 98 => ⟨S128x4x128, .f32⟩
  | 99 => ⟨S_, .f32⟩
  | 100 => ⟨S128x4, .f32⟩
  | 101 => ⟨S128x4x1, .f32⟩
  | 102 => ⟨S_, .f32⟩
  | 103 => ⟨S128x4x1, .f32⟩
  | 104 => ⟨S128x4x1, .f32⟩
  | 105 => ⟨S_, .f32⟩
  | 106 => ⟨S128x4x1, .f32⟩
  | 107 => ⟨S128x4x1, .f32⟩
  | 108 => ⟨S128x4x1, .f32⟩
  | 109 => ⟨S128x4x128, .f32⟩
  | 110 => ⟨S128x4x128, .f32⟩
  | 111 => ⟨S1x1x128, .f32⟩
  | 112 => ⟨S128x4x128, .f32⟩
  | 113 => ⟨S128x4x128, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S4, .i32⟩
  | 123 => ⟨S_, .i32⟩
  | 124 => ⟨S4, .i32⟩
  | 125 => ⟨S4, .i32⟩
  | 126 => ⟨S4, .f32⟩
  | 127 => ⟨S4x1, .f32⟩
  | _ => ⟨S128x4x1024, .f32⟩

abbrev hbmTy0_1 (i : Nat) : BufTy := match i % 128 with
  | 0 => ⟨S1x16, .f32⟩
  | 1 => ⟨S4x16, .f32⟩
  | 2 => ⟨S4x16, .f32⟩
  | 3 => ⟨S4x16, .f32⟩
  | 4 => ⟨S1x4x16, .f32⟩
  | 5 => ⟨S1x4x16, .f32⟩
  | 6 => ⟨S1x4x16, .f32⟩
  | 7 => ⟨S128x4x16, .f32⟩
  | 8 => ⟨S128x4x16, .f32⟩
  | 9 => ⟨S128x4x16, .f32⟩
  | 10 => ⟨S128x4x16, .f32⟩
  | 11 => ⟨S128x4x16, .f32⟩
  | 12 => ⟨S128x4x16, .f32⟩
  | 13 => ⟨S128x4x16, .f32⟩
  | 14 => ⟨S128x4x16, .f32⟩
  | 15 => ⟨S128x4x16, .f32⟩
  | 16 => ⟨S128x4x16, .f32⟩
  | 17 => ⟨S128x4x16, .f32⟩
  | 18 => ⟨S128x4x16, .f32⟩
  | 19 => ⟨S128x4x32, .f32⟩
  | 20 => ⟨S_, .f32⟩
  | 21 => ⟨S128x4x8x96, .f32⟩
  | 22 => ⟨S128x4x8x256, .f32⟩
  | 23 => ⟨S_, .f32⟩
  | 24 => ⟨S128x4x8x256, .f32⟩
  | 25 => ⟨S128x4x8x256, .f32⟩
  | 26 => ⟨S_, .f32⟩
  | 27 => ⟨S128x4x95, .f32⟩
  | 28 => ⟨S_, .f32⟩
  | 29 => ⟨S128x4x1, .f32⟩
  | 30 => ⟨S128x4x256, .f32⟩
  | 31 => ⟨S4x128x1024, .f32⟩
  | 32 => ⟨S512x1024, .f32⟩
  | 33 => ⟨S8x4x128x256, .f32⟩
  | 34 => ⟨S8x512x256, .f32⟩
  | 35 => ⟨S8x512x256, .bf16⟩
  | 36 => ⟨S4x128x256, .f32⟩
  | 37 => ⟨S512x256, .f32⟩
  | 38 => ⟨S512x256, .bf16⟩
  | 39 => ⟨S4x128x128, .f32⟩
  | 40 => ⟨S512x128, .f32⟩
  | 41 => ⟨S4x128x32, .f32⟩
  | 42 => ⟨S512x32, .f32⟩
  | 43 => ⟨S4x128x1024, .f32⟩
  | 44 => ⟨S512x1024, .f32⟩
  | 45 => ⟨S4x128x768, .f32⟩
  | 46 => ⟨S512x768, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_12 : Ref sig .tc := ⟨.hbm, 116, rfl⟩
abbrev main_v94 : Ref sig .tc := ⟨.hbm, 117, rfl⟩
abbrev main_v95 : Ref sig .tc := ⟨.hbm, 118, rfl⟩
abbrev main_cst_13 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_15 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_v125 : Ref sig .tc := ⟨.hbm, 152, rfl⟩
abbrev main_v126 : Ref sig .tc := ⟨.hbm, 153, rfl⟩
abbrev main_cst_17 : Ref sig .tc := ⟨.hbm, 154, rfl⟩
abbrev main_v127 : Ref sig .tc := ⟨.hbm, 155, rfl⟩
abbrev main_cst_18 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩

abbrev nD : Nat := 1
abbrev τ : Topo := Topo.v7x

variable {F : FTy → Type} [FloatOps F]
-- ==== Kernel5.lean ====
abbrev S512x1024 : Shape := ⟨2, ![512, 1024]⟩
abbrev S512x768 : Shape := ⟨2, ![512, 768]⟩
abbrev S128x1024 : Shape := ⟨2, ![128, 1024]⟩
abbrev S128x2x256 : Shape := ⟨3, ![128, 2, 256]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S3x256 : Shape := ⟨2, ![3, 256]⟩
abbrev S_ : Shape := ⟨0, ![]⟩
abbrev S2x128x256 : Shape := ⟨3, ![2, 128, 256]⟩
abbrev S1x1024 : Shape := ⟨2, ![1, 1024]⟩
abbrev S1x256 : Shape := ⟨2, ![1, 256]⟩
abbrev S512x256 : Shape := ⟨2, ![512, 256]⟩
abbrev S1x128x256 : Shape := ⟨3, ![1, 128, 256]⟩
abbrev S384x1024 : Shape := ⟨2, ![384, 1024]⟩
abbrev S512x128 : Shape := ⟨2, ![512, 128]⟩
abbrev S384x256 : Shape := ⟨2, ![384, 256]⟩

abbrev nBuf : Space → Nat
  | .hbm => 30
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S512x768, .f32⟩
  | .hbm, ⟨2, _⟩ => ⟨S128x1024, .f32⟩
  | .hbm, ⟨3, _⟩ => ⟨S128x2x256, .f32⟩
  | .hbm, ⟨4, _⟩ => ⟨S1024, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S128x256, .f32⟩
  | .hbm, ⟨10, _⟩ => ⟨S3x256, .f32⟩
  | .hbm, ⟨11, _⟩ => ⟨S_, .f32⟩
  | .hbm, ⟨12, _⟩ => ⟨S64x256, .f32⟩
  | .hbm, ⟨13, _⟩ => ⟨S128x256, .f32⟩
  | .hbm, ⟨14, _⟩ => ⟨S128x256, .bf16⟩
  | .hbm, ⟨15, _⟩ => ⟨S128x256, .f32⟩
  | .hbm, ⟨16, _⟩ => ⟨S128x256, .bf16⟩
  | .hbm, ⟨17, _⟩ => ⟨S128x256, .bf16⟩
  | .hbm, ⟨18, _⟩ => ⟨S2x128x256, .f32⟩
  | .hbm, ⟨19, _⟩ => ⟨S1x1024, .f32⟩
  | .hbm, ⟨20, _⟩ => ⟨S1x256, .f32⟩
  | .hbm, ⟨21, _⟩ => ⟨S1x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S512x256, .bf16⟩
  | .hbm, ⟨29, _⟩ => ⟨S512x256, .f32⟩
  | .local _ .vmem, ⟨0, _⟩ => ⟨S512x1024, .f32⟩
  | .local _ .vmem, ⟨1, _⟩ => ⟨S512x768, .f32⟩
  | .local _ .vmem, ⟨2, _⟩ => ⟨S128x1024, .f32⟩
  | .local _ .vmem, ⟨3, _⟩ => ⟨S2x128x256, .f32⟩
  | .local _ .vmem, ⟨4, _⟩ => ⟨S1x1024, .f32⟩
  | .local _ .vmem, ⟨5, _⟩ => ⟨S1x256, .f32⟩
  | .local _ .vmem, ⟨6, _⟩ => ⟨S1x256, .f32⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S3x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .bf16⟩
  | .local _ .vmem, ⟨18, _⟩ => ⟨S512x256, .f32⟩
  | .local _ .vmem, ⟨19, _⟩ => ⟨S128x1024, .f32⟩
  | .local _ .vmem, ⟨20, _⟩ => ⟨S128x256, .f32⟩
  | .local _ .vmem, ⟨21, _⟩ => ⟨S128x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev main_v10_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S512x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]
-- ==== Reference5Ideal.lean ====
abbrev S512x1024 : Shape := ⟨2, ![512, 1024]⟩
abbrev S512x768 : Shape := ⟨2, ![512, 768]⟩
abbrev S128x1024 : Shape := ⟨2, ![128, 1024]⟩
abbrev S128x2x256 : Shape := ⟨3, ![128, 2, 256]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S3x256 : Shape := ⟨2, ![3, 256]⟩
abbrev S4x128x1024 : Shape := ⟨3, ![4, 128, 1024]⟩
abbrev S128x4x1024 : Shape := ⟨3, ![128, 4, 1024]⟩
abbrev S128x1x1024 : Shape := ⟨3, ![128, 1, 1024]⟩
abbrev S128x3x1024 : Shape := ⟨3, ![128, 3, 1024]⟩
abbrev S1x1x1024 : Shape := ⟨3, ![1, 1, 1024]⟩
abbrev S128x4x256 : Shape := ⟨3, ![128, 4, 256]⟩
abbrev S128x4x64 : Shape := ⟨3, ![128, 4, 64]⟩
abbrev S128x4x128 : Shape := ⟨3, ![128, 4, 128]⟩
abbrev S1x1x256 : Shape := ⟨3, ![1, 1, 256]⟩
abbrev S_ : Shape := ⟨0, ![]⟩
abbrev S4x128x768 : Shape := ⟨3, ![4, 128, 768]⟩
abbrev S128x4x768 : Shape := ⟨3, ![128, 4, 768]⟩
abbrev S128x6x256 : Shape := ⟨3, ![128, 6, 256]⟩
abbrev S1x256 : Shape := ⟨2, ![1, 256]⟩
abbrev S4x128x256 : Shape := ⟨3, ![4, 128, 256]⟩
abbrev S512x256 : Shape := ⟨2, ![512, 256]⟩

abbrev nBuf : Space → Nat
  | .hbm => 121
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x768, .f32⟩
  | .hbm, ⟨2, _⟩ => ⟨S128x1024, .f32⟩
  | .hbm, ⟨3, _⟩ => ⟨S128x2x256, .f32⟩
  | .hbm, ⟨4, _⟩ => ⟨S1024, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S128x256, .f32⟩
  | .hbm, ⟨10, _⟩ => ⟨S3x256, .f32⟩
  | .hbm, ⟨11, _⟩ => ⟨S4x128x1024, .f32⟩
  | .hbm, ⟨12, _⟩ => ⟨S128x4x1024, .f32⟩
  | .hbm, ⟨13, _⟩ => ⟨S128x1x1024, .f32⟩
  | .hbm, ⟨14, _⟩ => ⟨S128x3x1024, .f32⟩
  | .hbm, ⟨15, _⟩ => ⟨S128x4x1024, .f32⟩
  | .hbm, ⟨16, _⟩ => ⟨S128x4x1024, .f32⟩
  | .hbm, ⟨17, _⟩ => ⟨S1x1x1024, .f32⟩
  | .hbm, ⟨18, _⟩ => ⟨S128x4x1024, .f32⟩
  | .hbm, ⟨19, _⟩ => ⟨S128x4x1024, .f32⟩
  | .hbm, ⟨20, _⟩ => ⟨S128x4x1024, .f32⟩
  | .hbm, ⟨21, _⟩ => ⟨S128x4x256, .f32⟩
  | .hbm, ⟨22, _⟩ => ⟨S128x4x256, .f32⟩
  | .hbm, ⟨23, _⟩ => ⟨S128x4x256, .f32⟩
  | .hbm, ⟨24, _⟩ => ⟨S128x4x64, .f32⟩
  | .hbm, ⟨25, _⟩ => ⟨S128x4x64, .f32⟩
  | .hbm, ⟨26, _⟩ => ⟨S128x4x128, .f32⟩
  | .hbm, ⟨27, _⟩ => ⟨S128x4x64, .f32⟩
  | .hbm, ⟨28, _⟩ => ⟨S128x4x256, .f32⟩
  | .hbm, ⟨29, _⟩ => ⟨S1x1x256, .f32⟩
  | .hbm, ⟨30, _⟩ => ⟨S128x4x256, .f32⟩
  | .hbm, ⟨31, _⟩ => ⟨S128x4x256, .f32⟩
  | .hbm, ⟨32, _⟩ => ⟨S128x4x256, .f32⟩
  | .hbm, ⟨33, _⟩ => ⟨S_, .f32⟩
  | .hbm, ⟨34, _⟩ => ⟨S128x4x256, .f32⟩
  | .hbm, ⟨35, _⟩ => ⟨S128x4x256, .f32⟩
  | .hbm, ⟨36, _⟩ => ⟨S128x4x256, .f32⟩
  | .hbm, ⟨37, _⟩ => ⟨S128x4x256, .f32⟩
  | .hbm, ⟨38, _⟩ => ⟨S128x4x256, .i1⟩
  | .hbm, ⟨39, _⟩ => ⟨S128x4x256, .f32⟩
  | .hbm, ⟨40, _⟩ => ⟨S128x4x256, .f32⟩
  | .hbm, ⟨41, _⟩ => ⟨S128x4x256, .f32⟩
  | .hbm, ⟨42, _⟩ => ⟨S128x4x256, .f32⟩
  | .hbm, ⟨43, _⟩ => ⟨S128x4x256, .f32⟩
  | .hbm, ⟨44, _⟩ => ⟨S128x4x256, .f32⟩
  | .hbm, ⟨45, _⟩ => ⟨S128x4x256, .f32⟩
  | .hbm, ⟨46, _⟩ => ⟨S128x4x256, .f32⟩
  | .hbm, ⟨47, _⟩ => ⟨S128x4x256, .f32⟩
  | .hbm, ⟨48, _⟩ => ⟨S_, .f32⟩
  | .hbm, ⟨49, _⟩ => ⟨S128x4x256, .f32⟩
  | .hbm, ⟨50, _⟩ => ⟨S128x4x256, .f32⟩
  | .hbm, ⟨51, _⟩ => ⟨S128x4x256, .f32⟩
  | .hbm, ⟨52, _⟩ => ⟨S128x4x256, .f32⟩
  | .hbm, ⟨53, _⟩ => ⟨S128x4x256, .f32⟩
  | .hbm, ⟨54, _⟩ => ⟨S128x4x256, .f32⟩
  | .hbm, ⟨55, _⟩ => ⟨S1x1x256, .f32⟩
  | .hbm, ⟨56, _⟩ => ⟨S128x4x256, .f32⟩
  | .hbm, ⟨57, _⟩ => ⟨S128x4x256, .f32⟩
  | .hbm, ⟨58, _⟩ => ⟨S128x4x256, .f32⟩
  | .hbm, ⟨59, _⟩ => ⟨S128x4x256, .f32⟩
  | .hbm, ⟨60, _⟩ => ⟨S_, .f32⟩
  | .hbm, ⟨61, _⟩ => ⟨S128x4x256, .f32⟩
  | .hbm, ⟨62, _⟩ => ⟨S128x4x256, .f32⟩
  | .hbm, ⟨63, _⟩ => ⟨S_, .f32⟩
  | .hbm, ⟨64, _⟩ => ⟨S128x4x256, .f32⟩
  | .hbm, ⟨65, _⟩ => ⟨S128x4x256, .f32⟩
  | .hbm, ⟨66, _⟩ => ⟨S128x4x128, .f32⟩
  | .hbm, ⟨67, _⟩ => ⟨S128x4x128, .f32⟩
  | .hbm, ⟨68, _⟩ => ⟨S_, .f32⟩
  | .hbm, ⟨69, _⟩ => ⟨S128x4x128, .f32⟩
  | .hbm, ⟨70, _⟩ => ⟨S128x4x128, .f32⟩
  | .hbm, ⟨71, _⟩ => ⟨S_, .f32⟩
  | .hbm, ⟨72, _⟩ => ⟨S128x4x128, .f32⟩
  | .hbm, ⟨73, _⟩ => ⟨S128x4x128, .f32⟩
  | .hbm, ⟨74, _⟩ => ⟨S128x4x256, .f32⟩
  | .hbm, ⟨75, _⟩ => ⟨S4x128x768, .f32⟩
  | .hbm, ⟨76, _⟩ => ⟨S128x4x768, .f32⟩
  | .hbm, ⟨77, _⟩ => ⟨S128x4x256, .f32⟩
  | .hbm, ⟨78, _⟩ => ⟨S128x4x256, .f32⟩
  | .hbm, ⟨79, _⟩ => ⟨S128x4x256, .f32⟩
  | .hbm, ⟨80, _⟩ => ⟨S128x4x256, .f32⟩
  | .hbm, ⟨81, _⟩ => ⟨S128x6x256, .f32⟩
  | .hbm, ⟨82, _⟩ => ⟨S1x256, .f32⟩
  | .hbm, ⟨83, _⟩ => ⟨S256, .f32⟩
  | .hbm, ⟨84, _⟩ => ⟨S128x4x256, .f32⟩
  | .hbm, ⟨85, _⟩ => ⟨S1x1x256, .f32⟩
  | .hbm, ⟨86, _⟩ => ⟨S128x4x256, .f32⟩
  | .hbm, ⟨87, _⟩ => ⟨S128x4x256, .f32⟩
  | .hbm, ⟨88, _⟩ => ⟨S1x256, .f32⟩
  | .hbm, ⟨89, _⟩ => ⟨S256, .f32⟩
  | .hbm, ⟨90, _⟩ => ⟨S128x4x256, .f32⟩
  | .hbm, ⟨91, _⟩ => ⟨S1x1x256, .f32⟩
  | .hbm, ⟨92, _⟩ => ⟨S128x4x256, .f32⟩
  | .hbm, ⟨93, _⟩ => ⟨S128x4x256, .f32⟩
  | .hbm, ⟨94, _⟩ => ⟨S128x4x256, .f32⟩
  | .hbm, ⟨95, _⟩ => ⟨S1x256, .f32⟩
  | .hbm, ⟨96, _⟩ => ⟨S256, .f32⟩
  | .hbm, ⟨97, _⟩ => ⟨S128x4x256, .f32⟩
  | .hbm, ⟨98, _⟩ => ⟨S1x1x256, .f32⟩
  | .hbm, ⟨99, _⟩ => ⟨S128x4x256, .f32⟩
  | .hbm, ⟨100, _⟩ => ⟨S128x4x256, .f32⟩
  | .hbm, ⟨101, _⟩ => ⟨S128x4x256, .f32⟩
  | .hbm, ⟨102, _⟩ => ⟨S128x4x256, .f32⟩
  | .hbm, ⟨103, _⟩ => ⟨S4x128x256, .f32⟩
  | .hbm, ⟨104, _⟩ => ⟨S512x256, .f32⟩
  | .hbm, ⟨105, _⟩ => ⟨S4x128x256, .f32⟩
  | .hbm, ⟨106, _⟩ => ⟨S512x256, .f32⟩
  | .hbm, ⟨107, _⟩ => ⟨S4x128x256, .f32⟩
  | .hbm, ⟨108, _⟩ => ⟨S512x256, .f32⟩
  | .hbm, ⟨109, _⟩ => ⟨S4x128x256, .f32⟩
  | .hbm, ⟨110, _⟩ => ⟨S512x256, .f32⟩
  | .hbm, ⟨111, _⟩ => ⟨S4x128x256, .f32⟩
  | .hbm, ⟨112, _⟩ => ⟨S512x256, .f32⟩
  | .hbm, ⟨113, _⟩ => ⟨S4x128x256, .f32⟩
  | .hbm, ⟨114, _⟩ => ⟨S512x256, .f32⟩
  | .hbm, ⟨115, _⟩ => ⟨S4x128x256, .f32⟩
  | .hbm, ⟨116, _⟩ => ⟨S512x256, .f32⟩
  | .hbm, ⟨117, _⟩ => ⟨S512x256, .bf16⟩
  | .hbm, ⟨118, _⟩ => ⟨S128x4x256, .f32⟩
  | .hbm, ⟨119, _⟩ => ⟨S4x128x256, .f32⟩
  | .hbm, ⟨120, _⟩ => ⟨S512x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_0 : Ref sig .tc := ⟨.hbm, 60, rfl⟩
abbrev main_v35 : Ref sig .tc := ⟨.hbm, 61, rfl⟩
abbrev main_v36 : Ref sig .tc := ⟨.hbm, 62, rfl⟩
abbrev main_cst_1 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_2 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Proof.Finite.lean ====
/- THE PRECONDITION, read: where `finite` holds every entry of the four arguments is a real number. -/
module

public import proofs.«01_k».proof.Pre_finite
public import Idealize.ShloMosaic.Lib.ReduceAll
public import Idealize.ShloMosaic.Lib.Pointwise

@[expose] public section

set_option maxRecDepth 16384

noncomputable section

namespace Cert.Attn

open Cert.Pre_finite Idealize.ShloMosaic

instance finiteFacts : Cert.Pre_finite.Facts where
  bcast_S_S32x2048x8x128 := by decide
  reducesTo_S32x2048x8x128_S_d0_1_2_3 := by decide
  h_S_ := by decide
  bcast_S_S32x2048x8x32 := by decide
  reducesTo_S32x2048x8x32_S_d0_1_2_3 := by decide
  bcast_S_S32x2048x128 := by decide
  reducesTo_S32x2048x128_S_d0_1_2 := by decide
  bcast_S_S32x2048x32 := by decide
  reducesTo_S32x2048x32_S_d0_1_2 := by decide

theorem pinf : Ideal.ofBits .f32 0x7F800000#32 = (⊤ : EReal) := by simp [Ideal.ofBits, Ideal.ieee]

/-- A number whose magnitude is below +∞ is real. -/
theorem real_of_abs_lt {x : EReal} (h : max x (-x) < ⊤) : x = (x.toReal : EReal) := by
  obtain ⟨h1, h2⟩ := max_lt_iff.1 h
  refine (EReal.coe_toReal h1.ne fun e => ?_).symm
  rw [e, EReal.neg_bot] at h2
  exact lt_irrefl _ h2

instance : Subsingleton S_.Idx := ⟨fun a b => funext fun i => i.elim0⟩

/-- One argument's part of the precondition: all its magnitudes compare below +∞. -/
theorem real_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32))) (constantI S_ 1 1#1) h hu
      ix0 = 1#1) (i : s.Idx) : x i = ((x i : EReal).toReal : EReal) := by
  have hi := Host.reduce_andi_all _ _ h hu _ e i
  refine real_of_abs_lt ?_
  have h' : Ideal.cmp .olt (max (x i : EReal) (-(x i : EReal))) (Ideal.ofBits .f32 0x7F800000#32) = 1#1 := hi
  rw [pinf] at h'
  by_contra hn
  simp [Ideal.cmp, hn] at h'

theorem and_split {x y : IVec S_ 1} (h : andi x y ix0 = 1#1) : x ix0 = 1#1 ∧ y ix0 = 1#1 := by
  have h' : x ix0 &&& y ix0 = 1#1 := h
  generalize x ix0 = a at *
  generalize y ix0 = b at *
  revert a b
  decide

theorem real_args (a0 : FVec Ideal S32x2048x8x128 .f32) (a1 : FVec Ideal S32x2048x8x32 .f32) (a2 : FVec Ideal S32x2048x128 .f32)
    (a3 : FVec Ideal S32x2048x32 .f32) (h : Cert.Pre_finite.fn (F := Ideal) a0 a1 a2 a3 = fun _ => 1#1) :
    (∀ i, a0 i = ((a0 i : EReal).toReal : EReal)) ∧ (∀ i, a1 i = ((a1 i : EReal).toReal : EReal))
      ∧ (∀ i, a2 i = ((a2 i : EReal).toReal : EReal)) ∧ (∀ i, a3 i = ((a3 i : EReal).toReal : EReal)) := by
  have h0 := congrFun h ix0
  unfold Cert.Pre_finite.fn Cert.Pre_finite.fn_part1 at h0
  dsimp only at h0
  obtain ⟨h012, h3⟩ := and_split h0
  obtain ⟨h01, h2⟩ := and_split h012
  obtain ⟨h0, h1⟩ := and_split h01
  exact ⟨real_of_all _ _ _ _ h0, real_of_all _ _ _ _ h1, real_of_all _ _ _ _ h2, real_of_all _ _ _ _ h3⟩

end Cert.Attn
end
-- ==== Proof.Softmax.lean ====
/- The arithmetic of one row of attention, on extended reals: the running maximum and the running weighted sums of the
   kernel, chunk by chunk (`Run`, `Run.step`, `Run.ratio`), and the plain softmax of the reference (`plain_row`), both
   equal to one real number, `soft`. Nothing here names a program. -/
module

public import Idealize.ShloMosaic.PureOps.Ideal
public import Mathlib.Algebra.BigOperators.Fin

@[expose] public section

noncomputable section

namespace Cert.Attn

open Idealize.ShloMosaic Finset

/-- A finite sum of reals, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- The weight of key `k` for the query in row `i`, against the reference level `M`: keys after the query weigh nothing. -/
def wt (x : ℕ → ℝ) (i : ℕ) (M : ℝ) (k : ℕ) : ℝ := if k ≤ i then (2 : ℝ) ^ (x k - M) else 0

/-- The weighted sum of the values `v` over the first `n` keys. -/
def part (x v : ℕ → ℝ) (i : ℕ) (M : ℝ) (n : ℕ) : ℝ := ∑ k ∈ range n, wt x i M k * v k

/-- CAUSAL SOFTMAX ATTENTION of one row: base-2 scores `x`, values `v`, the keys up to the query's own position `i`. -/
def soft (x v : ℕ → ℝ) (i : ℕ) : ℝ :=
  (∑ k ∈ range (i + 1), (2 : ℝ) ^ x k * v k) / ∑ k ∈ range (i + 1), (2 : ℝ) ^ x k

theorem wt_shift (x : ℕ → ℝ) (i : ℕ) (M M' : ℝ) (k : ℕ) : (2 : ℝ) ^ (M - M') * wt x i M k = wt x i M' k := by
  unfold wt
  split
  · rw [← Real.rpow_add (by norm_num)]; congr 1; ring
  · simp

theorem part_shift (x v : ℕ → ℝ) (i : ℕ) (M M' : ℝ) (n : ℕ) : (2 : ℝ) ^ (M - M') * part x v i M n = part x v i M' n := by
  unfold part
  rw [mul_sum]
  exact sum_congr rfl fun k _ => by rw [← mul_assoc, wt_shift]

theorem part_add (x v : ℕ → ℝ) (i : ℕ) (M : ℝ) (n w : ℕ) :
    part x v i M (n + w) = part x v i M n + ∑ j : Fin w, wt x i M (n + j.val) * v (n + j.val) := by
  unfold part
  rw [sum_range_add, Fin.sum_univ_eq_sum_range (fun j => wt x i M (n + j) * v (n + j)) w]

/-- Past the query's own position a partial sum no longer grows. -/
theorem part_full (x v : ℕ → ℝ) (i : ℕ) (M : ℝ) (n : ℕ) (h : i < n) :
    part x v i M n = (2 : ℝ) ^ (-M) * ∑ k ∈ range (i + 1), (2 : ℝ) ^ x k * v k := by
  obtain ⟨d, rfl⟩ : ∃ d, n = (i + 1) + d := ⟨n - (i + 1), by omega⟩
  rw [part_add, mul_sum]
  have hz : ∑ j : Fin d, wt x i M (i + 1 + j.val) * v (i + 1 + j.val) = 0 :=
    sum_eq_zero fun j _ => by unfold wt; rw [if_neg (by omega), zero_mul]
  rw [hz, add_zero]
  refine sum_congr rfl fun k hk => ?_
  have hk' : k ≤ i := by have := mem_range.mp hk; omega
  unfold wt
  rw [if_pos hk', sub_eq_add_neg, Real.rpow_add (by norm_num)]; ring

/-- The ratio of two partial sums past the query's position is the softmax, whatever level they were taken against. -/
theorem part_ratio (x v : ℕ → ℝ) (i : ℕ) (M : ℝ) (n : ℕ) (h : i < n) :
    part x v i M n / part x (fun _ => 1) i M n = soft x v i := by
  rw [part_full x v i M n h, part_full x _ i M n h]
  unfold soft
  simp only [mul_one]
  rw [mul_div_mul_left _ _ (Real.rpow_pos_of_pos (by norm_num) _).ne']

theorem part_one_pos (x : ℕ → ℝ) (i : ℕ) (M : ℝ) (n : ℕ) (h : i < n) : 0 < part x (fun _ => 1) i M n := by
  rw [part_full x _ i M n h]
  refine mul_pos (Real.rpow_pos_of_pos (by norm_num) _) (sum_pos (fun k _ => ?_) ⟨0, by simp⟩)
  rw [mul_one]
  exact Real.rpow_pos_of_pos (by norm_num) _

/-- The masked score of a row at a key. -/
def score (x : ℕ → ℝ) (i k : ℕ) : EReal := if k ≤ i then (x k : EReal) else ⊥

theorem exp2_score (x : ℕ → ℝ) (i k : ℕ) (M : ℝ) : Ideal.exp2 (score x i k - (M : EReal)) = ((wt x i M k : ℝ) : EReal) := by
  unfold score wt
  split
  · rw [← EReal.coe_sub]; rfl
  · rw [EReal.bot_sub]; rfl

theorem score_lt_top (x : ℕ → ℝ) (i k : ℕ) : score x i k < ⊤ := by
  unfold score
  split
  · exact EReal.coe_lt_top _
  · exact bot_lt_top

theorem fold_max_lt_top {w : ℕ} (s : Fin w → EReal) (h : ∀ j, s j < ⊤) : univ.fold max (⊥ : EReal) s < ⊤ := by
  rw [Finset.fold_max_lt]
  exact ⟨bot_lt_top, fun j _ => h j⟩

theorem le_fold_max {w : ℕ} (s : Fin w → EReal) (j : Fin w) : s j ≤ univ.fold max (⊥ : EReal) s :=
  (Finset.le_fold_max _).mpr (Or.inr ⟨j, mem_univ j, le_rfl⟩)

/-- WHAT THE KERNEL CARRIES FOR A ROW after its first `n` keys: before any key the maximum is `⊥` and the sums are zero;
    after some, there is a real level `M`, the maximum, against which the sums are the partial sums. -/
def Run {L : Type} (x : ℕ → ℝ) (v : ℕ → L → ℝ) (i n : ℕ) (m : EReal) (a : L → EReal) : Prop :=
  (n = 0 ∧ m = ⊥ ∧ ∀ l, a l = 0) ∨ ∃ M : ℝ, m = (M : EReal) ∧ ∀ l, a l = ((part x (fun k => v k l) i M n : ℝ) : EReal)

/-- ONE CHUNK of `w` keys. -/
theorem Run.step {L : Type} {x : ℕ → ℝ} {v : ℕ → L → ℝ} {i n : ℕ} {m : EReal} {a : L → EReal} (h : Run x v i n m a)
    {w : ℕ} (hw : 0 < w) {s : Fin w → EReal} (hs : ∀ j, s j = score x i (n + j.val))
    {u : Fin w → L → EReal} (hu : ∀ j l, u j l = (v (n + j.val) l : EReal))
    {m' : EReal} (hm' : m' = max m (univ.fold max (⊥ : EReal) s))
    {a' : L → EReal} (ha' : ∀ l, a' l = Ideal.exp2 (m - m') * a l + ∑ j, Ideal.exp2 (s j - m') * u j l) :
    Run x v i (n + w) m' a' := by
  right
  have hft : univ.fold max (⊥ : EReal) s < ⊤ := fold_max_lt_top s fun j => by rw [hs]; exact score_lt_top _ _ _
  have htop : m' ≠ ⊤ := by
    rw [hm']
    refine (max_lt ?_ hft).ne
    rcases h with ⟨_, hm, _⟩ | ⟨M, hm, _⟩ <;> rw [hm]
    · exact bot_lt_top
    · exact EReal.coe_lt_top _
  have hbot : m' ≠ ⊥ := by
    rw [hm']
    rcases h with ⟨hn, _, _⟩ | ⟨M, hm, _⟩
    · refine (lt_of_lt_of_le ?_ (le_max_of_le_right (le_fold_max s ⟨0, hw⟩))).ne'
      rw [hs, hn]
      unfold score
      rw [if_pos (by simp)]
      exact EReal.bot_lt_coe _
    · refine (lt_of_lt_of_le ?_ (le_max_left _ _)).ne'
      rw [hm]
      exact EReal.bot_lt_coe _
  obtain ⟨M', hM'⟩ : ∃ M' : ℝ, m' = (M' : EReal) := ⟨m'.toReal, (EReal.coe_toReal htop hbot).symm⟩
  refine ⟨M', hM', fun l => ?_⟩
  have hsum : ∑ j, Ideal.exp2 (s j - m') * u j l
      = ((∑ j : Fin w, wt x i M' (n + j.val) * v (n + j.val) l : ℝ) : EReal) := by
    rw [coe_sum]
    refine sum_congr rfl fun j _ => ?_
    rw [hs, hM', exp2_score, hu, EReal.coe_mul]
  rw [ha', hsum, part_add]
  have hold : Ideal.exp2 (m - m') * a l = ((part x (fun k => v k l) i M' n : ℝ) : EReal) := by
    rcases h with ⟨hn, hm, ha⟩ | ⟨M, hm, ha⟩
    · rw [hm, ha, hn, mul_zero]; simp [part]
    · rw [hm, hM', ha, ← EReal.coe_sub, ← part_shift x _ i M M' n, EReal.coe_mul]; rfl
  rw [hold, EReal.coe_add]

/-- THE END OF A ROW: the sums divided by the sum whose values are all one. -/
theorem Run.ratio {L : Type} {x : ℕ → ℝ} {v : ℕ → L → ℝ} {i n : ℕ} {m : EReal} {a : L → EReal} (h : Run x v i n m a)
    (hi : i < n) (c o : L) (ho : ∀ k, v k o = 1) :
    Ideal.div (a c) (a o) = ((soft x (fun k => v k c) i : ℝ) : EReal) := by
  rcases h with ⟨hn, _, _⟩ | ⟨M, _, ha⟩
  · omega
  · have hone : (fun k => v k o) = fun _ => (1 : ℝ) := funext ho
    rw [ha, ha, hone, Ideal.div_coe (part_one_pos x i M n hi).ne', ← EReal.coe_mul, mul_one_div, part_ratio x _ i M n hi]

/-- THE PLAIN SOFTMAX of a row: natural exponentials of the masked scores `y` less their maximum, divided by their sum,
    weighing the values: the same number, the base-2 scores being `y / log 2`. -/
theorem plain_row {N : ℕ} (y x v : ℕ → ℝ) (i : ℕ) (hi : i < N) (hx : ∀ k, y k = x k * Real.log 2)
    {s : Fin N → EReal} (hs : ∀ k, s k = score y i k.val) {u : Fin N → EReal} (hu : ∀ k, u k = (v k.val : EReal))
    {m : EReal} (hm : m = univ.fold max (⊥ : EReal) s) :
    ∑ k, u k * Ideal.div (Ideal.exp (s k - m)) (∑ k', Ideal.exp (s k' - m)) = ((soft x v i : ℝ) : EReal) := by
  have htop : m ≠ ⊤ := by
    rw [hm]
    exact (fold_max_lt_top s fun j => by rw [hs]; exact score_lt_top _ _ _).ne
  have hbot : m ≠ ⊥ := by
    rw [hm]
    refine (lt_of_lt_of_le ?_ (le_fold_max s ⟨0, by omega⟩)).ne'
    rw [hs]
    unfold score
    rw [if_pos (by simp)]
    exact EReal.bot_lt_coe _
  obtain ⟨M, hM⟩ : ∃ M : ℝ, m = (M : EReal) := ⟨m.toReal, (EReal.coe_toReal htop hbot).symm⟩
  have hexp : ∀ k, Ideal.exp (s k - m) = ((wt x i (M / Real.log 2) k.val : ℝ) : EReal) := by
    intro k
    rw [hs, hM]
    unfold score wt
    split
    · rw [← EReal.coe_sub, Ideal.exp_coe, Real.rpow_def_of_pos (by norm_num), hx]
      congr 2
      have : Real.log 2 ≠ 0 := (Real.log_pos (by norm_num)).ne'
      field_simp
    · rw [EReal.bot_sub]; rfl
  have hden : ∑ k', Ideal.exp (s k' - m) = ((part x (fun _ => 1) i (M / Real.log 2) N : ℝ) : EReal) := by
    unfold part
    rw [← Fin.sum_univ_eq_sum_range (fun k => wt x i (M / Real.log 2) k * 1) N, coe_sum]
    exact sum_congr rfl fun k _ => by rw [hexp, mul_one]
  rw [hden]
  have hterm : ∀ k : Fin N, u k * Ideal.div (Ideal.exp (s k - m)) ((part x (fun _ => 1) i (M / Real.log 2) N : ℝ) : EReal)
      = ((wt x i (M / Real.log 2) k.val * v k.val * (1 / part x (fun _ => 1) i (M / Real.log 2) N) : ℝ) : EReal) := by
    intro k
    rw [hexp, hu, Ideal.div_coe (part_one_pos x i _ N hi).ne', ← EReal.coe_mul, ← EReal.coe_mul]
    congr 1
    ring
  rw [sum_congr rfl fun k _ => hterm k, ← coe_sum, ← sum_mul, mul_one_div,
    Fin.sum_univ_eq_sum_range (fun k => wt x i (M / Real.log 2) k * v k) N]
  rw [← part_ratio x v i (M / Real.log 2) N hi]
  rfl

end Cert.Attn

end
-- ==== Proof.Chunk.lean ====
/- ONE CHUNK of the attention kernel's online softmax as a function of the running maximum and sums, at any float
   instance (`step`, `last512`, `last256`, `quot`), and at `Ideal`, row by row, the step of `Attn.Run`. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Attn

open Cert.KernelIdeal Cert.KernelIdeal.Gen Idealize.ShloMosaic

section anyFloats
variable {F : FTy → Type} [FloatOps F]

/-- The running maximum and the running sums of the 2048 rows (8 heads of 256 queries). -/
abbrev St (F : FTy → Type) : Type := FVec F S2048x1 .f32 × FVec F S2048x256 .f32

def st0 : St F := (broadcast S2048x1 (Scalar.ofBits .f32 0xFF800000#32), broadcast S2048x256 (Scalar.ofBits .f32 0x00000000#32))

/-- The scores of 512 keys, and of 256. -/
def sc512 (q : FVec F S2048x256 .bf16) (k : FVec F S512x256 .bf16) : FVec F S2048x512 .f32 :=
  matmul dot_S2048x256_S512x256_S2048x512_1_1_0_0_n_n none q k (constant S2048x512 .f32 0x00000000#32)
def sc256 (q : FVec F S2048x256 .bf16) (k : FVec F S256x256 .bf16) : FVec F S2048x256 .f32 :=
  matmul dot_S2048x256_S256x256_S2048x256_1_1_0_0_n_n none q k (constant S2048x256 .f32 0x00000000#32)

/-- The causal mask of the last chunk. -/
def mask512 (d : IVec S2048x512 32) (lead : BitVec 32) (s : FVec F S2048x512 .f32) : FVec F S2048x512 .f32 :=
  select (cmpi .sle d (broadcast S2048x512 lead)) s (broadcast S2048x512 (Scalar.ofBits .f32 0xFF800000#32))
def mask256 (d : IVec S2048x256 32) (lead : BitVec 32) (s : FVec F S2048x256 .f32) : FVec F S2048x256 .f32 :=
  select (cmpi .sle d (broadcast S2048x256 lead)) s (broadcast S2048x256 (Scalar.ofBits .f32 0xFF800000#32))

def top512 (m : FVec F S2048x1 .f32) (s : FVec F S2048x512 .f32) : FVec F S2048x1 .f32 :=
  maximumf m (shapeCast S2048x1 (multiReduction .maximumf [1] S2048 s 0xFF800000#32 reduces_S2048x512_S2048 (.inl rfl) rfl) shapeCasts_S2048_S2048x1)
def top256 (m : FVec F S2048x1 .f32) (s : FVec F S2048x256 .f32) : FVec F S2048x1 .f32 :=
  maximumf m (shapeCast S2048x1 (multiReduction .maximumf [1] S2048 s 0xFF800000#32 reduces_S2048x256_S2048 (.inl rfl) rfl) shapeCasts_S2048_S2048x1)

/-- The new sums from the old ones, the old and the new maximum, the scores and the keys. -/
def acc512 (m m' : FVec F S2048x1 .f32) (a : FVec F S2048x256 .f32) (s : FVec F S2048x512 .f32) (k : FVec F S512x256 .bf16) :
    FVec F S2048x256 .f32 :=
  addf (mulf (broadcastTo S2048x256 (exp2 (subf m m')) broadcasts_S2048x1_S2048x256) a)
    (matmul dot_S2048x512_S512x256_S2048x256_1_0_0_1_n_n none
      (truncf .bf16 (exp2 (subf s (broadcastTo S2048x512 m' broadcasts_S2048x1_S2048x512))) bitsLt_bf16_f32) k
      (constant S2048x256 .f32 0x00000000#32))
def acc256 (m m' : FVec F S2048x1 .f32) (a : FVec F S2048x256 .f32) (s : FVec F S2048x256 .f32) (k : FVec F S256x256 .bf16) :
    FVec F S2048x256 .f32 :=
  addf (mulf (broadcastTo S2048x256 (exp2 (subf m m')) broadcasts_S2048x1_S2048x256) a)
    (matmul dot_S2048x256_S256x256_S2048x256_1_0_0_1_n_n none
      (truncf .bf16 (exp2 (subf s (broadcastTo S2048x256 m' broadcasts_S2048x1_S2048x256))) bitsLt_bf16_f32) k
      (constant S2048x256 .f32 0x00000000#32))

/-- A chunk of 512 keys with its scores given. -/
def upd512 (s : FVec F S2048x512 .f32) (k : FVec F S512x256 .bf16) (c : St F) : St F :=
  (top512 c.1 s, acc512 c.1 (top512 c.1 s) c.2 s k)
def upd256 (s : FVec F S2048x256 .f32) (k : FVec F S256x256 .bf16) (c : St F) : St F :=
  (top256 c.1 s, acc256 c.1 (top256 c.1 s) c.2 s k)

def k512 (k : Vec F S512x256 .bf16) : FVec F S512x256 .bf16 := shapeCast S512x256 k shapeCasts_S512x256_S512x256
def k256 (k : Vec F S256x256 .bf16) : FVec F S256x256 .bf16 := shapeCast S256x256 k shapeCasts_S256x256_S256x256

/-- A chunk of 512 keys, all of them visible; the last chunk, of 512 keys or of 256, under the causal mask. -/
def step (q : FVec F S2048x256 .bf16) (k : Vec F S512x256 .bf16) (c : St F) : St F := upd512 (sc512 q (k512 k)) (k512 k) c
def last512 (q : FVec F S2048x256 .bf16) (lead : BitVec 32) (k : Vec F S512x256 .bf16) (d : Vec F S2048x512 .i32) (c : St F) : St F :=
  upd512 (mask512 d lead (sc512 q (k512 k))) (k512 k) c
def last256 (q : FVec F S2048x256 .bf16) (lead : BitVec 32) (k : Vec F S256x256 .bf16) (d : Vec F S2048x256 .i32) (c : St F) : St F :=
  upd256 (mask256 d lead (sc256 q (k256 k))) (k256 k) c

/-- The sums over the sum of the weights, which lane 255 carries. -/
def quot (c : St F) : FVec F S2048x128 .f32 :=
  divf (extractStridedSlice S2048x128 ![0, 0] c.2 slices_S2048x256_o0_0_S2048x128)
    (broadcastTo S2048x128 (extractStridedSlice S2048x1 ![0, 255] c.2 slices_S2048x256_o0_255_S2048x1) broadcasts_S2048x1_S2048x128)

theorem pay1_eq (q : FVec F S2048x256 .bf16) (lead : BitVec 32) (k : Vec F S256x256 .bf16) (d : Vec F S2048x256 .i32) :
    k0_pay1 q lead k d = quot (last256 q lead k d st0) := rfl

end anyFloats

theorem ninf : Ideal.ofBits .f32 0xFF800000#32 = (⊥ : EReal) := by
  simp [Ideal.ofBits, Ideal.ieee]

/-- Row `r` of a chunk of 512 keys at `Ideal`. -/
theorem top512_apply (m : FVec Ideal S2048x1 .f32) (s : FVec Ideal S2048x512 .f32) (r : Fin 2048) :
    top512 m s (ix2 r 0) = max (m (ix2 r 0)) (Finset.univ.fold max (⊥ : EReal) fun j : Fin 512 => s (ix2 r j)) := by
  pointwise [top512]
  rw [ninf]

theorem acc512_apply (m m' : FVec Ideal S2048x1 .f32) (a : FVec Ideal S2048x256 .f32) (s : FVec Ideal S2048x512 .f32)
    (k : FVec Ideal S512x256 .bf16) (r : Fin 2048) (l : Fin 256) :
    acc512 m m' a s k (ix2 r l) = Ideal.exp2 (m (ix2 r 0) - m' (ix2 r 0)) * a (ix2 r l)
      + ∑ j : Fin 512, Ideal.exp2 (s (ix2 r j) - m' (ix2 r 0)) * k (ix2 j l) := by
  pointwise [acc512]
  rfl

end Cert.Attn

end
-- ==== Proof.Cases.lean ====
/- THE EIGHT PLACES of a query tile (its number modulo 8), run by run: what the kernel leaves in its output block is the
   quotient of the chunks its keys fall in, the 8 heads side by side. -/
module

public import proofs.«01_k».proof.Proof.Gen.KernelIdeal.Value
public import proofs.«01_k».proof.Proof.Chunk

@[expose] public section

set_option maxRecDepth 16384

noncomputable section

namespace Cert.Attn

open Cert.KernelIdeal Cert.KernelIdeal.Gen Idealize.ShloMosaic

section anyFloats
variable {F : FTy → Type} [FloatOps F]

/-- How far the tile's first query lies past the first key of its last chunk, as the kernel computes it. -/
def lead (g : BitVec 32) : BitVec 32 :=
  Scalar.subi (Scalar.muli g 256#32)
    (Scalar.muli
      (Scalar.select
        (Scalar.andi
          (Scalar.cmpi .ne (Scalar.subi (Scalar.extui (Scalar.cmpi .sgt (Scalar.muli g 256#32) 0#32))
            (Scalar.extui (Scalar.cmpi .slt (Scalar.muli g 256#32) 0#32)))
            (Scalar.subi (Scalar.extui (Scalar.cmpi .sgt 512#32 0#32)) (Scalar.extui (Scalar.cmpi .slt 512#32 0#32))))
          (Scalar.cmpi .ne (Scalar.remsi (Scalar.muli g 256#32) 512#32) 0#32))
        (Scalar.subi (Scalar.divsi (Scalar.muli g 256#32) 512#32) 1#32)
        (Scalar.divsi (Scalar.muli g 256#32) 512#32)) 512#32)

/-- The queries as 2048 rows. -/
def qrows (x0 : Vec F S8x256x256 .bf16) : FVec F S2048x256 .bf16 :=
  k0_pay86 (View.ld x0 (Rect.unit ![0, 0, 0] ![8, 256, 256] inb_S8x256x256_S8x256x256_0_0_0))

/-- The last 256 keys of an even tile, the last 512 of an odd one. -/
def dg256 (xs : Vec F S2048x512 .i32) : Vec F S2048x256 .i32 := View.ld xs (Rect.unit ![0, 0] ![2048, 256] inb_S2048x512_S2048x256_0_0)
def dg512 (xs : Vec F S2048x512 .i32) : Vec F S2048x512 .i32 := View.ld xs (Rect.unit ![0, 0] ![2048, 512] inb_S2048x512_S2048x512_0_0)

def c0 (x1 : Vec F S2048x256 .bf16) : Vec F S512x256 .bf16 := View.ld x1 (Rect.unit ![0, 0] ![512, 256] inb_S2048x256_S512x256_0_0)
def c1 (x1 : Vec F S2048x256 .bf16) : Vec F S512x256 .bf16 := View.ld x1 (Rect.unit ![512, 0] ![512, 256] inb_S2048x256_S512x256_512_0)
def c2 (x1 : Vec F S2048x256 .bf16) : Vec F S512x256 .bf16 := View.ld x1 (Rect.unit ![1024, 0] ![512, 256] inb_S2048x256_S512x256_1024_0)
def c3 (x1 : Vec F S2048x256 .bf16) : Vec F S512x256 .bf16 := View.ld x1 (Rect.unit ![1536, 0] ![512, 256] inb_S2048x256_S512x256_1536_0)
def e0 (x1 : Vec F S2048x256 .bf16) : Vec F S256x256 .bf16 := View.ld x1 (Rect.unit ![0, 0] ![256, 256] inb_S2048x256_S256x256_0_0)
def e1 (x1 : Vec F S2048x256 .bf16) : Vec F S256x256 .bf16 := View.ld x1 (Rect.unit ![512, 0] ![256, 256] inb_S2048x256_S256x256_512_0)
def e2 (x1 : Vec F S2048x256 .bf16) : Vec F S256x256 .bf16 := View.ld x1 (Rect.unit ![1024, 0] ![256, 256] inb_S2048x256_S256x256_1024_0)
def e3 (x1 : Vec F S2048x256 .bf16) : Vec F S256x256 .bf16 := View.ld x1 (Rect.unit ![1536, 0] ![256, 256] inb_S2048x256_S256x256_1536_0)

/-- The state after the first 512, 1024 and 1536 keys. -/
def s1 (q : FVec F S2048x256 .bf16) (x1 : Vec F S2048x256 .bf16) : St F := step q (c0 x1) st0
def s2 (q : FVec F S2048x256 .bf16) (x1 : Vec F S2048x256 .bf16) : St F := step q (c1 x1) (s1 q x1)
def s3 (q : FVec F S2048x256 .bf16) (x1 : Vec F S2048x256 .bf16) : St F := step q (c2 x1) (s2 q x1)

/-- The last chunk's state, tile by tile: of 8 tiles the even ones end on 256 keys and the odd ones on 512. -/
def tile (t : ℕ) (q : FVec F S2048x256 .bf16) (l : BitVec 32) (x1 : Vec F S2048x256 .bf16) (xs : Vec F S2048x512 .i32) : St F :=
  match t with
  | 0 => last256 q l (e0 x1) (dg256 xs) st0
  | 1 => last512 q l (c0 x1) (dg512 xs) st0
  | 2 => last256 q l (e1 x1) (dg256 xs) (s1 q x1)
  | 3 => last512 q l (c1 x1) (dg512 xs) (s1 q x1)
  | 4 => last256 q l (e2 x1) (dg256 xs) (s2 q x1)
  | 5 => last512 q l (c2 x1) (dg512 xs) (s2 q x1)
  | 6 => last256 q l (e3 x1) (dg256 xs) (s3 q x1)
  | _ => last512 q l (c3 x1) (dg512 xs) (s3 q x1)

/-- The block of a tile: head `h`'s 128 lanes are rows `256 h ‥ 256 h + 255`. -/
def pieces (o : FVec F S2048x128 .f32) : List (View.Piece (Elt F) S256x1024 .bf16) :=
  [⟨Rect.unit ![0, 896] ![256, 128] inb_S256x1024_S256x128_0_896, k0_pay101 o⟩,
   ⟨Rect.unit ![0, 768] ![256, 128] inb_S256x1024_S256x128_0_768, k0_pay100 o⟩,
   ⟨Rect.unit ![0, 640] ![256, 128] inb_S256x1024_S256x128_0_640, k0_pay99 o⟩,
   ⟨Rect.unit ![0, 512] ![256, 128] inb_S256x1024_S256x128_0_512, k0_pay98 o⟩,
   ⟨Rect.unit ![0, 384] ![256, 128] inb_S256x1024_S256x128_0_384, k0_pay97 o⟩,
   ⟨Rect.unit ![0, 256] ![256, 128] inb_S256x1024_S256x128_0_256, k0_pay96 o⟩,
   ⟨Rect.unit ![0, 128] ![256, 128] inb_S256x1024_S256x128_0_128, k0_pay95 o⟩,
   ⟨Rect.unit ![0, 0] ![256, 128] inb_S256x1024_S256x128_0_0, truncf .bf16 (extractStridedSlice S256x128 ![0, 0] o slices_S2048x128_o0_0_S256x128) bitsLt_bf16_f32⟩]

def block (o : FVec F S2048x128 .f32) : Vec F S256x1024 .bf16 :=
  VO0_2.read (Elt F) (VO0_2.writes (Elt F) VO0_2.junk (pieces o))

/-- What tile `t` of 8 leaves in the output's block. -/
def left (t : ℕ) (i : grid0.Coords) (x0 : Vec F S8x256x256 .bf16) (x1 : Vec F S2048x256 .bf16) (xs : Vec F S2048x512 .i32) :
    Vec F S256x1024 .bf16 := block (quot (tile t (qrows x0) (lead (BitVec.ofNat 32 (i 1).val)) x1 xs))

variable (c : Dev nD) (i : grid0.Coords) (arg2 : Memref sig .tc .vmem S8x256x256 .bf16) (harg2 : arg2.IsWhole)
  (arg3 : Memref sig .tc .vmem S2048x256 .bf16) (harg3 : arg3.IsWhole) (arg4 : Memref sig .tc .vmem S256x1024 .bf16)
  (harg4 : arg4.IsWhole) (arg5 : Memref sig .tc .vmem S2048x512 .i32) (harg5 : arg5.IsWhole)
  (x0 : Vec F S8x256x256 .bf16) (x1 : Vec F S2048x256 .bf16) (xs0 : Vec F S2048x512 .i32)

theorem out_B
    (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i) :
    out0_B_2 c i arg2 harg2 arg3 harg3 arg4 harg4 arg5 harg5 hc0 hc1 hc2 hc3 hc4 hc5 hc6 hc7 hc8 x0 x1 xs0
      = left 1 i x0 x1 xs0 := by
  unfold out0_B_2 kernelRun0_B
  dsimp only
  sl_unfold_words
  simp only [View.readAt_eq_ld, harg2.read_unread, harg3.read_unread, harg5.read_unread]
  rfl

theorem out_C
    (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i) :
    out0_C_2 c i arg2 harg2 arg3 harg3 arg4 harg4 arg5 harg5 hc0 hc1 hc2 hc3 hc4 hc5 hc6 hc7 hc8 x0 x1 xs0
      = left 2 i x0 x1 xs0 := by
  unfold out0_C_2 kernelRun0_C
  dsimp only
  sl_unfold_words
  simp only [View.readAt_eq_ld, harg2.read_unread, harg3.read_unread, harg5.read_unread]
  rfl

theorem out_D
    (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i) :
    out0_D_2 c i arg2 harg2 arg3 harg3 arg4 harg4 arg5 harg5 hc0 hc1 hc2 hc3 hc4 hc5 hc6 hc7 hc8 x0 x1 xs0
      = left 3 i x0 x1 xs0 := by
  unfold out0_D_2 kernelRun0_D
  dsimp only
  sl_unfold_words
  simp only [View.readAt_eq_ld, harg2.read_unread, harg3.read_unread, harg5.read_unread]
  rfl

theorem out_E
    (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i) :
    out0_E_2 c i arg2 harg2 arg3 harg3 arg4 harg4 arg5 harg5 hc0 hc1 hc2 hc3 hc4 hc5 hc6 hc7 hc8 x0 x1 xs0
      = left 4 i x0 x1 xs0 := by
  unfold out0_E_2 kernelRun0_E
  dsimp only
  sl_unfold_words
  simp only [View.readAt_eq_ld, harg2.read_unread, harg3.read_unread, harg5.read_unread]
  rfl

theorem out_F
    (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i) :
    out0_F_2 c i arg2 harg2 arg3 harg3 arg4 harg4 arg5 harg5 hc0 hc1 hc2 hc3 hc4 hc5 hc6 hc7 hc8 x0 x1 xs0
      = left 5 i x0 x1 xs0 := by
  unfold out0_F_2 kernelRun0_F
  dsimp only
  sl_unfold_words
  simp only [View.readAt_eq_ld, harg2.read_unread, harg3.read_unread, harg5.read_unread]
  rfl

theorem out_G
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i) :
    out0_G_2 c i arg2 harg2 arg3 harg3 arg4 harg4 arg5 harg5 hc0 hc1 hc2 hc3 hc4 hc5 hc6 hc7 hc8 x0 x1 xs0
      = left 6 i x0 x1 xs0 := by
  unfold out0_G_2 kernelRun0_G
  dsimp only
  sl_unfold_words
  simp only [View.readAt_eq_ld, harg2.read_unread, harg3.read_unread, harg5.read_unread]
  rfl

theorem out_H
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) :
    out0_H_2 c i arg2 harg2 arg3 harg3 arg4 harg4 arg5 harg5 hc0 hc1 hc2 hc3 hc4 hc5 hc6 hc7 hc8 x0 x1 xs0
      = left 7 i x0 x1 xs0 := by
  unfold out0_H_2 kernelRun0_H
  dsimp only
  sl_unfold_words
  simp only [View.readAt_eq_ld, harg2.read_unread, harg3.read_unread, harg5.read_unread]
  rfl

theorem out_I
    (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    out0_I_2 c i arg2 harg2 arg3 harg3 arg4 harg4 arg5 harg5 hc0 hc1 hc2 hc3 hc4 hc5 hc6 hc7 hc8 x0 x1 xs0
      = left 0 i x0 x1 xs0 := by
  unfold out0_I_2 kernelRun0_I
  dsimp only
  sl_unfold_words
  simp only [View.readAt_eq_ld, harg2.read_unread, harg3.read_unread, harg5.read_unread]
  rfl

theorem hz2 : (![0, 0] : Fin 2 → ℕ) = fun _ => 0 := by decide

theorem readCov_whole {v : View sig .tc .vmem S2048x512 .i32} (w : Vec F S2048x512 .i32) (inb) (r : Rect S2048x512) :
    v.readCov (Val := Elt F) [⟨Rect.unit ![0, 0] ![2048, 512] inb, w⟩] r.toLoadRect = View.ld w r := by
  rw [View.readCov_eq_canon']
  exact congrArg (fun f j => f (r.toLoadRect.idx j)) (View.canon_unit_zero (S := S2048x512) hz2 inb w)

/-- The first tile of all writes the table of diagonals first … -/
theorem scr_A
    (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    sout0_A_0 c i arg2 harg2 arg3 harg3 arg4 harg4 arg5 harg5 hc0 hc1 hc2 hc3 hc4 hc5 hc6 hc7 hc8 x0 x1 = k0_pay85 := by
  unfold sout0_A_0
  rw [View.read_writes_eq_canon _ _ _ (scover0_A_0 c i arg2 harg2 arg3 harg3 arg4 harg4 arg5 harg5 hc0 hc1 hc2 hc3 hc4 hc5 hc6 hc7 hc8 x0 x1)]
  unfold kernelRun0_A
  dsimp only
  sl_unfold_words
  rw [View.canon_unit_zero (S := S2048x512) hz2]

/-- … and reads it back. -/
theorem out_A
    (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    out0_A_2 c i arg2 harg2 arg3 harg3 arg4 harg4 arg5 harg5 hc0 hc1 hc2 hc3 hc4 hc5 hc6 hc7 hc8 x0 x1 = left 0 i x0 x1 k0_pay85 := by
  unfold out0_A_2 kernelRun0_A
  dsimp only
  sl_unfold_words
  simp only [View.readAt_eq_ld, harg2.read_unread, harg3.read_unread, harg5.read_unread, readCov_whole]
  rfl

end anyFloats
end Cert.Attn
end
-- ==== Proof.Points.lean ====
/- EVERY GRID POINT leaves the tile its number modulo 8 names, and the table of diagonals in place. -/
module

public import proofs.«01_k».proof.Proof.Cases

@[expose] public section

set_option maxRecDepth 16384

noncomputable section

namespace Cert.Attn

open Cert.KernelIdeal Cert.KernelIdeal.Gen Idealize.ShloMosaic Idealize.ShloMosaic.TcCoe

variable {F : FTy → Type} [FloatOps F]
variable (m : (ℓ : Loc nD τ sig) → Buf (Elt F) ℓ) (c : Dev nD)

/-- What point `n` leaves. -/
def leaves (n : ℕ) (hn : n < cfg0.N) : Vec F S256x1024 .bf16 × Vec F S2048x512 .i32 :=
  (left (n % 8) (grid0.coords ⟨n, hn⟩) (iblk m c 0 ⟨n, hn⟩) (iblk m c 1 ⟨n, hn⟩) k0_pay85, k0_pay85)

theorem outs_eq : ∀ (n : ℕ) (hn : n < cfg0.N), outsAt0 m c n hn = leaves m c n hn
  | 0, hn => by
    rw [outsAt0_A m c ⟨0, hn⟩ rfl rfl (by simp) (by simp) (by simp) (by simp) (by simp) (by simp) (by simp)]
    exact congrArg₂ Prod.mk (out_A c _ _ _ _ _ _ _ _ _ _ _ _ _ _ _ _ _ _ _ _) (scr_A c _ _ _ _ _ _ _ _ _ _ _ _ _ _ _ _ _ _ _ _)
  | n + 1, hn => by
    have hN : n + 1 < 256 := lt_of_lt_of_eq hn N_0
    have ih : (outsAt0 m c n (by omega)).2 = k0_pay85 := congrArg Prod.snd (outs_eq n (by omega))
    have h8 : (n + 1) % 8 < 8 := Nat.mod_lt _ (by decide)
    have h0 : ¬ (n + 1) % 256 = 0 := by omega
    unfold leaves
    generalize hk : (n + 1) % 8 = k at h8
    have hne : ∀ j, j ≠ k → ¬ (n + 1) % 8 = j := fun j hj h => hj (h.symm.trans hk)
    interval_cases k
    · rw [outsAt0_I m c ⟨n + 1, hn⟩ h0 hk (hne 1 (by decide)) (hne 2 (by decide)) (hne 3 (by decide)) (hne 4 (by decide)) (hne 5 (by decide)) (hne 6 (by decide)) (hne 7 (by decide))]
      exact congrArg₂ Prod.mk ((out_I c _ _ _ _ _ _ _ _ _ _ _ _ _ _ _ _ _ _ _ _ _).trans (congrArg (left 0 _ _ _) ih)) ih
    · rw [outsAt0_B m c ⟨n + 1, hn⟩ h0 (hne 0 (by decide)) hk (hne 2 (by decide)) (hne 3 (by decide)) (hne 4 (by decide)) (hne 5 (by decide)) (hne 6 (by decide)) (hne 7 (by decide))]
      exact congrArg₂ Prod.mk ((out_B c _ _ _ _ _ _ _ _ _ _ _ _ _ _ _ _ _ _ _ _ _).trans (congrArg (left 1 _ _ _) ih)) ih
    · rw [outsAt0_C m c ⟨n + 1, hn⟩ h0 (hne 0 (by decide)) (hne 1 (by decide)) hk (hne 3 (by decide)) (hne 4 (by decide)) (hne 5 (by decide)) (hne 6 (by decide)) (hne 7 (by decide))]
      exact congrArg₂ Prod.mk ((out_C c _ _ _ _ _ _ _ _ _ _ _ _ _ _ _ _ _ _ _ _ _).trans (congrArg (left 2 _ _ _) ih)) ih
    · rw [outsAt0_D m c ⟨n + 1, hn⟩ h0 (hne 0 (by decide)) (hne 1 (by decide)) (hne 2 (by decide)) hk (hne 4 (by decide)) (hne 5 (by decide)) (hne 6 (by decide)) (hne 7 (by decide))]
      exact congrArg₂ Prod.mk ((out_D c _ _ _ _ _ _ _ _ _ _ _ _ _ _ _ _ _ _ _ _ _).trans (congrArg (left 3 _ _ _) ih)) ih
    · rw [outsAt0_E m c ⟨n + 1, hn⟩ h0 (hne 0 (by decide)) (hne 1 (by decide)) (hne 2 (by decide)) (hne 3 (by decide)) hk (hne 5 (by decide)) (hne 6 (by decide)) (hne 7 (by decide))]
      exact congrArg₂ Prod.mk ((out_E c _ _ _ _ _ _ _ _ _ _ _ _ _ _ _ _ _ _ _ _ _).trans (congrArg (left 4 _ _ _) ih)) ih
    · rw [outsAt0_F m c ⟨n + 1, hn⟩ h0 (hne 0 (by decide)) (hne 1 (by decide)) (hne 2 (by decide)) (hne 3 (by decide)) (hne 4 (by decide)) hk (hne 6 (by decide)) (hne 7 (by decide))]
      exact congrArg₂ Prod.mk ((out_F c _ _ _ _ _ _ _ _ _ _ _ _ _ _ _ _ _ _ _ _ _).trans (congrArg (left 5 _ _ _) ih)) ih
    · rw [outsAt0_G m c ⟨n + 1, hn⟩ h0 (hne 0 (by decide)) (hne 1 (by decide)) (hne 2 (by decide)) (hne 3 (by decide)) (hne 4 (by decide)) (hne 5 (by decide)) hk (hne 7 (by decide))]
      exact congrArg₂ Prod.mk ((out_G c _ _ _ _ _ _ _ _ _ _ _ _ _ _ _ _ _ _ _ _ _).trans (congrArg (left 6 _ _ _) ih)) ih
    · rw [outsAt0_H m c ⟨n + 1, hn⟩ h0 (hne 0 (by decide)) (hne 1 (by decide)) (hne 2 (by decide)) (hne 3 (by decide)) (hne 4 (by decide)) (hne 5 (by decide)) (hne 6 (by decide)) hk]
      exact congrArg₂ Prod.mk ((out_H c _ _ _ _ _ _ _ _ _ _ _ _ _ _ _ _ _ _ _ _ _).trans (congrArg (left 7 _ _ _) ih)) ih

/-- So the result array holds, at an index, the tile of the index's rows. -/
theorem G2_at (i : S65536x1024.Idx) (n : ℕ) (hn : n < cfg0.N) (hp : Value.pt2Of i = n) :
    Value.G2 m c i = (outsAt0 m c n hn).1 (Value.loc2Of i) := by
  subst hp
  rw [Value.outsAt0_sweep]
  unfold Value.G2
  rw [dif_pos hn]

theorem G2_apply (r : Fin 65536) (j : Fin 1024) (hn : r.val / 256 < cfg0.N) :
    Value.G2 m c (ix2 r j)
      = left (r.val / 256 % 8) (grid0.coords ⟨r.val / 256, hn⟩) (iblk m c 0 ⟨r.val / 256, hn⟩) (iblk m c 1 ⟨r.val / 256, hn⟩) k0_pay85
          (ix2 ⟨r.val % 256, Nat.mod_lt _ (by decide)⟩ j) := by
  have hp : Value.pt2Of (ix2 r j) = r.val / 256 := by
    show 1 * (r.val / 256 - 0) + 1 * (j.val / 1024 - 0) = _
    omega
  have hl : Value.loc2Of (ix2 r j) = ix2 ⟨r.val % 256, Nat.mod_lt _ (by decide)⟩ j := by
    funext a
    apply Fin.ext
    match a with
    | ⟨0, _⟩ => rfl
    | ⟨1, _⟩ => exact Nat.mod_eq_of_lt j.isLt
  rw [G2_at m c _ _ hn hp, outs_eq, hl]
  rfl

end Cert.Attn
end
-- ==== Proof.Rows.lean ====
/- ROW BY ROW AT `Ideal`: a chunk of keys moves `Attn.Run` on, and a tile's quotient is the causal softmax of its row. -/
module

public import proofs.«01_k».proof.Proof.Cases

@[expose] public section

set_option maxRecDepth 16384

noncomputable section

namespace Cert.Attn

open Cert.KernelIdeal Cert.KernelIdeal.Gen Idealize.ShloMosaic

theorem top256_apply (m : FVec Ideal S2048x1 .f32) (s : FVec Ideal S2048x256 .f32) (r : Fin 2048) :
    top256 m s (ix2 r 0) = max (m (ix2 r 0)) (Finset.univ.fold max (⊥ : EReal) fun j : Fin 256 => s (ix2 r j)) := by
  pointwise [top256]
  rw [ninf]

theorem acc256_apply (m m' : FVec Ideal S2048x1 .f32) (a : FVec Ideal S2048x256 .f32) (s : FVec Ideal S2048x256 .f32)
    (k : FVec Ideal S256x256 .bf16) (r : Fin 2048) (l : Fin 256) :
    acc256 m m' a s k (ix2 r l) = Ideal.exp2 (m (ix2 r 0) - m' (ix2 r 0)) * a (ix2 r l)
      + ∑ j : Fin 256, Ideal.exp2 (s (ix2 r j) - m' (ix2 r 0)) * k (ix2 j l) := by
  pointwise [acc256]
  rfl

theorem sc512_apply (q : FVec Ideal S2048x256 .bf16) (k : FVec Ideal S512x256 .bf16) (r : Fin 2048) (j : Fin 512) :
    sc512 q k (ix2 r j) = ∑ e : Fin 256, (q (ix2 r e) : EReal) * k (ix2 j e) := by
  pointwise [sc512]

theorem sc256_apply (q : FVec Ideal S2048x256 .bf16) (k : FVec Ideal S256x256 .bf16) (r : Fin 2048) (j : Fin 256) :
    sc256 q k (ix2 r j) = ∑ e : Fin 256, (q (ix2 r e) : EReal) * k (ix2 j e) := by
  pointwise [sc256]

theorem ofBool_iff (b : Bool) : BitVec.ofBool b = 1#1 ↔ b = true := by cases b <;> decide

theorem mask512_apply (d : IVec S2048x512 32) (lead : BitVec 32) (s : FVec Ideal S2048x512 .f32) (r : Fin 2048) (j : Fin 512) :
    mask512 d lead s (ix2 r j) = if (d (ix2 r j)).sle lead then s (ix2 r j) else (⊥ : EReal) := by
  pointwise [mask512]
  rw [ninf]
  simp only [Scalar.select, IntOp.cmpi]
  exact if_congr (ofBool_iff _) rfl rfl

theorem mask256_apply (d : IVec S2048x256 32) (lead : BitVec 32) (s : FVec Ideal S2048x256 .f32) (r : Fin 2048) (j : Fin 256) :
    mask256 d lead s (ix2 r j) = if (d (ix2 r j)).sle lead then s (ix2 r j) else (⊥ : EReal) := by
  pointwise [mask256]
  rw [ninf]
  simp only [Scalar.select, IntOp.cmpi]
  exact if_congr (ofBool_iff _) rfl rfl

theorem quot_apply (c : St Ideal) (r : Fin 2048) (l : Fin 128) :
    quot c (ix2 r l) = Ideal.div (c.2 (ix2 r ⟨l.val, by omega⟩)) (c.2 (ix2 r ⟨255, by omega⟩)) := by
  pointwise [quot]

/-- The scores of a row with real queries `Q` against keys with real lanes `K k`. -/
def dotp (Q : Fin 256 → ℝ) (K : ℕ → Fin 256 → ℝ) (k : ℕ) : ℝ := ∑ e, Q e * K k e

/-- What a row of a state holds. -/
def Holds (Q : Fin 256 → ℝ) (K : ℕ → Fin 256 → ℝ) (i n : ℕ) (r : Fin 2048) (c : St Ideal) : Prop :=
  Run (dotp Q K) K i n (c.1 (ix2 r 0)) fun l => c.2 (ix2 r l)

variable {Q : Fin 256 → ℝ} {K : ℕ → Fin 256 → ℝ} {i n : ℕ} {r : Fin 2048} {q : FVec Ideal S2048x256 .bf16}

theorem holds_st0 : Holds Q K i 0 r st0 := by
  left
  refine ⟨rfl, ?_, fun l => ?_⟩
  · pointwise [st0]; exact ninf
  · pointwise [st0]

theorem dot_real (hq : ∀ e, q (ix2 r e) = ((Q e : ℝ) : EReal)) (k : ℕ) (u : Fin 256 → EReal) (hu : ∀ e, u e = ((K k e : ℝ) : EReal)) :
    ∑ e, (q (ix2 r e) : EReal) * u e = ((dotp Q K k : ℝ) : EReal) := by
  rw [dotp, coe_sum]
  exact Finset.sum_congr rfl fun e _ => by rw [hq, hu, EReal.coe_mul]

theorem holds_upd512 {c : St Ideal} (h : Holds Q K i n r c) {s : FVec Ideal S2048x512 .f32} {k : FVec Ideal S512x256 .bf16}
    (hk : ∀ j e, k (ix2 j e) = ((K (n + j.val) e : ℝ) : EReal)) (hs : ∀ j, s (ix2 r j) = score (dotp Q K) i (n + j.val)) :
    Holds Q K i (n + 512) r (upd512 s k c) :=
  Run.step h (by omega) (s := fun j => s (ix2 r j)) hs (u := fun j l => k (ix2 j l)) hk (top512_apply _ _ _)
    fun l => acc512_apply _ _ _ _ _ _ _

theorem holds_upd256 {c : St Ideal} (h : Holds Q K i n r c) {s : FVec Ideal S2048x256 .f32} {k : FVec Ideal S256x256 .bf16}
    (hk : ∀ j e, k (ix2 j e) = ((K (n + j.val) e : ℝ) : EReal)) (hs : ∀ j, s (ix2 r j) = score (dotp Q K) i (n + j.val)) :
    Holds Q K i (n + 256) r (upd256 s k c) :=
  Run.step h (by omega) (s := fun j => s (ix2 r j)) hs (u := fun j l => k (ix2 j l)) hk (top256_apply _ _ _)
    fun l => acc256_apply _ _ _ _ _ _ _

theorem k512_eq (k : Vec Ideal S512x256 .bf16) : k512 k = k := shapeCast_self _ _
theorem k256_eq (k : Vec Ideal S256x256 .bf16) : k256 k = k := shapeCast_self _ _

theorem holds_step {c : St Ideal} (h : Holds Q K i n r c) (hq : ∀ e, q (ix2 r e) = ((Q e : ℝ) : EReal)) {k : Vec Ideal S512x256 .bf16}
    (hk : ∀ j e, k (ix2 j e) = ((K (n + j.val) e : ℝ) : EReal)) (hn : n + 511 ≤ i) : Holds Q K i (n + 512) r (step q k c) := by
  rw [step, k512_eq]
  refine holds_upd512 h hk fun j => ?_
  rw [sc512_apply, dot_real hq (n + j.val) _ (hk j), score, if_pos (by omega)]

theorem holds_last512 {c : St Ideal} (h : Holds Q K i n r c) (hq : ∀ e, q (ix2 r e) = ((Q e : ℝ) : EReal)) {k : Vec Ideal S512x256 .bf16}
    (hk : ∀ j e, k (ix2 j e) = ((K (n + j.val) e : ℝ) : EReal)) {d : Vec Ideal S2048x512 .i32} {lead : BitVec 32}
    (hd : ∀ j : Fin 512, (d (ix2 r j) : BitVec 32).sle lead = decide (n + j.val ≤ i)) :
    Holds Q K i (n + 512) r (last512 q lead k d c) := by
  rw [last512, k512_eq]
  refine holds_upd512 h hk fun j => ?_
  rw [mask512_apply, hd j, sc512_apply, dot_real hq (n + j.val) _ (hk j), score]
  simp only [decide_eq_true_eq]

theorem holds_last256 {c : St Ideal} (h : Holds Q K i n r c) (hq : ∀ e, q (ix2 r e) = ((Q e : ℝ) : EReal)) {k : Vec Ideal S256x256 .bf16}
    (hk : ∀ j e, k (ix2 j e) = ((K (n + j.val) e : ℝ) : EReal)) {d : Vec Ideal S2048x256 .i32} {lead : BitVec 32}
    (hd : ∀ j : Fin 256, (d (ix2 r j) : BitVec 32).sle lead = decide (n + j.val ≤ i)) :
    Holds Q K i (n + 256) r (last256 q lead k d c) := by
  rw [last256, k256_eq]
  refine holds_upd256 h hk fun j => ?_
  rw [mask256_apply, hd j, sc256_apply, dot_real hq (n + j.val) _ (hk j), score]
  simp only [decide_eq_true_eq]

theorem holds_quot {c : St Ideal} (h : Holds Q K i n r c) (hi : i < n) (hone : ∀ k, K k ⟨255, by omega⟩ = 1) (l : Fin 128) :
    quot c (ix2 r l) = ((soft (dotp Q K) (fun k => K k ⟨l.val, by omega⟩) i : ℝ) : EReal) := by
  rw [quot_apply]
  exact Run.ratio h hi _ _ hone

end Cert.Attn
end
-- ==== Proof.Tiles.lean ====
/- A QUERY TILE: the eight runs of chunks (`Attn.tile`) are one formula, the causal softmax of each row. -/
module

public import proofs.«01_k».proof.Proof.Rows

@[expose] public section

set_option maxRecDepth 16384

noncomputable section

namespace Cert.Attn

open Cert.KernelIdeal Cert.KernelIdeal.Gen Idealize.ShloMosaic

/-- Row `r` is query `r % 256` of head `r / 256`. -/
theorem qrows_apply (x0 : Vec Ideal S8x256x256 .bf16) (r : Fin 2048) (e : Fin 256) :
    qrows x0 (ix2 r e) = x0 (ix3 ⟨r.val / 256, by omega⟩ ⟨r.val % 256, by omega⟩ e) := by
  pointwise [qrows, k0_pay86]

theorem diag_apply (r : Fin 2048) (j : Fin 512) :
    k0_pay85 (ix2 r j) = BitVec.ofNat 32 j.val - BitVec.ofNat 32 (r.val % 256) := by
  pointwise [k0_pay85]
  rfl

theorem dg256_apply (xs : Vec Ideal S2048x512 .i32) (r : Fin 2048) (j : Fin 256) :
    dg256 xs (ix2 r j) = xs (ix2 r ⟨j.val, by omega⟩) := by
  pointwise [dg256]

theorem dg512_apply (xs : Vec Ideal S2048x512 .i32) (r : Fin 2048) (j : Fin 512) : dg512 xs (ix2 r j) = xs (ix2 r j) := by
  pointwise [dg512]

theorem lead_eq : ∀ t : Fin 8, lead (BitVec.ofNat 32 t.val) = BitVec.ofNat 32 (256 * (t.val % 2)) := by decide +kernel

theorem toInt_small (a : ℕ) (h : a < 2 ^ 31) : (BitVec.ofNat 32 a).toInt = a := by
  rw [BitVec.toInt_eq_toNat_of_lt] <;> rw [BitVec.toNat_ofNat, Nat.mod_eq_of_lt (by omega)]
  omega

/-- The kernel's mask, in numbers. -/
theorem sle_iff (t : Fin 8) (p j : ℕ) (hp : p < 256) (hj : j < 512) :
    (BitVec.ofNat 32 j - BitVec.ofNat 32 p).sle (lead (BitVec.ofNat 32 t.val))
      = decide (512 * (t.val / 2) + j ≤ 256 * t.val + p) := by
  rw [lead_eq, BitVec.sle_eq_decide, decide_eq_decide, BitVec.toInt_sub, toInt_small j (by omega), toInt_small p (by omega),
    toInt_small _ (by omega), Int.bmod_eq_of_le (by omega) (by omega)]
  push_cast
  omega

section chunks
variable {x1 : Vec Ideal S2048x256 .bf16} {K : ℕ → Fin 256 → ℝ} (hk : ∀ (k : Fin 2048) e, x1 (ix2 k e) = ((K k.val e : ℝ) : EReal))
include hk

theorem c0_real (j : Fin 512) (e : Fin 256) : c0 x1 (ix2 j e) = ((K (0 + j.val) e : ℝ) : EReal) := by
  rw [← hk ⟨0 + j.val, by omega⟩ e]; pointwise [c0]
theorem c1_real (j : Fin 512) (e : Fin 256) : c1 x1 (ix2 j e) = ((K (512 + j.val) e : ℝ) : EReal) := by
  rw [← hk ⟨512 + j.val, by omega⟩ e]; pointwise [c1]
theorem c2_real (j : Fin 512) (e : Fin 256) : c2 x1 (ix2 j e) = ((K (1024 + j.val) e : ℝ) : EReal) := by
  rw [← hk ⟨1024 + j.val, by omega⟩ e]; pointwise [c2]
theorem c3_real (j : Fin 512) (e : Fin 256) : c3 x1 (ix2 j e) = ((K (1536 + j.val) e : ℝ) : EReal) := by
  rw [← hk ⟨1536 + j.val, by omega⟩ e]; pointwise [c3]
theorem e0_real (j : Fin 256) (e : Fin 256) : e0 x1 (ix2 j e) = ((K (0 + j.val) e : ℝ) : EReal) := by
  rw [← hk ⟨0 + j.val, by omega⟩ e]; pointwise [e0]
theorem e1_real (j : Fin 256) (e : Fin 256) : e1 x1 (ix2 j e) = ((K (512 + j.val) e : ℝ) : EReal) := by
  rw [← hk ⟨512 + j.val, by omega⟩ e]; pointwise [e1]
theorem e2_real (j : Fin 256) (e : Fin 256) : e2 x1 (ix2 j e) = ((K (1024 + j.val) e : ℝ) : EReal) := by
  rw [← hk ⟨1024 + j.val, by omega⟩ e]; pointwise [e2]
theorem e3_real (j : Fin 256) (e : Fin 256) : e3 x1 (ix2 j e) = ((K (1536 + j.val) e : ℝ) : EReal) := by
  rw [← hk ⟨1536 + j.val, by omega⟩ e]; pointwise [e3]

variable {q : FVec Ideal S2048x256 .bf16} {Q : Fin 256 → ℝ} {r : Fin 2048} (hq : ∀ e, q (ix2 r e) = ((Q e : ℝ) : EReal))
include hq

theorem s1_holds {i : ℕ} (hi : 511 ≤ i) : Holds Q K i 512 r (s1 q x1) := holds_step holds_st0 hq (c0_real hk) (by omega)
theorem s2_holds {i : ℕ} (hi : 1023 ≤ i) : Holds Q K i 1024 r (s2 q x1) := holds_step (s1_holds hk hq (by omega)) hq (c1_real hk) (by omega)
theorem s3_holds {i : ℕ} (hi : 1535 ≤ i) : Holds Q K i 1536 r (s3 q x1) := holds_step (s2_holds hk hq (by omega)) hq (c2_real hk) (by omega)

/-- Every tile covers its rows' keys. -/
theorem tile_holds (t : ℕ) (ht : t < 8) (p : ℕ) (hp : p < 256) (l : BitVec 32) (xs : Vec Ideal S2048x512 .i32)
    (hd : ∀ j : Fin 512, (xs (ix2 r j) : BitVec 32).sle l = decide (512 * (t / 2) + j.val ≤ 256 * t + p)) :
    ∃ n, 256 * t + p < n ∧ Holds Q K (256 * t + p) n r (tile t q l x1 xs) := by
  have d5 : ∀ j : Fin 512, (dg512 xs (ix2 r j) : BitVec 32).sle l = decide (512 * (t / 2) + j.val ≤ 256 * t + p) := fun j => by
    rw [dg512_apply, hd]
  have d2 : ∀ j : Fin 256, (dg256 xs (ix2 r j) : BitVec 32).sle l = decide (512 * (t / 2) + j.val ≤ 256 * t + p) := fun j => by
    rw [dg256_apply, hd]
  clear hd
  interval_cases t
  · exact ⟨256, by omega, holds_last256 holds_st0 hq (e0_real hk) d2⟩
  · exact ⟨512, by omega, holds_last512 holds_st0 hq (c0_real hk) d5⟩
  · exact ⟨768, by omega, holds_last256 (s1_holds hk hq (by omega)) hq (e1_real hk) d2⟩
  · exact ⟨1024, by omega, holds_last512 (s1_holds hk hq (by omega)) hq (c1_real hk) d5⟩
  · exact ⟨1280, by omega, holds_last256 (s2_holds hk hq (by omega)) hq (e2_real hk) d2⟩
  · exact ⟨1536, by omega, holds_last512 (s2_holds hk hq (by omega)) hq (c2_real hk) d5⟩
  · exact ⟨1792, by omega, holds_last256 (s3_holds hk hq (by omega)) hq (e3_real hk) d2⟩
  · exact ⟨2048, by omega, holds_last512 (s3_holds hk hq (by omega)) hq (c3_real hk) d5⟩

end chunks

/-- Lane `j` of the block is lane `j % 128` of head `j / 128`. -/
def spread (o : FVec Ideal S2048x128 .f32) (y : S256x1024.Idx) : EReal :=
  o (ix2 ⟨(y 1).val / 128 * 256 + (y 0).val, by
      have h0 : (y 0).val < 256 := (y 0).isLt
      have h1 : (y 1).val < 1024 := (y 1).isLt
      omega⟩ ⟨(y 1).val % 128, by omega⟩)

theorem piece_apply (o : FVec Ideal S2048x128 .f32) (h : Fin 8) (inb : ∀ a, (![0, 128 * h.val] : Fin 2 → ℕ) a + ![256, 128] a ≤ S256x1024.size a)
    (x : (Rect.unit (s := S256x1024) ![0, 128 * h.val] ![256, 128] inb).shape.Idx) :
    o (ix2 ⟨256 * h.val + (x 0).val, by have h0 : (x 0).val < 256 := (x 0).isLt; omega⟩ ⟨(x 1).val, (x 1).isLt⟩)
      = spread o ((Rect.unit (s := S256x1024) ![0, 128 * h.val] ![256, 128] inb).emb x) := by
  have h0 : (x 0).val < 256 := (x 0).isLt
  have h1 : (x 1).val < 128 := (x 1).isLt
  have e0 : ((Rect.unit (s := S256x1024) ![0, 128 * h.val] ![256, 128] inb).emb x 0).val = (x 0).val := by
    simp [Rect.emb, Rect.unit]
  have e1 : ((Rect.unit (s := S256x1024) ![0, 128 * h.val] ![256, 128] inb).emb x 1).val = 128 * h.val + (x 1).val := by
    simp [Rect.emb, Rect.unit]
  unfold spread
  congr 1
  refine congrArg₂ ix2 (Fin.ext ?_) (Fin.ext ?_)
  · show 256 * h.val + (x 0).val = _ / 128 * 256 + _
    rw [e0, e1]; omega
  · show (x 1).val = _ % 128
    rw [e1]; omega

/-- Lane `j` of the block is lane `j % 128` of head `j / 128`. -/
theorem slice_apply (o : FVec Ideal S2048x128 .f32) (h : Fin 8) (sl) (inb : ∀ a, (![0, 128 * h.val] : Fin 2 → ℕ) a + ![256, 128] a ≤ S256x1024.size a)
    (x : S256x128.Idx) :
    truncf .bf16 (extractStridedSlice S256x128 ![256 * h.val, 0] o sl) bitsLt_bf16_f32 x
      = spread o ((Rect.unit (s := S256x1024) ![0, 128 * h.val] ![256, 128] inb).emb x) := by
  refine Eq.trans ?_ (piece_apply o h inb x)
  idx_vars x
  pointwise []

theorem block_apply (o : FVec Ideal S2048x128 .f32) (p : Fin 256) (j : Fin 1024) :
    block o (ix2 p j) = spread o (ix2 p j) := by
  refine View.read_writes_apply_of_pieces (Val := Elt Ideal) (v := VO0_2) (f := VO0_2.junk) (spread o) (pieces o) ?_ (ix2 p j) ?_
  · intro pc hpc x
    simp only [pieces, List.mem_cons, List.not_mem_nil, or_false] at hpc
    rcases hpc with rfl | rfl | rfl | rfl | rfl | rfl | rfl | rfl
    · exact slice_apply o 7 slices_S2048x128_o1792_0_S256x128 inb_S256x1024_S256x128_0_896 x
    · exact slice_apply o 6 slices_S2048x128_o1536_0_S256x128 inb_S256x1024_S256x128_0_768 x
    · exact slice_apply o 5 slices_S2048x128_o1280_0_S256x128 inb_S256x1024_S256x128_0_640 x
    · exact slice_apply o 4 slices_S2048x128_o1024_0_S256x128 inb_S256x1024_S256x128_0_512 x
    · exact slice_apply o 3 slices_S2048x128_o768_0_S256x128 inb_S256x1024_S256x128_0_384 x
    · exact slice_apply o 2 slices_S2048x128_o512_0_S256x128 inb_S256x1024_S256x128_0_256 x
    · exact slice_apply o 1 slices_S2048x128_o256_0_S256x128 inb_S256x1024_S256x128_0_128 x
    · exact slice_apply o 0 slices_S2048x128_o0_0_S256x128 inb_S256x1024_S256x128_0_0 x
  · exact View.cover_of_tiledL (pieces o) S256x128.size (by sl_kernel_rfl) _

/-- WHAT A TILE LEAVES: query `p`, head `j / 128`, lane `j % 128`. -/
theorem left_apply (t : Fin 8) (i : grid0.Coords) (hi : (i 1).val = t.val) (x0 : Vec Ideal S8x256x256 .bf16) (x1 : Vec Ideal S2048x256 .bf16)
    (Q : Fin 8 → Fin 256 → Fin 256 → ℝ) (K : ℕ → Fin 256 → ℝ) (hq : ∀ h p e, x0 (ix3 h p e) = ((Q h p e : ℝ) : EReal))
    (hk : ∀ (k : Fin 2048) e, x1 (ix2 k e) = ((K k.val e : ℝ) : EReal)) (hone : ∀ k, K k ⟨255, by omega⟩ = 1) (p : Fin 256) (j : Fin 1024) :
    left t.val i x0 x1 k0_pay85 (ix2 p j)
      = ((soft (dotp (Q ⟨j.val / 128, by omega⟩ p) K) (fun k => K k ⟨j.val % 128, by omega⟩) (256 * t.val + p.val) : ℝ) : EReal) := by
  rw [left, block_apply, hi, spread]
  have hr : (j.val / 128 * 256 + p.val) / 256 = j.val / 128 := by omega
  have hr' : (j.val / 128 * 256 + p.val) % 256 = p.val := by omega
  obtain ⟨n, hn, hh⟩ := tile_holds (q := qrows x0) (r := ⟨j.val / 128 * 256 + p.val, by omega⟩) (Q := Q ⟨j.val / 128, by omega⟩ p) hk
    (fun e => by
      rw [qrows_apply, ← hq]
      congr 1
      exact congrArg₂ (fun a b => ix3 a b e) (Fin.ext hr) (Fin.ext hr')) t.val t.isLt p.val p.isLt
    (lead (BitVec.ofNat 32 t.val)) k0_pay85 (fun k => by
      rw [diag_apply]
      simp only [hr']
      exact sle_iff t _ _ p.isLt k.isLt)
  exact holds_quot hh hn hone ⟨j.val % 128, by omega⟩

end Cert.Attn
end
-- ==== Proof.Operands.lean ====
/- THE KERNEL'S OPERANDS: the padded queries and the padded keys the host prepares, and the blocks a grid point reads of them. -/
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic Idealize.ShloMosaic.TcCoe

section anyFloats
variable {F : FTy → Type} [FloatOps F]

/-- The scale the host multiplies the queries by. -/
def hostScale : FVec F S_ .f32 := Host.divf (constant S_ .f32 0x3DD105EC#32) (Host.log (constant S_ .f32 0x40000000#32))

/-- Queries: 128 latent lanes, 32 rope lanes, 96 zeros; scaled; one plane a head. -/
def qOp (a0 : FVec F S32x2048x8x128 .f32) (a1 : FVec F S32x2048x8x32 .f32) : FVec F S8x65536x256 .bf16 :=
  transpose S8x65536x256 [1, 0, 2]
    (shapeCast S65536x8x256
      (truncf .bf16
        (mulf
          (concatenate S32x2048x8x256 3 [⟨S32x2048x8x128, a0⟩, ⟨S32x2048x8x32, a1⟩,
            ⟨S32x2048x8x96, broadcastInDim S32x2048x8x96 ![] bcast_S_S32x2048x8x96 (constant S_ .f32 0x00000000#32)⟩]
            concatenates_S32x2048x8x128_S32x2048x8x32_S32x2048x8x96_S32x2048x8x256_d3)
          (broadcastInDim S32x2048x8x256 ![] bcast_S_S32x2048x8x256 hostScale)) bitsLt_bf16_f32)
      shapeCasts_S32x2048x8x256_S65536x8x256) transposes_S65536x8x256_S8x65536x256_1_0_2

/-- Keys, which are the values too: 128 latent lanes, 32 rope lanes, 95 zeros, a one. -/
def kOp (a2 : FVec F S32x2048x128 .f32) (a3 : FVec F S32x2048x32 .f32) : FVec F S65536x256 .bf16 :=
  shapeCast S65536x256
    (truncf .bf16
      (concatenate S32x2048x256 2 [⟨S32x2048x128, a2⟩, ⟨S32x2048x32, a3⟩,
        ⟨S32x2048x95, broadcastInDim S32x2048x95 ![] bcast_S_S32x2048x95 (constant S_ .f32 0x00000000#32)⟩,
        ⟨S32x2048x1, broadcastInDim S32x2048x1 ![] bcast_S_S32x2048x1 (constant S_ .f32 0x3F800000#32)⟩]
        concatenates_S32x2048x128_S32x2048x32_S32x2048x95_S32x2048x1_S32x2048x256_d2) bitsLt_bf16_f32)
    shapeCasts_S32x2048x256_S65536x256

variable (m : (ℓ : Loc nD τ sig) → Buf (Elt F) ℓ) (c : Dev nD)

/-- The four arguments as launched. -/
def A0 : FVec F S32x2048x8x128 .f32 := m ((c : Thread nD τ).loc main_arg0)
def A1 : FVec F S32x2048x8x32 .f32 := m ((c : Thread nD τ).loc main_arg1)
def A2 : FVec F S32x2048x128 .f32 := m ((c : Thread nD τ).loc main_arg2)
def A3 : FVec F S32x2048x32 .f32 := m ((c : Thread nD τ).loc main_arg3)

theorem V_q : V m c main_v8 = qOp (A0 m c) (A1 m c) := by
  dsimp only [V, hostOps0]
  after_results
  rfl

theorem V_k : V m c main_v13 = kOp (A2 m c) (A3 m c) := by
  dsimp only [V, hostOps0]
  after_results
  rfl

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

theorem idx1 : ∀ t : Fin cfg0.N, win0_1.index t (0 : Fin 2) = t.val / 8 ∧ win0_1.index t (1 : Fin 2) = 0 :=
  (by decide +kernel : ∀ t : Fin grid0.N, _)

theorem coord1 : ∀ t : Fin cfg0.N, (grid0.coords t 1).val = t.val % 8 :=
  (by decide +kernel : ∀ t : Fin grid0.N, _)

theorem iblk_q (t : Fin cfg0.N) (h : Fin 8) (p e : Fin 256) :
    iblk m c 0 t (ix3 h p e) = qOp (A0 m c) (A1 m c)
      (ix3 h ⟨256 * t.val + p.val, by have := lt_of_lt_of_eq t.isLt N_0; omega⟩ e) := by
  rw [← V_q]
  show V m c main_v8 (((cfg0.win 0).blk t).view.emb (ix3 h p e)) = _
  obtain ⟨i0, i1, i2⟩ := idx0 t
  congr 1
  funext a
  apply Fin.ext
  match a with
  | ⟨0, _⟩ => show win0_0.index t (0 : Fin 3) * 8 + 1 * h.val = h.val; rw [i0]; omega
  | ⟨1, _⟩ => show win0_0.index t (1 : Fin 3) * 256 + 1 * p.val = 256 * t.val + p.val; rw [i1]; omega
  | ⟨2, _⟩ => show win0_0.index t (2 : Fin 3) * 256 + 1 * e.val = e.val; rw [i2]; omega

theorem iblk_k (t : Fin cfg0.N) (k : Fin 2048) (e : Fin 256) :
    iblk m c 1 t (ix2 k e) = kOp (A2 m c) (A3 m c)
      (ix2 ⟨2048 * (t.val / 8) + k.val, by have := lt_of_lt_of_eq t.isLt N_0; omega⟩ e) := by
  rw [← V_k]
  show V m c main_v13 (((cfg0.win 1).blk t).view.emb (ix2 k e)) = _
  obtain ⟨i0, i1⟩ := idx1 t
  congr 1
  funext a
  apply Fin.ext
  match a with
  | ⟨0, _⟩ => show win0_1.index t (0 : Fin 2) * 2048 + 1 * k.val = 2048 * (t.val / 8) + k.val; rw [i0]; omega
  | ⟨1, _⟩ => show win0_1.index t (1 : Fin 2) * 256 + 1 * e.val = e.val; rw [i1]; omega

end anyFloats

/-- The operands at `Ideal`, lane by lane. -/
theorem qOp_apply (a0 : FVec Ideal S32x2048x8x128 .f32) (a1 : FVec Ideal S32x2048x8x32 .f32) (h : Fin 8) (n : Fin 65536) (e : Fin 256) :
    qOp a0 a1 (ix3 h n e)
      = ((if h1 : e.val < 128 then a0 (ix4 ⟨n.val / 2048, by omega⟩ ⟨n.val % 2048, by omega⟩ h ⟨e.val, h1⟩)
          else if h2 : e.val - 128 < 32 then a1 (ix4 ⟨n.val / 2048, by omega⟩ ⟨n.val % 2048, by omega⟩ h ⟨e.val - 128, h2⟩)
          else (0 : EReal)) * (hostScale (F := Ideal) ix0 : EReal) : EReal) := by
  pointwise [qOp]

theorem kOp_apply (a2 : FVec Ideal S32x2048x128 .f32) (a3 : FVec Ideal S32x2048x32 .f32) (n : Fin 65536) (e : Fin 256) :
    kOp a2 a3 (ix2 n e)
      = if h1 : e.val < 128 then a2 (ix3 ⟨n.val / 2048, by omega⟩ ⟨n.val % 2048, by omega⟩ ⟨e.val, h1⟩)
          else if h2 : e.val - 128 < 32 then a3 (ix3 ⟨n.val / 2048, by omega⟩ ⟨n.val % 2048, by omega⟩ ⟨e.val - 128, h2⟩)
          else if e.val - 128 - 32 < 95 then (0 : EReal) else 1 := by
  pointwise [kOp]
  simp only [dite_eq_ite]

end Cert.Attn
end
-- ==== Proof.KernelValue.lean ====
/- THE KERNEL'S RESULT over real arguments: at every entry the causal softmax attention of one query row. -/
module

public import proofs.«01_k».proof.Proof.Points
public import proofs.«01_k».proof.Proof.Tiles
public import proofs.«01_k».proof.Proof.Operands

@[expose] public section

set_option maxRecDepth 16384

noncomputable section

namespace Cert.Attn

open Cert.KernelIdeal Cert.KernelIdeal.Gen Idealize.ShloMosaic Idealize.ShloMosaic.TcCoe

/-- The scale, as the real number its word spells. -/
def scaleR : ℝ := (Ideal.ofBits .f32 0x3DD105EC#32 : EReal).toReal

theorem scale_eq : Ideal.ofBits .f32 0x3DD105EC#32 = (scaleR : EReal) := by
  unfold scaleR
  simp [Ideal.ofBits, Ideal.ieee, -EReal.coe_mul]

theorem two_eq : Ideal.ofBits .f32 0x40000000#32 = ((2 : ℝ) : EReal) := by
  simp [Ideal.ofBits, Ideal.ieee, -EReal.coe_mul]
  norm_num

theorem hostScale_eq : (hostScale (F := Ideal) ix0 : EReal) = ((scaleR / Real.log 2 : ℝ) : EReal) := by
  have hl : (0 : ℝ) < Real.log 2 := Real.log_pos (by norm_num)
  show Ideal.div (Ideal.ofBits .f32 0x3DD105EC#32) (Ideal.log (Ideal.ofBits .f32 0x40000000#32)) = _
  rw [two_eq, scale_eq, Ideal.log_coe, if_neg (by norm_num), Ideal.div_coe hl.ne', ← EReal.coe_mul]
  congr 1
  ring

variable (R0 : S32x2048x8x128.Idx → ℝ) (R1 : S32x2048x8x32.Idx → ℝ) (R2 : S32x2048x128.Idx → ℝ) (R3 : S32x2048x32.Idx → ℝ)

/-- Query row `n` of head `h`, its 256 lanes. -/
def qR (n : Fin 65536) (h : Fin 8) (e : Fin 256) : ℝ :=
  (if h1 : e.val < 128 then R0 (ix4 ⟨n.val / 2048, by omega⟩ ⟨n.val % 2048, by omega⟩ h ⟨e.val, h1⟩)
    else if h2 : e.val - 128 < 32 then R1 (ix4 ⟨n.val / 2048, by omega⟩ ⟨n.val % 2048, by omega⟩ h ⟨e.val - 128, h2⟩)
    else 0) * (scaleR / Real.log 2)

/-- Key `k` of batch `b`, its 256 lanes; past the last key only the lane of ones. -/
def kR (b : Fin 32) (k : ℕ) (e : Fin 256) : ℝ :=
  if hk : k < 2048 then
    if h1 : e.val < 128 then R2 (ix3 b ⟨k, hk⟩ ⟨e.val, h1⟩)
    else if h2 : e.val - 128 < 32 then R3 (ix3 b ⟨k, hk⟩ ⟨e.val - 128, h2⟩)
    else if e.val - 128 - 32 < 95 then 0 else 1
  else 1

theorem kR_one (b : Fin 32) (k : ℕ) : kR R2 R3 b k ⟨255, by norm_num⟩ = 1 := by
  unfold kR
  split <;> norm_num

variable {R0 R1 R2 R3}

theorem qOp_real {a0 : FVec Ideal S32x2048x8x128 .f32} {a1 : FVec Ideal S32x2048x8x32 .f32} (h0 : ∀ i, a0 i = (R0 i : EReal))
    (h1 : ∀ i, a1 i = (R1 i : EReal)) (h : Fin 8) (n : Fin 65536) (e : Fin 256) :
    qOp a0 a1 (ix3 h n e) = (qR R0 R1 n h e : EReal) := by
  rw [qOp_apply, hostScale_eq, qR, EReal.coe_mul]
  congr 1
  split
  · exact h0 _
  · split
    · exact h1 _
    · rfl

theorem kOp_real {a2 : FVec Ideal S32x2048x128 .f32} {a3 : FVec Ideal S32x2048x32 .f32} (h2 : ∀ i, a2 i = (R2 i : EReal))
    (h3 : ∀ i, a3 i = (R3 i : EReal)) (b : Fin 32) (k : Fin 2048) (n : Fin 65536) (hn : n.val = 2048 * b.val + k.val) (e : Fin 256) :
    kOp a2 a3 (ix2 n e) = (kR R2 R3 b k.val e : EReal) := by
  have hb : (⟨n.val / 2048, by omega⟩ : Fin 32) = b := Fin.ext (by show n.val / 2048 = b.val; omega)
  have hk : (⟨n.val % 2048, by omega⟩ : Fin 2048) = k := Fin.ext (by show n.val % 2048 = k.val; omega)
  rw [kOp_apply, hb, hk, kR, dif_pos k.isLt]
  split
  · exact h2 _
  · split
    · exact h3 _
    · split <;> rfl

variable (m : (ℓ : Loc nD τ sig) → Buf (Elt Ideal) ℓ) (c : Dev nD)

/-- Every entry of the kernel's result. -/
theorem kernel_value (h0 : ∀ i, A0 m c i = (R0 i : EReal)) (h1 : ∀ i, A1 m c i = (R1 i : EReal)) (h2 : ∀ i, A2 m c i = (R2 i : EReal))
    (h3 : ∀ i, A3 m c i = (R3 i : EReal)) (r : Fin 65536) (j : Fin 1024) :
    Value.G2 m c (ix2 r j)
      = ((soft (dotp (qR R0 R1 r ⟨j.val / 128, by omega⟩) (kR R2 R3 ⟨r.val / 2048, by omega⟩))
          (fun k => kR R2 R3 ⟨r.val / 2048, by omega⟩ k ⟨j.val % 128, by omega⟩) (r.val % 2048) : ℝ) : EReal) := by
  have hn : r.val / 256 < cfg0.N := by rw [show cfg0.N = 256 from N_0]; omega
  rw [G2_apply m c r j hn]
  have hl := left_apply ⟨r.val / 256 % 8, by omega⟩ (grid0.coords ⟨r.val / 256, hn⟩) (coord1 ⟨r.val / 256, hn⟩)
    (iblk m c 0 ⟨r.val / 256, hn⟩) (iblk m c 1 ⟨r.val / 256, hn⟩)
    (fun h p => qR R0 R1 ⟨256 * (r.val / 256) + p.val, by omega⟩ h) (kR R2 R3 ⟨r.val / 2048, by omega⟩)
    (fun h p e => (iblk_q m c ⟨r.val / 256, hn⟩ h p e).trans (qOp_real h0 h1 h _ e))
    (fun k e => (iblk_k m c ⟨r.val / 256, hn⟩ k e).trans
      (kOp_real h2 h3 ⟨r.val / 2048, by omega⟩ k _ (by show 2048 * (r.val / 256 / 8) + k.val = 2048 * (r.val / 2048) + k.val; omega) e))
    (kR_one R2 R3 _) ⟨r.val % 256, by omega⟩ j
  refine hl.trans ?_
  have e1 : (⟨256 * (r.val / 256) + r.val % 256, by omega⟩ : Fin 65536) = r := Fin.ext (by show 256 * (r.val / 256) + r.val % 256 = r.val; omega)
  have e2 : 256 * (r.val / 256 % 8) + r.val % 256 = r.val % 2048 := by omega
  dsimp only
  rw [e1, e2]

end Cert.Attn
end
-- ==== Proof.RefValue.lean ====
/- THE REFERENCE, read at an index: masked scores, their maximum, the softmax and its sum of the latents. -/
module

public import proofs.«01_k».proof.Proof.Gen.ReferenceIdeal.Run
public import proofs.«01_k».proof.Proof.Rows
public import Idealize.ShloMosaic.Lib.Pointwise

@[expose] public section

set_option maxRecDepth 16384

noncomputable section

namespace Cert.Attn.Ref

open Cert.ReferenceIdeal Cert.ReferenceIdeal.Gen Idealize.ShloMosaic Idealize.ShloMosaic.TcCoe

section anyFloats
variable {F : FTy → Type} [FloatOps F]

/-- The masked scores. -/
def scores (a0 : FVec F S32x2048x8x128 .f32) (a1 : FVec F S32x2048x8x32 .f32) (a2 : FVec F S32x2048x128 .f32)
    (a3 : FVec F S32x2048x32 .f32) : FVec F S32x8x2048x2048 .f32 :=
  select
    (broadcastInDim S32x8x2048x2048 ![2, 3] bcast_S2048x2048_S32x8x2048x2048_2_3
      (cmpi .sle
        (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf
      (addf
        (transpose S32x8x2048x2048 [0, 3, 2, 1] (Host.dotGeneral dot_S32x2048x128_S32x2048x8x128_S32x2048x2048x8_2_3_1_12_0_0 none a2 a0)
          transposes_S32x2048x2048x8_S32x8x2048x2048_0_3_2_1)
        (transpose S32x8x2048x2048 [0, 3, 2, 1] (Host.dotGeneral dot_S32x2048x32_S32x2048x8x32_S32x2048x2048x8_2_3_1_12_0_0 none a3 a1)
          transposes_S32x2048x2048x8_S32x8x2048x2048_0_3_2_1))
      (broadcastInDim S32x8x2048x2048 ![] bcast_S_S32x8x2048x2048 (constant S_ .f32 0x3DD105EC#32)))
    (broadcastInDim S32x8x2048x2048 ![] bcast_S_S32x8x2048x2048 (id (constant S_ .f32 0xFF800000#32)))

/-- The maximum of each row. -/
def top (s : FVec F S32x8x2048x2048 .f32) : FVec F S32x8x2048 .f32 :=
  maximumf (broadcastInDim S32x8x2048 ![] bcast_S_S32x8x2048 (constant S_ .f32 0xFF800000#32))
    (Host.reduce FloatOps.maximumf s (constant S_ .f32 0xFF800000#32) reducesTo_S32x8x2048x2048_S32x8x2048_d3 h_S_)

/-- The exponentials. -/
def weights (s : FVec F S32x8x2048x2048 .f32) : FVec F S32x8x2048x2048 .f32 :=
  Host.exp (subf s (broadcastInDim S32x8x2048x2048 ![0, 1, 2, 3] bcast_S32x8x2048x1_S32x8x2048x2048_0_1_2_3
    (broadcastInDim S32x8x2048x1 ![0, 1, 2] bcast_S32x8x2048_S32x8x2048x1_0_1_2 (top s))))

/-- The attention of those weights over the latents, one row a query and the 8 heads side by side. -/
def attend (w : FVec F S32x8x2048x2048 .f32) (a2 : FVec F S32x2048x128 .f32) : FVec F S65536x1024 .bf16 :=
  truncf .bf16
    (shapeCast S65536x1024
      (transpose S32x2048x8x128 [0, 3, 2, 1]
        (Host.dotGeneral dot_S32x2048x128_S32x8x2048x2048_S32x128x8x2048_1_3_2_12_0_0 none a2
          (Host.divf w (broadcastInDim S32x8x2048x2048 ![0, 1, 2, 3] bcast_S32x8x2048x1_S32x8x2048x2048_0_1_2_3
            (broadcastInDim S32x8x2048x1 ![0, 1, 2] bcast_S32x8x2048_S32x8x2048x1_0_1_2
              (Host.reduceAdd w (constant S_ .f32 0x00000000#32) reducesTo_S32x8x2048x2048_S32x8x2048_d3 h_S_)))))
        transposes_S32x128x8x2048_S32x2048x8x128_0_3_2_1)
      shapeCasts_S32x2048x8x128_S65536x1024) bitsLt_bf16_f32

variable (m : (ℓ : Loc nD τ sig) → Buf (Elt F) ℓ) (c : Dev nD)

theorem res_eq : Value.res_main_v29 m c
    = attend (weights (scores (m ((c : Thread nD τ).loc main_arg0)) (m ((c : Thread nD τ).loc main_arg1)) (m ((c : Thread nD τ).loc main_arg2))
        (m ((c : Thread nD τ).loc main_arg3)))) (m ((c : Thread nD τ).loc main_arg2)) := rfl

end anyFloats

theorem scores_apply (a0 : FVec Ideal S32x2048x8x128 .f32) (a1 : FVec Ideal S32x2048x8x32 .f32) (a2 : FVec Ideal S32x2048x128 .f32)
    (a3 : FVec Ideal S32x2048x32 .f32) (b : Fin 32) (h : Fin 8) (q k : Fin 2048) :
    scores a0 a1 a2 a3 (ix4 b h q k)
      = if (BitVec.ofNat 32 k.val).sle (BitVec.ofNat 32 q.val) then
          ((∑ l : Fin 128, (a2 (ix3 b k l) : EReal) * a0 (ix4 b q h l)) + ∑ l : Fin 32, (a3 (ix3 b k l) : EReal) * a1 (ix4 b q h l))
            * Ideal.ofBits .f32 0x3DD105EC#32
        else ⊥ := by
  pointwise [scores]
  simp only [Scalar.select, IntOp.cmpi]
  exact if_congr (ofBool_iff _) rfl ninf

/-- A maximum over the last of four axes, whatever the sizes, that starts at -∞ and is joined with -∞. -/
theorem max_last {n0 n1 n2 n3 : ℕ} (x : FVec Ideal ⟨4, ![n0, n1, n2, n3]⟩ .f32) (init : S_.Idx → Ideal .f32)
    (y : FVec Ideal ⟨3, ![n0, n1, n2]⟩ .f32)
    (h' : (⟨4, ![n0, n1, n2, n3]⟩ : Shape).ReducesTo [3] ⟨3, ![n0, n1, n2]⟩) (hu : 0 < S_.numel) (b : Fin n0) (h : Fin n1) (q : Fin n2)
    (hy : y (ix3 b h q) = (⊥ : EReal)) (hi : init (Shape.Idx.first hu) = (⊥ : EReal)) :
    maximumf y (Host.reduce FloatOps.maximumf x init h' hu) (ix3 b h q)
      = Finset.univ.fold max (⊥ : EReal) fun k : Fin n3 => (x (ix4 b h q k) : EReal) := by
  have e : Eq (α := Ideal .f32) (Host.reduce FloatOps.maximumf x init h' hu (ix3 b h q))
      (Finset.univ.fold max (⊥ : EReal) fun k : Fin n3 => (x (ix4 b h q k) : EReal)) := by
    rw [Host.reduce_eq_fold, hi]
    exact h'.fold_fiber_r4_a3 (ix3 b h q) _ _ _
  show max (y (ix3 b h q) : EReal) _ = _
  rw [hy, e]
  exact max_eq_right bot_le

theorem ninf_at {t : Shape} (i : t.Idx) : constant (F := Ideal) t .f32 0xFF800000#32 i = (⊥ : EReal) := ninf

theorem top_apply (s : FVec Ideal S32x8x2048x2048 .f32) (b : Fin 32) (h : Fin 8) (q : Fin 2048) :
    top s (ix3 b h q) = Finset.univ.fold max (⊥ : EReal) fun k : Fin 2048 => s (ix4 b h q k) :=
  max_last s (constant S_ .f32 0xFF800000#32) (broadcastInDim S32x8x2048 ![] bcast_S_S32x8x2048 (constant S_ .f32 0xFF800000#32))
    reducesTo_S32x8x2048x2048_S32x8x2048_d3 h_S_ b h q (ninf_at _) (ninf_at _)

theorem weights_apply (s : FVec Ideal S32x8x2048x2048 .f32) (b : Fin 32) (h : Fin 8) (q k : Fin 2048) :
    weights s (ix4 b h q k) = Ideal.exp (s (ix4 b h q k) - top s (ix3 b h q)) := by
  pointwise [weights]

theorem attend_apply (w : FVec Ideal S32x8x2048x2048 .f32) (a2 : FVec Ideal S32x2048x128 .f32) (r : Fin 65536) (j : Fin 1024) :
    attend w a2 (ix2 r j)
      = ∑ k : Fin 2048, (a2 (ix3 ⟨r.val / 2048, by omega⟩ k ⟨j.val % 128, by omega⟩) : EReal)
          * Ideal.div (w (ix4 ⟨r.val / 2048, by omega⟩ ⟨j.val / 128, by omega⟩ ⟨r.val % 2048, by omega⟩ k))
              (∑ k' : Fin 2048, w (ix4 ⟨r.val / 2048, by omega⟩ ⟨j.val / 128, by omega⟩ ⟨r.val % 2048, by omega⟩ k')) := by
  pointwise [attend]

end Cert.Attn.Ref
end
-- ==== Proof.Final.lean ====
/- THE REFERENCE'S RESULT over real arguments, and that it is the kernel's. -/
module

public import proofs.«01_k».proof.Proof.KernelValue
public import proofs.«01_k».proof.Proof.RefValue

@[expose] public section

set_option maxRecDepth 16384

noncomputable section

namespace Cert.Attn

open Cert.ReferenceIdeal Cert.ReferenceIdeal.Gen Idealize.ShloMosaic Idealize.ShloMosaic.TcCoe

/-- 256 lanes as 128, 32 and 96. -/
theorem sum_lanes (f : Fin 256 → ℝ) :
    ∑ e, f e = ∑ e : Fin 128, f ⟨e.val, by omega⟩ + (∑ e : Fin 32, f ⟨128 + e.val, by omega⟩ + ∑ e : Fin 96, f ⟨160 + e.val, by omega⟩) := by
  have h1 := Fin.sum_univ_add (a := 128) (b := 128) f
  have h2 := Fin.sum_univ_add (a := 32) (b := 96) fun e : Fin 128 => f ⟨128 + e.val, by omega⟩
  refine h1.trans (congrArg₂ (· + ·) rfl (h2.trans (congrArg₂ (· + ·) rfl (Finset.sum_congr rfl fun e _ => congrArg f (Fin.ext ?_)))))
  show 128 + (32 + e.val) = 160 + e.val
  omega

variable {R0 : S32x2048x8x128.Idx → ℝ} {R1 : S32x2048x8x32.Idx → ℝ} {R2 : S32x2048x128.Idx → ℝ} {R3 : S32x2048x32.Idx → ℝ}

/-- The score of the padded operands, in base 2, is the reference's score, in base e. -/
theorem score_eq (r : Fin 65536) (h : Fin 8) (k : Fin 2048) :
    dotp (qR R0 R1 r h) (kR R2 R3 ⟨r.val / 2048, by omega⟩) k.val * Real.log 2
      = ((∑ l : Fin 128, R2 (ix3 ⟨r.val / 2048, by omega⟩ k l) * R0 (ix4 ⟨r.val / 2048, by omega⟩ ⟨r.val % 2048, by omega⟩ h l))
          + ∑ l : Fin 32, R3 (ix3 ⟨r.val / 2048, by omega⟩ k l) * R1 (ix4 ⟨r.val / 2048, by omega⟩ ⟨r.val % 2048, by omega⟩ h l)) * scaleR := by
  have hl : Real.log 2 ≠ 0 := (Real.log_pos (by norm_num)).ne'
  unfold dotp
  rw [sum_lanes]
  have e1 : ∀ e : Fin 128, qR R0 R1 r h ⟨e.val, by omega⟩ * kR R2 R3 ⟨r.val / 2048, by omega⟩ k.val ⟨e.val, by omega⟩
      = R2 (ix3 ⟨r.val / 2048, by omega⟩ k e) * R0 (ix4 ⟨r.val / 2048, by omega⟩ ⟨r.val % 2048, by omega⟩ h e) * (scaleR / Real.log 2) := fun e => by
    unfold qR kR
    rw [dif_pos k.isLt, dif_pos e.isLt, dif_pos e.isLt]
    ring
  have e2 : ∀ e : Fin 32, qR R0 R1 r h ⟨128 + e.val, by omega⟩ * kR R2 R3 ⟨r.val / 2048, by omega⟩ k.val ⟨128 + e.val, by omega⟩
      = R3 (ix3 ⟨r.val / 2048, by omega⟩ k e) * R1 (ix4 ⟨r.val / 2048, by omega⟩ ⟨r.val % 2048, by omega⟩ h e) * (scaleR / Real.log 2) := fun e => by
    have hm : 128 + e.val - 128 < 32 := by omega
    have he : (⟨128 + e.val - 128, hm⟩ : Fin 32) = e := Fin.ext (by show 128 + e.val - 128 = e.val; omega)
    unfold qR kR
    rw [dif_pos k.isLt, dif_neg (by show ¬128 + e.val < 128; omega), dif_pos hm, dif_neg (by show ¬128 + e.val < 128; omega), dif_pos hm, he]
    ring
  have e3 : ∀ e : Fin 96, qR R0 R1 r h ⟨160 + e.val, by omega⟩ * kR R2 R3 ⟨r.val / 2048, by omega⟩ k.val ⟨160 + e.val, by omega⟩ = 0 := fun e => by
    unfold qR
    rw [dif_neg (by show ¬160 + e.val < 128; omega), dif_neg (by show ¬160 + e.val - 128 < 32; omega)]
    ring
  simp only [e1, e2, e3, Finset.sum_const_zero, ← Finset.sum_mul]
  field_simp
  ring

theorem sle_le (k q : Fin 2048) : (BitVec.ofNat 32 k.val).sle (BitVec.ofNat 32 q.val) = true ↔ k.val ≤ q.val := by
  rw [BitVec.sle_eq_decide, decide_eq_true_iff, toInt_small _ (by omega), toInt_small _ (by omega), Int.ofNat_le]

/-- Every entry of the reference's result. -/
theorem ref_value {a0 : FVec Ideal S32x2048x8x128 .f32} {a1 : FVec Ideal S32x2048x8x32 .f32} {a2 : FVec Ideal S32x2048x128 .f32}
    {a3 : FVec Ideal S32x2048x32 .f32} (h0 : ∀ i, a0 i = (R0 i : EReal)) (h1 : ∀ i, a1 i = (R1 i : EReal)) (h2 : ∀ i, a2 i = (R2 i : EReal))
    (h3 : ∀ i, a3 i = (R3 i : EReal)) (r : Fin 65536) (j : Fin 1024) :
    Ref.attend (Ref.weights (Ref.scores a0 a1 a2 a3)) a2 (ix2 r j)
      = ((soft (dotp (qR R0 R1 r ⟨j.val / 128, by omega⟩) (kR R2 R3 ⟨r.val / 2048, by omega⟩))
          (fun k => kR R2 R3 ⟨r.val / 2048, by omega⟩ k ⟨j.val % 128, by omega⟩) (r.val % 2048) : ℝ) : EReal) := by
  rw [Ref.attend_apply]
  simp only [Ref.weights_apply]
  refine plain_row (N := 2048) (fun k => dotp (qR R0 R1 r ⟨j.val / 128, by omega⟩) (kR R2 R3 ⟨r.val / 2048, by omega⟩) k * Real.log 2)
    _ _ _ (by omega) (fun _ => rfl) (fun k => ?_) (fun k => ?_) (Ref.top_apply _ _ _ _)
  · rw [Ref.scores_apply, score]
    refine if_congr (sle_le _ _) ?_ rfl
    rw [score_eq, scale_eq]
    simp only [h0, h1, h2, h3, EReal.coe_mul, coe_sum, EReal.coe_add]
  · rw [h2, kR, dif_pos k.isLt, dif_pos (by show j.val % 128 < 128; omega)]

end Cert.Attn
end
-- ==== Proof.Attention.lean ====
/- THE PROMPT ATTENTION'S CLAIMS: the two idealized programs compute the same function of finite arguments. -/
module

public import proofs.«01_k».proof.Defs
public import proofs.«01_k».proof.Proof.Finite
public import proofs.«01_k».proof.Proof.Final

@[expose] public section

set_option maxRecDepth 16384

noncomputable section

namespace Cert.Attn

open Idealize.ShloMosaic Idealize.SL.Sem

/-- The reference declares no semaphore and its run leaves the arguments. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩) (Cert.ReferenceIdeal.Value.run (F := Ideal) m ρ)

/-- From memories that agree on the arguments, all finite, the two results are one array. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hf : Cert.Pre_finite.fn (F := Ideal) (A0 m c) (A1 m c) (A2 m c) (A3 m c) = fun _ => 1#1)
    (h0 : m' ((c.tc : Thread Cert.ReferenceIdeal.nD Cert.ReferenceIdeal.τ).loc Cert.ReferenceIdeal.main_arg0) = A0 m c)
    (h1 : m' ((c.tc : Thread Cert.ReferenceIdeal.nD Cert.ReferenceIdeal.τ).loc Cert.ReferenceIdeal.main_arg1) = A1 m c)
    (h2 : m' ((c.tc : Thread Cert.ReferenceIdeal.nD Cert.ReferenceIdeal.τ).loc Cert.ReferenceIdeal.main_arg2) = A2 m c)
    (h3 : m' ((c.tc : Thread Cert.ReferenceIdeal.nD Cert.ReferenceIdeal.τ).loc Cert.ReferenceIdeal.main_arg3) = A3 m c) :
    (Cert.ReferenceIdeal.Value.res_main_v29 m' c : FVec Ideal Cert.ReferenceIdeal.S65536x1024 .bf16) = Cert.KernelIdeal.Value.G2 m c := by
  obtain ⟨f0, f1, f2, f3⟩ := real_args _ _ _ _ hf
  have e := Ref.res_eq m' c
  rw [h0, h1, h2, h3] at e
  refine e.trans (funext fun i => ?_)
  idx_vars i
  exact (ref_value f0 f1 f2 f3 _ _).trans (kernel_value m c f0 f1 f2 f3 _ _).symm

theorem algebraic : Cert.algebraic_KernelIdeal_ReferenceIdeal_pre_finite
    (hKernelIdeal := Cert.KernelIdeal.Gen.facts) (hReferenceIdeal := Cert.ReferenceIdeal.Gen.facts) (hPre_finite := finiteFacts) :=
  fun m ρ m' ρ' hpre hag => ⟨fun c => Cert.KernelIdeal.Value.G2 m c, Cert.KernelIdeal.Value.run (F := Ideal) m ρ,
    (θ_run _ _ _).mono (fun _ h c => ⟨(h c).1.trans (same_result m m' c (hpre c) (hag c).1 (hag c).2.1 (hag c).2.2.1 (hag c).2.2.2), (h c).2⟩)
      (Cert.ReferenceIdeal.Value.run (F := Ideal) m' ρ')⟩

end Cert.Attn
end
-- ==== Proof.ProjFinite.lean ====
/- THE PRECONDITION of the input projection, read: every entry of its eight arguments is a real number. -/
module

public import proofs.«01_k».proof.Pre_finite2
public import proofs.«01_k».proof.Proof.Finite

@[expose] public section

set_option maxRecDepth 16384

noncomputable section

namespace Cert.Proj

open Cert.Pre_finite2 Idealize.ShloMosaic

instance finiteFacts2 : Cert.Pre_finite2.Facts where
  bcast_S_S32x2048x1024 := by decide
  reducesTo_S32x2048x1024_S_d0_1_2 := by decide
  h_S_ := by decide
  bcast_S_S1024 := by decide
  reducesTo_S1024_S_d0 := by decide
  bcast_S_S1024x2144 := by decide
  reducesTo_S1024x2144_S_d0_1 := by decide
  bcast_S_S192 := by decide
  reducesTo_S192_S_d0 := by decide
  bcast_S_S192x8x96 := by decide
  reducesTo_S192x8x96_S_d0_1_2 := by decide
  bcast_S_S128 := by decide
  reducesTo_S128_S_d0 := by decide
  bcast_S_S128x8x64 := by decide
  reducesTo_S128x8x64_S_d0_1_2 := by decide

/-- Every entry is a real number. -/
def AllReal {s : Shape} (x : FVec Ideal s .f32) : Prop := ∀ i, x i = ((x i : EReal).toReal : EReal)

theorem real_args (a0 : FVec Ideal S32x2048x1024 .f32) (a1 : FVec Ideal S1024 .f32) (a2 : FVec Ideal S1024 .f32) (a3 : FVec Ideal S1024x2144 .f32) (a4 : FVec Ideal S192 .f32) (a5 : FVec Ideal S192x8x96 .f32) (a6 : FVec Ideal S128 .f32) (a7 : FVec Ideal S128x8x64 .f32)
    (h : Cert.Pre_finite2.fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  unfold Cert.Pre_finite2.fn Cert.Pre_finite2.fn_part1 Cert.Pre_finite2.fn_part2 at h0
  dsimp only at h0
  obtain ⟨h0, h7⟩ := Cert.Attn.and_split h0
  obtain ⟨h0, h6⟩ := Cert.Attn.and_split h0
  obtain ⟨h0, h5⟩ := Cert.Attn.and_split h0
  obtain ⟨h0, h4⟩ := Cert.Attn.and_split h0
  obtain ⟨h0, h3⟩ := Cert.Attn.and_split h0
  obtain ⟨h0, h2⟩ := Cert.Attn.and_split h0
  obtain ⟨h0, h1⟩ := Cert.Attn.and_split h0
  exact ⟨Cert.Attn.real_of_all _ _ _ _ h0, Cert.Attn.real_of_all _ _ _ _ h1, Cert.Attn.real_of_all _ _ _ _ h2, Cert.Attn.real_of_all _ _ _ _ h3, Cert.Attn.real_of_all _ _ _ _ h4, Cert.Attn.real_of_all _ _ _ _ h5, Cert.Attn.real_of_all _ _ _ _ h6, Cert.Attn.real_of_all _ _ _ _ h7⟩

end Cert.Proj
end
-- ==== Proof.ProjRows.lean ====
/- THE ROWS OF THE INPUT PROJECTION, as plain functions of a row: layer norm, a column of the projection, rms norm, the rotation. -/
module

public import Idealize.ShloMosaic.Lib.Pointwise

@[expose] public section

noncomputable section

namespace Cert.Proj

open Idealize.ShloMosaic

/-- The mean of 1024 numbers. -/
def mean (y : Fin 1024 → EReal) : EReal := Ideal.div (∑ k, y k) (Ideal.ofBits .f32 0x44800000#32)

/-- A row less its mean. -/
def cen (x : Fin 1024 → EReal) (k : Fin 1024) : EReal := x k - mean x

/-- Layer norm of a row. -/
def ln (x g b : Fin 1024 → EReal) (k : Fin 1024) : EReal :=
  cen x k * Ideal.rsqrt (mean (fun k => cen x k * cen x k) + Ideal.ofBits .f32 0x3727C5AC#32) * g k + b k

/-- A row times a column. -/
def col (h w : Fin 1024 → EReal) : EReal := ∑ k, h k * w k

/-- The factor of an rms norm whose mean of squares is `s`. -/
def inv (s : EReal) : EReal := Ideal.rsqrt (s + Ideal.ofBits .f32 0x358637BD#32)

/-- rms norm of a row of 128. -/
def rms128 (y g : Fin 128 → EReal) (j : Fin 128) : EReal :=
  y j * inv (Ideal.div (∑ l, y l * y l) (Ideal.ofBits .f32 0x43000000#32)) * g j

/-- rms norm of a row of 192. -/
def rms192 (y g : Fin 192 → EReal) (j : Fin 192) : EReal :=
  y j * inv (Ideal.div (∑ l, y l * y l) (Ideal.ofBits .f32 0x43400000#32)) * g j

/-- The angle of lane `j` at position `t`. -/
def angle (t : ℕ) (j : Fin 16) : EReal :=
  FloatOps.sitofp (F := Ideal) FTy.f32 (BitVec.ofNat 32 t)
    * Ideal.pow (Ideal.ofBits .f32 0x461C4000#32)
      (Ideal.div (-(FloatOps.sitofp (F := Ideal) FTy.f32 (BitVec.ofNat 32 j.val) : EReal)) (Ideal.ofBits .f32 0x41800000#32))

/-- The rotation of 32 lanes. -/
def rot (y : Fin 32 → EReal) (a : Fin 16 → EReal) (l : Fin 32) : EReal :=
  if h : l.val < 16 then y ⟨l.val, by omega⟩ * Ideal.cos (a ⟨l.val, h⟩) - y ⟨16 + l.val, by omega⟩ * Ideal.sin (a ⟨l.val, h⟩)
  else y ⟨l.val - 16, by omega⟩ * Ideal.sin (a ⟨l.val - 16, by omega⟩) + y ⟨16 + (l.val - 16), by omega⟩ * Ideal.cos (a ⟨l.val - 16, by omega⟩)

/-- A row of 128 lanes times the cosines, plus the row turned by 32 lanes times the sines. -/
def turn (y ct st : Fin 128 → EReal) (l : Fin 128) : EReal :=
  y l * ct l + y ⟨(l.val + 128 - 96) % 128, by omega⟩ * st l

/-- The cosines of 32 lanes and 96 zeros. -/
def cosTab (a : Fin 16 → EReal) (l : Fin 128) : EReal :=
  if h : l.val < 16 then Ideal.cos (a ⟨l.val, h⟩) else if h : l.val - 16 < 16 then Ideal.cos (a ⟨l.val - 16, h⟩) else 0

/-- The signed sines of 32 lanes and 96 zeros. -/
def sinTab (a : Fin 16 → EReal) (l : Fin 128) : EReal :=
  if h : l.val < 16 then -Ideal.sin (a ⟨l.val, h⟩) else if h : l.val - 16 < 16 then Ideal.sin (a ⟨l.val - 16, h⟩) else 0

/-- Where lanes 32 to 63 repeat lanes 0 to 31, halves swapped, turning by the tables is the rotation of the first 32 lanes. -/
theorem turn_low {y : Fin 128 → EReal} (hy : ∀ l : Fin 32, y ⟨32 + l.val, by omega⟩ = y ⟨(l.val + 16) % 32, by omega⟩) (a : Fin 16 → EReal)
    (l : Fin 32) : turn y (cosTab a) (sinTab a) ⟨l.val, by omega⟩ = rot (fun l => y ⟨l.val, by omega⟩) a l := by
  have e : (⟨(l.val + 128 - 96) % 128, by omega⟩ : Fin 128) = ⟨32 + l.val, by omega⟩ := Fin.ext (by show (l.val + 128 - 96) % 128 = 32 + l.val; omega)
  unfold turn rot cosTab sinTab
  dsimp only
  rw [e, hy]
  by_cases h : l.val < 16
  · have e2 : (⟨(l.val + 16) % 32, by omega⟩ : Fin 128) = ⟨16 + l.val, by omega⟩ := Fin.ext (by show (l.val + 16) % 32 = 16 + l.val; omega)
    rw [dif_pos h, dif_pos h, dif_pos h, e2, mul_neg, ← sub_eq_add_neg]
  · have e2 : (⟨(l.val + 16) % 32, by omega⟩ : Fin 128) = ⟨l.val - 16, by omega⟩ := Fin.ext (by show (l.val + 16) % 32 = l.val - 16; omega)
    have e3 : (⟨16 + (l.val - 16), by omega⟩ : Fin 128) = ⟨l.val, by omega⟩ := Fin.ext (by show 16 + (l.val - 16) = l.val; omega)
    rw [dif_neg h, dif_neg h, dif_neg h, dif_pos (by omega), dif_pos (by omega), e2, e3, add_comm]

theorem turn_high (y : Fin 128 → EReal) (a : Fin 16 → EReal) (l : Fin 128) (h : 32 ≤ l.val) : turn y (cosTab a) (sinTab a) l = 0 := by
  unfold turn cosTab sinTab
  rw [dif_neg (by omega), dif_neg (by omega), dif_neg (by omega), dif_neg (by omega), mul_zero, mul_zero, add_zero]

end Cert.Proj
end
-- ==== Proof.ProjTile.lean ====
/- ONE BLOCK OF THE INPUT PROJECTION, read at an index: what the body computes of its 512 rows. -/
module

public import proofs.«01_k».proof.Proof.Gen.Kernel2Ideal.Frame
public import proofs.«01_k».proof.Proof.ProjRows
public import Idealize.ShloMosaic.Lib.Pointwise

@[expose] public section

set_option maxRecDepth 16384

noncomputable section

namespace Cert.Proj

open Cert.Kernel2Ideal Cert.Kernel2Ideal.Gen Idealize.ShloMosaic Idealize.ShloMosaic.TcCoe

theorem pay5_apply (x0 : Vec Ideal S512x1024 .f32) (x1 x2 : Vec Ideal S1x1024 .f32) (r : Fin 512) (k : Fin 1024) :
    k0_pay5 x0 x1 x2 (ix2 r k) = ln (fun k => x0 (ix2 r k)) (fun k => x1 (ix2 0 k)) (fun k => x2 (ix2 0 k)) k := by
  pointwise [k0_pay5]
  rfl

theorem pay6_apply (x0 : Vec Ideal S512x1024 .f32) (x1 x2 : Vec Ideal S1x1024 .f32) (w : Vec Ideal S1024x2304 .bf16) (r : Fin 512) (j : Fin 2304) :
    k0_pay6 x0 x1 x2 w (ix2 r j)
      = col (fun k => k0_pay5 x0 x1 x2 (ix2 r k)) (fun k => w (ix2 k j)) := by
  pointwise [k0_pay6]
  rfl

theorem pay7_apply (x : Vec Ideal S512x128 .f32) (r : Fin 512) (l : Fin 128) : k0_pay7 x (ix2 r l) = x (ix2 r l) := by
  pointwise [k0_pay7]

theorem pay8_apply (x : Vec Ideal S512x128 .f32) (r : Fin 512) (l : Fin 128) : k0_pay8 x (ix2 r l) = x (ix2 r l) := by
  pointwise [k0_pay8]

theorem pay9_apply (x0 : Vec Ideal S512x1024 .f32) (x1 x2 : Vec Ideal S1x1024 .f32) (w : Vec Ideal S1024x2304 .bf16) (r : Fin 512) (j : Fin 256) :
    k0_pay9 x0 x1 x2 w (ix2 r j) = k0_pay6 x0 x1 x2 w (ix2 r ⟨j.val, by omega⟩) := by
  pointwise [k0_pay9]

theorem pay10_apply (x0 : Vec Ideal S512x1024 .f32) (x1 x2 : Vec Ideal S1x1024 .f32) (w : Vec Ideal S1024x2304 .bf16) (r : Fin 512) (j : Fin 256) :
    k0_pay10 x0 x1 x2 w (ix2 r j)
      = (k0_pay6 x0 x1 x2 w (ix2 r ⟨j.val, by omega⟩) : EReal) * k0_pay6 x0 x1 x2 w (ix2 r ⟨j.val, by omega⟩) := by
  pointwise [k0_pay10, k0_pay9]

theorem inv_rank : Named.named (F := Ideal) Cert.Kernel2Ideal.κ "inv_q_rank" (φ := .f32) 0x3BAAAAAB#32 = ((192⁻¹ : ℝ) : EReal) :=
  IdealRules.named_const.ideal_named_scalar _ _ _ _ rfl

theorem pay11_apply (v35 v36 : FVec Ideal S512x256 .f32) (g : Vec Ideal S1x256 .f32) (wq : Vec Ideal S256x2048 .bf16) (r : Fin 512) (n : Fin 2048) :
    k0_pay11 v35 v36 g wq (ix2 r n)
      = ∑ j : Fin 256, ((v35 (ix2 r j) : EReal) * inv ((∑ l : Fin 256, v36 (ix2 r l)) * ((192⁻¹ : ℝ) : EReal)) * g (ix2 0 j)) * wq (ix2 j n) := by
  pointwise [k0_pay11]
  simp only [inv_rank]
  rfl

theorem pay33_apply (p : FVec Ideal S512x2304 .f32) (g : Vec Ideal S1x128 .f32) (r : Fin 512) (j : Fin 128) :
    k0_pay33 p g (ix2 r j) = rms128 (fun j => p (ix2 r ⟨256 + j.val, by omega⟩)) (fun j => g (ix2 0 j)) j := by
  pointwise [k0_pay33]
  rfl

theorem pay34_apply (p : FVec Ideal S512x2304 .f32) (ct st : FVec Ideal S512x128 .f32) (r : Fin 512) (l : Fin 128) :
    k0_pay34 p ct st (ix2 r l)
      = turn (fun l => p (ix2 r ⟨384 + l.val, by omega⟩)) (fun l => ct (ix2 r l)) (fun l => st (ix2 r l)) l := by
  pointwise [k0_pay34]
  rfl

theorem pay35_apply (p : FVec Ideal S512x2304 .f32) (ct st : FVec Ideal S512x128 .f32) (r : Fin 512) (l : Fin 32) :
    k0_pay35 p ct st (ix2 r l) = k0_pay34 p ct st (ix2 r ⟨l.val, by omega⟩) := by
  pointwise [k0_pay35]

theorem pay1_apply (v : FVec Ideal S512x128 .f32) (r : Fin 512) (l : Fin 128) : k0_pay1 v (ix2 r l) = v (ix2 r l) := by
  pointwise [k0_pay1]

theorem pay2_apply (v : FVec Ideal S512x128 .f32) (r : Fin 512) (l : Fin 128) :
    k0_pay2 v (ix2 r l) = if l.val = 127 then (1 : EReal) else v (ix2 r l) := by
  pointwise [k0_pay2]
  by_cases h : l.val = 127
  · rw [if_pos h, h]
    rfl
  · have hne : BitVec.ofNat 32 l.val ≠ 127#32 := by
      intro e
      have := congrArg BitVec.toNat e
      simp only [BitVec.toNat_ofNat] at this
      omega
    rw [if_neg h]
    have hb : (BitVec.ofNat 32 l.val == 127#32) = false := beq_false_of_ne hne
    have hc : IntOp.cmpi CmpIPredicate.eq (BitVec.ofNat 32 l.val) 127#32 = 0#1 := congrArg BitVec.ofBool hb
    rw [hc]
    rfl

theorem pay3_apply (p : FVec Ideal S512x2304 .f32) (r : Fin 512) (l : Fin 1024) : k0_pay3 p (ix2 r l) = p (ix2 r ⟨512 + l.val, by omega⟩) := by
  pointwise [k0_pay3]

theorem pay4_apply (p : FVec Ideal S512x2304 .f32) (r : Fin 512) (l : Fin 768) : k0_pay4 p (ix2 r l) = p (ix2 r ⟨1536 + l.val, by omega⟩) := by
  pointwise [k0_pay4]

/-! ## The queries: 16 stores, one a head and half -/

/-- What the stores leave: of each head 128 lanes as they are and 128 turned. -/
def qTile (Q : Vec Ideal S512x2048 .f32) (ct st : Vec Ideal S512x128 .f32) (h : Fin 8) (r : Fin 512) (e : Fin 256) : EReal :=
  if he : e.val < 128 then Q (ix2 r ⟨256 * h.val + e.val, by omega⟩)
  else turn (fun l => Q (ix2 r ⟨256 * h.val + 128 + l.val, by omega⟩)) (fun l => ct (ix2 r l)) (fun l => st (ix2 r l)) ⟨e.val - 128, by omega⟩

theorem low0 (v35 v36 : FVec Ideal S512x256 .f32) (g : Vec Ideal S1x256 .f32) (wq : Vec Ideal S256x2048 .bf16) (r : Fin 512) (l : Fin 128) :
    k0_pay12 v35 v36 g wq (ix3 0 r l) = k0_pay11 v35 v36 g wq (ix2 r ⟨l.val, by omega⟩) := by
  pointwise [k0_pay12]

theorem low1 (v35 v36 : FVec Ideal S512x256 .f32) (g : Vec Ideal S1x256 .f32) (wq : Vec Ideal S256x2048 .bf16) (r : Fin 512) (l : Fin 128) :
    k0_pay14 v35 v36 g wq (ix3 0 r l) = k0_pay11 v35 v36 g wq (ix2 r ⟨256 + l.val, by omega⟩) := by
  pointwise [k0_pay14]

theorem low2 (Q : FVec Ideal S512x2048 .f32) (r : Fin 512) (l : Fin 128) :
    k0_pay19 Q (ix3 0 r l) = Q (ix2 r ⟨512 + l.val, by omega⟩) := by
  pointwise [k0_pay19]

theorem low3 (Q : FVec Ideal S512x2048 .f32) (r : Fin 512) (l : Fin 128) :
    k0_pay21 Q (ix3 0 r l) = Q (ix2 r ⟨768 + l.val, by omega⟩) := by
  pointwise [k0_pay21]

theorem low4 (Q : FVec Ideal S512x2048 .f32) (r : Fin 512) (l : Fin 128) :
    k0_pay24 (k0_pay23 Q) (ix3 0 r l) = Q (ix2 r ⟨1024 + l.val, by omega⟩) := by
  pointwise [k0_pay24, k0_pay23]

theorem low5 (Q : FVec Ideal S512x2048 .f32) (r : Fin 512) (l : Fin 128) :
    k0_pay26 Q (ix3 0 r l) = Q (ix2 r ⟨1280 + l.val, by omega⟩) := by
  pointwise [k0_pay26]

theorem low6 (Q : FVec Ideal S512x2048 .f32) (r : Fin 512) (l : Fin 128) :
    k0_pay28 Q (ix3 0 r l) = Q (ix2 r ⟨1536 + l.val, by omega⟩) := by
  pointwise [k0_pay28]

theorem low7 (Q : FVec Ideal S512x2048 .f32) (r : Fin 512) (l : Fin 128) :
    k0_pay31 Q (ix3 0 r l) = Q (ix2 r ⟨1792 + l.val, by omega⟩) := by
  pointwise [k0_pay31]

theorem high0 (ct st : FVec Ideal S512x128 .f32) (v35 v36 : FVec Ideal S512x256 .f32) (g : Vec Ideal S1x256 .f32) (wq : Vec Ideal S256x2048 .bf16) (r : Fin 512) (l : Fin 128) :
    k0_pay13 ct st v35 v36 g wq (ix3 0 r l)
      = turn (fun l => k0_pay11 v35 v36 g wq (ix2 r ⟨128 + l.val, by omega⟩)) (fun l => ct (ix2 r l)) (fun l => st (ix2 r l)) l := by
  pointwise [k0_pay13]
  rfl

theorem high1 (ct st : FVec Ideal S512x128 .f32) (v35 v36 : FVec Ideal S512x256 .f32) (g : Vec Ideal S1x256 .f32) (wq : Vec Ideal S256x2048 .bf16) (r : Fin 512) (l : Fin 128) :
    k0_pay18 st (k0_pay16 ct v35 v36 g wq) (k0_pay17 v35 v36 g wq) (ix3 0 r l)
      = turn (fun l => k0_pay11 v35 v36 g wq (ix2 r ⟨384 + l.val, by omega⟩)) (fun l => ct (ix2 r l)) (fun l => st (ix2 r l)) l := by
  pointwise [k0_pay18, k0_pay16, k0_pay17, k0_pay15]
  rfl

theorem high2 (ct st : FVec Ideal S512x128 .f32) (Q : FVec Ideal S512x2048 .f32) (r : Fin 512) (l : Fin 128) :
    k0_pay20 ct st Q (ix3 0 r l)
      = turn (fun l => Q (ix2 r ⟨640 + l.val, by omega⟩)) (fun l => ct (ix2 r l)) (fun l => st (ix2 r l)) l := by
  pointwise [k0_pay20]
  rfl

theorem high3 (ct st : FVec Ideal S512x128 .f32) (Q : FVec Ideal S512x2048 .f32) (r : Fin 512) (l : Fin 128) :
    k0_pay22 ct st Q (ix3 0 r l)
      = turn (fun l => Q (ix2 r ⟨896 + l.val, by omega⟩)) (fun l => ct (ix2 r l)) (fun l => st (ix2 r l)) l := by
  pointwise [k0_pay22]
  rfl

theorem high4 (ct st : FVec Ideal S512x128 .f32) (Q : FVec Ideal S512x2048 .f32) (r : Fin 512) (l : Fin 128) :
    k0_pay25 ct st Q (ix3 0 r l)
      = turn (fun l => Q (ix2 r ⟨1152 + l.val, by omega⟩)) (fun l => ct (ix2 r l)) (fun l => st (ix2 r l)) l := by
  pointwise [k0_pay25]
  rfl

theorem high5 (ct st : FVec Ideal S512x128 .f32) (Q : FVec Ideal S512x2048 .f32) (r : Fin 512) (l : Fin 128) :
    k0_pay27 ct st Q (ix3 0 r l)
      = turn (fun l => Q (ix2 r ⟨1408 + l.val, by omega⟩)) (fun l => ct (ix2 r l)) (fun l => st (ix2 r l)) l := by
  pointwise [k0_pay27]
  rfl

theorem high6 (ct st : FVec Ideal S512x128 .f32) (Q : FVec Ideal S512x2048 .f32) (r : Fin 512) (l : Fin 128) :
    k0_pay30 (k0_pay29 ct st Q) (ix3 0 r l)
      = turn (fun l => Q (ix2 r ⟨1664 + l.val, by omega⟩)) (fun l => ct (ix2 r l)) (fun l => st (ix2 r l)) l := by
  pointwise [k0_pay30, k0_pay29]
  rfl

theorem high7 (ct st : FVec Ideal S512x128 .f32) (Q : FVec Ideal S512x2048 .f32) (r : Fin 512) (l : Fin 128) :
    k0_pay32 ct st Q (ix3 0 r l)
      = turn (fun l => Q (ix2 r ⟨1920 + l.val, by omega⟩)) (fun l => ct (ix2 r l)) (fun l => st (ix2 r l)) l := by
  pointwise [k0_pay32]
  rfl

end Cert.Proj
end
-- ==== Proof.ProjBlock.lean ====
/- WHAT ONE GRID POINT LEAVES in each of the seven result blocks, of its nine operand blocks. -/
module

public import proofs.«01_k».proof.Proof.ProjTile
public import Idealize.ShloMosaic.Lib.Pipeline.Value

@[expose] public section

set_option maxRecDepth 16384

noncomputable section

namespace Cert.Proj

open Cert.Kernel2Ideal Cert.Kernel2Ideal.Gen Idealize.ShloMosaic Idealize.ShloMosaic.TcCoe

theorem ld_x {e : EltTy} (X : S512x1024.Idx → Elt Ideal e) : View.ld X r0_0 = X := View.ld_unit_zero (by decide) _ X
theorem ld_g {e : EltTy} (X : S1x1024.Idx → Elt Ideal e) : View.ld X r0_1 = X := View.ld_unit_zero (by decide) _ X
theorem ld_w {e : EltTy} (X : S1024x2304.Idx → Elt Ideal e) : View.ld X r0_2 = X := View.ld_unit_zero (by decide) _ X
theorem ld_t {e : EltTy} (X : S512x128.Idx → Elt Ideal e) : View.ld X r0_3 = X := View.ld_unit_zero (by decide) _ X
theorem ld_gq {e : EltTy} (X : S1x256.Idx → Elt Ideal e) : View.ld X r0_4 = X := View.ld_unit_zero (by decide) _ X
theorem ld_wq {e : EltTy} (X : S256x2048.Idx → Elt Ideal e) : View.ld X r0_5 = X := View.ld_unit_zero (by decide) _ X
theorem ld_gk {e : EltTy} (X : S1x128.Idx → Elt Ideal e) : View.ld X r0_22 = X := View.ld_unit_zero (by decide) _ X

variable (x0 : Vec Ideal S512x1024 .f32) (x1 x2 : Vec Ideal S1x1024 .f32) (x3 : Vec Ideal S1024x2304 .bf16) (x4 : Vec Ideal S1x256 .f32)
  (x5 : Vec Ideal S256x2048 .bf16) (x6 : Vec Ideal S1x128 .f32) (x7 x8 : Vec Ideal S512x128 .f32)

theorem qTile_low (Q : Vec Ideal S512x2048 .f32) (ct st : Vec Ideal S512x128 .f32) (h : Fin 8) (r r' : Fin 512) (e : Fin 256) (l : Fin 128) (n : Fin 2048)
    (hr : r'.val = r.val) (he : e.val = l.val) (hn : n.val = 256 * h.val + l.val) : Q (ix2 r n) = qTile Q ct st h r' e := by
  obtain rfl : r' = r := Fin.ext hr
  unfold qTile
  rw [dif_pos (by omega)]
  exact congrArg (fun n => Q (ix2 r' n)) (Fin.ext (by show n.val = 256 * h.val + e.val; omega))

theorem qTile_high (Q : Vec Ideal S512x2048 .f32) (ct st : Vec Ideal S512x128 .f32) (h : Fin 8) (r r' : Fin 512) (e : Fin 256) (l : Fin 128) (o : ℕ)
    (ho : ∀ l : Fin 128, o + l.val < 2048) (hr : r'.val = r.val) (he : e.val = 128 + l.val) (hn : o = 256 * h.val + 128) :
    turn (fun l => Q (ix2 r ⟨o + l.val, ho l⟩)) (fun l => ct (ix2 r l)) (fun l => st (ix2 r l)) l = qTile Q ct st h r' e := by
  obtain rfl : r' = r := Fin.ext hr
  subst hn
  unfold qTile
  rw [dif_neg (by omega)]
  exact congrArg _ (Fin.ext (by show l.val = e.val - 128; omega))

theorem out10_apply (h : Fin 8) (r : Fin 512) (e : Fin 256) :
    out0_10 x0 x1 x2 x3 x4 x5 x6 x7 x8 (ix3 h r e)
      = qTile (k0_pay11 (k0_pay9 x0 x1 x2 x3) (k0_pay10 x0 x1 x2 x3) x4 x5) (k0_pay7 x7) (k0_pay8 x8) h r e := by
  unfold_out out0_10
  simp only [ld_x, ld_g, ld_w, ld_t, ld_gq, ld_wq]
  refine View.canon_apply_of_pieces (Val := Elt Ideal) (fun y => qTile (k0_pay11 (k0_pay9 x0 x1 x2 x3) (k0_pay10 x0 x1 x2 x3) x4 x5) (k0_pay7 x7) (k0_pay8 x8) (y 0) (y 1) (y 2))
    _ ?_ (ix3 h r e) (cover0_10 _ _ _ _ _ _ _ _ _ _ _ _ _ _ _ _ _)
  intro pc hpc
  rcases List.mem_cons.mp hpc with rfl | hpc
  · intro z
    idx_vars z
    obtain rfl : z0 = 0 := Subsingleton.elim _ _
    exact (high7 ..).trans (qTile_high _ _ _ ⟨7, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low7 ..).trans (qTile_low _ _ _ ⟨7, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high6 ..).trans (qTile_high _ _ _ ⟨6, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low6 ..).trans (qTile_low _ _ _ ⟨6, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high5 ..).trans (qTile_high _ _ _ ⟨5, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low5 ..).trans (qTile_low _ _ _ ⟨5, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high4 ..).trans (qTile_high _ _ _ ⟨4, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low4 ..).trans (qTile_low _ _ _ ⟨4, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high3 ..).trans (qTile_high _ _ _ ⟨3, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low3 ..).trans (qTile_low _ _ _ ⟨3, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high2 ..).trans (qTile_high _ _ _ ⟨2, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low2 ..).trans (qTile_low _ _ _ ⟨2, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high1 ..).trans (qTile_high _ _ _ ⟨1, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low1 ..).trans (qTile_low _ _ _ ⟨1, by decide⟩ z1 _ _ z2 _ (by show 0 + 1 * z1.val = z1.val; omega) (by show 0 + 1 * z2.val = z2.val; omega) (by first | rfl | exact (Nat.zero_add _).symm))
  rcases List.mem_cons.mp hpc with rfl | hpc
  · intro z
    idx_vars z
    obtain rfl : z0 = 0 := Subsingleton.elim _ _
    exact (high0 ..).trans (qTile_high _ _ _ ⟨0, by decide⟩ z1 _ _ z2 _ _ (by show 0 + 1 * z1.val = z1.val; omega) (by show 128 + 1 * z2.val = 128 + z2.val; omega) rfl)
  rcases List.mem_cons.mp hpc with rfl | hpc
  · intro z
    idx_vars z
    obtain rfl : z0 = 0 := Subsingleton.elim _ _
    exact (low0 ..).trans (qTile_low _ _ _ ⟨0, by decide⟩ z1 _ _ z2 _ (by show 0 + 1 * z1.val = z1.val; omega) (by show 0 + 1 * z2.val = z2.val; omega) (by first | rfl | exact (Nat.zero_add _).symm))
  nomatch hpc

theorem out11_apply (r : Fin 512) (e : Fin 256) :
    out0_11 x0 x1 x2 x3 x4 x5 x6 x7 x8 (ix2 r e)
      = if he : e.val < 128 then k0_pay33 (k0_pay6 x0 x1 x2 x3) x6 (ix2 r ⟨e.val, he⟩)
        else if e.val - 128 = 127 then (1 : EReal) else k0_pay34 (k0_pay6 x0 x1 x2 x3) (k0_pay7 x7) (k0_pay8 x8) (ix2 r ⟨e.val - 128, by omega⟩) := by
  unfold_out out0_11
  simp only [ld_x, ld_g, ld_w, ld_t, ld_gk]
  refine View.canon_apply_of_pieces (Val := Elt Ideal) (fun y => if he : (y 1).val < 128 then k0_pay33 (k0_pay6 x0 x1 x2 x3) x6 (ix2 (y 0) ⟨(y 1).val, he⟩)
        else if (y 1).val - 128 = 127 then (1 : EReal) else k0_pay34 (k0_pay6 x0 x1 x2 x3) (k0_pay7 x7) (k0_pay8 x8)
          (ix2 (y 0) ⟨(y 1).val - 128, by have : (y 1).val < 256 := (y 1).isLt; omega⟩))
    _ ?_ (ix2 r e) (cover0_11 _ _ _)
  intro pc hpc
  rcases List.mem_cons.mp hpc with rfl | hpc
  · intro z
    idx_vars z
    have e0 : (r0_25.emb (ix2 z0 z1)) 0 = z0 := Fin.ext (by show 0 + 1 * z0.val = z0.val; omega)
    have e1 : ((r0_25.emb (ix2 z0 z1)) 1).val = 128 + z1.val := by show 128 + 1 * z1.val = _; omega
    refine (pay2_apply _ z0 z1).trans ?_
    refine Eq.trans ?_ (dif_neg (by omega)).symm
    simp only [e0, e1, Nat.add_sub_cancel_left]
  rcases List.mem_cons.mp hpc with rfl | hpc
  · intro z
    idx_vars z
    have e0 : (r0_24.emb (ix2 z0 z1)) 0 = z0 := Fin.ext (by show 0 + 1 * z0.val = z0.val; omega)
    have e1 : ((r0_24.emb (ix2 z0 z1)) 1).val = z1.val := by show 0 + 1 * z1.val = _; omega
    refine (pay1_apply _ z0 z1).trans ?_
    refine Eq.trans ?_ (dif_pos (by omega)).symm
    simp only [e0, e1]
  nomatch hpc

theorem out9_eq : out0_9 x0 x1 x2 x3 x4 x5 x6 x7 x8 = k0_pay5 x0 x1 x2 := by
  unfold_out out0_9
  simp only [ld_x, ld_g]
  exact View.canon_unit_zero (by decide) _ _

theorem out12_eq : out0_12 x0 x1 x2 x3 x4 x5 x6 x7 x8 = k0_pay33 (k0_pay6 x0 x1 x2 x3) x6 := by
  unfold_out out0_12
  simp only [ld_x, ld_g, ld_w, ld_gk]
  exact View.canon_unit_zero (by decide) _ _

theorem out13_eq : out0_13 x0 x1 x2 x3 x4 x5 x6 x7 x8 = k0_pay35 (k0_pay6 x0 x1 x2 x3) (k0_pay7 x7) (k0_pay8 x8) := by
  unfold_out out0_13
  simp only [ld_x, ld_g, ld_w, ld_t]
  exact View.canon_unit_zero (by decide) _ _

theorem out14_eq : out0_14 x0 x1 x2 x3 x4 x5 x6 x7 x8 = k0_pay3 (k0_pay6 x0 x1 x2 x3) := by
  unfold_out out0_14
  simp only [ld_x, ld_g, ld_w]
  exact View.canon_unit_zero (by decide) _ _

theorem out15_eq : out0_15 x0 x1 x2 x3 x4 x5 x6 x7 x8 = k0_pay4 (k0_pay6 x0 x1 x2 x3) := by
  unfold_out out0_15
  simp only [ld_x, ld_g, ld_w]
  exact View.canon_unit_zero (by decide) _ _

end Cert.Proj
end
-- ==== Proof.ProjOperands.lean ====
/- THE OPERANDS OF THE INPUT PROJECTION: the padded weights and the tables the host prepares, and the blocks a grid point reads of them. -/
module

public import proofs.«01_k».proof.Proof.Gen.Kernel2Ideal.Value
public import proofs.«01_k».proof.Proof.ProjRows
public import Idealize.ShloMosaic.Lib.Pointwise

@[expose] public section

set_option maxRecDepth 16384

noncomputable section

namespace Cert.Proj

open Cert.Kernel2Ideal Cert.Kernel2Ideal.Gen Idealize.ShloMosaic Idealize.ShloMosaic.TcCoe

section anyFloats
variable {F : FTy → Type} [FloatOps F]

/-- The columns of the rotated key, and the same with their halves swapped. -/
def wKr (w : FVec F S1024x2144 .f32) : FVec F S1024x32 .f32 := extractStridedSlice S1024x32 ![0, 320] w slices_S1024x2144_S1024x32_0_320

def wSwap (w : FVec F S1024x2144 .f32) : FVec F S1024x32 .f32 :=
  concatenate S1024x32 1 [⟨S1024x16, extractStridedSlice S1024x16 ![0, 16] (wKr w) slices_S1024x32_S1024x16_0_16⟩,
    ⟨S1024x16, extractStridedSlice S1024x16 ![0, 0] (wKr w) slices_S1024x32_S1024x16_0_0⟩] concatenates_S1024x16_S1024x16_S1024x32_d1

/-- The input projection's weights, padded. -/
def wIn (w : FVec F S1024x2144 .f32) : FVec F S1024x2304 .bf16 :=
  truncf .bf16
    (concatenate S1024x2304 1
      [⟨S1024x192, extractStridedSlice S1024x192 ![0, 0] w slices_S1024x2144_S1024x192_0_0⟩,
        ⟨S1024x64, broadcastInDim S1024x64 ![] bcast_S_S1024x64 (constant S_ .f32 0x00000000#32)⟩,
        ⟨S1024x128, extractStridedSlice S1024x128 ![0, 192] w slices_S1024x2144_S1024x128_0_192⟩,
        ⟨S1024x32, wKr w⟩, ⟨S1024x32, wSwap w⟩,
        ⟨S1024x64, broadcastInDim S1024x64 ![] bcast_S_S1024x64 (constant S_ .f32 0x00000000#32)⟩,
        ⟨S1024x1792, extractStridedSlice S1024x1792 ![0, 352] w slices_S1024x2144_S1024x1792_0_352⟩]
      concatenates_S1024x192_S1024x64_S1024x128_S1024x32_S1024x32_S1024x64_S1024x1792_S1024x2304_d1) bitsLt_bf16_f32

/-- The query norm's gains, padded. -/
def gqOp (g : FVec F S192 .f32) : FVec F S1x256 .f32 :=
  shapeCast S1x256 (concatenate S256 0 [⟨S192, g⟩, ⟨S64, broadcastInDim S64 ![] bcast_S_S64 (constant S_ .f32 0x00000000#32)⟩]
    concatenates_S192_S64_S256_d0) shapeCasts_S256_S1x256

/-- The queries' weights: their rotated columns, the same with their halves swapped, and the latent columns. -/
def uRope (uq : FVec F S192x8x96 .f32) : FVec F S192x8x32 .f32 := extractStridedSlice S192x8x32 ![0, 0, 64] uq slices_S192x8x96_S192x8x32_0_0_64

def uSwap (uq : FVec F S192x8x96 .f32) : FVec F S192x8x32 .f32 :=
  concatenate S192x8x32 2 [⟨S192x8x16, extractStridedSlice S192x8x16 ![0, 0, 16] (uRope uq) slices_S192x8x32_S192x8x16_0_0_16⟩,
    ⟨S192x8x16, extractStridedSlice S192x8x16 ![0, 0, 0] (uRope uq) slices_S192x8x32_S192x8x16_0_0_0⟩] concatenates_S192x8x16_S192x8x16_S192x8x32_d2

def uLat (uq : FVec F S192x8x96 .f32) (uk : FVec F S128x8x64 .f32) : FVec F S192x8x128 .f32 :=
  transpose S192x8x128 [2, 0, 1]
    (Host.dotGeneral dot_S128x8x64_S192x8x64_S8x128x192_2_2_0_0_1_1 (some .fp32) uk
      (extractStridedSlice S192x8x64 ![0, 0, 0] uq slices_S192x8x96_S192x8x64_0_0_0)) transposes_S8x128x192_S192x8x128_2_0_1

def wqOp (uq : FVec F S192x8x96 .f32) (uk : FVec F S128x8x64 .f32) : FVec F S256x2048 .bf16 :=
  truncf .bf16
    (concatenate S256x2048 0
      [⟨S192x2048, shapeCast S192x2048
          (mulf
            (concatenate S192x8x256 2 [⟨S192x8x128, uLat uq uk⟩, ⟨S192x8x32, uRope uq⟩, ⟨S192x8x32, uSwap uq⟩,
              ⟨S192x8x64, broadcastInDim S192x8x64 ![] bcast_S_S192x8x64 (constant S_ .f32 0x00000000#32)⟩]
              concatenates_S192x8x128_S192x8x32_S192x8x32_S192x8x64_S192x8x256_d2)
            (broadcastInDim S192x8x256 ![] bcast_S_S192x8x256 (constant S_ .f32 0x3E16C740#32))) shapeCasts_S192x8x256_S192x2048⟩,
        ⟨S64x2048, broadcastInDim S64x2048 ![] bcast_S_S64x2048 (constant S_ .f32 0x00000000#32)⟩]
      concatenates_S192x2048_S64x2048_S256x2048_d0) bitsLt_bf16_f32

/-- The angles of the rotation and their two tables. -/
def angK : FVec F S2048x16 .f32 :=
  mulf
    (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1
      (broadcastInDim S1x16 ![1] bcast_S16_S1x16_1
        (Host.powf (broadcastInDim S16 ![] bcast_S_S16 (constant S_ .f32 0x461C4000#32))
          (Host.divf (Host.negf (sitofp .f32 (iotaInDim S16 32 0))) (broadcastInDim S16 ![] bcast_S_S16 (constant S_ .f32 0x41800000#32))))))

def cosOp : FVec F S2048x128 .f32 :=
  concatenate S2048x128 1 [⟨S2048x16, Host.cos angK⟩, ⟨S2048x16, Host.cos angK⟩,
    ⟨S2048x96, broadcastInDim S2048x96 ![] bcast_S_S2048x96 (constant S_ .f32 0x00000000#32)⟩] concatenates_S2048x16_S2048x16_S2048x96_S2048x128_d1

def sinOp : FVec F S2048x128 .f32 :=
  concatenate S2048x128 1 [⟨S2048x16, Host.negf (Host.sin angK)⟩, ⟨S2048x16, Host.sin angK⟩,
    ⟨S2048x96, broadcastInDim S2048x96 ![] bcast_S_S2048x96 (constant S_ .f32 0x00000000#32)⟩] concatenates_S2048x16_S2048x16_S2048x96_S2048x128_d1

variable (m : (ℓ : Loc nD τ sig) → Buf (Elt F) ℓ) (c : Dev nD)

/-- The eight arguments as launched. -/
def B0 : FVec F S32x2048x1024 .f32 := m ((c : Thread nD τ).loc main_arg0)
def B1 : FVec F S1024 .f32 := m ((c : Thread nD τ).loc main_arg1)
def B2 : FVec F S1024 .f32 := m ((c : Thread nD τ).loc main_arg2)
def B3 : FVec F S1024x2144 .f32 := m ((c : Thread nD τ).loc main_arg3)
def B4 : FVec F S192 .f32 := m ((c : Thread nD τ).loc main_arg4)
def B5 : FVec F S192x8x96 .f32 := m ((c : Thread nD τ).loc main_arg5)
def B6 : FVec F S128 .f32 := m ((c : Thread nD τ).loc main_arg6)
def B7 : FVec F S128x8x64 .f32 := m ((c : Thread nD τ).loc main_arg7)

theorem V_x : V m c main_v46 = shapeCast S65536x1024 (B0 m c) shapeCasts_S32x2048x1024_S65536x1024 := by
  dsimp only [V, hostOps0]
  after_results
  rfl

theorem V_g1 : V m c main_v48 = shapeCast S1x1024 (B1 m c) shapeCasts_S1024_S1x1024 := by
  dsimp only [V, hostOps0]
  after_results
  rfl

theorem V_b1 : V m c main_v49 = shapeCast S1x1024 (B2 m c) shapeCasts_S1024_S1x1024 := by
  dsimp only [V, hostOps0]
  after_results
  rfl

theorem V_w : V m c main_v9 = wIn (B3 m c) := by
  dsimp only [V, hostOps0]
  after_results
  rfl

theorem V_gq : V m c main_v12 = gqOp (B4 m c) := by
  dsimp only [V, hostOps0]
  after_results
  rfl

theorem V_wq : V m c main_v27 = wqOp (B5 m c) (B7 m c) := by
  dsimp only [V, hostOps0]
  after_results
  rfl

theorem V_gk : V m c main_v47 = shapeCast S1x128 (B6 m c) shapeCasts_S128_S1x128 := by
  dsimp only [V, hostOps0]
  after_results
  rfl

theorem V_cos : V m c main_v43 = cosOp := by
  dsimp only [V, hostOps0]
  after_results
  rfl

theorem V_sin : V m c main_v45 = sinOp := by
  dsimp only [V, hostOps0]
  after_results
  rfl

end anyFloats

end Cert.Proj
end
-- ==== Proof.ProjPads.lean ====
/- THE PADDED OPERANDS read at an index. -/
module

public import proofs.«01_k».proof.Proof.ProjOperands

@[expose] public section

set_option maxRecDepth 16384

noncomputable section

namespace Cert.Proj

open Cert.Kernel2Ideal Cert.Kernel2Ideal.Gen Idealize.ShloMosaic Idealize.ShloMosaic.TcCoe

/-- Column `j` of the padded weights is column `j'` of the weights. -/
theorem wIn_at (w : FVec Ideal S1024x2144 .f32) (k : Fin 1024) (j : Fin 2304) (j' : Fin 2144)
    (h : (j.val < 192 ∧ j'.val = j.val) ∨ (256 ≤ j.val ∧ j.val < 416 ∧ j'.val = j.val - 64)
      ∨ (416 ≤ j.val ∧ j.val < 448 ∧ j'.val = 320 + (j.val - 416 + 16) % 32) ∨ (512 ≤ j.val ∧ j'.val = j.val - 160)) :
    wIn w (ix2 k j) = w (ix2 k j') := by
  pointwise [wIn, wKr, wSwap]
  split_ifs <;> first
    | (exfalso; omega)
    | (refine congrArg (fun j => w (ix2 k j)) (Fin.ext ?_); dsimp only; omega)

theorem wIn_zero (w : FVec Ideal S1024x2144 .f32) (k : Fin 1024) (j : Fin 2304)
    (h : (192 ≤ j.val ∧ j.val < 256) ∨ (448 ≤ j.val ∧ j.val < 512)) : wIn w (ix2 k j) = (0 : EReal) := by
  pointwise [wIn, wKr, wSwap]
  split_ifs <;> first
    | (exfalso; omega)
    | rfl

theorem gqOp_at (g : FVec Ideal S192 .f32) (j : Fin 192) : gqOp g (ix2 0 ⟨j.val, by omega⟩) = g (ix1 j) := by
  pointwise [gqOp]

theorem uLat_apply (uq : FVec Ideal S192x8x96 .f32) (uk : FVec Ideal S128x8x64 .f32) (j : Fin 192) (h : Fin 8) (l : Fin 128) :
    uLat uq uk (ix3 j h l) = ∑ d : Fin 64, (uk (ix3 l h d) : EReal) * uq (ix3 j h ⟨d.val, by omega⟩) := by
  pointwise [uLat]

/-- The latent columns of the queries' weights. -/
theorem wqOp_lat (uq : FVec Ideal S192x8x96 .f32) (uk : FVec Ideal S128x8x64 .f32) (j : Fin 192) (h : Fin 8) (l : Fin 128) (n : Fin 2048)
    (hn : n.val = 256 * h.val + l.val) :
    wqOp uq uk (ix2 ⟨j.val, by omega⟩ n) = (uLat uq uk (ix3 j h l) : EReal) * Ideal.ofBits .f32 0x3E16C740#32 := by
  have e1 : (⟨n.val / 256, by omega⟩ : Fin 8) = h := Fin.ext (by show n.val / 256 = h.val; omega)
  have e2 : (⟨n.val % 256, by omega⟩ : Fin 256) = ⟨l.val, by omega⟩ := Fin.ext (by show n.val % 256 = l.val; omega)
  have e3 : n.val % 256 = l.val := by omega
  pointwise [wqOp, uRope, uSwap]
  rw [dif_pos (by omega)]
  simp only [e1, e3]

/-- The rotated columns and their swapped repetition. -/
theorem wqOp_rope (uq : FVec Ideal S192x8x96 .f32) (uk : FVec Ideal S128x8x64 .f32) (j : Fin 192) (h : Fin 8) (n : Fin 2048) (d : Fin 96)
    (hn : n.val / 256 = h.val)
    (hd : (128 ≤ n.val % 256 ∧ n.val % 256 < 160 ∧ d.val = 64 + (n.val % 256 - 128))
      ∨ (160 ≤ n.val % 256 ∧ n.val % 256 < 192 ∧ d.val = 64 + (n.val % 256 - 160 + 16) % 32)) :
    wqOp uq uk (ix2 ⟨j.val, by omega⟩ n) = (uq (ix3 j h d) : EReal) * Ideal.ofBits .f32 0x3E16C740#32 := by
  have e1 : (⟨n.val / 256, by omega⟩ : Fin 8) = h := Fin.ext hn
  pointwise [wqOp, uRope, uSwap]
  congr 1
  simp only [e1]
  split_ifs <;> first
    | (exfalso; omega)
    | (refine congrArg (fun d => uq (ix3 j h d)) (Fin.ext ?_); dsimp only; omega)

/-- The rows past the rank are zeros. -/
theorem wqOp_zero (uq : FVec Ideal S192x8x96 .f32) (uk : FVec Ideal S128x8x64 .f32) (j : Fin 256) (n : Fin 2048) (h : 192 ≤ j.val) :
    wqOp uq uk (ix2 j n) = (0 : EReal) := by
  pointwise [wqOp, uRope, uSwap]
  rw [dif_neg (by omega)]

theorem angK_apply (t : Fin 2048) (j : Fin 16) : angK (F := Ideal) (ix2 t j) = angle t.val j := by
  pointwise [angK]
  rfl

theorem cosOp_apply (t : Fin 2048) (l : Fin 128) : cosOp (F := Ideal) (ix2 t l) = cosTab (angle t.val) l := by
  pointwise [cosOp]
  simp only [angK_apply]
  rfl

theorem sinOp_apply (t : Fin 2048) (l : Fin 128) : sinOp (F := Ideal) (ix2 t l) = sinTab (angle t.val) l := by
  pointwise [sinOp]
  simp only [angK_apply]
  rfl

end Cert.Proj
end
-- ==== Proof.ProjReads.lean ====
/- BLOCKS AND ARRAYS OF THE INPUT PROJECTION: what a grid point reads of each operand, and where its blocks lie in the results. -/
module

public import proofs.«01_k».proof.Proof.ProjOperands
public import proofs.«01_k».proof.Proof.Gen.Kernel2Ideal.Value

@[expose] public section

set_option maxRecDepth 16384

noncomputable section

namespace Cert.Proj

open Cert.Kernel2Ideal Cert.Kernel2Ideal.Gen Idealize.ShloMosaic Idealize.ShloMosaic.TcCoe

theorem at0 : ∀ t : Fin cfg0.N, win0_0.index t (0 : Fin 2) = t.val ∧ win0_0.index t (1 : Fin 2) = 0 :=
  (by decide +kernel : ∀ t : Fin grid0.N, _)

theorem at1 : ∀ t : Fin cfg0.N, win0_1.index t (0 : Fin 2) = 0 ∧ win0_1.index t (1 : Fin 2) = 0 :=
  (by decide +kernel : ∀ t : Fin grid0.N, _)

theorem at2 : ∀ t : Fin cfg0.N, win0_2.index t (0 : Fin 2) = 0 ∧ win0_2.index t (1 : Fin 2) = 0 :=
  (by decide +kernel : ∀ t : Fin grid0.N, _)

theorem at3 : ∀ t : Fin cfg0.N, win0_3.index t (0 : Fin 2) = 0 ∧ win0_3.index t (1 : Fin 2) = 0 :=
  (by decide +kernel : ∀ t : Fin grid0.N, _)

theorem at4 : ∀ t : Fin cfg0.N, win0_4.index t (0 : Fin 2) = 0 ∧ win0_4.index t (1 : Fin 2) = 0 :=
  (by decide +kernel : ∀ t : Fin grid0.N, _)

theorem at5 : ∀ t : Fin cfg0.N, win0_5.index t (0 : Fin 2) = 0 ∧ win0_5.index t (1 : Fin 2) = 0 :=
  (by decide +kernel : ∀ t : Fin grid0.N, _)

theorem at6 : ∀ t : Fin cfg0.N, win0_6.index t (0 : Fin 2) = 0 ∧ win0_6.index t (1 : Fin 2) = 0 :=
  (by decide +kernel : ∀ t : Fin grid0.N, _)

theorem at7 : ∀ t : Fin cfg0.N, win0_7.index t (0 : Fin 2) = t.val % 4 ∧ win0_7.index t (1 : Fin 2) = 0 :=
  (by decide +kernel : ∀ t : Fin grid0.N, _)

theorem at8 : ∀ t : Fin cfg0.N, win0_8.index t (0 : Fin 2) = t.val % 4 ∧ win0_8.index t (1 : Fin 2) = 0 :=
  (by decide +kernel : ∀ t : Fin grid0.N, _)

theorem at9 : ∀ t : Fin cfg0.N, win0_9.index t (0 : Fin 2) = t.val ∧ win0_9.index t (1 : Fin 2) = 0 :=
  (by decide +kernel : ∀ t : Fin grid0.N, _)

theorem at11 : ∀ t : Fin cfg0.N, win0_11.index t (0 : Fin 2) = t.val ∧ win0_11.index t (1 : Fin 2) = 0 :=
  (by decide +kernel : ∀ t : Fin grid0.N, _)

theorem at12 : ∀ t : Fin cfg0.N, win0_12.index t (0 : Fin 2) = t.val ∧ win0_12.index t (1 : Fin 2) = 0 :=
  (by decide +kernel : ∀ t : Fin grid0.N, _)

theorem at13 : ∀ t : Fin cfg0.N, win0_13.index t (0 : Fin 2) = t.val ∧ win0_13.index t (1 : Fin 2) = 0 :=
  (by decide +kernel : ∀ t : Fin grid0.N, _)

theorem at14 : ∀ t : Fin cfg0.N, win0_14.index t (0 : Fin 2) = t.val ∧ win0_14.index t (1 : Fin 2) = 0 :=
  (by decide +kernel : ∀ t : Fin grid0.N, _)

theorem at15 : ∀ t : Fin cfg0.N, win0_15.index t (0 : Fin 2) = t.val ∧ win0_15.index t (1 : Fin 2) = 0 :=
  (by decide +kernel : ∀ t : Fin grid0.N, _)

theorem at10 : ∀ t : Fin cfg0.N, win0_10.index t (0 : Fin 3) = 0 ∧ win0_10.index t (1 : Fin 3) = t.val ∧ win0_10.index t (2 : Fin 3) = 0 :=
  (by decide +kernel : ∀ t : Fin grid0.N, _)

theorem flush9 : ∀ t : Fin cfg0.N, (cfg0.win 9).flush t = true :=
  (by decide +kernel : ∀ t : Fin grid0.N, _)

theorem flush10 : ∀ t : Fin cfg0.N, (cfg0.win 10).flush t = true :=
  (by decide +kernel : ∀ t : Fin grid0.N, _)

theorem flush11 : ∀ t : Fin cfg0.N, (cfg0.win 11).flush t = true :=
  (by decide +kernel : ∀ t : Fin grid0.N, _)

theorem flush12 : ∀ t : Fin cfg0.N, (cfg0.win 12).flush t = true :=
  (by decide +kernel : ∀ t : Fin grid0.N, _)

theorem flush13 : ∀ t : Fin cfg0.N, (cfg0.win 13).flush t = true :=
  (by decide +kernel : ∀ t : Fin grid0.N, _)

theorem flush14 : ∀ t : Fin cfg0.N, (cfg0.win 14).flush t = true :=
  (by decide +kernel : ∀ t : Fin grid0.N, _)

theorem flush15 : ∀ t : Fin cfg0.N, (cfg0.win 15).flush t = true :=
  (by decide +kernel : ∀ t : Fin grid0.N, _)

section reads
variable (m : (ℓ : Loc nD τ sig) → Buf (Elt Ideal) ℓ) (c : Dev nD)

theorem read_x (t : Fin cfg0.N) (p : Fin 512) (j : Fin 1024) :
    iblk m c 0 t (ix2 p j) = shapeCast S65536x1024 (B0 m c) shapeCasts_S32x2048x1024_S65536x1024 (ix2 ⟨512 * t.val + p.val, by have := lt_of_lt_of_eq t.isLt N_0; omega⟩ j) := by
  rw [← V_x]
  show V m c main_v46 (((cfg0.win 0).blk t).view.emb (ix2 p j)) = _
  obtain ⟨i0, i1⟩ := at0 t
  congr 1
  funext a
  apply Fin.ext
  match a with
  | ⟨0, _⟩ => show win0_0.index t (0 : Fin 2) * 512 + 1 * p.val = 512 * t.val + p.val; rw [i0]; omega
  | ⟨1, _⟩ => show win0_0.index t (1 : Fin 2) * 1024 + 1 * j.val = j.val; rw [i1]; omega

theorem read_g1 (t : Fin cfg0.N) (j : Fin 1024) :
    iblk m c 1 t (ix2 0 j) = shapeCast S1x1024 (B1 m c) shapeCasts_S1024_S1x1024 (ix2 0 j) := by
  rw [← V_g1]
  show V m c main_v48 (((cfg0.win 1).blk t).view.emb (ix2 0 j)) = _
  obtain ⟨i0, i1⟩ := at1 t
  congr 1
  funext a
  apply Fin.ext
  match a with
  | ⟨0, _⟩ => show win0_1.index t (0 : Fin 2) * 1 + 1 * 0 = 0; rw [i0]
  | ⟨1, _⟩ => show win0_1.index t (1 : Fin 2) * 1024 + 1 * j.val = j.val; rw [i1]; omega

theorem read_b1 (t : Fin cfg0.N) (j : Fin 1024) :
    iblk m c 2 t (ix2 0 j) = shapeCast S1x1024 (B2 m c) shapeCasts_S1024_S1x1024 (ix2 0 j) := by
  rw [← V_b1]
  show V m c main_v49 (((cfg0.win 2).blk t).view.emb (ix2 0 j)) = _
  obtain ⟨i0, i1⟩ := at2 t
  congr 1
  funext a
  apply Fin.ext
  match a with
  | ⟨0, _⟩ => show win0_2.index t (0 : Fin 2) * 1 + 1 * 0 = 0; rw [i0]
  | ⟨1, _⟩ => show win0_2.index t (1 : Fin 2) * 1024 + 1 * j.val = j.val; rw [i1]; omega

theorem read_w (t : Fin cfg0.N) (p : Fin 1024) (j : Fin 2304) :
    iblk m c 3 t (ix2 p j) = wIn (B3 m c) (ix2 p j) := by
  rw [← V_w]
  show V m c main_v9 (((cfg0.win 3).blk t).view.emb (ix2 p j)) = _
  obtain ⟨i0, i1⟩ := at3 t
  congr 1
  funext a
  apply Fin.ext
  match a with
  | ⟨0, _⟩ => show win0_3.index t (0 : Fin 2) * 1024 + 1 * p.val = p.val; rw [i0]; omega
  | ⟨1, _⟩ => show win0_3.index t (1 : Fin 2) * 2304 + 1 * j.val = j.val; rw [i1]; omega

theorem read_gq (t : Fin cfg0.N) (j : Fin 256) :
    iblk m c 4 t (ix2 0 j) = gqOp (B4 m c) (ix2 0 j) := by
  rw [← V_gq]
  show V m c main_v12 (((cfg0.win 4).blk t).view.emb (ix2 0 j)) = _
  obtain ⟨i0, i1⟩ := at4 t
  congr 1
  funext a
  apply Fin.ext
  match a with
  | ⟨0, _⟩ => show win0_4.index t (0 : Fin 2) * 1 + 1 * 0 = 0; rw [i0]
  | ⟨1, _⟩ => show win0_4.index t (1 : Fin 2) * 256 + 1 * j.val = j.val; rw [i1]; omega

theorem read_wq (t : Fin cfg0.N) (p : Fin 256) (j : Fin 2048) :
    iblk m c 5 t (ix2 p j) = wqOp (B5 m c) (B7 m c) (ix2 p j) := by
  rw [← V_wq]
  show V m c main_v27 (((cfg0.win 5).blk t).view.emb (ix2 p j)) = _
  obtain ⟨i0, i1⟩ := at5 t
  congr 1
  funext a
  apply Fin.ext
  match a with
  | ⟨0, _⟩ => show win0_5.index t (0 : Fin 2) * 256 + 1 * p.val = p.val; rw [i0]; omega
  | ⟨1, _⟩ => show win0_5.index t (1 : Fin 2) * 2048 + 1 * j.val = j.val; rw [i1]; omega

theorem read_gk (t : Fin cfg0.N) (j : Fin 128) :
    iblk m c 6 t (ix2 0 j) = shapeCast S1x128 (B6 m c) shapeCasts_S128_S1x128 (ix2 0 j) := by
  rw [← V_gk]
  show V m c main_v47 (((cfg0.win 6).blk t).view.emb (ix2 0 j)) = _
  obtain ⟨i0, i1⟩ := at6 t
  congr 1
  funext a
  apply Fin.ext
  match a with
  | ⟨0, _⟩ => show win0_6.index t (0 : Fin 2) * 1 + 1 * 0 = 0; rw [i0]
  | ⟨1, _⟩ => show win0_6.index t (1 : Fin 2) * 128 + 1 * j.val = j.val; rw [i1]; omega

theorem read_cos (t : Fin cfg0.N) (p : Fin 512) (j : Fin 128) :
    iblk m c 7 t (ix2 p j) = cosOp (F := Ideal) (ix2 ⟨512 * (t.val % 4) + p.val, by omega⟩ j) := by
  rw [← V_cos m c]
  show V m c main_v43 (((cfg0.win 7).blk t).view.emb (ix2 p j)) = _
  obtain ⟨i0, i1⟩ := at7 t
  congr 1
  funext a
  apply Fin.ext
  match a with
  | ⟨0, _⟩ => show win0_7.index t (0 : Fin 2) * 512 + 1 * p.val = 512 * (t.val % 4) + p.val; rw [i0]; omega
  | ⟨1, _⟩ => show win0_7.index t (1 : Fin 2) * 128 + 1 * j.val = j.val; rw [i1]; omega

theorem read_sin (t : Fin cfg0.N) (p : Fin 512) (j : Fin 128) :
    iblk m c 8 t (ix2 p j) = sinOp (F := Ideal) (ix2 ⟨512 * (t.val % 4) + p.val, by omega⟩ j) := by
  rw [← V_sin m c]
  show V m c main_v45 (((cfg0.win 8).blk t).view.emb (ix2 p j)) = _
  obtain ⟨i0, i1⟩ := at8 t
  congr 1
  funext a
  apply Fin.ext
  match a with
  | ⟨0, _⟩ => show win0_8.index t (0 : Fin 2) * 512 + 1 * p.val = 512 * (t.val % 4) + p.val; rw [i0]; omega
  | ⟨1, _⟩ => show win0_8.index t (1 : Fin 2) * 128 + 1 * j.val = j.val; rw [i1]; omega

theorem arr9_apply (t : Fin cfg0.N) (p : Fin 512) (j : Fin 1024) (r : Fin 65536) (hr : r.val = 512 * t.val + p.val) :
    (dats m 0 c).arrAt 9 cfg0.N (ix2 r j) = out0_9 (iblk m c 0 t) (iblk m c 1 t) (iblk m c 2 t) (iblk m c 3 t) (iblk m c 4 t) (iblk m c 5 t) (iblk m c 6 t) (iblk m c 7 t) (iblk m c 8 t) (ix2 p j) := by
  have h := congrFun (Value.blocks9 m c t (flush9 t)) (ix2 p j)
  rw [Value.flushed9] at h
  refine Eq.trans ?_ h
  obtain ⟨i0, i1⟩ := at9 t
  show _ = (dats m 0 c).arrAt 9 cfg0.N (((cfg0.win 9).blk t).view.emb (ix2 p j))
  congr 1
  funext a
  apply Fin.ext
  match a with
  | ⟨0, _⟩ => show r.val = win0_9.index t (0 : Fin 2) * 512 + 1 * p.val; rw [i0]; omega
  | ⟨1, _⟩ => show j.val = win0_9.index t (1 : Fin 2) * 1024 + 1 * j.val; rw [i1]; omega

theorem arr11_apply (t : Fin cfg0.N) (p : Fin 512) (j : Fin 256) (r : Fin 65536) (hr : r.val = 512 * t.val + p.val) :
    (dats m 0 c).arrAt 11 cfg0.N (ix2 r j) = out0_11 (iblk m c 0 t) (iblk m c 1 t) (iblk m c 2 t) (iblk m c 3 t) (iblk m c 4 t) (iblk m c 5 t) (iblk m c 6 t) (iblk m c 7 t) (iblk m c 8 t) (ix2 p j) := by
  have h := congrFun (Value.blocks11 m c t (flush11 t)) (ix2 p j)
  rw [Value.flushed11] at h
  refine Eq.trans ?_ h
  obtain ⟨i0, i1⟩ := at11 t
  show _ = (dats m 0 c).arrAt 11 cfg0.N (((cfg0.win 11).blk t).view.emb (ix2 p j))
  congr 1
  funext a
  apply Fin.ext
  match a with
  | ⟨0, _⟩ => show r.val = win0_11.index t (0 : Fin 2) * 512 + 1 * p.val; rw [i0]; omega
  | ⟨1, _⟩ => show j.val = win0_11.index t (1 : Fin 2) * 256 + 1 * j.val; rw [i1]; omega

theorem arr12_apply (t : Fin cfg0.N) (p : Fin 512) (j : Fin 128) (r : Fin 65536) (hr : r.val = 512 * t.val + p.val) :
    (dats m 0 c).arrAt 12 cfg0.N (ix2 r j) = out0_12 (iblk m c 0 t) (iblk m c 1 t) (iblk m c 2 t) (iblk m c 3 t) (iblk m c 4 t) (iblk m c 5 t) (iblk m c 6 t) (iblk m c 7 t) (iblk m c 8 t) (ix2 p j) := by
  have h := congrFun (Value.blocks12 m c t (flush12 t)) (ix2 p j)
  rw [Value.flushed12] at h
  refine Eq.trans ?_ h
  obtain ⟨i0, i1⟩ := at12 t
  show _ = (dats m 0 c).arrAt 12 cfg0.N (((cfg0.win 12).blk t).view.emb (ix2 p j))
  congr 1
  funext a
  apply Fin.ext
  match a with
  | ⟨0, _⟩ => show r.val = win0_12.index t (0 : Fin 2) * 512 + 1 * p.val; rw [i0]; omega
  | ⟨1, _⟩ => show j.val = win0_12.index t (1 : Fin 2) * 128 + 1 * j.val; rw [i1]; omega

theorem arr13_apply (t : Fin cfg0.N) (p : Fin 512) (j : Fin 32) (r : Fin 65536) (hr : r.val = 512 * t.val + p.val) :
    (dats m 0 c).arrAt 13 cfg0.N (ix2 r j) = out0_13 (iblk m c 0 t) (iblk m c 1 t) (iblk m c 2 t) (iblk m c 3 t) (iblk m c 4 t) (iblk m c 5 t) (iblk m c 6 t) (iblk m c 7 t) (iblk m c 8 t) (ix2 p j) := by
  have h := congrFun (Value.blocks13 m c t (flush13 t)) (ix2 p j)
  rw [Value.flushed13] at h
  refine Eq.trans ?_ h
  obtain ⟨i0, i1⟩ := at13 t
  show _ = (dats m 0 c).arrAt 13 cfg0.N (((cfg0.win 13).blk t).view.emb (ix2 p j))
  congr 1
  funext a
  apply Fin.ext
  match a with
  | ⟨0, _⟩ => show r.val = win0_13.index t (0 : Fin 2) * 512 + 1 * p.val; rw [i0]; omega
  | ⟨1, _⟩ => show j.val = win0_13.index t (1 : Fin 2) * 32 + 1 * j.val; rw [i1]; omega

theorem arr14_apply (t : Fin cfg0.N) (p : Fin 512) (j : Fin 1024) (r : Fin 65536) (hr : r.val = 512 * t.val + p.val) :
    (dats m 0 c).arrAt 14 cfg0.N (ix2 r j) = out0_14 (iblk m c 0 t) (iblk m c 1 t) (iblk m c 2 t) (iblk m c 3 t) (iblk m c 4 t) (iblk m c 5 t) (iblk m c 6 t) (iblk m c 7 t) (iblk m c 8 t) (ix2 p j) := by
  have h := congrFun (Value.blocks14 m c t (flush14 t)) (ix2 p j)
  rw [Value.flushed14] at h
  refine Eq.trans ?_ h
  obtain ⟨i0, i1⟩ := at14 t
  show _ = (dats m 0 c).arrAt 14 cfg0.N (((cfg0.win 14).blk t).view.emb (ix2 p j))
  congr 1
  funext a
  apply Fin.ext
  match a with
  | ⟨0, _⟩ => show r.val = win0_14.index t (0 : Fin 2) * 512 + 1 * p.val; rw [i0]; omega
  | ⟨1, _⟩ => show j.val = win0_14.index t (1 : Fin 2) * 1024 + 1 * j.val; rw [i1]; omega

theorem arr15_apply (t : Fin cfg0.N) (p : Fin 512) (j : Fin 768) (r : Fin 65536) (hr : r.val = 512 * t.val + p.val) :
    (dats m 0 c).arrAt 15 cfg0.N (ix2 r j) = out0_15 (iblk m c 0 t) (iblk m c 1 t) (iblk m c 2 t) (iblk m c 3 t) (iblk m c 4 t) (iblk m c 5 t) (iblk m c 6 t) (iblk m c 7 t) (iblk m c 8 t) (ix2 p j) := by
  have h := congrFun (Value.blocks15 m c t (flush15 t)) (ix2 p j)
  rw [Value.flushed15] at h
  refine Eq.trans ?_ h
  obtain ⟨i0, i1⟩ := at15 t
  show _ = (dats m 0 c).arrAt 15 cfg0.N (((cfg0.win 15).blk t).view.emb (ix2 p j))
  congr 1
  funext a
  apply Fin.ext
  match a with
  | ⟨0, _⟩ => show r.val = win0_15.index t (0 : Fin 2) * 512 + 1 * p.val; rw [i0]; omega
  | ⟨1, _⟩ => show j.val = win0_15.index t (1 : Fin 2) * 768 + 1 * j.val; rw [i1]; omega

theorem arr10_apply (t : Fin cfg0.N) (h : Fin 8) (p : Fin 512) (j : Fin 256) (r : Fin 65536) (hr : r.val = 512 * t.val + p.val) :
    (dats m 0 c).arrAt 10 cfg0.N (ix3 h r j) = out0_10 (iblk m c 0 t) (iblk m c 1 t) (iblk m c 2 t) (iblk m c 3 t) (iblk m c 4 t) (iblk m c 5 t) (iblk m c 6 t) (iblk m c 7 t) (iblk m c 8 t) (ix3 h p j) := by
  have e := congrFun (Value.blocks10 m c t (flush10 t)) (ix3 h p j)
  rw [Value.flushed10] at e
  refine Eq.trans ?_ e
  obtain ⟨i0, i1, i2⟩ := at10 t
  show _ = (dats m 0 c).arrAt 10 cfg0.N (((cfg0.win 10).blk t).view.emb (ix3 h p j))
  congr 1
  funext a
  apply Fin.ext
  match a with
  | ⟨0, _⟩ => show h.val = win0_10.index t (0 : Fin 3) * 8 + 1 * h.val; rw [i0]; omega
  | ⟨1, _⟩ => show r.val = win0_10.index t (1 : Fin 3) * 512 + 1 * p.val; rw [i1]; omega
  | ⟨2, _⟩ => show j.val = win0_10.index t (2 : Fin 3) * 256 + 1 * j.val; rw [i2]; omega

end reads

end Cert.Proj
end
-- ==== Proof.ProjRef.lean ====
/- THE REFERENCE OF THE INPUT PROJECTION, read at an index. -/
module

public import proofs.«01_k».proof.Proof.Gen.Reference2Ideal.Run
public import proofs.«01_k».proof.Proof.ProjRows
public import Idealize.ShloMosaic.Lib.Pointwise

@[expose] public section

set_option maxRecDepth 16384

noncomputable section

namespace Cert.Proj.Ref

open Cert.Reference2Ideal Cert.Reference2Ideal.Gen Idealize.ShloMosaic Idealize.ShloMosaic.TcCoe

section anyFloats
variable {F : FTy → Type} [FloatOps F]

/-- The mean of each row of the input, and the input less it. -/
def mu (x : FVec F S32x2048x1024 .f32) : FVec F S32x2048x1 .f32 :=
  Host.divf (broadcastInDim S32x2048x1 ![0, 1] bcast_S32x2048_S32x2048x1_0_1 (Host.reduceAdd x (constant S_ .f32 0x00000000#32) reducesTo_S32x2048x1024_S32x2048_d2 h_S_))
    (broadcastInDim S32x2048x1 ![] bcast_S_S32x2048x1 (constant S_ .f32 0x44800000#32))

def centred (x : FVec F S32x2048x1024 .f32) : FVec F S32x2048x1024 .f32 :=
  subf x (broadcastInDim S32x2048x1024 ![0, 1, 2] bcast_S32x2048x1_S32x2048x1024_0_1_2 (mu x))

/-- Layer norm. -/
def norm (x : FVec F S32x2048x1024 .f32) (g b : FVec F S1024 .f32) : FVec F S32x2048x1024 .f32 :=
  addf
    (mulf
      (mulf (centred x)
        (broadcastInDim S32x2048x1024 ![0, 1, 2] bcast_S32x2048x1_S32x2048x1024_0_1_2
          (Host.rsqrt (addf
            (Host.divf (broadcastInDim S32x2048x1 ![0, 1] bcast_S32x2048_S32x2048x1_0_1
                (Host.reduceAdd (mulf (centred x) (centred x)) (constant S_ .f32 0x00000000#32) reducesTo_S32x2048x1024_S32x2048_d2 h_S_))
              (broadcastInDim S32x2048x1 ![] bcast_S_S32x2048x1 (constant S_ .f32 0x44800000#32)))
            (broadcastInDim S32x2048x1 ![] bcast_S_S32x2048x1 (constant S_ .f32 0x3727C5AC#32))))))
      (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S1x1x1024_S32x2048x1024_0_1_2 (broadcastInDim S1x1x1024 ![2] bcast_S1024_S1x1x1024_2 b))

/-- The projection of the normed input, and its five parts. -/
def proj (h : FVec F S32x2048x1024 .f32) (w : FVec F S1024x2144 .f32) : FVec F S32x2048x2144 .f32 :=
  Host.dotGeneral dot_S32x2048x1024_S1024x2144_S32x2048x2144_2_0_01_1_n_n none h w

def cqPart (p : FVec F S32x2048x2144 .f32) : FVec F S32x2048x192 .f32 :=
  extractStridedSlice S32x2048x192 ![0, 0, 0] p slices_S32x2048x2144_S32x2048x192_0_0_0

def ckvPart (p : FVec F S32x2048x2144 .f32) : FVec F S32x2048x128 .f32 :=
  extractStridedSlice S32x2048x128 ![0, 0, 192] p slices_S32x2048x2144_S32x2048x128_0_0_192

def krPart (p : FVec F S32x2048x2144 .f32) : FVec F S32x2048x32 .f32 :=
  extractStridedSlice S32x2048x32 ![0, 0, 320] p slices_S32x2048x2144_S32x2048x32_0_0_320

/-- rms norm of the query part and of the latent part. -/
def normQ (y : FVec F S32x2048x192 .f32) (g : FVec F S192 .f32) : FVec F S32x2048x192 .f32 :=
  mulf
    (mulf y
      (broadcastInDim S32x2048x192 ![0, 1, 2] bcast_S32x2048x1_S32x2048x192_0_1_2
        (Host.rsqrt (addf
          (Host.divf (broadcastInDim S32x2048x1 ![0, 1] bcast_S32x2048_S32x2048x1_0_1
              (Host.reduceAdd (mulf y y) (constant S_ .f32 0x00000000#32) reducesTo_S32x2048x192_S32x2048_d2 h_S_))
            (broadcastInDim S32x2048x1 ![] bcast_S_S32x2048x1 (constant S_ .f32 0x43400000#32)))
          (broadcastInDim S32x2048x1 ![] bcast_S_S32x2048x1 (constant S_ .f32 0x358637BD#32))))))
    (broadcastInDim S32x2048x192 ![0, 1, 2] bcast_S1x1x192_S32x2048x192_0_1_2 (broadcastInDim S1x1x192 ![2] bcast_S192_S1x1x192_2 g))

def normKV (y : FVec F S32x2048x128 .f32) (g : FVec F S128 .f32) : FVec F S32x2048x128 .f32 :=
  mulf
    (mulf y
      (broadcastInDim S32x2048x128 ![0, 1, 2] bcast_S32x2048x1_S32x2048x128_0_1_2
        (Host.rsqrt (addf
          (Host.divf (broadcastInDim S32x2048x1 ![0, 1] bcast_S32x2048_S32x2048x1_0_1
              (Host.reduceAdd (mulf y y) (constant S_ .f32 0x00000000#32) reducesTo_S32x2048x128_S32x2048_d2 h_S_))
            (broadcastInDim S32x2048x1 ![] bcast_S_S32x2048x1 (constant S_ .f32 0x43000000#32)))
          (broadcastInDim S32x2048x1 ![] bcast_S_S32x2048x1 (constant S_ .f32 0x358637BD#32))))))
    (broadcastInDim S32x2048x128 ![0, 1, 2] bcast_S1x1x128_S32x2048x128_0_1_2 (broadcastInDim S1x1x128 ![2] bcast_S128_S1x1x128_2 g))

/-- The angles of the rotation. -/
def ang : FVec F S2048x16 .f32 :=
  mulf
    (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1
      (broadcastInDim S1x16 ![1] bcast_S16_S1x16_1
        (Host.powf (broadcastInDim S16 ![] bcast_S_S16 (constant S_ .f32 0x461C4000#32))
          (Host.divf (Host.negf (sitofp .f32 (iotaInDim S16 32 0))) (broadcastInDim S16 ![] bcast_S_S16 (constant S_ .f32 0x41800000#32))))))

/-- The rotated key part. -/
def ropeK (y : FVec F S32x2048x32 .f32) (a : FVec F S2048x16 .f32) : FVec F S32x2048x32 .f32 :=
  concatenate S32x2048x32 2
    [⟨S32x2048x16, subf
        (mulf (extractStridedSlice S32x2048x16 ![0, 0, 0] y slices_S32x2048x32_S32x2048x16_0_0_0)
          (broadcastInDim S32x2048x16 ![0, 1, 2] bcast_S1x2048x16_S32x2048x16_0_1_2 (Host.cos (shapeCast S1x2048x16 a shapeCasts_S2048x16_S1x2048x16))))
        (mulf (extractStridedSlice S32x2048x16 ![0, 0, 16] y slices_S32x2048x32_S32x2048x16_0_0_16)
          (broadcastInDim S32x2048x16 ![0, 1, 2] bcast_S1x2048x16_S32x2048x16_0_1_2 (Host.sin (shapeCast S1x2048x16 a shapeCasts_S2048x16_S1x2048x16))))⟩,
      ⟨S32x2048x16, addf
        (mulf (extractStridedSlice S32x2048x16 ![0, 0, 0] y slices_S32x2048x32_S32x2048x16_0_0_0)
          (broadcastInDim S32x2048x16 ![0, 1, 2] bcast_S1x2048x16_S32x2048x16_0_1_2 (Host.sin (shapeCast S1x2048x16 a shapeCasts_S2048x16_S1x2048x16))))
        (mulf (extractStridedSlice S32x2048x16 ![0, 0, 16] y slices_S32x2048x32_S32x2048x16_0_0_16)
          (broadcastInDim S32x2048x16 ![0, 1, 2] bcast_S1x2048x16_S32x2048x16_0_1_2 (Host.cos (shapeCast S1x2048x16 a shapeCasts_S2048x16_S1x2048x16))))⟩]
    concatenates_S32x2048x16_S32x2048x16_S32x2048x32_d2

/-- The queries of every head, their latent part and their rotated part. -/
def heads (c : FVec F S32x2048x192 .f32) (uq : FVec F S192x8x96 .f32) : FVec F S32x2048x8x96 .f32 :=
  Host.dotGeneral dot_S32x2048x192_S192x8x96_S32x2048x8x96_2_0_01_12_n_n none c uq

def latent (q : FVec F S32x2048x8x96 .f32) (uk : FVec F S128x8x64 .f32) : FVec F S32x2048x8x128 .f32 :=
  transpose S32x2048x8x128 [2, 3, 0, 1]
    (Host.dotGeneral dot_S128x8x64_S32x2048x8x64_S8x128x32x2048_2_3_0_01_1_2 none uk
      (extractStridedSlice S32x2048x8x64 ![0, 0, 0, 0] q slices_S32x2048x8x96_S32x2048x8x64_0_0_0_0))
    transposes_S8x128x32x2048_S32x2048x8x128_2_3_0_1

def turned (q : FVec F S32x2048x8x96 .f32) : FVec F S32x2048x8x32 .f32 :=
  extractStridedSlice S32x2048x8x32 ![0, 0, 0, 64] q slices_S32x2048x8x96_S32x2048x8x32_0_0_0_64

def ropeQ (y : FVec F S32x2048x8x32 .f32) (a : FVec F S2048x16 .f32) : FVec F S32x2048x8x32 .f32 :=
  concatenate S32x2048x8x32 3
    [⟨S32x2048x8x16, subf
        (mulf (extractStridedSlice S32x2048x8x16 ![0, 0, 0, 0] y slices_S32x2048x8x32_S32x2048x8x16_0_0_0_0)
          (broadcastInDim S32x2048x8x16 ![0, 1, 2, 3] bcast_S1x2048x1x16_S32x2048x8x16_0_1_2_3 (Host.cos (shapeCast S1x2048x1x16 a shapeCasts_S2048x16_S1x2048x1x16))))
        (mulf (extractStridedSlice S32x2048x8x16 ![0, 0, 0, 16] y slices_S32x2048x8x32_S32x2048x8x16_0_0_0_16)
          (broadcastInDim S32x2048x8x16 ![0, 1, 2, 3] bcast_S1x2048x1x16_S32x2048x8x16_0_1_2_3 (Host.sin (shapeCast S1x2048x1x16 a shapeCasts_S2048x16_S1x2048x1x16))))⟩,
      ⟨S32x2048x8x16, addf
        (mulf (extractStridedSlice S32x2048x8x16 ![0, 0, 0, 0] y slices_S32x2048x8x32_S32x2048x8x16_0_0_0_0)
          (broadcastInDim S32x2048x8x16 ![0, 1, 2, 3] bcast_S1x2048x1x16_S32x2048x8x16_0_1_2_3 (Host.sin (shapeCast S1x2048x1x16 a shapeCasts_S2048x16_S1x2048x1x16))))
        (mulf (extractStridedSlice S32x2048x8x16 ![0, 0, 0, 16] y slices_S32x2048x8x32_S32x2048x8x16_0_0_0_16)
          (broadcastInDim S32x2048x8x16 ![0, 1, 2, 3] bcast_S1x2048x1x16_S32x2048x8x16_0_1_2_3 (Host.cos (shapeCast S1x2048x1x16 a shapeCasts_S2048x16_S1x2048x1x16))))⟩]
    concatenates_S32x2048x8x16_S32x2048x8x16_S32x2048x8x32_d3

/-- The scaled queries, one plane a head. -/
def queries (l : FVec F S32x2048x8x128 .f32) (r : FVec F S32x2048x8x32 .f32) : FVec F S8x65536x256 .bf16 :=
  truncf .bf16
    (transpose S8x65536x256 [1, 0, 2]
      (shapeCast S65536x8x256
        (mulf
          (concatenate S32x2048x8x256 3 [⟨S32x2048x8x128, l⟩, ⟨S32x2048x8x32, r⟩,
            ⟨S32x2048x8x96, broadcastInDim S32x2048x8x96 ![] bcast_S_S32x2048x8x96 (constant S_ .f32 0x00000000#32)⟩]
            concatenates_S32x2048x8x128_S32x2048x8x32_S32x2048x8x96_S32x2048x8x256_d3)
          (broadcastInDim S32x2048x8x256 ![] bcast_S_S32x2048x8x256 (constant S_ .f32 0x3E16C740#32)))
        shapeCasts_S32x2048x8x256_S65536x8x256) transposes_S65536x8x256_S8x65536x256_1_0_2) bitsLt_bf16_f32

/-- The keys. -/
def keys (k : FVec F S32x2048x128 .f32) (r : FVec F S32x2048x32 .f32) : FVec F S65536x256 .bf16 :=
  truncf .bf16
    (shapeCast S65536x256
      (concatenate S32x2048x256 2 [⟨S32x2048x128, k⟩, ⟨S32x2048x32, r⟩,
        ⟨S32x2048x95, broadcastInDim S32x2048x95 ![] bcast_S_S32x2048x95 (constant S_ .f32 0x00000000#32)⟩,
        ⟨S32x2048x1, broadcastInDim S32x2048x1 ![] bcast_S_S32x2048x1 (constant S_ .f32 0x3F800000#32)⟩]
        concatenates_S32x2048x128_S32x2048x32_S32x2048x95_S32x2048x1_S32x2048x256_d2) shapeCasts_S32x2048x256_S65536x256) bitsLt_bf16_f32

variable (m : (ℓ : Loc nD τ sig) → Buf (Elt F) ℓ) (c : Dev nD)

/-- The normed input of the arguments as launched, and its projection. -/
def hOf : FVec F S32x2048x1024 .f32 :=
  norm (m ((c.tc : Thread nD τ).loc main_arg0)) (m ((c.tc : Thread nD τ).loc main_arg1)) (m ((c.tc : Thread nD τ).loc main_arg2))

def pOf : FVec F S32x2048x2144 .f32 := proj (hOf m c) (m ((c.tc : Thread nD τ).loc main_arg3))

def ckvOf : FVec F S32x2048x128 .f32 := normKV (ckvPart (pOf m c)) (m ((c.tc : Thread nD τ).loc main_arg6))

def krOf : FVec F S32x2048x32 .f32 := ropeK (krPart (pOf m c)) ang

def qOf : FVec F S32x2048x8x96 .f32 :=
  heads (normQ (cqPart (pOf m c)) (m ((c.tc : Thread nD τ).loc main_arg4))) (m ((c.tc : Thread nD τ).loc main_arg5))

theorem res_q : Value.res_main_v129 m c
    = queries (latent (qOf m c) (m ((c.tc : Thread nD τ).loc main_arg7))) (ropeQ (turned (qOf m c)) ang) := rfl

theorem res_keys : Value.res_main_v131 m c = keys (ckvOf m c) (krOf m c) := rfl

theorem res_ckv : Value.res_main_v132 m c = shapeCast S65536x128 (ckvOf m c) shapeCasts_S32x2048x128_S65536x128 := rfl

theorem res_kr : Value.res_main_v133 m c = shapeCast S65536x32 (krOf m c) shapeCasts_S32x2048x32_S65536x32 := rfl

end anyFloats

theorem norm_apply (x : FVec Ideal S32x2048x1024 .f32) (g b : FVec Ideal S1024 .f32) (n : Fin 32) (t : Fin 2048) (k : Fin 1024) :
    norm x g b (ix3 n t k) = ln (fun k => x (ix3 n t k)) (fun k => g (ix1 k)) (fun k => b (ix1 k)) k := by
  pointwise [norm, centred, mu]
  rfl

theorem proj_apply (h : FVec Ideal S32x2048x1024 .f32) (w : FVec Ideal S1024x2144 .f32) (n : Fin 32) (t : Fin 2048) (j : Fin 2144) :
    proj h w (ix3 n t j) = col (fun k => h (ix3 n t k)) (fun k => w (ix2 k j)) := by
  pointwise [proj]
  rfl

theorem normKV_apply (p : FVec Ideal S32x2048x2144 .f32) (g : FVec Ideal S128 .f32) (n : Fin 32) (t : Fin 2048) (j : Fin 128) :
    normKV (ckvPart p) g (ix3 n t j) = rms128 (fun j => p (ix3 n t ⟨192 + j.val, by omega⟩)) (fun j => g (ix1 j)) j := by
  pointwise [normKV, ckvPart]
  rfl

theorem normQ_apply (p : FVec Ideal S32x2048x2144 .f32) (g : FVec Ideal S192 .f32) (n : Fin 32) (t : Fin 2048) (j : Fin 192) :
    normQ (cqPart p) g (ix3 n t j) = rms192 (fun j => p (ix3 n t ⟨j.val, by omega⟩)) (fun j => g (ix1 j)) j := by
  pointwise [normQ, cqPart]
  rfl

theorem ang_apply (t : Fin 2048) (j : Fin 16) : ang (F := Ideal) (ix2 t j) = angle t.val j := by
  pointwise [ang]
  rfl

theorem ropeK_apply (p : FVec Ideal S32x2048x2144 .f32) (a : FVec Ideal S2048x16 .f32) (n : Fin 32) (t : Fin 2048) (l : Fin 32) :
    ropeK (krPart p) a (ix3 n t l) = rot (fun l => p (ix3 n t ⟨320 + l.val, by omega⟩)) (fun j => a (ix2 t j)) l := by
  pointwise [ropeK, krPart]
  rfl

theorem heads_apply (c : FVec Ideal S32x2048x192 .f32) (uq : FVec Ideal S192x8x96 .f32) (n : Fin 32) (t : Fin 2048) (h : Fin 8) (d : Fin 96) :
    heads c uq (ix4 n t h d) = ∑ j : Fin 192, (c (ix3 n t j) : EReal) * uq (ix3 j h d) := by
  pointwise [heads]

theorem latent_apply (q : FVec Ideal S32x2048x8x96 .f32) (uk : FVec Ideal S128x8x64 .f32) (n : Fin 32) (t : Fin 2048) (h : Fin 8) (l : Fin 128) :
    latent q uk (ix4 n t h l) = ∑ d : Fin 64, (uk (ix3 l h d) : EReal) * q (ix4 n t h ⟨d.val, by omega⟩) := by
  pointwise [latent]

theorem ropeQ_apply (q : FVec Ideal S32x2048x8x96 .f32) (a : FVec Ideal S2048x16 .f32) (n : Fin 32) (t : Fin 2048) (h : Fin 8) (l : Fin 32) :
    ropeQ (turned q) a (ix4 n t h l) = rot (fun l => q (ix4 n t h ⟨64 + l.val, by omega⟩)) (fun j => a (ix2 t j)) l := by
  pointwise [ropeQ, turned]
  rfl

theorem queries_apply (l : FVec Ideal S32x2048x8x128 .f32) (r : FVec Ideal S32x2048x8x32 .f32) (h : Fin 8) (n : Fin 65536) (e : Fin 256) :
    queries l r (ix3 h n e)
      = (if h1 : e.val < 128 then l (ix4 ⟨n.val / 2048, by omega⟩ ⟨n.val % 2048, by omega⟩ h ⟨e.val, h1⟩)
          else if h2 : e.val - 128 < 32 then r (ix4 ⟨n.val / 2048, by omega⟩ ⟨n.val % 2048, by omega⟩ h ⟨e.val - 128, h2⟩)
          else (0 : EReal)) * Ideal.ofBits .f32 0x3E16C740#32 := by
  pointwise [queries]

theorem keys_apply (k : FVec Ideal S32x2048x128 .f32) (r : FVec Ideal S32x2048x32 .f32) (n : Fin 65536) (e : Fin 256) :
    keys k r (ix2 n e)
      = if h1 : e.val < 128 then k (ix3 ⟨n.val / 2048, by omega⟩ ⟨n.val % 2048, by omega⟩ ⟨e.val, h1⟩)
          else if h2 : e.val - 128 < 32 then r (ix3 ⟨n.val / 2048, by omega⟩ ⟨n.val % 2048, by omega⟩ ⟨e.val - 128, h2⟩)
          else if e.val - 128 - 32 < 95 then (0 : EReal) else 1 := by
  pointwise [keys]
  simp only [dite_eq_ite]

end Cert.Proj.Ref
end
-- ==== Proof.ProjReal.lean ====
/- REAL ROWS: of real arguments the norms are real, so the scale and the sums of the queries may change places. -/
module

public import proofs.«01_k».proof.Proof.ProjRows
public import proofs.«01_k».proof.Proof.Softmax

@[expose] public section

noncomputable section

namespace Cert.Proj

open Idealize.ShloMosaic

/-- A real number, and one that is not negative. -/
def IsReal (x : EReal) : Prop := ∃ r : ℝ, x = (r : EReal)
def IsNonneg (x : EReal) : Prop := ∃ r : ℝ, 0 ≤ r ∧ x = (r : EReal)

theorem IsNonneg.isReal {x : EReal} (h : IsNonneg x) : IsReal x := ⟨h.choose, h.choose_spec.2⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sub {x y : EReal} : IsReal x → IsReal y → IsReal (x - y)
  | ⟨a, ha⟩, ⟨b, hb⟩ => ⟨a - b, by rw [ha, hb, EReal.coe_sub]⟩

theorem IsReal.sq {x : EReal} : IsReal x → IsNonneg (x * x)
  | ⟨a, ha⟩ => ⟨a * a, mul_self_nonneg a, by rw [ha, EReal.coe_mul]⟩

theorem IsReal.sum {n : ℕ} {f : Fin n → EReal} (h : ∀ i, IsReal (f i)) : IsReal (∑ i, f i) := by
  choose g hg using h
  exact ⟨∑ i, g i, by rw [Finset.sum_congr rfl fun i _ => hg i, Cert.Attn.coe_sum]⟩

theorem IsNonneg.sum {n : ℕ} {f : Fin n → EReal} (h : ∀ i, IsNonneg (f i)) : IsNonneg (∑ i, f i) := by
  choose g h0 hg using h
  exact ⟨∑ i, g i, Finset.sum_nonneg fun i _ => h0 i, by rw [Finset.sum_congr rfl fun i _ => hg i, Cert.Attn.coe_sum]⟩

/-- A positive word of a constant. -/
def IsPos (x : EReal) : Prop := ∃ r : ℝ, 0 < r ∧ x = (r : EReal)

theorem pos_1024 : IsPos (Ideal.ofBits .f32 0x44800000#32) := ⟨1024, by norm_num, by simp [Ideal.ofBits, Ideal.ieee, -EReal.coe_mul]; norm_num⟩
theorem word_192 : Ideal.ofBits .f32 0x43400000#32 = ((192 : ℝ) : EReal) := by simp [Ideal.ofBits, Ideal.ieee, -EReal.coe_mul]; norm_num
theorem pos_192 : IsPos (Ideal.ofBits .f32 0x43400000#32) := ⟨192, by norm_num, word_192⟩
theorem pos_ln : IsPos (Ideal.ofBits .f32 0x3727C5AC#32) := by
  refine ⟨_, ?_, by simp [Ideal.ofBits, Ideal.ieee, -EReal.coe_mul]; rfl⟩
  positivity
theorem pos_rms : IsPos (Ideal.ofBits .f32 0x358637BD#32) := by
  refine ⟨_, ?_, by simp [Ideal.ofBits, Ideal.ieee, -EReal.coe_mul]; rfl⟩
  positivity
theorem real_scale : IsReal (Ideal.ofBits .f32 0x3E16C740#32) := ⟨_, by simp [Ideal.ofBits, Ideal.ieee, -EReal.coe_mul]; rfl⟩

theorem IsReal.div {x y : EReal} : IsReal x → IsPos y → IsReal (Ideal.div x y)
  | ⟨a, ha⟩, ⟨b, hb, hy⟩ => ⟨a * (1 / b), by rw [ha, hy, Ideal.div_coe hb.ne', EReal.coe_mul]⟩

theorem IsNonneg.div {x y : EReal} : IsNonneg x → IsPos y → IsNonneg (Ideal.div x y)
  | ⟨a, h0, ha⟩, ⟨b, hb, hy⟩ => ⟨a * (1 / b), by positivity, by rw [ha, hy, Ideal.div_coe hb.ne', EReal.coe_mul]⟩

theorem IsNonneg.rsqrt {x y : EReal} : IsNonneg x → IsPos y → IsReal (Ideal.rsqrt (x + y))
  | ⟨a, h0, ha⟩, ⟨b, hb, hy⟩ => ⟨(Real.sqrt (a + b))⁻¹, by
      rw [ha, hy, ← EReal.coe_add, Ideal.rsqrt_coe, if_neg (by linarith), if_neg (by linarith)]⟩

theorem real_mean {y : Fin 1024 → EReal} (h : ∀ k, IsReal (y k)) : IsReal (mean y) := (IsReal.sum h).div pos_1024

theorem real_ln {x g b : Fin 1024 → EReal} (hx : ∀ k, IsReal (x k)) (hg : ∀ k, IsReal (g k)) (hb : ∀ k, IsReal (b k)) (k : Fin 1024) :
    IsReal (ln x g b k) := by
  have hc : ∀ k, IsReal (cen x k) := fun k => (hx k).sub (real_mean hx)
  exact ((((hc k).mul (((IsNonneg.sum fun k => (hc k).sq).div pos_1024).rsqrt pos_ln)).mul (hg k)).add (hb k))

theorem real_col {h w : Fin 1024 → EReal} (hh : ∀ k, IsReal (h k)) (hw : ∀ k, IsReal (w k)) : IsReal (col h w) :=
  IsReal.sum fun k => (hh k).mul (hw k)

theorem real_rms192 {y g : Fin 192 → EReal} (hy : ∀ j, IsReal (y j)) (hg : ∀ j, IsReal (g j)) (j : Fin 192) : IsReal (rms192 y g j) :=
  ((hy j).mul (((IsNonneg.sum fun l => (hy l).sq).div pos_192).rsqrt pos_rms)).mul (hg j)

/-! ## The padded query norm -/

/-- A sum whose terms past the rank are zeros. -/
theorem sum_pad {f : Fin 256 → EReal} {g : Fin 192 → EReal} (h1 : ∀ j : Fin 192, f ⟨j.val, by omega⟩ = g j)
    (h2 : ∀ j : Fin 256, 192 ≤ j.val → f j = 0) : ∑ j, f j = ∑ j, g j := by
  have e := Fin.sum_univ_add (a := 192) (b := 64) f
  rw [show (∑ j : Fin 256, f j) = ∑ j : Fin (192 + 64), f j from rfl, e,
    Finset.sum_congr (s₁ := (Finset.univ : Finset (Fin 64))) rfl fun j _ => h2 (Fin.natAdd 192 j) (by simp),
    Finset.sum_const_zero, add_zero]
  exact Finset.sum_congr rfl fun j _ => h1 j

theorem mul_inv_192 (x : EReal) : x * ((192⁻¹ : ℝ) : EReal) = Ideal.div x (Ideal.ofBits .f32 0x43400000#32) := by
  rw [word_192, Ideal.div_coe (by norm_num), one_div]

/-! ## The scale and the sums change places -/

/-- The latent lanes: the weights' product first, or the queries first. -/
theorem lat_swap_gen {n o : ℕ} {c : Fin n → EReal} {u : Fin n → Fin o → EReal} {k : Fin o → EReal} {s : EReal} (hc : ∀ j, IsReal (c j))
    (hu : ∀ j d, IsReal (u j d)) (hk : ∀ d, IsReal (k d)) (hs : IsReal s) :
    ∑ j, c j * ((∑ d, k d * u j d) * s) = (∑ d, k d * ∑ j, c j * u j d) * s := by
  choose c' hc' using hc
  choose u' hu' using hu
  choose k' hk' using hk
  obtain ⟨s', hs'⟩ := hs
  have e : ∑ j, c' j * ((∑ d, k' d * u' j d) * s') = (∑ d, k' d * ∑ j, c' j * u' j d) * s' := by
    simp only [Finset.mul_sum, Finset.sum_mul]
    rw [Finset.sum_comm]
    exact Finset.sum_congr rfl fun d _ => Finset.sum_congr rfl fun j _ => by ring
  have e' := congrArg (fun r : ℝ => (r : EReal)) e
  simp only [EReal.coe_mul, Cert.Attn.coe_sum] at e'
  simp only [hc', hu', hk', hs']
  exact e'

theorem col_scale_gen {n : ℕ} {c u : Fin n → EReal} {s : EReal} (hc : ∀ j, IsReal (c j)) (hu : ∀ j, IsReal (u j)) (hs : IsReal s) :
    ∑ j, c j * (u j * s) = (∑ j, c j * u j) * s := by
  choose c' hc' using hc
  choose u' hu' using hu
  obtain ⟨s', hs'⟩ := hs
  have e : ∑ j, c' j * (u' j * s') = (∑ j, c' j * u' j) * s' := by
    rw [Finset.sum_mul]
    exact Finset.sum_congr rfl fun j _ => by ring
  have e' := congrArg (fun r : ℝ => (r : EReal)) e
  simp only [EReal.coe_mul, Cert.Attn.coe_sum] at e'
  simp only [hc', hu', hs']
  exact e'

theorem lat_swap {c : Fin 192 → EReal} {u : Fin 192 → Fin 64 → EReal} {k : Fin 64 → EReal} {s : EReal} (hc : ∀ j, IsReal (c j))
    (hu : ∀ j d, IsReal (u j d)) (hk : ∀ d, IsReal (k d)) (hs : IsReal s) :
    ∑ j, c j * ((∑ d, k d * u j d) * s) = (∑ d, k d * ∑ j, c j * u j d) * s := lat_swap_gen hc hu hk hs

theorem col_scale {c u : Fin 192 → EReal} {s : EReal} (hc : ∀ j, IsReal (c j)) (hu : ∀ j, IsReal (u j)) (hs : IsReal s) :
    ∑ j, c j * (u j * s) = (∑ j, c j * u j) * s := col_scale_gen hc hu hs

/-- The angles are real, and so are their cosines and sines. -/
theorem real_angle (t : ℕ) (j : Fin 16) : IsReal (angle t j) := by
  refine IsReal.mul ⟨_, rfl⟩ ?_
  have h4 : IsPos (Ideal.ofBits .f32 0x41800000#32) := ⟨16, by norm_num, by simp [Ideal.ofBits, Ideal.ieee, -EReal.coe_mul]; norm_num⟩
  obtain ⟨b, hb, hb'⟩ := h4
  have hw : Ideal.ofBits .f32 0x461C4000#32 = ((10000 : ℝ) : EReal) := by simp [Ideal.ofBits, Ideal.ieee, -EReal.coe_mul]; norm_num
  rw [hw, hb', Ideal.div_coe hb.ne']
  exact ⟨_, by
    rw [show (FloatOps.sitofp (F := Ideal) FTy.f32 (BitVec.ofNat 32 j.val) : EReal) = (((BitVec.ofNat 32 j.val).toInt : ℝ) : EReal) from rfl,
      ← EReal.coe_neg, ← EReal.coe_mul, Ideal.pow_coe_coe]⟩

theorem rot_scale {y : Fin 32 → EReal} {a : Fin 16 → EReal} {s : EReal} (hy : ∀ l, IsReal (y l)) (ha : ∀ j, IsReal (a j)) (hs : IsReal s) (l : Fin 32) :
    rot (fun l => y l * s) a l = rot y a l * s := by
  choose y' hy' using hy
  choose a' ha' using ha
  obtain ⟨s', hs'⟩ := hs
  unfold rot
  simp only [hy', ha', hs', Ideal.cos_coe, Ideal.sin_coe, ← EReal.coe_mul, ← EReal.coe_sub, ← EReal.coe_add]
  split <;> (rw [← EReal.coe_mul]; congr 1; ring)

end Cert.Proj
end
-- ==== Proof.ProjLayer.lean ====
/- ONE ROW OF THE INPUT PROJECTION: every result's entry as a function of the row's input and the weights. -/
module

public import proofs.«01_k».proof.Proof.ProjReal

@[expose] public section

noncomputable section

namespace Cert.Proj

open Idealize.ShloMosaic

/-- A row's input, its position, and the weights. -/
structure Row where
  x : Fin 1024 → EReal
  g : Fin 1024 → EReal
  b : Fin 1024 → EReal
  w : Fin 1024 → Fin 2144 → EReal
  gq : Fin 192 → EReal
  uq : Fin 192 → Fin 8 → Fin 96 → EReal
  gk : Fin 128 → EReal
  uk : Fin 128 → Fin 8 → Fin 64 → EReal
  t : ℕ

namespace Row
variable (R : Row)

/-- The normed input and its projection. -/
def h (k : Fin 1024) : EReal := ln R.x R.g R.b k
def p (j : Fin 2144) : EReal := col R.h fun k => R.w k j

/-- The latent, the rotated key part, the key. -/
def ckv (j : Fin 128) : EReal := rms128 (fun j => R.p ⟨192 + j.val, by omega⟩) R.gk j
def kr (l : Fin 32) : EReal := rot (fun l => R.p ⟨320 + l.val, by omega⟩) (angle R.t) l
def key (e : Fin 256) : EReal :=
  if h1 : e.val < 128 then R.ckv ⟨e.val, h1⟩ else if h2 : e.val - 128 < 32 then R.kr ⟨e.val - 128, h2⟩
  else if e.val - 128 - 32 < 95 then 0 else 1

/-- The normed query latent, the heads' queries, the scaled query. -/
def cq (j : Fin 192) : EReal := rms192 (fun j => R.p ⟨j.val, by omega⟩) R.gq j
def q (h : Fin 8) (d : Fin 96) : EReal := ∑ j, R.cq j * R.uq j h d
def query (h : Fin 8) (e : Fin 256) : EReal :=
  (if h1 : e.val < 128 then ∑ d : Fin 64, R.uk ⟨e.val, h1⟩ h d * R.q h ⟨d.val, by omega⟩
    else if h2 : e.val - 128 < 32 then rot (fun l => R.q h ⟨64 + l.val, by omega⟩) (angle R.t) ⟨e.val - 128, h2⟩ else 0)
    * Ideal.ofBits .f32 0x3E16C740#32

/-- What makes the query latent real. -/
structure IsReal : Prop where
  x : ∀ k, Proj.IsReal (R.x k)
  g : ∀ k, Proj.IsReal (R.g k)
  b : ∀ k, Proj.IsReal (R.b k)
  w : ∀ k j, Proj.IsReal (R.w k j)
  gq : ∀ j, Proj.IsReal (R.gq j)
  uq : ∀ j h d, Proj.IsReal (R.uq j h d)
  uk : ∀ l h d, Proj.IsReal (R.uk l h d)

variable {R}

theorem IsReal.p (hR : R.IsReal) (j : Fin 2144) : Proj.IsReal (R.p j) := real_col (fun k => real_ln hR.x hR.g hR.b k) fun k => hR.w k j

theorem IsReal.cq (hR : R.IsReal) (j : Fin 192) : Proj.IsReal (R.cq j) := real_rms192 (fun j => hR.p _) hR.gq j

theorem IsReal.q (hR : R.IsReal) (h : Fin 8) (d : Fin 96) : Proj.IsReal (R.q h d) := IsReal.sum fun j => (hR.cq j).mul (hR.uq j h d)

end Row

end Cert.Proj
end
-- ==== Proof.ProjRefRows.lean ====
/- THE REFERENCE'S RESULTS, row by row. -/
module

public import proofs.«01_k».proof.Proof.ProjRef
public import proofs.«01_k».proof.Proof.ProjLayer

@[expose] public section

set_option maxRecDepth 16384

noncomputable section

namespace Cert.Proj

open Idealize.ShloMosaic

/-- Row `t` of batch `n` of the eight arguments. -/
def rowAt (a0 : FVec Ideal Cert.Reference2Ideal.S32x2048x1024 .f32) (a1 a2 : FVec Ideal Cert.Reference2Ideal.S1024 .f32)
    (a3 : FVec Ideal Cert.Reference2Ideal.S1024x2144 .f32) (a4 : FVec Ideal Cert.Reference2Ideal.S192 .f32)
    (a5 : FVec Ideal Cert.Reference2Ideal.S192x8x96 .f32) (a6 : FVec Ideal Cert.Reference2Ideal.S128 .f32)
    (a7 : FVec Ideal Cert.Reference2Ideal.S128x8x64 .f32) (n : Fin 32) (t : Fin 2048) : Row where
  x k := a0 (ix3 n t k)
  g k := a1 (ix1 k)
  b k := a2 (ix1 k)
  w k j := a3 (ix2 k j)
  gq j := a4 (ix1 j)
  uq j h d := a5 (ix3 j h d)
  gk j := a6 (ix1 j)
  uk l h d := a7 (ix3 l h d)
  t := t.val

namespace Ref

open Cert.Reference2Ideal Cert.Reference2Ideal.Gen Idealize.ShloMosaic Idealize.ShloMosaic.TcCoe

variable (m : (ℓ : Loc nD τ sig) → Buf (Elt Ideal) ℓ) (c : Dev nD)

def row (n : Fin 32) (t : Fin 2048) : Row :=
  rowAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) n t

theorem h_row (n : Fin 32) (t : Fin 2048) (k : Fin 1024) : hOf m c (ix3 n t k) = (row m c n t).h k := norm_apply _ _ _ n t k

theorem p_row (n : Fin 32) (t : Fin 2048) (j : Fin 2144) : pOf m c (ix3 n t j) = (row m c n t).p j :=
  (proj_apply _ _ n t j).trans (congrArg₂ col (funext fun k => h_row m c n t k) rfl)

theorem ckv_row (n : Fin 32) (t : Fin 2048) (j : Fin 128) : ckvOf m c (ix3 n t j) = (row m c n t).ckv j :=
  (normKV_apply _ _ n t j).trans (congrArg (fun y => rms128 y _ j) (funext fun l => p_row m c n t _))

theorem kr_row (n : Fin 32) (t : Fin 2048) (l : Fin 32) : krOf m c (ix3 n t l) = (row m c n t).kr l :=
  (ropeK_apply _ _ n t l).trans (congrFun (congrArg₂ rot (funext fun l => p_row m c n t _) (funext fun j => ang_apply t j)) l)

theorem q_row (n : Fin 32) (t : Fin 2048) (h : Fin 8) (d : Fin 96) : qOf m c (ix4 n t h d) = (row m c n t).q h d :=
  (heads_apply _ _ n t h d).trans (Finset.sum_congr rfl fun j _ => congrArg (fun y : EReal => y * _)
    ((normQ_apply _ _ n t j).trans (congrArg (fun y => rms192 y _ j) (funext fun l => p_row m c n t _))))

theorem key_row (r : Fin 65536) (e : Fin 256) :
    keys (ckvOf m c) (krOf m c) (ix2 r e) = (row m c ⟨r.val / 2048, by omega⟩ ⟨r.val % 2048, by omega⟩).key e := by
  rw [keys_apply]
  simp only [ckv_row, kr_row]
  rfl

theorem query_row (h : Fin 8) (r : Fin 65536) (e : Fin 256) :
    queries (latent (qOf m c) (m ((c.tc : Thread nD τ).loc main_arg7))) (ropeQ (turned (qOf m c)) ang) (ix3 h r e)
      = (row m c ⟨r.val / 2048, by omega⟩ ⟨r.val % 2048, by omega⟩).query h e := by
  rw [queries_apply]
  simp only [latent_apply, ropeQ_apply, q_row, ang_apply]
  rfl

/-- The two results the projection leaves as they are. -/
def rwkv (p : FVec Ideal S32x2048x2144 .f32) : FVec Ideal S65536x1024 .f32 :=
  shapeCast S65536x1024 (extractStridedSlice S32x2048x1024 ![0, 0, 352] p slices_S32x2048x2144_S32x2048x1024_0_0_352) shapeCasts_S32x2048x1024_S65536x1024

def conv (p : FVec Ideal S32x2048x2144 .f32) : FVec Ideal S65536x768 .f32 :=
  shapeCast S65536x768 (extractStridedSlice S32x2048x768 ![0, 0, 1376] p slices_S32x2048x2144_S32x2048x768_0_0_1376) shapeCasts_S32x2048x768_S65536x768

theorem rwkv_apply (p : FVec Ideal S32x2048x2144 .f32) (r : Fin 65536) (j : Fin 1024) :
    rwkv p (ix2 r j) = p (ix3 ⟨r.val / 2048, by omega⟩ ⟨r.val % 2048, by omega⟩ ⟨352 + j.val, by omega⟩) := by
  pointwise [rwkv]

theorem conv_apply (p : FVec Ideal S32x2048x2144 .f32) (r : Fin 65536) (j : Fin 768) :
    conv p (ix2 r j) = p (ix3 ⟨r.val / 2048, by omega⟩ ⟨r.val % 2048, by omega⟩ ⟨1376 + j.val, by omega⟩) := by
  pointwise [conv]

theorem cast_h (y : FVec Ideal S32x2048x1024 .f32) (r : Fin 65536) (k : Fin 1024) :
    shapeCast S65536x1024 y shapeCasts_S32x2048x1024_S65536x1024 (ix2 r k) = y (ix3 ⟨r.val / 2048, by omega⟩ ⟨r.val % 2048, by omega⟩ k) := by
  pointwise []

theorem cast_ckv (y : FVec Ideal S32x2048x128 .f32) (r : Fin 65536) (k : Fin 128) :
    shapeCast S65536x128 y shapeCasts_S32x2048x128_S65536x128 (ix2 r k) = y (ix3 ⟨r.val / 2048, by omega⟩ ⟨r.val % 2048, by omega⟩ k) := by
  pointwise []

theorem cast_kr (y : FVec Ideal S32x2048x32 .f32) (r : Fin 65536) (k : Fin 32) :
    shapeCast S65536x32 y shapeCasts_S32x2048x32_S65536x32 (ix2 r k) = y (ix3 ⟨r.val / 2048, by omega⟩ ⟨r.val % 2048, by omega⟩ k) := by
  pointwise []

end Ref

end Cert.Proj
end
-- ==== Proof.ProjKerRows.lean ====
/- THE KERNEL'S RESULTS, row by row. -/
module

public import proofs.«01_k».proof.Proof.ProjBlock
public import proofs.«01_k».proof.Proof.ProjPads
public import proofs.«01_k».proof.Proof.ProjReads
public import proofs.«01_k».proof.Proof.ProjRefRows

@[expose] public section

set_option maxRecDepth 16384

noncomputable section

namespace Cert.Proj

open Cert.Kernel2Ideal Cert.Kernel2Ideal.Gen Idealize.ShloMosaic Idealize.ShloMosaic.TcCoe

theorem flat_x (y : FVec Ideal S32x2048x1024 .f32) (r : Fin 65536) (k : Fin 1024) :
    shapeCast S65536x1024 y shapeCasts_S32x2048x1024_S65536x1024 (ix2 r k) = y (ix3 ⟨r.val / 2048, by omega⟩ ⟨r.val % 2048, by omega⟩ k) := by
  pointwise []

theorem flat_g (y : FVec Ideal S1024 .f32) (k : Fin 1024) : shapeCast S1x1024 y shapeCasts_S1024_S1x1024 (ix2 0 k) = y (ix1 k) := by
  pointwise []

theorem flat_gk (y : FVec Ideal S128 .f32) (k : Fin 128) : shapeCast S1x128 y shapeCasts_S128_S1x128 (ix2 0 k) = y (ix1 k) := by
  pointwise []

variable (m : (ℓ : Loc nD τ sig) → Buf (Elt Ideal) ℓ) (c : Dev nD)

/-- Row `r` of the arguments as launched. -/
def row (r : Fin 65536) : Row :=
  rowAt (B0 m c) (B1 m c) (B2 m c) (B3 m c) (B4 m c) (B5 m c) (B6 m c) (B7 m c) ⟨r.val / 2048, by omega⟩ ⟨r.val % 2048, by omega⟩

/-- The projection of point `t`'s rows, with its padded columns. -/
def tileP (t : Fin cfg0.N) : FVec Ideal S512x2304 .f32 := k0_pay6 (iblk m c 0 t) (iblk m c 1 t) (iblk m c 2 t) (iblk m c 3 t)

variable (t : Fin cfg0.N) (p : Fin 512) (r : Fin 65536) (hr : r.val = 512 * t.val + p.val)

include hr

theorem tile_h (k : Fin 1024) : k0_pay5 (iblk m c 0 t) (iblk m c 1 t) (iblk m c 2 t) (ix2 p k) = (row m c r).h k := by
  have hN := lt_of_lt_of_eq t.isLt N_0
  have e : (⟨512 * t.val + p.val, by omega⟩ : Fin 65536) = r := Fin.ext hr.symm
  have hx : (fun k => iblk m c 0 t (ix2 p k)) = (row m c r).x := funext fun k =>
    (read_x m c t p k).trans (by rw [e]; exact flat_x _ r k)
  have hg : (fun k => iblk m c 1 t (ix2 0 k)) = (row m c r).g := funext fun k => (read_g1 m c t k).trans (flat_g _ k)
  have hb : (fun k => iblk m c 2 t (ix2 0 k)) = (row m c r).b := funext fun k => (read_b1 m c t k).trans (flat_g _ k)
  exact (pay5_apply _ _ _ p k).trans (congrFun (congr (congrArg₂ ln hx hg) hb) k)

/-- Column `j` of the padded projection is column `j'` of the projection. -/
theorem tile_p (j : Fin 2304) (j' : Fin 2144)
    (h : (j.val < 192 ∧ j'.val = j.val) ∨ (256 ≤ j.val ∧ j.val < 416 ∧ j'.val = j.val - 64)
      ∨ (416 ≤ j.val ∧ j.val < 448 ∧ j'.val = 320 + (j.val - 416 + 16) % 32) ∨ (512 ≤ j.val ∧ j'.val = j.val - 160)) :
    tileP m c t (ix2 p j) = (row m c r).p j' :=
  (pay6_apply _ _ _ _ p j).trans (congrArg₂ col (funext fun k => tile_h m c t p r hr k)
    (funext fun k => (read_w m c t k j).trans (wIn_at _ k j j' h)))

omit hr in
theorem tile_p_zero (j : Fin 2304) (h : (192 ≤ j.val ∧ j.val < 256) ∨ (448 ≤ j.val ∧ j.val < 512)) : tileP m c t (ix2 p j) = (0 : EReal) := by
  refine (pay6_apply _ _ _ _ p j).trans ?_
  refine (congrArg (col _) (funext fun k => (read_w m c t k j).trans (wIn_zero _ k j h))).trans ?_
  unfold col
  simp only [mul_zero, Finset.sum_const_zero]

/-- The latent. -/
theorem tile_ckv (j : Fin 128) : k0_pay33 (tileP m c t) (iblk m c 6 t) (ix2 p j) = (row m c r).ckv j :=
  (pay33_apply _ _ p j).trans (congrFun (congrArg₂ rms128
    (funext fun l => tile_p m c t p r hr _ _ (Or.inr (Or.inl ⟨by show 256 ≤ 256 + l.val; omega, by show 256 + l.val < 416; omega, by show 192 + l.val = 256 + l.val - 64; omega⟩)))
    (funext fun l => (read_gk m c t l).trans (flat_gk _ l))) j)

theorem tile_cos (l : Fin 128) : k0_pay7 (iblk m c 7 t) (ix2 p l) = cosTab (angle (row m c r).t) l := by
  refine (pay7_apply _ p l).trans ((read_cos m c t p l).trans ((cosOp_apply _ l).trans ?_))
  exact congrArg (fun n => cosTab (angle n) l) (by show 512 * (t.val % 4) + p.val = r.val % 2048; omega)

theorem tile_sin (l : Fin 128) : k0_pay8 (iblk m c 8 t) (ix2 p l) = sinTab (angle (row m c r).t) l := by
  refine (pay8_apply _ p l).trans ((read_sin m c t p l).trans ((sinOp_apply _ l).trans ?_))
  exact congrArg (fun n => sinTab (angle n) l) (by show 512 * (t.val % 4) + p.val = r.val % 2048; omega)

/-- The rotated key part and the zeros past it. -/
theorem tile_turn (l : Fin 128) : k0_pay34 (tileP m c t) (k0_pay7 (iblk m c 7 t)) (k0_pay8 (iblk m c 8 t)) (ix2 p l)
    = turn (fun l => tileP m c t (ix2 p ⟨384 + l.val, by omega⟩)) (cosTab (angle (row m c r).t)) (sinTab (angle (row m c r).t)) l :=
  (pay34_apply _ _ _ p l).trans (congrFun (congrArg₂ (turn _) (funext fun l => tile_cos m c t p r hr l) (funext fun l => tile_sin m c t p r hr l)) l)

theorem tile_kr (l : Fin 32) :
    k0_pay34 (tileP m c t) (k0_pay7 (iblk m c 7 t)) (k0_pay8 (iblk m c 8 t)) (ix2 p ⟨l.val, by omega⟩) = (row m c r).kr l := by
  rw [tile_turn m c t p r hr, turn_low]
  · exact congrFun (congrArg (fun y => rot y _) (funext fun l => tile_p m c t p r hr _ _
      (Or.inr (Or.inl ⟨by show 256 ≤ 384 + l.val; omega, by show 384 + l.val < 416; omega, by show 320 + l.val = 384 + l.val - 64; omega⟩)))) l
  · intro l
    have hl := l.isLt
    rw [tile_p m c t p r hr ⟨384 + (32 + l.val), by omega⟩ ⟨320 + (l.val + 16) % 32, by omega⟩
        (Or.inr (Or.inr (Or.inl ⟨by show 416 ≤ 384 + (32 + l.val); omega, by show 384 + (32 + l.val) < 448; omega,
          by show 320 + (l.val + 16) % 32 = 320 + (384 + (32 + l.val) - 416 + 16) % 32; omega⟩))),
      tile_p m c t p r hr ⟨384 + (l.val + 16) % 32, by omega⟩ ⟨320 + (l.val + 16) % 32, by omega⟩
        (Or.inr (Or.inl ⟨by show 256 ≤ 384 + (l.val + 16) % 32; omega, by show 384 + (l.val + 16) % 32 < 416; omega,
          by show 320 + (l.val + 16) % 32 = 384 + (l.val + 16) % 32 - 64; omega⟩))]

theorem tile_kr_zero (l : Fin 128) (h : 32 ≤ l.val) :
    k0_pay34 (tileP m c t) (k0_pay7 (iblk m c 7 t)) (k0_pay8 (iblk m c 8 t)) (ix2 p l) = (0 : EReal) :=
  (tile_turn m c t p r hr l).trans (turn_high _ _ l h)

/-! ## The seven results but the queries -/

theorem arr_h (k : Fin 1024) : (dats m 0 c).arrAt 9 cfg0.N (ix2 r k) = (row m c r).h k := by
  rw [arr9_apply m c t p k r hr, out9_eq]
  exact tile_h m c t p r hr k

theorem arr_key (e : Fin 256) : (dats m 0 c).arrAt 11 cfg0.N (ix2 r e) = (row m c r).key e := by
  refine (arr11_apply m c t p e r hr).trans ((out11_apply _ _ _ _ _ _ _ _ _ p e).trans ?_)
  unfold Row.key
  by_cases h1 : e.val < 128
  · rw [dif_pos h1, dif_pos h1]
    exact tile_ckv m c t p r hr _
  · rw [dif_neg h1, dif_neg h1]
    by_cases h2 : e.val - 128 < 32
    · rw [dif_pos h2, if_neg (by omega)]
      exact tile_kr m c t p r hr ⟨e.val - 128, h2⟩
    · rw [dif_neg h2]
      by_cases h3 : e.val - 128 = 127
      · rw [if_pos h3, if_neg (by omega)]
      · rw [if_neg h3, if_pos (by omega)]
        exact tile_kr_zero m c t p r hr _ (by show 32 ≤ e.val - 128; omega)

theorem arr_ckv (j : Fin 128) : (dats m 0 c).arrAt 12 cfg0.N (ix2 r j) = (row m c r).ckv j := by
  rw [arr12_apply m c t p j r hr, out12_eq]
  exact tile_ckv m c t p r hr j

theorem arr_kr (l : Fin 32) : (dats m 0 c).arrAt 13 cfg0.N (ix2 r l) = (row m c r).kr l := by
  rw [arr13_apply m c t p l r hr, out13_eq]
  exact (pay35_apply _ _ _ p l).trans (tile_kr m c t p r hr l)

theorem arr_rwkv (j : Fin 1024) : (dats m 0 c).arrAt 14 cfg0.N (ix2 r j) = (row m c r).p ⟨352 + j.val, by omega⟩ := by
  rw [arr14_apply m c t p j r hr, out14_eq]
  exact (pay3_apply _ p j).trans (tile_p m c t p r hr _ _ (Or.inr (Or.inr (Or.inr ⟨by show 512 ≤ 512 + j.val; omega, by show 352 + j.val = 512 + j.val - 160; omega⟩))))

theorem arr_conv (j : Fin 768) : (dats m 0 c).arrAt 15 cfg0.N (ix2 r j) = (row m c r).p ⟨1376 + j.val, by omega⟩ := by
  rw [arr15_apply m c t p j r hr, out15_eq]
  exact (pay4_apply _ p j).trans (tile_p m c t p r hr _ _ (Or.inr (Or.inr (Or.inr ⟨by show 512 ≤ 1536 + j.val; omega, by show 1376 + j.val = 1536 + j.val - 160; omega⟩))))

/-! ## The queries -/

/-- The scaled queries of point `t`, all heads' lanes in a row. -/
def tileQ (t : Fin cfg0.N) : FVec Ideal S512x2048 .f32 :=
  k0_pay11 (k0_pay9 (iblk m c 0 t) (iblk m c 1 t) (iblk m c 2 t) (iblk m c 3 t))
    (k0_pay10 (iblk m c 0 t) (iblk m c 1 t) (iblk m c 2 t) (iblk m c 3 t)) (iblk m c 4 t) (iblk m c 5 t)

/-- A lane of them is the normed latent times a column of the prepared weights: the padding adds zeros. -/
theorem tile_q (n : Fin 2048) :
    tileQ m c t (ix2 p n) = ∑ j : Fin 192, (row m c r).cq j * (wqOp (B5 m c) (B7 m c) (ix2 ⟨j.val, by omega⟩ n) : EReal) := by
  have hs : (∑ l : Fin 256, (k0_pay10 (iblk m c 0 t) (iblk m c 1 t) (iblk m c 2 t) (iblk m c 3 t) (ix2 p l) : EReal))
      = ∑ l : Fin 192, (row m c r).p ⟨l.val, by omega⟩ * (row m c r).p ⟨l.val, by omega⟩ := by
    refine sum_pad (fun l => ?_) (fun l hl => ?_)
    · refine (pay10_apply _ _ _ _ p _).trans ?_
      have e := tile_p m c t p r hr ⟨l.val, by omega⟩ ⟨l.val, by omega⟩ (Or.inl ⟨by show l.val < 192; omega, rfl⟩)
      exact congrArg₂ (fun a b : EReal => a * b) e e
    · refine (pay10_apply _ _ _ _ p _).trans ?_
      have e := tile_p_zero m c t p ⟨l.val, by omega⟩ (Or.inl ⟨hl, l.isLt⟩)
      exact (congrArg₂ (fun a b : EReal => a * b) e e).trans (mul_zero _)
  refine (pay11_apply _ _ _ _ p n).trans ?_
  rw [hs, mul_inv_192]
  refine sum_pad (fun j => ?_) (fun j hj => ?_)
  · have e := tile_p m c t p r hr ⟨j.val, by omega⟩ ⟨j.val, by omega⟩ (Or.inl ⟨by show j.val < 192; omega, rfl⟩)
    have e' := (pay9_apply (iblk m c 0 t) (iblk m c 1 t) (iblk m c 2 t) (iblk m c 3 t) p ⟨j.val, by omega⟩).trans e
    refine congrArg₂ (fun a b : EReal => a * b) (congrArg₂ (fun a b : EReal => a * b) (congrArg (fun a : EReal => a * _) e') ?_) (read_wq m c t _ n)
    exact (read_gq m c t _).trans (gqOp_at _ j)
  · have e : k0_pay9 (iblk m c 0 t) (iblk m c 1 t) (iblk m c 2 t) (iblk m c 3 t) (ix2 p j) = (0 : EReal) :=
      (pay9_apply _ _ _ _ p j).trans (tile_p_zero m c t p ⟨j.val, by omega⟩ (Or.inl ⟨hj, j.isLt⟩))
    rw [e, zero_mul, zero_mul, zero_mul]

/-- The queries, of real arguments. -/
theorem arr_query (hR : (row m c r).IsReal) (h : Fin 8) (e : Fin 256) : (dats m 0 c).arrAt 10 cfg0.N (ix3 h r e) = (row m c r).query h e := by
  refine (arr10_apply m c t h p e r hr).trans ((out10_apply _ _ _ _ _ _ _ _ _ h p e).trans ?_)
  show qTile (tileQ m c t) (k0_pay7 (iblk m c 7 t)) (k0_pay8 (iblk m c 8 t)) h p e = _
  unfold qTile Row.query
  by_cases h1 : e.val < 128
  · rw [dif_pos h1, dif_pos h1, tile_q m c t p r hr]
    refine Eq.trans ?_ (lat_swap (c := (row m c r).cq) (u := fun j d => (row m c r).uq j h ⟨d.val, by omega⟩) (k := fun d => (row m c r).uk ⟨e.val, h1⟩ h d)
      hR.cq (fun j d => hR.uq j h _) (fun d => hR.uk _ h d) real_scale)
    refine Finset.sum_congr rfl fun j _ => congrArg (fun a : EReal => (row m c r).cq j * a) ?_
    refine (wqOp_lat _ _ j h ⟨e.val, h1⟩ _ rfl).trans ?_
    rw [uLat_apply]
    rfl
  · have hcol : ∀ (n : Fin 2048) (d : Fin 96), n.val / 256 = h.val →
        ((128 ≤ n.val % 256 ∧ n.val % 256 < 160 ∧ d.val = 64 + (n.val % 256 - 128))
          ∨ (160 ≤ n.val % 256 ∧ n.val % 256 < 192 ∧ d.val = 64 + (n.val % 256 - 160 + 16) % 32)) →
        tileQ m c t (ix2 p n) = (row m c r).q h d * Ideal.ofBits .f32 0x3E16C740#32 := fun n d hn hd => by
      rw [tile_q m c t p r hr]
      refine Eq.trans ?_ (col_scale (c := (row m c r).cq) (u := fun j => (row m c r).uq j h d) hR.cq (fun j => hR.uq j h d) real_scale)
      exact Finset.sum_congr rfl fun j _ => congrArg (fun a : EReal => (row m c r).cq j * a) (wqOp_rope _ _ j h n d hn hd)
    rw [dif_neg h1, dif_neg h1]
    have ht : (fun l => k0_pay7 (iblk m c 7 t) (ix2 p l)) = cosTab (angle (row m c r).t) := funext fun l => tile_cos m c t p r hr l
    have hs : (fun l => k0_pay8 (iblk m c 8 t) (ix2 p l)) = sinTab (angle (row m c r).t) := funext fun l => tile_sin m c t p r hr l
    refine (congrFun (congrArg₂ (turn _) ht hs) _).trans ?_
    by_cases h2 : e.val - 128 < 32
    · rw [dif_pos h2]
      refine (turn_low (fun l => ?_) _ ⟨e.val - 128, h2⟩).trans ?_
      · have hl := l.isLt
        have hh := h.isLt
        rw [hcol _ ⟨64 + (l.val + 16) % 32, by omega⟩ (by show (256 * h.val + 128 + (32 + l.val)) / 256 = h.val; omega)
            (Or.inr ⟨by show 160 ≤ (256 * h.val + 128 + (32 + l.val)) % 256; omega, by show (256 * h.val + 128 + (32 + l.val)) % 256 < 192; omega,
              by show 64 + (l.val + 16) % 32 = 64 + ((256 * h.val + 128 + (32 + l.val)) % 256 - 160 + 16) % 32; omega⟩),
          hcol _ ⟨64 + (l.val + 16) % 32, by omega⟩ (by show (256 * h.val + 128 + (l.val + 16) % 32) / 256 = h.val; omega)
            (Or.inl ⟨by show 128 ≤ (256 * h.val + 128 + (l.val + 16) % 32) % 256; omega, by show (256 * h.val + 128 + (l.val + 16) % 32) % 256 < 160; omega,
              by show 64 + (l.val + 16) % 32 = 64 + ((256 * h.val + 128 + (l.val + 16) % 32) % 256 - 128); omega⟩)]
      · refine Eq.trans ?_ (rot_scale (y := fun l => (row m c r).q h ⟨64 + l.val, by omega⟩) (fun l => hR.q h _) (real_angle _) real_scale ⟨e.val - 128, h2⟩)
        refine congrFun (congrArg (fun y => rot y _) (funext fun l => ?_)) _
        have hl := l.isLt
        have hh := h.isLt
        exact hcol _ ⟨64 + l.val, by omega⟩ (by show (256 * h.val + 128 + l.val) / 256 = h.val; omega)
          (Or.inl ⟨by show 128 ≤ (256 * h.val + 128 + l.val) % 256; omega, by show (256 * h.val + 128 + l.val) % 256 < 160; omega,
            by show 64 + l.val = 64 + ((256 * h.val + 128 + l.val) % 256 - 128); omega⟩)
    · rw [dif_neg h2, zero_mul]
      exact turn_high _ _ _ (by show 32 ≤ e.val - 128; omega)

end Cert.Proj
end
-- ==== Proof.ProjClaims.lean ====
/- THE IN-PROJECTION'S CLAIMS: the two idealized programs compute the same seven arrays of finite arguments. -/
module

public import proofs.«01_k».proof.Defs
public import proofs.«01_k».proof.Proof.ProjFinite
public import proofs.«01_k».proof.Proof.ProjKerRows

@[expose] public section

set_option maxRecDepth 16384

noncomputable section

namespace Cert.Proj

open Idealize.ShloMosaic Idealize.SL.Sem

/-- The reference declares no semaphore and its run leaves the arguments. -/
theorem ref_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0)
            = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
            = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
            = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3)
            = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4)
            = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5)
            = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6)
            = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7)
            = m ((c.tc : Thread Cert.Reference2Ideal.nD Cert.Reference2Ideal.τ).loc Cert.Reference2Ideal.main_arg7))
        ∧ r.2.sem = fun _ => 0) :=
  (θ_run _ _ _).mono (fun r h => ⟨fun c => (h c).2.2.2.2.2.2.2, sem_eq_zero_of_no_sems (by decide) r.2⟩) (Cert.Reference2Ideal.Value.run (F := Ideal) m ρ)

/-- The factor the kernel's last mean multiplies by is the float nearest to the reciprocal of its width. -/
theorem preserves : Cert.preserves_Kernel2_Kernel2Ideal :=
  IdealRules.named_const.statement Cert.Kernel2Ideal.κ "inv_q_rank" .f32 0x3BAAAAAB#32 ((192⁻¹ : ℝ) : EReal) rfl

theorem isReal_of {x : EReal} (h : x = (x.toReal : EReal)) : IsReal x := ⟨_, h⟩

/-- Every row is a row of some point's block. -/
theorem exists_point (r : Fin 65536) : ∃ (t : Fin Cert.Kernel2Ideal.cfg0.N) (p : Fin 512), r.val = 512 * t.val + p.val :=
  ⟨⟨r.val / 512, lt_of_lt_of_eq (show r.val / 512 < 128 by omega) Cert.Kernel2Ideal.Gen.N_0.symm⟩, ⟨r.val % 512, by omega⟩,
    by show r.val = 512 * (r.val / 512) + r.val % 512; omega⟩

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The arguments are finite. -/
def Finite : Prop := Cert.Pre_finite2.fn (F := Ideal) (B0 m c) (B1 m c) (B2 m c) (B3 m c) (B4 m c) (B5 m c) (B6 m c) (B7 m c) = fun _ => 1#1

/-- The reference's arguments are the kernel's. -/
def Agree : Prop := m' ((c.tc : Thread Cert.Reference2Ideal.nD Cert.Reference2Ideal.τ).loc Cert.Reference2Ideal.main_arg0) = B0 m c
      ∧ m' ((c.tc : Thread Cert.Reference2Ideal.nD Cert.Reference2Ideal.τ).loc Cert.Reference2Ideal.main_arg1) = B1 m c
      ∧ m' ((c.tc : Thread Cert.Reference2Ideal.nD Cert.Reference2Ideal.τ).loc Cert.Reference2Ideal.main_arg2) = B2 m c
      ∧ m' ((c.tc : Thread Cert.Reference2Ideal.nD Cert.Reference2Ideal.τ).loc Cert.Reference2Ideal.main_arg3) = B3 m c
      ∧ m' ((c.tc : Thread Cert.Reference2Ideal.nD Cert.Reference2Ideal.τ).loc Cert.Reference2Ideal.main_arg4) = B4 m c
      ∧ m' ((c.tc : Thread Cert.Reference2Ideal.nD Cert.Reference2Ideal.τ).loc Cert.Reference2Ideal.main_arg5) = B5 m c
      ∧ m' ((c.tc : Thread Cert.Reference2Ideal.nD Cert.Reference2Ideal.τ).loc Cert.Reference2Ideal.main_arg6) = B6 m c
      ∧ m' ((c.tc : Thread Cert.Reference2Ideal.nD Cert.Reference2Ideal.τ).loc Cert.Reference2Ideal.main_arg7) = B7 m c

theorem row_real (hf : Finite m c) (r : Fin 65536) : (row m c r).IsReal := by
  obtain ⟨f0, f1, f2, f3, f4, f5, f6, f7⟩ := real_args _ _ _ _ _ _ _ _ hf
  exact ⟨fun _ => isReal_of (f0 _), fun _ => isReal_of (f1 _), fun _ => isReal_of (f2 _), fun _ _ => isReal_of (f3 _), fun _ => isReal_of (f4 _),
    fun _ _ _ => isReal_of (f5 _), fun _ _ _ => isReal_of (f7 _)⟩

variable {m m' c} (ha : Agree m m' c)
include ha

theorem row_same (r : Fin 65536) : Ref.row m' c ⟨r.val / 2048, by omega⟩ ⟨r.val % 2048, by omega⟩ = row m c r := by
  obtain ⟨h0, h1, h2, h3, h4, h5, h6, h7⟩ := ha
  unfold Ref.row row
  rw [h0, h1, h2, h3, h4, h5, h6, h7]

theorem same_h : (shapeCast Cert.Reference2Ideal.S65536x1024 (Ref.hOf m' c) Cert.Reference2Ideal.Gen.shapeCasts_S32x2048x1024_S65536x1024 : FVec Ideal Cert.Reference2Ideal.S65536x1024 .f32) = ((Cert.Kernel2Ideal.Gen.dats m 0 c).arrAt 9 Cert.Kernel2Ideal.cfg0.N) := by
  funext z
  idx_vars z
  obtain ⟨t, p, hr⟩ := exists_point z0
  exact ((Ref.cast_h _ z0 z1).trans (Ref.h_row m' c ⟨z0.val / 2048, by omega⟩ ⟨z0.val % 2048, by omega⟩ z1)).trans ((congrArg (fun R : Row => R.h z1) (row_same ha z0)).trans (arr_h m c t p z0 hr z1).symm)

theorem same_query (hf : Finite m c) : (Cert.Reference2Ideal.Value.res_main_v129 m' c : FVec Ideal Cert.Reference2Ideal.S8x65536x256 .bf16) = ((Cert.Kernel2Ideal.Gen.dats m 0 c).arrAt 10 Cert.Kernel2Ideal.cfg0.N) := by
  funext z
  idx_vars z
  obtain ⟨t, p, hr⟩ := exists_point z1
  exact (congrFun (Ref.res_q m' c) _).trans ((Ref.query_row m' c z0 z1 z2).trans ((congrArg (fun R : Row => R.query z0 z2) (row_same ha z1)).trans (arr_query m c t p z1 hr (row_real m c hf z1) z0 z2).symm))

theorem same_key : (Cert.Reference2Ideal.Value.res_main_v131 m' c : FVec Ideal Cert.Reference2Ideal.S65536x256 .bf16) = ((Cert.Kernel2Ideal.Gen.dats m 0 c).arrAt 11 Cert.Kernel2Ideal.cfg0.N) := by
  funext z
  idx_vars z
  obtain ⟨t, p, hr⟩ := exists_point z0
  exact ((congrFun (Ref.res_keys m' c) _).trans (Ref.key_row m' c z0 z1)).trans ((congrArg (fun R : Row => R.key z1) (row_same ha z0)).trans (arr_key m c t p z0 hr z1).symm)

theorem same_ckv : (Cert.Reference2Ideal.Value.res_main_v132 m' c : FVec Ideal Cert.Reference2Ideal.S65536x128 .f32) = ((Cert.Kernel2Ideal.Gen.dats m 0 c).arrAt 12 Cert.Kernel2Ideal.cfg0.N) := by
  funext z
  idx_vars z
  obtain ⟨t, p, hr⟩ := exists_point z0
  exact ((congrFun (Ref.res_ckv m' c) _).trans ((Ref.cast_ckv _ z0 z1).trans (Ref.ckv_row m' c ⟨z0.val / 2048, by omega⟩ ⟨z0.val % 2048, by omega⟩ z1))).trans ((congrArg (fun R : Row => R.ckv z1) (row_same ha z0)).trans (arr_ckv m c t p z0 hr z1).symm)

theorem same_kr : (Cert.Reference2Ideal.Value.res_main_v133 m' c : FVec Ideal Cert.Reference2Ideal.S65536x32 .f32) = ((Cert.Kernel2Ideal.Gen.dats m 0 c).arrAt 13 Cert.Kernel2Ideal.cfg0.N) := by
  funext z
  idx_vars z
  obtain ⟨t, p, hr⟩ := exists_point z0
  exact ((congrFun (Ref.res_kr m' c) _).trans ((Ref.cast_kr _ z0 z1).trans (Ref.kr_row m' c ⟨z0.val / 2048, by omega⟩ ⟨z0.val % 2048, by omega⟩ z1))).trans ((congrArg (fun R : Row => R.kr z1) (row_same ha z0)).trans (arr_kr m c t p z0 hr z1).symm)

theorem same_rwkv : (Ref.rwkv (Ref.pOf m' c) : FVec Ideal Cert.Reference2Ideal.S65536x1024 .f32) = ((Cert.Kernel2Ideal.Gen.dats m 0 c).arrAt 14 Cert.Kernel2Ideal.cfg0.N) := by
  funext z
  idx_vars z
  obtain ⟨t, p, hr⟩ := exists_point z0
  exact ((Ref.rwkv_apply _ z0 z1).trans (Ref.p_row m' c ⟨z0.val / 2048, by omega⟩ ⟨z0.val % 2048, by omega⟩ ⟨352 + z1.val, by omega⟩)).trans ((congrArg (fun R : Row => R.p ⟨352 + z1.val, by omega⟩) (row_same ha z0)).trans (arr_rwkv m c t p z0 hr z1).symm)

theorem same_conv : (Ref.conv (Ref.pOf m' c) : FVec Ideal Cert.Reference2Ideal.S65536x768 .f32) = ((Cert.Kernel2Ideal.Gen.dats m 0 c).arrAt 15 Cert.Kernel2Ideal.cfg0.N) := by
  funext z
  idx_vars z
  obtain ⟨t, p, hr⟩ := exists_point z0
  exact ((Ref.conv_apply _ z0 z1).trans (Ref.p_row m' c ⟨z0.val / 2048, by omega⟩ ⟨z0.val % 2048, by omega⟩ ⟨1376 + z1.val, by omega⟩)).trans ((congrArg (fun R : Row => R.p ⟨1376 + z1.val, by omega⟩) (row_same ha z0)).trans (arr_conv m c t p z0 hr z1).symm)

end

theorem algebraic : Cert.algebraic_Kernel2Ideal_Reference2Ideal_pre_finite2
    (hKernel2Ideal := Cert.Kernel2Ideal.Gen.facts) (hReference2Ideal := Cert.Reference2Ideal.Gen.facts) (hPre_finite2 := finiteFacts2) :=
  fun m ρ m' ρ' hpre hag => ⟨fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N,
    Cert.Kernel2Ideal.Value.run_blocks (F := Ideal) m ρ,
    (θ_run _ _ _).mono (fun _ h c => ⟨(h c).1.trans (same_h (hag c)), (h c).2.1.trans (same_query (hag c) (hpre c)), (h c).2.2.1.trans (same_key (hag c)),
        (h c).2.2.2.1.trans (same_ckv (hag c)), (h c).2.2.2.2.1.trans (same_kr (hag c)), (h c).2.2.2.2.2.1.trans (same_rwkv (hag c)),
        (h c).2.2.2.2.2.2.1.trans (same_conv (hag c)), (h c).2.2.2.2.2.2.2⟩)
      (Cert.Reference2Ideal.Value.run (F := Ideal) m' ρ')⟩

end Cert.Proj
end
-- ==== Proof.MixRows.lean ====
/- TOKEN SHIFT, LORAS AND SHORT CONVOLUTION on rows: the functions both programs compute, of position `s` of sequence `b`. -/
module

public import Idealize.ShloMosaic.Lib.Pointwise

@[expose] public section

noncomputable section

namespace Cert.Mix

open Idealize.ShloMosaic

/-- A value moved towards the one before it. -/
def mixed (x y mu : EReal) : EReal := x + (y - x) * mu

/-- `log (1 + exp y)`, computed without overflow. -/
def soft (y : EReal) : EReal := max y 0 + Ideal.log (1 + Ideal.exp (-(max y (-y))))

def decay (z : EReal) : EReal := Ideal.exp (-(Ideal.exp (-(soft (-z)) - Ideal.ofBits FTy.f32 1056964608#32)))

def sigm (z : EReal) : EReal := Ideal.div 1 (1 + Ideal.exp (-z))

/-- The flat row of position `s` of sequence `b`, and the one `n` before. -/
def row (b : Fin 32) (s : Fin 2048) : Fin 65536 := ⟨b.val * 2048 + s.val, by omega⟩
def back (n : ℕ) (b : Fin 32) (s : Fin 2048) : Fin 65536 := ⟨b.val * 2048 + s.val - n, by omega⟩

section mix
variable (X : Fin 65536 → Fin 1024 → EReal) (S : Fin 32 → Fin 1024 → EReal) (mu : Fin 1024 → EReal)

/-- The row before: the state's at a sequence's first position. -/
def before (b : Fin 32) (s : Fin 2048) (k : Fin 1024) : EReal := if s.val = 0 then S b k else X (back 1 b s) k

def mixRow (b : Fin 32) (s : Fin 2048) (k : Fin 1024) : EReal := mixed (X (row b s) k) (before X S b s k) (mu k)

def decayAt (w0 : Fin 256 → EReal) (W : Fin 64 → Fin 256 → EReal) (b : Fin 32) (s : Fin 2048) (j : Fin 256) : EReal :=
  decay (w0 j + ∑ x : Fin 64, Ideal.tanh (mixRow X S mu b s ⟨768 + x.val, by omega⟩) * W x j)

def rateAt (a0 : Fin 256 → EReal) (W : Fin 64 → Fin 256 → EReal) (b : Fin 32) (s : Fin 2048) (j : Fin 256) : EReal :=
  sigm (a0 j + ∑ x : Fin 64, mixRow X S mu b s ⟨832 + x.val, by omega⟩ * W x j)

def gateAt (W : Fin 128 → Fin 256 → EReal) (b : Fin 32) (s : Fin 2048) (j : Fin 256) : EReal :=
  ∑ x : Fin 128, sigm (mixRow X S mu b s ⟨896 + x.val, by omega⟩) * W x j
end mix

section conv
variable (U : Fin 65536 → Fin 768 → EReal) (C : Fin 32 → Fin 2 → Fin 256 → EReal) (cw : Fin 3 → Fin 256 → EReal)

/-- The convolution's input at a row. -/
def cuAt (R : Fin 65536) (j : Fin 256) : EReal := U R ⟨256 + j.val, by omega⟩ * U R ⟨512 + j.val, by omega⟩

/-- The same one and two positions before. -/
def cuOne (b : Fin 32) (s : Fin 2048) (j : Fin 256) : EReal := if s.val = 0 then C b 1 j else cuAt U (back 1 b s) j
def cuTwo (b : Fin 32) (s : Fin 2048) (j : Fin 256) : EReal :=
  if s.val = 0 then C b 0 j else if s.val = 1 then C b 1 j else cuAt U (back 2 b s) j

def convAt (b : Fin 32) (s : Fin 2048) (j : Fin 256) : EReal :=
  U (row b s) ⟨j.val, by omega⟩ * (cw 0 j * cuTwo U C b s j + cw 1 j * cuOne U C b s j + cw 2 j * cuAt U (row b s) j)
end conv

/-- Arrays as functions of their coordinates. -/
def v1 {n : ℕ} (w : (⟨1, ![n]⟩ : Shape).Idx → EReal) : Fin n → EReal := fun j => w (ix1 j)
def v2 {a n : ℕ} (w : (⟨2, ![a, n]⟩ : Shape).Idx → EReal) : Fin a → Fin n → EReal := fun i j => w (ix2 i j)
def v3 {a b n : ℕ} (w : (⟨3, ![a, b, n]⟩ : Shape).Idx → EReal) : Fin a → Fin b → Fin n → EReal := fun i k j => w (ix3 i k j)

/-- A sum over 128 lanes, of which the weights of the upper or of the lower 64 are zeros. -/
theorem sum_low (f : Fin 128 → EReal) (w : Fin 128 → EReal) (W : Fin 64 → EReal) (h0 : ∀ x : Fin 64, w ⟨x.val, by omega⟩ = W x)
    (h1 : ∀ x : Fin 64, w ⟨64 + x.val, by omega⟩ = 0) :
    ∑ x : Fin 128, f x * w x = ∑ x : Fin 64, f ⟨x.val, by omega⟩ * W x := by
  have e := Fin.sum_univ_add (a := 64) (b := 64) (fun x : Fin (64 + 64) => f x * w x)
  refine e.trans ?_
  have z : ∑ x : Fin 64, f (Fin.natAdd 64 x) * w (Fin.natAdd 64 x) = 0 :=
    Finset.sum_eq_zero fun x _ => (congrArg (f (Fin.natAdd 64 x) * ·) (h1 x)).trans (mul_zero _)
  exact (congrArg₂ (· + ·) (Finset.sum_congr rfl fun x _ => congrArg (f (Fin.castAdd 64 x) * ·) (h0 x)) z).trans (add_zero _)

theorem sum_high (f : Fin 128 → EReal) (w : Fin 128 → EReal) (W : Fin 64 → EReal) (h0 : ∀ x : Fin 64, w ⟨x.val, by omega⟩ = 0)
    (h1 : ∀ x : Fin 64, w ⟨64 + x.val, by omega⟩ = W x) :
    ∑ x : Fin 128, f x * w x = ∑ x : Fin 64, f ⟨64 + x.val, by omega⟩ * W x := by
  have e := Fin.sum_univ_add (a := 64) (b := 64) (fun x : Fin (64 + 64) => f x * w x)
  refine e.trans ?_
  have z : ∑ x : Fin 64, f (Fin.castAdd 64 x) * w (Fin.castAdd 64 x) = 0 :=
    Finset.sum_eq_zero fun x _ => (congrArg (f (Fin.castAdd 64 x) * ·) (h0 x)).trans (mul_zero _)
  exact (congrArg₂ (· + ·) z (Finset.sum_congr rfl fun x _ => congrArg (f (Fin.natAdd 64 x) * ·) (h1 x))).trans (zero_add _)

end Cert.Mix
end
-- ==== Proof.MixTile.lean ====
/- ONE TILE of 512 rows, read at an index: its outputs from its input blocks and the three rows `p`, `q`, `r` carried to it. -/
module

public import proofs.«01_k».proof.Proof.Gen.Kernel3Ideal.Skeleton
public import proofs.«01_k».proof.Proof.MixRows

@[expose] public section

set_option maxRecDepth 16384

noncomputable section

namespace Cert.Mix

open Cert.Kernel3Ideal Cert.Kernel3Ideal.Gen Idealize.ShloMosaic

section anyFloats
variable {F : FTy → Type} [FloatOps F]

def decayOf (p : Vec F S1x1024 .f32) (x0 : Vec F S512x1024 .f32) (x4 : Vec F S1x1024 .f32) (x5 : Vec F S1x256 .f32) (x7 : Vec F S128x256 .bf16) :
    Vec F S512x256 .f32 := k0_pay15 (k0_pay13 x5) (k0_pay14 p x0 x4) x7
def rateOf (p : Vec F S1x1024 .f32) (x0 : Vec F S512x1024 .f32) (x4 : Vec F S1x1024 .f32) (x6 : Vec F S1x256 .f32) (x8 : Vec F S128x256 .bf16) :
    Vec F S512x256 .f32 := k0_pay18 (k0_pay16 (k0_pay12 p x0 x4) x6 x8) k0_pay17
def gateOf (p : Vec F S1x1024 .f32) (x0 : Vec F S512x1024 .f32) (x4 : Vec F S1x1024 .f32) (x9 : Vec F S128x256 .bf16) : Vec F S512x256 .f32 :=
  k0_pay19 (k0_pay8 p x0 x4) x9
def convOf (q r : Vec F S1x256 .f32) (x1 : Vec F S512x768 .f32) (x10 : Vec F S3x256 .f32) : Vec F S512x256 .bf16 :=
  k0_pay1 (k0_pay20 x1) (k0_pay21 q x1) x10 (k0_pay22 x1) (k0_pay23 q r x1 x10) (k0_pay24 x10)
end anyFloats

theorem first : ∀ r : Fin 512, IntOp.cmpi CmpIPredicate.eq (BitVec.ofNat 32 r.val) 0#32 = if r.val = 0 then 1#1 else 0#1 := by decide +kernel

theorem pick {α : Type} (r : Fin 512) (a b : α) :
    Scalar.select (IntOp.cmpi CmpIPredicate.eq (BitVec.ofNat 32 r.val) 0#32) a b = if r.val = 0 then a else b := by
  rw [first]
  by_cases h : r.val = 0
  · rw [if_pos h, if_pos h]; rfl
  · rw [if_neg h, if_neg h]; rfl

theorem turned {n : ℕ} (y : Fin 512 → Fin n → EReal) (a : EReal) (r : Fin 512) (k : Fin n) (h) :
    (if r.val = 0 then a else y ⟨(r.val + 512 - 1) % 512, h⟩ k) = if r.val = 0 then a else y ⟨r.val - 1, by omega⟩ k := by
  by_cases e : r.val = 0
  · rw [if_pos e, if_pos e]
  · rw [if_neg e, if_neg e]
    exact congrArg (fun i => y i k) (Fin.ext (by show (r.val + 512 - 1) % 512 = r.val - 1; omega))

variable (p : Vec Ideal S1x1024 .f32) (q r' : Vec Ideal S1x256 .f32) (x0 : Vec Ideal S512x1024 .f32) (x1 : Vec Ideal S512x768 .f32)
  (x4 : Vec Ideal S1x1024 .f32) (x5 x6 : Vec Ideal S1x256 .f32) (x7 x8 x9 : Vec Ideal S128x256 .bf16) (x10 : Vec Ideal S3x256 .f32)

theorem mix_apply (r : Fin 512) (k : Fin 1024) :
    k0_pay8 p x0 x4 (ix2 r k)
      = mixed (x0 (ix2 r k)) (if r.val = 0 then p (ix2 0 k) else x0 (ix2 ⟨r.val - 1, by omega⟩ k)) (x4 (ix2 0 k)) := by
  pointwise [k0_pay8]
  rw [pick, turned (fun r k => x0 (ix2 r k))]
  rfl

theorem r_apply (r : Fin 512) (j : Fin 256) : k0_pay9 p x0 x4 (ix2 r j) = k0_pay8 p x0 x4 (ix2 r ⟨j.val, by omega⟩) := by
  pointwise [k0_pay9]

theorem k_apply (r : Fin 512) (j : Fin 256) : k0_pay10 p x0 x4 (ix2 r j) = k0_pay8 p x0 x4 (ix2 r ⟨256 + j.val, by omega⟩) := by
  pointwise [k0_pay10]

theorem v_apply (r : Fin 512) (j : Fin 256) : k0_pay11 p x0 x4 (ix2 r j) = k0_pay8 p x0 x4 (ix2 r ⟨512 + j.val, by omega⟩) := by
  pointwise [k0_pay11]

theorem decay_apply (r : Fin 512) (j : Fin 256) :
    decayOf p x0 x4 x5 x7 (ix2 r j)
      = decay (x5 (ix2 0 j) + ∑ x : Fin 128, Ideal.tanh (k0_pay8 p x0 x4 (ix2 r ⟨768 + x.val, by omega⟩)) * (x7 (ix2 x j) : EReal)) := by
  pointwise [decayOf, k0_pay15, k0_pay13, k0_pay14, k0_pay12]
  simp only [zero_sub]
  rfl

theorem rate_apply (r : Fin 512) (j : Fin 256) :
    rateOf p x0 x4 x6 x8 (ix2 r j)
      = sigm (x6 (ix2 0 j) + ∑ x : Fin 128, (k0_pay8 p x0 x4 (ix2 r ⟨768 + x.val, by omega⟩) : EReal) * (x8 (ix2 x j) : EReal)) := by
  pointwise [rateOf, k0_pay18, k0_pay17, k0_pay16, k0_pay12]
  simp only [zero_sub]
  rfl

theorem gate_apply (r : Fin 512) (j : Fin 256) :
    gateOf p x0 x4 x9 (ix2 r j)
      = ∑ x : Fin 128, sigm (k0_pay8 p x0 x4 (ix2 r ⟨896 + x.val, by omega⟩)) * (x9 (ix2 x j) : EReal) := by
  pointwise [gateOf, k0_pay19]
  simp only [zero_sub]
  rfl

theorem cu_apply (r : Fin 512) (j : Fin 256) :
    k0_pay20 x1 (ix2 r j) = (x1 (ix2 r ⟨256 + j.val, by omega⟩) : EReal) * x1 (ix2 r ⟨512 + j.val, by omega⟩) := by
  pointwise [k0_pay20]

theorem cuOne_apply (r : Fin 512) (j : Fin 256) :
    k0_pay21 q x1 (ix2 r j) = if r.val = 0 then q (ix2 0 j) else k0_pay20 x1 (ix2 ⟨r.val - 1, by omega⟩ j) := by
  pointwise [k0_pay21]
  rw [pick, turned (fun r k => k0_pay20 x1 (ix2 r k))]

theorem conv_apply (r : Fin 512) (j : Fin 256) :
    convOf q r' x1 x10 (ix2 r j)
      = (x1 (ix2 r ⟨j.val, by omega⟩) : EReal)
        * ((x10 (ix2 0 j) : EReal) * (if r.val = 0 then r' (ix2 0 j) else k0_pay21 q x1 (ix2 ⟨r.val - 1, by omega⟩ j))
            + (x10 (ix2 1 j) : EReal) * k0_pay21 q x1 (ix2 r j) + (x10 (ix2 2 j) : EReal) * k0_pay20 x1 (ix2 r j)) := by
  pointwise [convOf, k0_pay1, k0_pay22, k0_pay23, k0_pay24]
  rw [pick, turned (fun r k => k0_pay21 q x1 (ix2 r k))]

theorem lastMix (k : Fin 1024) : k0_pay2 x0 (ix2 0 k) = x0 (ix2 511 k) := by pointwise [k0_pay2]
theorem lastCu (y : FVec Ideal S512x256 .f32) (j : Fin 256) : k0_pay3 y (ix2 0 j) = y (ix2 511 j) := by pointwise [k0_pay3]
theorem lastCuOne (y : FVec Ideal S512x256 .f32) (j : Fin 256) : k0_pay4 y (ix2 0 j) = y (ix2 511 j) := by pointwise [k0_pay4]
theorem initMix (x : Vec Ideal S1x1x1024 .f32) (k : Fin 1024) : k0_pay5 x (ix2 0 k) = x (ix3 0 0 k) := by pointwise [k0_pay5]
theorem initOne (x : Vec Ideal S1x1x1x256 .f32) (j : Fin 256) : k0_pay6 x (ix2 0 j) = x (ix4 0 0 0 j) := by pointwise [k0_pay6]
theorem initTwo (x : Vec Ideal S1x1x1x256 .f32) (j : Fin 256) : k0_pay7 x (ix2 0 j) = x (ix4 0 0 0 j) := by pointwise [k0_pay7]

end Cert.Mix
end
-- ==== Proof.MixCases.lean ====
/- WHAT ONE TILE of 512 rows leaves: its eight output blocks and the three rows it carries to the next tile, from its input blocks and
   the three rows `p`, `q`, `r` carried to it. -/
module

public import proofs.«01_k».proof.Proof.Gen.Kernel3Ideal.Frame
public import proofs.«01_k».proof.Proof.MixTile
public import Idealize.ShloMosaic.Lib.Pipeline.Value
public import Idealize.ShloMosaic.Lib.VecWindow

@[expose] public section

set_option maxRecDepth 16384

noncomputable section

namespace Cert.Mix

open Cert.Kernel3Ideal Cert.Kernel3Ideal.Gen Idealize.ShloMosaic

section anyFloats
variable {F : FTy → Type} [FloatOps F]

theorem hz2 : (![0, 0] : Fin 2 → ℕ) = fun _ => 0 := by decide
theorem hz3 : (![0, 0, 0] : Fin 3 → ℕ) = fun _ => 0 := by decide

/-- A carried row just written reads as written. -/
theorem back1024 {v : View sig .tc .vmem S1x1024 .f32} (w : Vec F S1x1024 .f32) (inb) (inb') :
    v.readCov (Val := Elt F) [⟨Rect.unit ![0, 0] ![1, 1024] inb, w⟩] (Rect.unit ![0, 0] ![1, 1024] inb').toLoadRect = w :=
  View.readCov_full v inb' inb w []
theorem back256 {v : View sig .tc .vmem S1x256 .f32} (w : Vec F S1x256 .f32) (inb) (inb') :
    v.readCov (Val := Elt F) [⟨Rect.unit ![0, 0] ![1, 256] inb, w⟩] (Rect.unit ![0, 0] ![1, 256] inb').toLoadRect = w :=
  View.readCov_full v inb' inb w []

/-- The two rows of the convolution's initial state. -/
def conv0 (x3 : Vec F S1x2x1x256 .f32) : Vec F S1x1x1x256 .f32 := View.ld x3 (Rect.unit ![0, 0, 0, 0] ![1, 1, 1, 256] inb_S1x2x1x256_S1x1x1x256_0_0_0_0)
def conv1 (x3 : Vec F S1x2x1x256 .f32) : Vec F S1x1x1x256 .f32 := View.ld x3 (Rect.unit ![0, 1, 0, 0] ![1, 1, 1, 256] inb_S1x2x1x256_S1x1x1x256_0_1_0_0)

variable (c : Dev nD) (i : grid0.Coords) (arg2 : Memref sig .tc .vmem S512x1024 .f32) (harg2 : arg2.IsWhole)
  (arg3 : Memref sig .tc .vmem S512x768 .f32) (harg3 : arg3.IsWhole)
  (arg4 : Memref sig .tc .vmem S1x1x1024 .f32) (harg4 : arg4.IsWhole)
  (arg5 : Memref sig .tc .vmem S1x2x1x256 .f32) (harg5 : arg5.IsWhole)
  (arg6 : Memref sig .tc .vmem S1x1024 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S128x256 .bf16) (harg9 : arg9.IsWhole)
  (arg10 : Memref sig .tc .vmem S128x256 .bf16) (harg10 : arg10.IsWhole)
  (arg11 : Memref sig .tc .vmem S128x256 .bf16) (harg11 : arg11.IsWhole)
  (arg12 : Memref sig .tc .vmem S3x256 .f32) (harg12 : arg12.IsWhole)
  (arg13 : Memref sig .tc .vmem S512x256 .f32) (harg13 : arg13.IsWhole)
  (arg14 : Memref sig .tc .vmem S512x256 .f32) (harg14 : arg14.IsWhole)
  (arg15 : Memref sig .tc .vmem S512x256 .f32) (harg15 : arg15.IsWhole)
  (arg16 : Memref sig .tc .vmem S512x256 .f32) (harg16 : arg16.IsWhole)
  (arg17 : Memref sig .tc .vmem S512x256 .f32) (harg17 : arg17.IsWhole)
  (arg18 : Memref sig .tc .vmem S512x256 .f32) (harg18 : arg18.IsWhole)
  (arg19 : Memref sig .tc .vmem S512x256 .bf16) (harg19 : arg19.IsWhole)
  (arg20 : Memref sig .tc .vmem S512x256 .f32) (harg20 : arg20.IsWhole)
  (arg21 : Memref sig .tc .vmem S1x1024 .f32) (harg21 : arg21.IsWhole)
  (arg22 : Memref sig .tc .vmem S1x256 .f32) (harg22 : arg22.IsWhole)
  (arg23 : Memref sig .tc .vmem S1x256 .f32) (harg23 : arg23.IsWhole)
  (x0 : Vec F S512x1024 .f32) (x1 : Vec F S512x768 .f32) (x2 : Vec F S1x1x1024 .f32) (x3 : Vec F S1x2x1x256 .f32) (x4 : Vec F S1x1024 .f32) (x5 : Vec F S1x256 .f32) (x6 : Vec F S1x256 .f32) (x7 : Vec F S128x256 .bf16) (x8 : Vec F S128x256 .bf16) (x9 : Vec F S128x256 .bf16) (x10 : Vec F S3x256 .f32)
  (xs0 : Vec F S1x1024 .f32) (xs1 xs2 : Vec F S1x256 .f32)

theorem out0A_11 (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay9 (k0_pay5 x2) x0 x4 := by
  unfold out0_A_11 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem out0A_12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay10 (k0_pay5 x2) x0 x4 := by
  unfold out0_A_12 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem out0A_13 (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay11 (k0_pay5 x2) x0 x4 := by
  unfold out0_A_13 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem out0A_14 (hc0 : cond0_0 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = decayOf (k0_pay5 x2) x0 x4 x5 x7 := by
  unfold out0_A_14 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0A_15 (hc0 : cond0_0 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = rateOf (k0_pay5 x2) x0 x4 x6 x8 := by
  unfold out0_A_15 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0A_16 (hc0 : cond0_0 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = gateOf (k0_pay5 x2) x0 x4 x9 := by
  unfold out0_A_16 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0A_17 (hc0 : cond0_0 i) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = convOf (k0_pay6 (conv1 x3)) (k0_pay7 (conv0 x3)) x1 x10 := by
  unfold out0_A_17 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0A_18 (hc0 : cond0_0 i) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay20 x1 := by
  unfold out0_A_18 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem sout0A_0 (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay2 x0 := by
  unfold sout0_A_0 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem sout0A_1 (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay3 (k0_pay20 x1) := by
  unfold sout0_A_1 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem sout0A_2 (hc0 : cond0_0 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10
      = k0_pay4 (k0_pay21 (k0_pay6 (conv1 x3)) x1) := by
  unfold sout0_A_2 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0B_11 (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay9 xs0 x0 x4 := by
  unfold out0_B_11 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem out0B_12 (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay10 xs0 x0 x4 := by
  unfold out0_B_12 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem out0B_13 (hc0 : ¬cond0_0 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay11 xs0 x0 x4 := by
  unfold out0_B_13 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem out0B_14 (hc0 : ¬cond0_0 i) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = decayOf xs0 x0 x4 x5 x7 := by
  unfold out0_B_14 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0B_15 (hc0 : ¬cond0_0 i) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = rateOf xs0 x0 x4 x6 x8 := by
  unfold out0_B_15 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0B_16 (hc0 : ¬cond0_0 i) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = gateOf xs0 x0 x4 x9 := by
  unfold out0_B_16 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0B_17 (hc0 : ¬cond0_0 i) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = convOf xs1 xs2 x1 x10 := by
  unfold out0_B_17 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]
  rfl

theorem out0B_18 (hc0 : ¬cond0_0 i) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay20 x1 := by
  unfold out0_B_18 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem sout0B_0 (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay2 x0 := by
  unfold sout0_B_0 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem sout0B_1 (hc0 : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay3 (k0_pay20 x1) := by
  unfold sout0_B_1 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

theorem sout0B_2 (hc0 : ¬cond0_0 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 xs2
      = k0_pay4 (k0_pay21 xs1 x1) := by
  unfold sout0_B_2 kernelRun0_B
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread, back1024, back256, View.ld_unit_zero (S := S512x1024) hz2, View.ld_unit_zero (S := S512x768) hz2, View.ld_unit_zero (S := S1x1024) hz2, View.ld_unit_zero (S := S1x256) hz2, View.ld_unit_zero (S := S128x256) hz2, View.ld_unit_zero (S := S3x256) hz2, View.ld_unit_zero (S := S1x1x1024) hz3]

end anyFloats

end Cert.Mix
-- ==== Proof.MixBlocks.lean ====
/- TILE AFTER TILE: what each grid point leaves, from its own blocks and those of the point before. -/
module

public import proofs.«01_k».proof.Proof.MixCases

@[expose] public section

set_option maxRecDepth 16384

noncomputable section

namespace Cert.Mix

open Cert.Kernel3Ideal Cert.Kernel3Ideal.Gen Idealize.ShloMosaic Idealize.ShloMosaic.TcCoe

section anyFloats
variable {F : FTy → Type} [FloatOps F] (m : (ℓ : Loc nD τ sig) → Buf (Elt F) ℓ) (c : Dev nD) (t : Fin cfg0.N)

/-- The point before. -/
abbrev prev : Fin cfg0.N := ⟨t.val - 1, Nat.lt_of_le_of_lt (Nat.sub_le _ _) t.isLt⟩

/-- The rows carried to a point: at a sequence's first tile the states, and else of the tile before. -/
def pIn : Vec F S1x1024 .f32 := if t.val % 4 = 0 then k0_pay5 (iblk m c 2 t) else k0_pay2 (iblk m c 0 (prev t))
def qIn : Vec F S1x256 .f32 := if t.val % 4 = 0 then k0_pay6 (conv1 (iblk m c 3 t)) else k0_pay3 (k0_pay20 (iblk m c 1 (prev t)))
def rIn : Vec F S1x256 .f32 :=
  if t.val % 4 = 0 then k0_pay7 (conv0 (iblk m c 3 t)) else k0_pay4 (k0_pay21 (qIn m c (prev t)) (iblk m c 1 (prev t)))

theorem scr0 : (outsAt0 m c t.val t.isLt).2.2.2.2.2.2.2.2.1 = k0_pay2 (iblk m c 0 t) := by
  by_cases h0 : t.val % 4 = 0
  · rw [outsAt0_A m c t h0]
    dsimp only
    rw [sout0A_0]
  · rw [outsAt0_B m c t h0]
    dsimp only
    rw [sout0B_0]

theorem scr1 : (outsAt0 m c t.val t.isLt).2.2.2.2.2.2.2.2.2.1 = k0_pay3 (k0_pay20 (iblk m c 1 t)) := by
  by_cases h0 : t.val % 4 = 0
  · rw [outsAt0_A m c t h0]
    dsimp only
    rw [sout0A_1]
  · rw [outsAt0_B m c t h0]
    dsimp only
    rw [sout0B_1]

theorem scr2 : (outsAt0 m c t.val t.isLt).2.2.2.2.2.2.2.2.2.2 = k0_pay4 (k0_pay21 (qIn m c t) (iblk m c 1 t)) := by
  by_cases h0 : t.val % 4 = 0
  · rw [outsAt0_A m c t h0]
    dsimp only
    rw [sout0A_2]
    rw [qIn, if_pos h0]
  · rw [outsAt0_B m c t h0]
    dsimp only
    rw [sout0B_2]
    rw [qIn, if_neg h0]
    exact congrArg (fun q => k0_pay4 (k0_pay21 q (iblk m c 1 t))) (scr1 m c (prev t))

theorem left11 : (outsAt0 m c t.val t.isLt).1 = k0_pay9 (pIn m c t) (iblk m c 0 t) (iblk m c 4 t) := by
  by_cases h0 : t.val % 4 = 0
  · rw [outsAt0_A m c t h0]
    dsimp only
    rw [out0A_11]
    rw [pIn, if_pos h0]
  · rw [outsAt0_B m c t h0]
    dsimp only
    rw [out0B_11]
    rw [pIn, if_neg h0]
    exact congrArg (fun p => k0_pay9 p (iblk m c 0 t) (iblk m c 4 t)) (scr0 m c (prev t))

theorem left12 : (outsAt0 m c t.val t.isLt).2.1 = k0_pay10 (pIn m c t) (iblk m c 0 t) (iblk m c 4 t) := by
  by_cases h0 : t.val % 4 = 0
  · rw [outsAt0_A m c t h0]
    dsimp only
    rw [out0A_12]
    rw [pIn, if_pos h0]
  · rw [outsAt0_B m c t h0]
    dsimp only
    rw [out0B_12]
    rw [pIn, if_neg h0]
    exact congrArg (fun p => k0_pay10 p (iblk m c 0 t) (iblk m c 4 t)) (scr0 m c (prev t))

theorem left13 : (outsAt0 m c t.val t.isLt).2.2.1 = k0_pay11 (pIn m c t) (iblk m c 0 t) (iblk m c 4 t) := by
  by_cases h0 : t.val % 4 = 0
  · rw [outsAt0_A m c t h0]
    dsimp only
    rw [out0A_13]
    rw [pIn, if_pos h0]
  · rw [outsAt0_B m c t h0]
    dsimp only
    rw [out0B_13]
    rw [pIn, if_neg h0]
    exact congrArg (fun p => k0_pay11 p (iblk m c 0 t) (iblk m c 4 t)) (scr0 m c (prev t))

theorem left14 : (outsAt0 m c t.val t.isLt).2.2.2.1 = decayOf (pIn m c t) (iblk m c 0 t) (iblk m c 4 t) (iblk m c 5 t) (iblk m c 7 t) := by
  by_cases h0 : t.val % 4 = 0
  · rw [outsAt0_A m c t h0]
    dsimp only
    rw [out0A_14]
    rw [pIn, if_pos h0]
  · rw [outsAt0_B m c t h0]
    dsimp only
    rw [out0B_14]
    rw [pIn, if_neg h0]
    exact congrArg (fun p => decayOf p (iblk m c 0 t) (iblk m c 4 t) (iblk m c 5 t) (iblk m c 7 t)) (scr0 m c (prev t))

theorem left15 : (outsAt0 m c t.val t.isLt).2.2.2.2.1 = rateOf (pIn m c t) (iblk m c 0 t) (iblk m c 4 t) (iblk m c 6 t) (iblk m c 8 t) := by
  by_cases h0 : t.val % 4 = 0
  · rw [outsAt0_A m c t h0]
    dsimp only
    rw [out0A_15]
    rw [pIn, if_pos h0]
  · rw [outsAt0_B m c t h0]
    dsimp only
    rw [out0B_15]
    rw [pIn, if_neg h0]
    exact congrArg (fun p => rateOf p (iblk m c 0 t) (iblk m c 4 t) (iblk m c 6 t) (iblk m c 8 t)) (scr0 m c (prev t))

theorem left16 : (outsAt0 m c t.val t.isLt).2.2.2.2.2.1 = gateOf (pIn m c t) (iblk m c 0 t) (iblk m c 4 t) (iblk m c 9 t) := by
  by_cases h0 : t.val % 4 = 0
  · rw [outsAt0_A m c t h0]
    dsimp only
    rw [out0A_16]
    rw [pIn, if_pos h0]
  · rw [outsAt0_B m c t h0]
    dsimp only
    rw [out0B_16]
    rw [pIn, if_neg h0]
    exact congrArg (fun p => gateOf p (iblk m c 0 t) (iblk m c 4 t) (iblk m c 9 t)) (scr0 m c (prev t))

theorem left17 : (outsAt0 m c t.val t.isLt).2.2.2.2.2.2.1 = convOf (qIn m c t) (rIn m c t) (iblk m c 1 t) (iblk m c 10 t) := by
  by_cases h0 : t.val % 4 = 0
  · rw [outsAt0_A m c t h0]
    dsimp only
    rw [out0A_17]
    rw [qIn, rIn, if_pos h0, if_pos h0]
  · rw [outsAt0_B m c t h0]
    dsimp only
    rw [out0B_17]
    rw [qIn, rIn, if_neg h0, if_neg h0]
    exact congrArg₂ (fun q r => convOf q r (iblk m c 1 t) (iblk m c 10 t)) (scr1 m c (prev t)) (scr2 m c (prev t))

theorem left18 : (outsAt0 m c t.val t.isLt).2.2.2.2.2.2.2.1 = k0_pay20 (iblk m c 1 t) := by
  by_cases h0 : t.val % 4 = 0
  · rw [outsAt0_A m c t h0]
    dsimp only
    rw [out0A_18]
  · rw [outsAt0_B m c t h0]
    dsimp only
    rw [out0B_18]

end anyFloats

end Cert.Mix
end
-- ==== Proof.MixReads.lean ====
/- THE OPERANDS OF A POINT of the token shift's kernel: which rows of the arguments each of its blocks holds. -/
module

public import proofs.«01_k».proof.Proof.MixBlocks
public import Idealize.ShloMosaic.Lib.Pointwise

@[expose] public section

set_option maxRecDepth 16384

noncomputable section

namespace Cert.Mix

open Cert.Kernel3Ideal Cert.Kernel3Ideal.Gen Idealize.ShloMosaic Idealize.ShloMosaic.TcCoe

section anyFloats
variable {F : FTy → Type} [FloatOps F]

/-- The padded weights. -/
def zeros : FVec F S64x256 .f32 := broadcastInDim S64x256 ![] bcast_S_S64x256 (constant S_ .f32 0x00000000#32)
def wDecay (w : FVec F S64x256 .f32) : FVec F S128x256 .bf16 :=
  truncf .bf16 (concatenate S128x256 0 [⟨S64x256, w⟩, ⟨S64x256, zeros⟩] concatenates_S64x256_S64x256_S128x256_d0) bitsLt_bf16_f32
def wRate (w : FVec F S64x256 .f32) : FVec F S128x256 .bf16 :=
  truncf .bf16 (concatenate S128x256 0 [⟨S64x256, zeros⟩, ⟨S64x256, w⟩] concatenates_S64x256_S64x256_S128x256_d0) bitsLt_bf16_f32

variable (m : (ℓ : Loc nD τ sig) → Buf (Elt F) ℓ) (c : Dev nD)

/-- The eleven arguments as launched. -/
def D0 : FVec F S65536x1024 .f32 := m ((c : Thread nD τ).loc main_arg0)
def D1 : FVec F S65536x768 .f32 := m ((c : Thread nD τ).loc main_arg1)
def D2 : FVec F S32x1024 .f32 := m ((c : Thread nD τ).loc main_arg2)
def D3 : FVec F S32x2x256 .f32 := m ((c : Thread nD τ).loc main_arg3)
def D4 : FVec F S1024 .f32 := m ((c : Thread nD τ).loc main_arg4)
def D5 : FVec F S256 .f32 := m ((c : Thread nD τ).loc main_arg5)
def D6 : FVec F S64x256 .f32 := m ((c : Thread nD τ).loc main_arg6)
def D7 : FVec F S256 .f32 := m ((c : Thread nD τ).loc main_arg7)
def D8 : FVec F S64x256 .f32 := m ((c : Thread nD τ).loc main_arg8)
def D9 : FVec F S128x256 .f32 := m ((c : Thread nD τ).loc main_arg9)
def D10 : FVec F S3x256 .f32 := m ((c : Thread nD τ).loc main_arg10)

theorem V_2 : V m c main_v6 = shapeCast S32x1x1024 (D2 m c) shapeCasts_S32x1024_S32x1x1024 := by
  dsimp only [V, hostOps0]
  after_results
  rfl

theorem V_3 : V m c main_v7 = shapeCast S32x2x1x256 (D3 m c) shapeCasts_S32x2x256_S32x2x1x256 := by
  dsimp only [V, hostOps0]
  after_results
  rfl

theorem V_4 : V m c main_v8 = shapeCast S1x1024 (D4 m c) shapeCasts_S1024_S1x1024 := by
  dsimp only [V, hostOps0]
  after_results
  rfl

theorem V_5 : V m c main_v9 = shapeCast S1x256 (D5 m c) shapeCasts_S256_S1x256 := by
  dsimp only [V, hostOps0]
  after_results
  rfl

theorem V_6 : V m c main_v10 = shapeCast S1x256 (D7 m c) shapeCasts_S256_S1x256 := by
  dsimp only [V, hostOps0]
  after_results
  rfl

theorem V_7 : V m c main_v2 = wDecay (D6 m c) := by
  dsimp only [V, hostOps0]
  after_results
  rfl

theorem V_8 : V m c main_v4 = wRate (D8 m c) := by
  dsimp only [V, hostOps0]
  after_results
  rfl

theorem V_9 : V m c main_v5 = truncf .bf16 (D9 m c) bitsLt_bf16_f32 := by
  dsimp only [V, hostOps0]
  after_results
  rfl

theorem V_0 : V m c main_arg0 = D0 m c := by
  dsimp only [V, hostOps0]
  after_results
  rfl

theorem V_1 : V m c main_arg1 = D1 m c := by
  dsimp only [V, hostOps0]
  after_results
  rfl

theorem V_10 : V m c main_arg10 = D10 m c := by
  dsimp only [V, hostOps0]
  after_results
  rfl

end anyFloats

theorem at0 : ∀ t : Fin cfg0.N, win0_0.index t (0 : Fin 2) = t.val ∧ win0_0.index t (1 : Fin 2) = 0 :=
  (by decide +kernel : ∀ t : Fin grid0.N, _)

theorem at1 : ∀ t : Fin cfg0.N, win0_1.index t (0 : Fin 2) = t.val ∧ win0_1.index t (1 : Fin 2) = 0 :=
  (by decide +kernel : ∀ t : Fin grid0.N, _)

theorem at2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

theorem at3 : ∀ t : Fin cfg0.N, win0_3.index t (0 : Fin 4) = t.val / 4 ∧ win0_3.index t (1 : Fin 4) = 0 ∧ win0_3.index t (2 : Fin 4) = 0 ∧ win0_3.index t (3 : Fin 4) = 0 :=
  (by decide +kernel : ∀ t : Fin grid0.N, _)

theorem at4 : ∀ t : Fin cfg0.N, win0_4.index t (0 : Fin 2) = 0 ∧ win0_4.index t (1 : Fin 2) = 0 :=
  (by decide +kernel : ∀ t : Fin grid0.N, _)

theorem at5 : ∀ t : Fin cfg0.N, win0_5.index t (0 : Fin 2) = 0 ∧ win0_5.index t (1 : Fin 2) = 0 :=
  (by decide +kernel : ∀ t : Fin grid0.N, _)

theorem at6 : ∀ t : Fin cfg0.N, win0_6.index t (0 : Fin 2) = 0 ∧ win0_6.index t (1 : Fin 2) = 0 :=
  (by decide +kernel : ∀ t : Fin grid0.N, _)

theorem at7 : ∀ t : Fin cfg0.N, win0_7.index t (0 : Fin 2) = 0 ∧ win0_7.index t (1 : Fin 2) = 0 :=
  (by decide +kernel : ∀ t : Fin grid0.N, _)

theorem at8 : ∀ t : Fin cfg0.N, win0_8.index t (0 : Fin 2) = 0 ∧ win0_8.index t (1 : Fin 2) = 0 :=
  (by decide +kernel : ∀ t : Fin grid0.N, _)

theorem at9 : ∀ t : Fin cfg0.N, win0_9.index t (0 : Fin 2) = 0 ∧ win0_9.index t (1 : Fin 2) = 0 :=
  (by decide +kernel : ∀ t : Fin grid0.N, _)

theorem at10 : ∀ t : Fin cfg0.N, win0_10.index t (0 : Fin 2) = 0 ∧ win0_10.index t (1 : Fin 2) = 0 :=
  (by decide +kernel : ∀ t : Fin grid0.N, _)

section reads
variable (m : (ℓ : Loc nD τ sig) → Buf (Elt Ideal) ℓ) (c : Dev nD) (t : Fin cfg0.N)

theorem lt128 : t.val < 128 := lt_of_lt_of_eq t.isLt N_0

theorem read0 (p : Fin 512) (j : Fin 1024) : iblk m c 0 t (ix2 p j) = (D0 m c) (ix2 ⟨512 * t.val + p.val, by have := lt128 t; omega⟩ j) := by
  rw [← V_0]
  show V m c main_arg0 (((cfg0.win 0).blk t).view.emb (ix2 p j)) = _
  obtain ⟨i0, i1⟩ := at0 t
  congr 1
  funext a
  apply Fin.ext
  match a with
  | ⟨0, _⟩ => show win0_0.index t (0 : Fin 2) * 512 + 1 * p.val = 512 * t.val + p.val; rw [i0]; try omega
  | ⟨1, _⟩ => show win0_0.index t (1 : Fin 2) * 1024 + 1 * j.val = j.val; rw [i1]; try omega

theorem read1 (p : Fin 512) (j : Fin 768) : iblk m c 1 t (ix2 p j) = (D1 m c) (ix2 ⟨512 * t.val + p.val, by have := lt128 t; omega⟩ j) := by
  rw [← V_1]
  show V m c main_arg1 (((cfg0.win 1).blk t).view.emb (ix2 p j)) = _
  obtain ⟨i0, i1⟩ := at1 t
  congr 1
  funext a
  apply Fin.ext
  match a with
  | ⟨0, _⟩ => show win0_1.index t (0 : Fin 2) * 512 + 1 * p.val = 512 * t.val + p.val; rw [i0]; try omega
  | ⟨1, _⟩ => show win0_1.index t (1 : Fin 2) * 768 + 1 * j.val = j.val; rw [i1]; try omega

theorem read2 (j : Fin 1024) : iblk m c 2 t (ix3 0 0 j) = (shapeCast S32x1x1024 (D2 m c) shapeCasts_S32x1024_S32x1x1024) (ix3 ⟨t.val / 4, by have := lt128 t; omega⟩ 0 j) := by
  rw [← V_2]
  show V m c main_v6 (((cfg0.win 2).blk t).view.emb (ix3 0 0 j)) = _
  obtain ⟨i0, i1, i2⟩ := at2 t
  congr 1
  funext a
  apply Fin.ext
  match a with
  | ⟨0, _⟩ => show win0_2.index t (0 : Fin 3) * 1 + 1 * 0 = t.val / 4; rw [i0]; try omega
  | ⟨1, _⟩ => show win0_2.index t (1 : Fin 3) * 1 + 1 * 0 = 0; rw [i1]; try omega
  | ⟨2, _⟩ => show win0_2.index t (2 : Fin 3) * 1024 + 1 * j.val = j.val; rw [i2]; try omega

theorem read3 (i : Fin 2) (j : Fin 256) : iblk m c 3 t (ix4 0 i 0 j) = (shapeCast S32x2x1x256 (D3 m c) shapeCasts_S32x2x256_S32x2x1x256) (ix4 ⟨t.val / 4, by have := lt128 t; omega⟩ i 0 j) := by
  rw [← V_3]
  show V m c main_v7 (((cfg0.win 3).blk t).view.emb (ix4 0 i 0 j)) = _
  obtain ⟨i0, i1, i2, i3⟩ := at3 t
  congr 1
  funext a
  apply Fin.ext
  match a with
  | ⟨0, _⟩ => show win0_3.index t (0 : Fin 4) * 1 + 1 * 0 = t.val / 4; rw [i0]; try omega
  | ⟨1, _⟩ => show win0_3.index t (1 : Fin 4) * 2 + 1 * i.val = i.val; rw [i1]; try omega
  | ⟨2, _⟩ => show win0_3.index t (2 : Fin 4) * 1 + 1 * 0 = 0; rw [i2]; try omega
  | ⟨3, _⟩ => show win0_3.index t (3 : Fin 4) * 256 + 1 * j.val = j.val; rw [i3]; try omega

theorem read4 (j : Fin 1024) : iblk m c 4 t (ix2 0 j) = (shapeCast S1x1024 (D4 m c) shapeCasts_S1024_S1x1024) (ix2 0 j) := by
  rw [← V_4]
  show V m c main_v8 (((cfg0.win 4).blk t).view.emb (ix2 0 j)) = _
  obtain ⟨i0, i1⟩ := at4 t
  congr 1
  funext a
  apply Fin.ext
  match a with
  | ⟨0, _⟩ => show win0_4.index t (0 : Fin 2) * 1 + 1 * 0 = 0; rw [i0]; try omega
  | ⟨1, _⟩ => show win0_4.index t (1 : Fin 2) * 1024 + 1 * j.val = j.val; rw [i1]; try omega

theorem read5 (j : Fin 256) : iblk m c 5 t (ix2 0 j) = (shapeCast S1x256 (D5 m c) shapeCasts_S256_S1x256) (ix2 0 j) := by
  rw [← V_5]
  show V m c main_v9 (((cfg0.win 5).blk t).view.emb (ix2 0 j)) = _
  obtain ⟨i0, i1⟩ := at5 t
  congr 1
  funext a
  apply Fin.ext
  match a with
  | ⟨0, _⟩ => show win0_5.index t (0 : Fin 2) * 1 + 1 * 0 = 0; rw [i0]; try omega
  | ⟨1, _⟩ => show win0_5.index t (1 : Fin 2) * 256 + 1 * j.val = j.val; rw [i1]; try omega

theorem read6 (j : Fin 256) : iblk m c 6 t (ix2 0 j) = (shapeCast S1x256 (D7 m c) shapeCasts_S256_S1x256) (ix2 0 j) := by
  rw [← V_6]
  show V m c main_v10 (((cfg0.win 6).blk t).view.emb (ix2 0 j)) = _
  obtain ⟨i0, i1⟩ := at6 t
  congr 1
  funext a
  apply Fin.ext
  match a with
  | ⟨0, _⟩ => show win0_6.index t (0 : Fin 2) * 1 + 1 * 0 = 0; rw [i0]; try omega
  | ⟨1, _⟩ => show win0_6.index t (1 : Fin 2) * 256 + 1 * j.val = j.val; rw [i1]; try omega

theorem read7 (p : Fin 128) (j : Fin 256) : iblk m c 7 t (ix2 p j) = (wDecay (D6 m c)) (ix2 p j) := by
  rw [← V_7]
  show V m c main_v2 (((cfg0.win 7).blk t).view.emb (ix2 p j)) = _
  obtain ⟨i0, i1⟩ := at7 t
  congr 1
  funext a
  apply Fin.ext
  match a with
  | ⟨0, _⟩ => show win0_7.index t (0 : Fin 2) * 128 + 1 * p.val = p.val; rw [i0]; try omega
  | ⟨1, _⟩ => show win0_7.index t (1 : Fin 2) * 256 + 1 * j.val = j.val; rw [i1]; try omega

theorem read8 (p : Fin 128) (j : Fin 256) : iblk m c 8 t (ix2 p j) = (wRate (D8 m c)) (ix2 p j) := by
  rw [← V_8]
  show V m c main_v4 (((cfg0.win 8).blk t).view.emb (ix2 p j)) = _
  obtain ⟨i0, i1⟩ := at8 t
  congr 1
  funext a
  apply Fin.ext
  match a with
  | ⟨0, _⟩ => show win0_8.index t (0 : Fin 2) * 128 + 1 * p.val = p.val; rw [i0]; try omega
  | ⟨1, _⟩ => show win0_8.index t (1 : Fin 2) * 256 + 1 * j.val = j.val; rw [i1]; try omega

theorem read9 (p : Fin 128) (j : Fin 256) : iblk m c 9 t (ix2 p j) = (truncf .bf16 (D9 m c) bitsLt_bf16_f32) (ix2 p j) := by
  rw [← V_9]
  show V m c main_v5 (((cfg0.win 9).blk t).view.emb (ix2 p j)) = _
  obtain ⟨i0, i1⟩ := at9 t
  congr 1
  funext a
  apply Fin.ext
  match a with
  | ⟨0, _⟩ => show win0_9.index t (0 : Fin 2) * 128 + 1 * p.val = p.val; rw [i0]; try omega
  | ⟨1, _⟩ => show win0_9.index t (1 : Fin 2) * 256 + 1 * j.val = j.val; rw [i1]; try omega

theorem read10 (p : Fin 3) (j : Fin 256) : iblk m c 10 t (ix2 p j) = (D10 m c) (ix2 p j) := by
  rw [← V_10]
  show V m c main_arg10 (((cfg0.win 10).blk t).view.emb (ix2 p j)) = _
  obtain ⟨i0, i1⟩ := at10 t
  congr 1
  funext a
  apply Fin.ext
  match a with
  | ⟨0, _⟩ => show win0_10.index t (0 : Fin 2) * 3 + 1 * p.val = p.val; rw [i0]; try omega
  | ⟨1, _⟩ => show win0_10.index t (1 : Fin 2) * 256 + 1 * j.val = j.val; rw [i1]; try omega

theorem shift0_at (j : Fin 1024) : iblk m c 2 t (ix3 0 0 j) = D2 m c (ix2 ⟨t.val / 4, by have := lt128 t; omega⟩ j) := by
  rw [read2]
  pointwise []

theorem conv0_at (i : Fin 2) (j : Fin 256) : iblk m c 3 t (ix4 0 i 0 j) = D3 m c (ix3 ⟨t.val / 4, by have := lt128 t; omega⟩ i j) := by
  rw [read3]
  pointwise []

theorem mu_at (j : Fin 1024) : iblk m c 4 t (ix2 0 j) = D4 m c (ix1 j) := by
  rw [read4]
  pointwise []

theorem w0_at (j : Fin 256) : iblk m c 5 t (ix2 0 j) = D5 m c (ix1 j) := by
  rw [read5]
  pointwise []

theorem a0_at (j : Fin 256) : iblk m c 6 t (ix2 0 j) = D7 m c (ix1 j) := by
  rw [read6]
  pointwise []

theorem wDecay_low (w : FVec Ideal S64x256 .f32) (p : Fin 64) (j : Fin 256) : wDecay w (ix2 ⟨p.val, by omega⟩ j) = w (ix2 p j) := by
  pointwise [wDecay]

theorem wDecay_high (w : FVec Ideal S64x256 .f32) (p : Fin 64) (j : Fin 256) : wDecay w (ix2 ⟨64 + p.val, by omega⟩ j) = (0 : EReal) := by
  pointwise [wDecay, zeros]

theorem wRate_low (w : FVec Ideal S64x256 .f32) (p : Fin 64) (j : Fin 256) : wRate w (ix2 ⟨p.val, by omega⟩ j) = (0 : EReal) := by
  pointwise [wRate, zeros]

theorem wRate_high (w : FVec Ideal S64x256 .f32) (p : Fin 64) (j : Fin 256) : wRate w (ix2 ⟨64 + p.val, by omega⟩ j) = w (ix2 p j) := by
  pointwise [wRate, zeros]

theorem wGate_at (p : Fin 128) (j : Fin 256) : iblk m c 9 t (ix2 p j) = D9 m c (ix2 p j) := by
  rw [read9]
  rfl
end reads

end Cert.Mix
end
-- ==== Proof.MixKernel.lean ====
/- THE TOKEN SHIFT'S KERNEL, row by row: what a point leaves at row `r` of its tile is the function of the row's position. -/
module

public import proofs.«01_k».proof.Proof.MixReads

@[expose] public section

set_option maxRecDepth 16384

noncomputable section

namespace Cert.Mix

open Cert.Kernel3Ideal Cert.Kernel3Ideal.Gen Idealize.ShloMosaic Idealize.ShloMosaic.TcCoe

/-- The sequence of a point and the position of a row of its tile. -/
def seqOf (t : Fin cfg0.N) : Fin 32 := ⟨t.val / 4, by have := lt128 t; omega⟩
def posOf (t : Fin cfg0.N) (r : Fin 512) : Fin 2048 := ⟨512 * (t.val % 4) + r.val, by omega⟩

theorem row_eq (t : Fin cfg0.N) (r : Fin 512) (R : Fin 65536) (h : R.val = 512 * t.val + r.val) : R = row (seqOf t) (posOf t r) :=
  Fin.ext (by show R.val = t.val / 4 * 2048 + (512 * (t.val % 4) + r.val); omega)

theorem back_eq (n : ℕ) (t : Fin cfg0.N) (r : Fin 512) (R : Fin 65536) (h : R.val = 512 * t.val + r.val - n) : R = back n (seqOf t) (posOf t r) :=
  Fin.ext (by show R.val = t.val / 4 * 2048 + (512 * (t.val % 4) + r.val) - n; omega)

theorem conv1_at (x : Vec Ideal S1x2x1x256 .f32) (j : Fin 256) : conv1 x (ix4 0 0 0 j) = x (ix4 0 1 0 j) :=
  congrArg x (funext fun a => Fin.ext (by
    match a with
    | ⟨0, _⟩ => rfl
    | ⟨1, _⟩ => rfl
    | ⟨2, _⟩ => rfl
    | ⟨3, _⟩ => show 0 + 1 * j.val = j.val; omega))

theorem conv0_row (x : Vec Ideal S1x2x1x256 .f32) (j : Fin 256) : conv0 x (ix4 0 0 0 j) = x (ix4 0 0 0 j) :=
  congrArg x (funext fun a => Fin.ext (by
    match a with
    | ⟨0, _⟩ => rfl
    | ⟨1, _⟩ => rfl
    | ⟨2, _⟩ => rfl
    | ⟨3, _⟩ => show 0 + 1 * j.val = j.val; omega))

variable (m : (ℓ : Loc nD τ sig) → Buf (Elt Ideal) ℓ) (c : Dev nD) (t : Fin cfg0.N)

/-- The arguments' numbers. -/
def aX : Fin 65536 → Fin 1024 → EReal := v2 (D0 m c)
def aU : Fin 65536 → Fin 768 → EReal := v2 (D1 m c)
def aS : Fin 32 → Fin 1024 → EReal := v2 (D2 m c)
def aC : Fin 32 → Fin 2 → Fin 256 → EReal := v3 (D3 m c)
def aMu : Fin 1024 → EReal := v1 (D4 m c)
def aW0 : Fin 256 → EReal := v1 (D5 m c)
def aWd : Fin 64 → Fin 256 → EReal := v2 (D6 m c)
def aA0 : Fin 256 → EReal := v1 (D7 m c)
def aWi : Fin 64 → Fin 256 → EReal := v2 (D8 m c)
def aWg : Fin 128 → Fin 256 → EReal := v2 (D9 m c)
def aCw : Fin 3 → Fin 256 → EReal := v2 (D10 m c)

theorem x_at (r : Fin 512) (k : Fin 1024) (R : Fin 65536) (h : R.val = 512 * t.val + r.val) : iblk m c 0 t (ix2 r k) = aX m c R k := by
  rw [read0]
  exact congrArg (fun R => aX m c R k) (Fin.ext h.symm)

theorem cu_at (r : Fin 512) (j : Fin 256) (R : Fin 65536) (h : R.val = 512 * t.val + r.val) :
    k0_pay20 (iblk m c 1 t) (ix2 r j) = cuAt (aU m c) R j := by
  rw [cu_apply]
  refine (congrArg₂ (fun a b : EReal => a * b) (read1 m c t r _) (read1 m c t r _)).trans ?_
  exact congrArg (fun R => cuAt (aU m c) R j) (Fin.ext h.symm : (⟨512 * t.val + r.val, by have := lt128 t; omega⟩ : Fin 65536) = R)

theorem pIn_first (h0 : t.val % 4 = 0) (k : Fin 1024) : pIn m c t (ix2 0 k) = aS m c (seqOf t) k := by
  rw [pIn, if_pos h0, initMix]
  exact shift0_at m c t k

theorem pIn_next (h0 : ¬t.val % 4 = 0) (k : Fin 1024) (R : Fin 65536) (h : R.val = 512 * t.val - 1) : pIn m c t (ix2 0 k) = aX m c R k := by
  rw [pIn, if_neg h0, lastMix]
  exact x_at m c (prev t) 511 k R (by show R.val = 512 * (t.val - 1) + 511; omega)

theorem qIn_first (h0 : t.val % 4 = 0) (j : Fin 256) : qIn m c t (ix2 0 j) = aC m c (seqOf t) 1 j := by
  rw [qIn, if_pos h0, initOne, conv1_at]
  exact conv0_at m c t 1 j

theorem qIn_next (h0 : ¬t.val % 4 = 0) (j : Fin 256) (R : Fin 65536) (h : R.val = 512 * t.val - 1) : qIn m c t (ix2 0 j) = cuAt (aU m c) R j := by
  rw [qIn, if_neg h0, lastCu]
  exact cu_at m c (prev t) 511 j R (by show R.val = 512 * (t.val - 1) + 511; omega)

theorem rIn_first (h0 : t.val % 4 = 0) (j : Fin 256) : rIn m c t (ix2 0 j) = aC m c (seqOf t) 0 j := by
  rw [rIn, if_pos h0, initTwo, conv0_row]
  exact conv0_at m c t 0 j

theorem rIn_next (h0 : ¬t.val % 4 = 0) (j : Fin 256) (R : Fin 65536) (h : R.val = 512 * t.val - 2) : rIn m c t (ix2 0 j) = cuAt (aU m c) R j := by
  rw [rIn, if_neg h0, lastCuOne, cuOne_apply, if_neg (by decide)]
  exact cu_at m c (prev t) 510 j R (by show R.val = 512 * (t.val - 1) + 510; omega)

section rows
variable (r : Fin 512)

theorem before_at (k : Fin 1024) :
    (if r.val = 0 then pIn m c t (ix2 0 k) else iblk m c 0 t (ix2 ⟨r.val - 1, by omega⟩ k)) = before (aX m c) (aS m c) (seqOf t) (posOf t r) k := by
  unfold before
  by_cases hr : r.val = 0
  · by_cases h0 : t.val % 4 = 0
    · rw [if_pos hr, if_pos (by show 512 * (t.val % 4) + r.val = 0; omega), pIn_first m c t h0]
    · rw [if_pos hr, if_neg (by show ¬512 * (t.val % 4) + r.val = 0; omega)]
      exact pIn_next m c t h0 k _ (by show t.val / 4 * 2048 + (512 * (t.val % 4) + r.val) - 1 = _; omega)
  · rw [if_neg hr, if_neg (by show ¬512 * (t.val % 4) + r.val = 0; omega)]
    exact x_at m c t _ k _ (by show t.val / 4 * 2048 + (512 * (t.val % 4) + r.val) - 1 = 512 * t.val + (r.val - 1); omega)

theorem mixRow_at (k : Fin 1024) :
    k0_pay8 (pIn m c t) (iblk m c 0 t) (iblk m c 4 t) (ix2 r k) = mixRow (aX m c) (aS m c) (aMu m c) (seqOf t) (posOf t r) k := by
  rw [mix_apply]
  unfold mixRow
  rw [before_at, x_at m c t r k (row (seqOf t) (posOf t r)) (by show t.val / 4 * 2048 + (512 * (t.val % 4) + r.val) = _; omega), mu_at]
  rfl

theorem cu_row (j : Fin 256) : k0_pay20 (iblk m c 1 t) (ix2 r j) = cuAt (aU m c) (row (seqOf t) (posOf t r)) j :=
  cu_at m c t r j _ (by show t.val / 4 * 2048 + (512 * (t.val % 4) + r.val) = _; omega)

theorem cuOne_at (j : Fin 256) : k0_pay21 (qIn m c t) (iblk m c 1 t) (ix2 r j) = cuOne (aU m c) (aC m c) (seqOf t) (posOf t r) j := by
  rw [cuOne_apply]
  unfold cuOne
  by_cases hr : r.val = 0
  · by_cases h0 : t.val % 4 = 0
    · rw [if_pos hr, if_pos (by show 512 * (t.val % 4) + r.val = 0; omega), qIn_first m c t h0]
    · rw [if_pos hr, if_neg (by show ¬512 * (t.val % 4) + r.val = 0; omega)]
      exact qIn_next m c t h0 j _ (by show t.val / 4 * 2048 + (512 * (t.val % 4) + r.val) - 1 = _; omega)
  · rw [if_neg hr, if_neg (by show ¬512 * (t.val % 4) + r.val = 0; omega)]
    exact cu_at m c t _ j _ (by show t.val / 4 * 2048 + (512 * (t.val % 4) + r.val) - 1 = 512 * t.val + (r.val - 1); omega)

theorem cuTwo_at (j : Fin 256) :
    (if r.val = 0 then rIn m c t (ix2 0 j) else k0_pay21 (qIn m c t) (iblk m c 1 t) (ix2 ⟨r.val - 1, by omega⟩ j))
      = cuTwo (aU m c) (aC m c) (seqOf t) (posOf t r) j := by
  unfold cuTwo
  by_cases hr : r.val = 0
  · by_cases h0 : t.val % 4 = 0
    · rw [if_pos hr, if_pos (by show 512 * (t.val % 4) + r.val = 0; omega), rIn_first m c t h0]
    · rw [if_pos hr, if_neg (by show ¬512 * (t.val % 4) + r.val = 0; omega), if_neg (by show ¬512 * (t.val % 4) + r.val = 1; omega)]
      exact rIn_next m c t h0 j _ (by show t.val / 4 * 2048 + (512 * (t.val % 4) + r.val) - 2 = _; omega)
  · rw [if_neg hr, if_neg (by show ¬512 * (t.val % 4) + r.val = 0; omega), cuOne_apply]
    by_cases h1 : r.val = 1
    · by_cases h0 : t.val % 4 = 0
      · rw [if_pos (by show r.val - 1 = 0; omega), if_pos (by show 512 * (t.val % 4) + r.val = 1; omega), qIn_first m c t h0]
      · rw [if_pos (by show r.val - 1 = 0; omega), if_neg (by show ¬512 * (t.val % 4) + r.val = 1; omega)]
        exact qIn_next m c t h0 j _ (by show t.val / 4 * 2048 + (512 * (t.val % 4) + r.val) - 2 = _; omega)
    · rw [if_neg (by show ¬r.val - 1 = 0; omega), if_neg (by show ¬512 * (t.val % 4) + r.val = 1; omega)]
      exact cu_at m c t _ j _ (by show t.val / 4 * 2048 + (512 * (t.val % 4) + r.val) - 2 = 512 * t.val + (r.val - 1 - 1); omega)

theorem decay_at (j : Fin 256) :
    decayOf (pIn m c t) (iblk m c 0 t) (iblk m c 4 t) (iblk m c 5 t) (iblk m c 7 t) (ix2 r j)
      = decayAt (aX m c) (aS m c) (aMu m c) (aW0 m c) (aWd m c) (seqOf t) (posOf t r) j := by
  rw [decay_apply]
  unfold decayAt
  refine congrArg decay (congrArg₂ (fun a b : EReal => a + b) (w0_at m c t j) ?_)
  refine (sum_low (fun x : Fin 128 => Ideal.tanh (k0_pay8 (pIn m c t) (iblk m c 0 t) (iblk m c 4 t) (ix2 r ⟨768 + x.val, by omega⟩)))
    (fun x : Fin 128 => (iblk m c 7 t (ix2 x j) : EReal)) (fun x => aWd m c x j)
    (fun x => (read7 m c t _ j).trans (wDecay_low _ x j)) (fun x => (read7 m c t _ j).trans (wDecay_high _ x j))).trans ?_
  exact Finset.sum_congr rfl fun x _ => congrArg (fun a : EReal => Ideal.tanh a * aWd m c x j) (mixRow_at m c t r ⟨768 + x.val, by omega⟩)

theorem rate_at (j : Fin 256) :
    rateOf (pIn m c t) (iblk m c 0 t) (iblk m c 4 t) (iblk m c 6 t) (iblk m c 8 t) (ix2 r j)
      = rateAt (aX m c) (aS m c) (aMu m c) (aA0 m c) (aWi m c) (seqOf t) (posOf t r) j := by
  rw [rate_apply]
  unfold rateAt
  refine congrArg sigm (congrArg₂ (fun a b : EReal => a + b) (a0_at m c t j) ?_)
  refine (sum_high (fun x : Fin 128 => (k0_pay8 (pIn m c t) (iblk m c 0 t) (iblk m c 4 t) (ix2 r ⟨768 + x.val, by omega⟩) : EReal))
    (fun x : Fin 128 => (iblk m c 8 t (ix2 x j) : EReal)) (fun x => aWi m c x j)
    (fun x => (read8 m c t _ j).trans (wRate_low _ x j)) (fun x => (read8 m c t _ j).trans (wRate_high _ x j))).trans ?_
  refine Finset.sum_congr rfl fun x _ => congrArg (fun a : EReal => a * aWi m c x j) ?_
  have e : (⟨768 + (64 + x.val), by omega⟩ : Fin 1024) = ⟨832 + x.val, by omega⟩ := Fin.ext (by show 768 + (64 + x.val) = 832 + x.val; omega)
  exact (mixRow_at m c t r ⟨768 + (64 + x.val), by omega⟩).trans (congrArg (mixRow (aX m c) (aS m c) (aMu m c) (seqOf t) (posOf t r)) e)

theorem gate_at (j : Fin 256) :
    gateOf (pIn m c t) (iblk m c 0 t) (iblk m c 4 t) (iblk m c 9 t) (ix2 r j)
      = gateAt (aX m c) (aS m c) (aMu m c) (aWg m c) (seqOf t) (posOf t r) j := by
  rw [gate_apply]
  exact Finset.sum_congr rfl fun x _ => congrArg₂ (fun a b : EReal => sigm a * b) (mixRow_at m c t r ⟨896 + x.val, by omega⟩) (wGate_at m c t x j)

theorem conv_at (j : Fin 256) :
    convOf (qIn m c t) (rIn m c t) (iblk m c 1 t) (iblk m c 10 t) (ix2 r j) = convAt (aU m c) (aC m c) (aCw m c) (seqOf t) (posOf t r) j := by
  rw [conv_apply]
  unfold convAt
  have e : iblk m c 1 t (ix2 r ⟨j.val, by omega⟩) = aU m c (row (seqOf t) (posOf t r)) ⟨j.val, by omega⟩ :=
    (read1 m c t r _).trans (congrArg (fun R => aU m c R ⟨j.val, by omega⟩) (row_eq t r _ rfl))
  refine congrArg₂ (fun a b : EReal => a * b) e (congrArg₂ (fun a b : EReal => a + b) (congrArg₂ (fun a b : EReal => a + b) ?_ ?_) ?_)
  · exact congrArg₂ (fun a b : EReal => a * b) (read10 m c t 0 j) (cuTwo_at m c t r j)
  · exact congrArg₂ (fun a b : EReal => a * b) (read10 m c t 1 j) (cuOne_at m c t r j)
  · exact congrArg₂ (fun a b : EReal => a * b) (read10 m c t 2 j) (cu_row m c t r j)
end rows

end Cert.Mix
end
-- ==== Proof.MixRef.lean ====
/- THE REFERENCE OF TOKEN SHIFT, LORAS AND SHORT CONVOLUTION, read at an index. -/
module

public import proofs.«01_k».proof.Proof.Gen.Reference3Ideal.Run
public import proofs.«01_k».proof.Proof.MixRows

@[expose] public section

set_option maxRecDepth 16384

noncomputable section

namespace Cert.Mix.Ref

open Cert.Reference3Ideal Cert.Reference3Ideal.Gen Idealize.ShloMosaic Idealize.ShloMosaic.TcCoe

section anyFloats
variable {F : FTy → Type} [FloatOps F]

/-- The sequences' rows, and the rows before them. -/
def seqs (x : FVec F S65536x1024 .f32) : FVec F S32x2048x1024 .f32 := shapeCast S32x2048x1024 x shapeCasts_S65536x1024_S32x2048x1024

def shifted (x : FVec F S65536x1024 .f32) (s : FVec F S32x1024 .f32) : FVec F S32x2048x1024 .f32 :=
  concatenate S32x2048x1024 1 [⟨S32x1x1024, broadcastInDim S32x1x1024 ![0, 2] bcast_S32x1024_S32x1x1024_0_2 s⟩,
    ⟨S32x2047x1024, extractStridedSlice S32x2047x1024 ![0, 0, 0] (seqs x) slices_S32x2048x1024_S32x2047x1024_0_0_0⟩]
    concatenates_S32x1x1024_S32x2047x1024_S32x2048x1024_d1

/-- The token shift. -/
def mix (x : FVec F S65536x1024 .f32) (s : FVec F S32x1024 .f32) (mu : FVec F S1024 .f32) : FVec F S32x2048x1024 .f32 :=
  addf (seqs x) (mulf (subf (shifted x s) (seqs x))
    (broadcastInDim S32x2048x1024 ![0, 1, 2] bcast_S1x1x1024_S32x2048x1024_0_1_2 (broadcastInDim S1x1x1024 ![2] bcast_S1024_S1x1x1024_2 mu)))

/-- A row of 256 at every position; one number everywhere. -/
def every (w : FVec F S256 .f32) : FVec F S32x2048x256 .f32 :=
  broadcastInDim S32x2048x256 ![0, 1, 2] bcast_S1x1x256_S32x2048x256_0_1_2 (broadcastInDim S1x1x256 ![2] bcast_S256_S1x1x256_2 w)
def all (b : BitVec 32) : FVec F S32x2048x256 .f32 := broadcastInDim S32x2048x256 ![] bcast_S_S32x2048x256 (constant S_ .f32 b)
def allG (b : BitVec 32) : FVec F S32x2048x128 .f32 := broadcastInDim S32x2048x128 ![] bcast_S_S32x2048x128 (constant S_ .f32 b)

/-- `log (1 + exp y)`. -/
def softplus (y : FVec F S32x2048x256 .f32) : FVec F S32x2048x256 .f32 :=
  select (cmpf .une (subf y (all 0x00000000#32)) (subf y (all 0x00000000#32))) (addf y (all 0x00000000#32))
    (addf (maximumf y (all 0x00000000#32)) (Host.log1p (Host.exp (Host.negf (Host.absf (subf y (all 0x00000000#32)))))))

def decayIn (p : FVec F S32x2048x1024 .f32) (w0 : FVec F S256 .f32) (W : FVec F S64x256 .f32) : FVec F S32x2048x256 .f32 :=
  addf (every w0) (Host.dotGeneral dot_S32x2048x64_S64x256_S32x2048x256_2_0_01_1_n_n none
    (Host.tanh (extractStridedSlice S32x2048x64 ![0, 0, 768] p slices_S32x2048x1024_S32x2048x64_0_0_768)) W)

def decays (z : FVec F S32x2048x256 .f32) : FVec F S32x2048x256 .f32 :=
  Host.exp (Host.negf (Host.exp (subf (Host.negf (softplus (Host.negf z))) (all 0x3F000000#32))))

def rateIn (p : FVec F S32x2048x1024 .f32) (a0 : FVec F S256 .f32) (W : FVec F S64x256 .f32) : FVec F S32x2048x256 .f32 :=
  addf (every a0) (Host.dotGeneral dot_S32x2048x64_S64x256_S32x2048x256_2_0_01_1_n_n none
    (extractStridedSlice S32x2048x64 ![0, 0, 832] p slices_S32x2048x1024_S32x2048x64_0_0_832) W)

def rates (z : FVec F S32x2048x256 .f32) : FVec F S32x2048x256 .f32 :=
  Host.divf (all 0x3F800000#32) (addf (all 0x3F800000#32) (Host.exp (Host.negf z)))

def gates (p : FVec F S32x2048x1024 .f32) (W : FVec F S128x256 .f32) : FVec F S32x2048x256 .f32 :=
  Host.dotGeneral dot_S32x2048x128_S128x256_S32x2048x256_2_0_01_1_n_n none
    (Host.divf (allG 0x3F800000#32) (addf (allG 0x3F800000#32)
      (Host.exp (Host.negf (extractStridedSlice S32x2048x128 ![0, 0, 896] p slices_S32x2048x1024_S32x2048x128_0_0_896))))) W

/-- The convolution's columns; its input, after the state's two rows. -/
def cseqs (u : FVec F S65536x768 .f32) : FVec F S32x2048x768 .f32 := shapeCast S32x2048x768 u shapeCasts_S65536x768_S32x2048x768

def padded (u : FVec F S65536x768 .f32) (s : FVec F S32x2x256 .f32) : FVec F S32x2050x256 .f32 :=
  concatenate S32x2050x256 1 [⟨S32x2x256, s⟩,
    ⟨S32x2048x256, mulf (extractStridedSlice S32x2048x256 ![0, 0, 256] (cseqs u) slices_S32x2048x768_S32x2048x256_0_0_256)
      (extractStridedSlice S32x2048x256 ![0, 0, 512] (cseqs u) slices_S32x2048x768_S32x2048x256_0_0_512)⟩]
    concatenates_S32x2x256_S32x2048x256_S32x2050x256_d1

def convs (u : FVec F S65536x768 .f32) (s : FVec F S32x2x256 .f32) (w : FVec F S3x256 .f32) : FVec F S32x2048x256 .f32 :=
  mulf (extractStridedSlice S32x2048x256 ![0, 0, 0] (cseqs u) slices_S32x2048x768_S32x2048x256_0_0_0)
    (addf
      (addf
        (mulf (every (shapeCast S256 (extractStridedSlice S1x256 ![0, 0] w slices_S3x256_S1x256_0_0) shapeCasts_S1x256_S256))
          (extractStridedSlice S32x2048x256 ![0, 0, 0] (padded u s) slices_S32x2050x256_S32x2048x256_0_0_0))
        (mulf (every (shapeCast S256 (extractStridedSlice S1x256 ![1, 0] w slices_S3x256_S1x256_1_0) shapeCasts_S1x256_S256))
          (extractStridedSlice S32x2048x256 ![0, 1, 0] (padded u s) slices_S32x2050x256_S32x2048x256_0_1_0)))
      (mulf (every (shapeCast S256 (extractStridedSlice S1x256 ![2, 0] w slices_S3x256_S1x256_2_0) shapeCasts_S1x256_S256))
        (extractStridedSlice S32x2048x256 ![0, 2, 0] (padded u s) slices_S32x2050x256_S32x2048x256_0_2_0)))

/-- The sequences' rows again as one list. -/
def rows (y : FVec F S32x2048x256 .f32) : FVec F S65536x256 .f32 := shapeCast S65536x256 y shapeCasts_S32x2048x256_S65536x256

def out0 (p : FVec F S32x2048x1024 .f32) : FVec F S65536x256 .f32 := rows (extractStridedSlice S32x2048x256 ![0, 0, 0] p slices_S32x2048x1024_S32x2048x256_0_0_0)
def out1 (p : FVec F S32x2048x1024 .f32) : FVec F S65536x256 .f32 := rows (extractStridedSlice S32x2048x256 ![0, 0, 256] p slices_S32x2048x1024_S32x2048x256_0_0_256)
def out2 (p : FVec F S32x2048x1024 .f32) : FVec F S65536x256 .f32 := rows (extractStridedSlice S32x2048x256 ![0, 0, 512] p slices_S32x2048x1024_S32x2048x256_0_0_512)
def out6 (u : FVec F S65536x768 .f32) (s : FVec F S32x2x256 .f32) (w : FVec F S3x256 .f32) : FVec F S65536x256 .bf16 := truncf .bf16 (rows (convs u s w)) bitsLt_bf16_f32
def out7 (u : FVec F S65536x768 .f32) (s : FVec F S32x2x256 .f32) : FVec F S65536x256 .f32 :=
  rows (extractStridedSlice S32x2048x256 ![0, 2, 0] (padded u s) slices_S32x2050x256_S32x2048x256_0_2_0)
end anyFloats

variable (x : FVec Ideal S65536x1024 .f32) (s : FVec Ideal S32x1024 .f32) (mu : FVec Ideal S1024 .f32) (b : Fin 32) (t : Fin 2048)

theorem seqs_apply (k : Fin 1024) : seqs x (ix3 b t k) = v2 x (row b t) k := by
  pointwise [seqs]
  rfl

theorem shifted_apply (k : Fin 1024) : shifted x s (ix3 b t k) = before (v2 x) (v2 s) b t k := by
  pointwise [shifted]
  unfold before
  by_cases h : t.val = 0
  · rw [dif_pos (by omega), if_pos h]
    rfl
  · rw [dif_neg (by omega), if_neg h, seqs_apply]
    exact congrArg (fun R => v2 x R k) (Fin.ext (by show b.val * 2048 + (t.val - 1) = b.val * 2048 + t.val - 1; omega))

theorem mix_apply (k : Fin 1024) : mix x s mu (ix3 b t k) = mixRow (v2 x) (v2 s) (v1 mu) b t k := by
  pointwise [mix]
  rw [seqs_apply, shifted_apply]
  rfl

theorem softplus_apply (y : FVec Ideal S32x2048x256 .f32) (j : Fin 256) : softplus y (ix3 b t j) = soft (y (ix3 b t j)) := by
  pointwise [softplus, all]
  rw [if_neg (by simp)]
  rfl

theorem decayIn_apply (p : FVec Ideal S32x2048x1024 .f32) (w0 : FVec Ideal S256 .f32) (W : FVec Ideal S64x256 .f32) (j : Fin 256) :
    decayIn p w0 W (ix3 b t j) = (w0 (ix1 j) : EReal) + ∑ x : Fin 64, Ideal.tanh (p (ix3 b t ⟨768 + x.val, by omega⟩)) * (W (ix2 x j) : EReal) := by
  pointwise [decayIn, every]

theorem decays_apply (z : FVec Ideal S32x2048x256 .f32) (j : Fin 256) : decays z (ix3 b t j) = decay (z (ix3 b t j)) := by
  pointwise [decays, all]
  rw [softplus_apply]
  rfl

theorem rateIn_apply (p : FVec Ideal S32x2048x1024 .f32) (w0 : FVec Ideal S256 .f32) (W : FVec Ideal S64x256 .f32) (j : Fin 256) :
    rateIn p w0 W (ix3 b t j) = (w0 (ix1 j) : EReal) + ∑ x : Fin 64, (p (ix3 b t ⟨832 + x.val, by omega⟩) : EReal) * (W (ix2 x j) : EReal) := by
  pointwise [rateIn, every]

theorem rates_apply (z : FVec Ideal S32x2048x256 .f32) (j : Fin 256) : rates z (ix3 b t j) = sigm (z (ix3 b t j)) := by
  pointwise [rates, all]
  rfl

theorem gates_apply (p : FVec Ideal S32x2048x1024 .f32) (W : FVec Ideal S128x256 .f32) (j : Fin 256) :
    gates p W (ix3 b t j) = ∑ x : Fin 128, sigm (p (ix3 b t ⟨896 + x.val, by omega⟩)) * (W (ix2 x j) : EReal) := by
  pointwise [gates, allG]
  rfl

variable (u : FVec Ideal S65536x768 .f32) (cs : FVec Ideal S32x2x256 .f32) (w : FVec Ideal S3x256 .f32)

theorem cseqs_apply (k : Fin 768) : cseqs u (ix3 b t k) = v2 u (row b t) k := by
  pointwise [cseqs]
  rfl

theorem padded_apply (i : Fin 2050) (j : Fin 256) : padded u cs (ix3 b i j)
    = if h : i.val < 2 then v3 cs b ⟨i.val, h⟩ j else cuAt (v2 u) (row b ⟨i.val - 2, by omega⟩) j := by
  pointwise [padded]
  by_cases h : i.val < 2
  · rw [dif_pos h, dif_pos h]
    rfl
  · rw [dif_neg h, dif_neg h, cseqs_apply, cseqs_apply]
    rfl

theorem padded_two (j : Fin 256) : padded u cs (ix3 b ⟨t.val, by omega⟩ j) = cuTwo (v2 u) (v3 cs) b t j := by
  rw [padded_apply]
  unfold cuTwo
  by_cases h : t.val = 0
  · rw [if_pos h, dif_pos (by show t.val < 2; omega)]
    exact congrArg (fun i => v3 cs b i j) (Fin.ext h)
  · by_cases h1 : t.val = 1
    · rw [if_neg h, if_pos h1, dif_pos (by show t.val < 2; omega)]
      exact congrArg (fun i => v3 cs b i j) (Fin.ext h1)
    · rw [if_neg h, if_neg h1, dif_neg (by show ¬t.val < 2; omega)]
      exact congrArg (fun R => cuAt (v2 u) R j) (Fin.ext (by show b.val * 2048 + (t.val - 2) = b.val * 2048 + t.val - 2; omega))

theorem padded_one (j : Fin 256) : padded u cs (ix3 b ⟨1 + t.val, by omega⟩ j) = cuOne (v2 u) (v3 cs) b t j := by
  rw [padded_apply]
  unfold cuOne
  by_cases h : t.val = 0
  · rw [if_pos h, dif_pos (by show 1 + t.val < 2; omega)]
    exact congrArg (fun i => v3 cs b i j) (Fin.ext (by show 1 + t.val = 1; omega))
  · rw [if_neg h, dif_neg (by show ¬1 + t.val < 2; omega)]
    exact congrArg (fun R => cuAt (v2 u) R j) (Fin.ext (by show b.val * 2048 + (1 + t.val - 2) = b.val * 2048 + t.val - 1; omega))

theorem padded_zero (j : Fin 256) : padded u cs (ix3 b ⟨2 + t.val, by omega⟩ j) = cuAt (v2 u) (row b t) j := by
  rw [padded_apply, dif_neg (by show ¬2 + t.val < 2; omega)]
  exact congrArg (fun R => cuAt (v2 u) R j) (Fin.ext (by show b.val * 2048 + (2 + t.val - 2) = b.val * 2048 + t.val; omega))

theorem convs_apply (j : Fin 256) : convs u cs w (ix3 b t j) = convAt (v2 u) (v3 cs) (v2 w) b t j := by
  pointwise [convs, every]
  rw [cseqs_apply, padded_two, padded_one, padded_zero]
  rfl

theorem rows_apply (y : FVec Ideal S32x2048x256 .f32) (R : Fin 65536) (j : Fin 256) :
    rows y (ix2 R j) = y (ix3 ⟨R.val / 2048, by omega⟩ ⟨R.val % 2048, by omega⟩ j) := by
  pointwise [rows]

end Cert.Mix.Ref
end
-- ==== Proof.MixClaims.lean ====
/- THE TOKEN SHIFT'S CLAIMS: the two idealized programs compute the same eight arrays. -/
module

public import proofs.«01_k».proof.Defs
public import proofs.«01_k».proof.Proof.MixKernel
public import proofs.«01_k».proof.Proof.MixRef
public import proofs.«01_k».proof.Proof.Gen.Kernel3Ideal.Value
public import proofs.«01_k».proof.Proof.Gen.Reference3Ideal.Run

@[expose] public section

set_option maxRecDepth 16384

noncomputable section

namespace Cert.Mix

open Idealize.ShloMosaic Idealize.SL.Sem

/-- The sequence and the position of a flat row. -/
def seqR (R : Fin 65536) : Fin 32 := ⟨R.val / 2048, by omega⟩
def posR (R : Fin 65536) : Fin 2048 := ⟨R.val % 2048, by omega⟩

section kernel
open Cert.Kernel3Ideal Cert.Kernel3Ideal.Gen Cert.Kernel3Ideal.Value Idealize.ShloMosaic.TcCoe

variable (m : (ℓ : Loc Cert.Kernel3Ideal.nD Cert.Kernel3Ideal.τ Cert.Kernel3Ideal.sig) → Buf (Elt Ideal) ℓ) (c : Dev Cert.Kernel3Ideal.nD)

def tile (R : Fin 65536) : Fin cfg0.N := ⟨R.val / 512, lt_of_lt_of_eq (show R.val / 512 < 128 by omega) N_0.symm⟩
def place (R : Fin 65536) : Fin 512 := ⟨R.val % 512, by omega⟩

theorem seq_tile (R : Fin 65536) : seqOf (tile R) = seqR R := Fin.ext (by show R.val / 512 / 4 = R.val / 2048; omega)
theorem pos_tile (R : Fin 65536) : posOf (tile R) (place R) = posR R :=
  Fin.ext (by show 512 * (R.val / 512 % 4) + R.val % 512 = R.val % 2048; omega)

theorem outs_tile (t : Fin cfg0.N) (n : ℕ) (hn : n = t.val) (h : n < cfg0.N) : outsAt0 m c n h = outsAt0 m c t.val t.isLt := by
  subst hn
  rfl

theorem out11_at (R : Fin 65536) (j : Fin 256) : G11 m c (ix2 R j) = mixRow (aX m c) (aS m c) (aMu m c) (seqR R) (posR R) ⟨j.val, by omega⟩ := by
  have hp : pt11Of (ix2 R j) = (tile R).val := by show 1 * (R.val / 512 - 0) + 1 * (j.val / 256 - 0) = R.val / 512; omega
  have h : pt11Of (ix2 R j) < cfg0.N := lt_of_eq_of_lt hp (tile R).isLt
  have hl : loc11Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left11]
  exact (r_apply _ _ _ _ _).trans (mixRow_at m c _ _ _)

theorem out12_at (R : Fin 65536) (j : Fin 256) : G12 m c (ix2 R j) = mixRow (aX m c) (aS m c) (aMu m c) (seqR R) (posR R) ⟨256 + j.val, by omega⟩ := by
  have hp : pt12Of (ix2 R j) = (tile R).val := by show 1 * (R.val / 512 - 0) + 1 * (j.val / 256 - 0) = R.val / 512; omega
  have h : pt12Of (ix2 R j) < cfg0.N := lt_of_eq_of_lt hp (tile R).isLt
  have hl : loc12Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left12]
  exact (k_apply _ _ _ _ _).trans (mixRow_at m c _ _ _)

theorem out13_at (R : Fin 65536) (j : Fin 256) : G13 m c (ix2 R j) = mixRow (aX m c) (aS m c) (aMu m c) (seqR R) (posR R) ⟨512 + j.val, by omega⟩ := by
  have hp : pt13Of (ix2 R j) = (tile R).val := by show 1 * (R.val / 512 - 0) + 1 * (j.val / 256 - 0) = R.val / 512; omega
  have h : pt13Of (ix2 R j) < cfg0.N := lt_of_eq_of_lt hp (tile R).isLt
  have hl : loc13Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left13]
  exact (v_apply _ _ _ _ _).trans (mixRow_at m c _ _ _)

theorem out14_at (R : Fin 65536) (j : Fin 256) : G14 m c (ix2 R j) = decayAt (aX m c) (aS m c) (aMu m c) (aW0 m c) (aWd m c) (seqR R) (posR R) j := by
  have hp : pt14Of (ix2 R j) = (tile R).val := by show 1 * (R.val / 512 - 0) + 1 * (j.val / 256 - 0) = R.val / 512; omega
  have h : pt14Of (ix2 R j) < cfg0.N := lt_of_eq_of_lt hp (tile R).isLt
  have hl : loc14Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left14]
  exact decay_at m c _ _ j

theorem out15_at (R : Fin 65536) (j : Fin 256) : G15 m c (ix2 R j) = rateAt (aX m c) (aS m c) (aMu m c) (aA0 m c) (aWi m c) (seqR R) (posR R) j := by
  have hp : pt15Of (ix2 R j) = (tile R).val := by show 1 * (R.val / 512 - 0) + 1 * (j.val / 256 - 0) = R.val / 512; omega
  have h : pt15Of (ix2 R j) < cfg0.N := lt_of_eq_of_lt hp (tile R).isLt
  have hl : loc15Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left15]
  exact rate_at m c _ _ j

theorem out16_at (R : Fin 65536) (j : Fin 256) : G16 m c (ix2 R j) = gateAt (aX m c) (aS m c) (aMu m c) (aWg m c) (seqR R) (posR R) j := by
  have hp : pt16Of (ix2 R j) = (tile R).val := by show 1 * (R.val / 512 - 0) + 1 * (j.val / 256 - 0) = R.val / 512; omega
  have h : pt16Of (ix2 R j) < cfg0.N := lt_of_eq_of_lt hp (tile R).isLt
  have hl : loc16Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left16]
  exact gate_at m c _ _ j

theorem out17_at (R : Fin 65536) (j : Fin 256) : G17 m c (ix2 R j) = convAt (aU m c) (aC m c) (aCw m c) (seqR R) (posR R) j := by
  have hp : pt17Of (ix2 R j) = (tile R).val := by show 1 * (R.val / 512 - 0) + 1 * (j.val / 256 - 0) = R.val / 512; omega
  have h : pt17Of (ix2 R j) < cfg0.N := lt_of_eq_of_lt hp (tile R).isLt
  have hl : loc17Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left17]
  exact conv_at m c _ _ j

theorem out18_at (R : Fin 65536) (j : Fin 256) : G18 m c (ix2 R j) = cuAt (aU m c) (row (seqR R) (posR R)) j := by
  have hp : pt18Of (ix2 R j) = (tile R).val := by show 1 * (R.val / 512 - 0) + 1 * (j.val / 256 - 0) = R.val / 512; omega
  have h : pt18Of (ix2 R j) < cfg0.N := lt_of_eq_of_lt hp (tile R).isLt
  have hl : loc18Of (ix2 R j) = ix2 (place R) j := funext fun a => Fin.ext (by
    match a with
    | ⟨0, _⟩ => rfl
    | ⟨1, _⟩ => show j.val % 256 = j.val; omega)
  rw [← seq_tile, ← pos_tile]
  refine (dif_pos h).trans ?_
  rw [hl, ← outsAt0_sweep m c _ h, outs_tile m c (tile R) _ hp h, left18]
  exact cu_row m c _ _ j

end kernel

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The reference's arguments are the kernel's. -/
def Agree : Prop := m' ((c.tc : Thread Cert.Reference3Ideal.nD Cert.Reference3Ideal.τ).loc Cert.Reference3Ideal.main_arg0) = D0 m c
      ∧ m' ((c.tc : Thread Cert.Reference3Ideal.nD Cert.Reference3Ideal.τ).loc Cert.Reference3Ideal.main_arg1) = D1 m c
      ∧ m' ((c.tc : Thread Cert.Reference3Ideal.nD Cert.Reference3Ideal.τ).loc Cert.Reference3Ideal.main_arg2) = D2 m c
      ∧ m' ((c.tc : Thread Cert.Reference3Ideal.nD Cert.Reference3Ideal.τ).loc Cert.Reference3Ideal.main_arg3) = D3 m c
      ∧ m' ((c.tc : Thread Cert.Reference3Ideal.nD Cert.Reference3Ideal.τ).loc Cert.Reference3Ideal.main_arg4) = D4 m c
      ∧ m' ((c.tc : Thread Cert.Reference3Ideal.nD Cert.Reference3Ideal.τ).loc Cert.Reference3Ideal.main_arg5) = D5 m c
      ∧ m' ((c.tc : Thread Cert.Reference3Ideal.nD Cert.Reference3Ideal.τ).loc Cert.Reference3Ideal.main_arg6) = D6 m c
      ∧ m' ((c.tc : Thread Cert.Reference3Ideal.nD Cert.Reference3Ideal.τ).loc Cert.Reference3Ideal.main_arg7) = D7 m c
      ∧ m' ((c.tc : Thread Cert.Reference3Ideal.nD Cert.Reference3Ideal.τ).loc Cert.Reference3Ideal.main_arg8) = D8 m c
      ∧ m' ((c.tc : Thread Cert.Reference3Ideal.nD Cert.Reference3Ideal.τ).loc Cert.Reference3Ideal.main_arg9) = D9 m c
      ∧ m' ((c.tc : Thread Cert.Reference3Ideal.nD Cert.Reference3Ideal.τ).loc Cert.Reference3Ideal.main_arg10) = D10 m c

/-- The reference's arguments. -/
def E0 : FVec Ideal Cert.Reference3Ideal.S65536x1024 .f32 := m' ((c.tc : Thread Cert.Reference3Ideal.nD Cert.Reference3Ideal.τ).loc Cert.Reference3Ideal.main_arg0)
def E1 : FVec Ideal Cert.Reference3Ideal.S65536x768 .f32 := m' ((c.tc : Thread Cert.Reference3Ideal.nD Cert.Reference3Ideal.τ).loc Cert.Reference3Ideal.main_arg1)
def E2 : FVec Ideal Cert.Reference3Ideal.S32x1024 .f32 := m' ((c.tc : Thread Cert.Reference3Ideal.nD Cert.Reference3Ideal.τ).loc Cert.Reference3Ideal.main_arg2)
def E3 : FVec Ideal Cert.Reference3Ideal.S32x2x256 .f32 := m' ((c.tc : Thread Cert.Reference3Ideal.nD Cert.Reference3Ideal.τ).loc Cert.Reference3Ideal.main_arg3)
def E4 : FVec Ideal Cert.Reference3Ideal.S1024 .f32 := m' ((c.tc : Thread Cert.Reference3Ideal.nD Cert.Reference3Ideal.τ).loc Cert.Reference3Ideal.main_arg4)
def E5 : FVec Ideal Cert.Reference3Ideal.S256 .f32 := m' ((c.tc : Thread Cert.Reference3Ideal.nD Cert.Reference3Ideal.τ).loc Cert.Reference3Ideal.main_arg5)
def E6 : FVec Ideal Cert.Reference3Ideal.S64x256 .f32 := m' ((c.tc : Thread Cert.Reference3Ideal.nD Cert.Reference3Ideal.τ).loc Cert.Reference3Ideal.main_arg6)
def E7 : FVec Ideal Cert.Reference3Ideal.S256 .f32 := m' ((c.tc : Thread Cert.Reference3Ideal.nD Cert.Reference3Ideal.τ).loc Cert.Reference3Ideal.main_arg7)
def E8 : FVec Ideal Cert.Reference3Ideal.S64x256 .f32 := m' ((c.tc : Thread Cert.Reference3Ideal.nD Cert.Reference3Ideal.τ).loc Cert.Reference3Ideal.main_arg8)
def E9 : FVec Ideal Cert.Reference3Ideal.S128x256 .f32 := m' ((c.tc : Thread Cert.Reference3Ideal.nD Cert.Reference3Ideal.τ).loc Cert.Reference3Ideal.main_arg9)
def E10 : FVec Ideal Cert.Reference3Ideal.S3x256 .f32 := m' ((c.tc : Thread Cert.Reference3Ideal.nD Cert.Reference3Ideal.τ).loc Cert.Reference3Ideal.main_arg10)

/-- The reference's columns after the shift. -/
def mixE : FVec Ideal Cert.Reference3Ideal.S32x2048x1024 .f32 := Ref.mix (E0 m' c) (E2 m' c) (E4 m' c)

variable {m m' c} (ha : Agree m m' c)
include ha

theorem same0 : E0 m' c = D0 m c := ha.1
theorem same1 : E1 m' c = D1 m c := ha.2.1
theorem same2 : E2 m' c = D2 m c := ha.2.2.1
theorem same3 : E3 m' c = D3 m c := ha.2.2.2.1
theorem same4 : E4 m' c = D4 m c := ha.2.2.2.2.1
theorem same5 : E5 m' c = D5 m c := ha.2.2.2.2.2.1
theorem same6 : E6 m' c = D6 m c := ha.2.2.2.2.2.2.1
theorem same7 : E7 m' c = D7 m c := ha.2.2.2.2.2.2.2.1
theorem same8 : E8 m' c = D8 m c := ha.2.2.2.2.2.2.2.2.1
theorem same9 : E9 m' c = D9 m c := ha.2.2.2.2.2.2.2.2.2.1
theorem same10 : E10 m' c = D10 m c := ha.2.2.2.2.2.2.2.2.2.2

theorem mix_same (b : Fin 32) (s : Fin 2048) (k : Fin 1024) : mixE m' c (ix3 b s k) = mixRow (aX m c) (aS m c) (aMu m c) b s k := by
  unfold mixE
  rw [Ref.mix_apply, same0 ha, same2 ha, same4 ha]
  rfl

theorem same_out0 : Ref.out0 (mixE m' c) = Cert.Kernel3Ideal.Value.G11 m c := by
  funext z
  idx_vars z
  refine Eq.trans ?_ (out11_at m c z0 z1).symm
  unfold Ref.out0
  rw [Ref.rows_apply]
  refine Eq.trans ?_ (mix_same ha _ _ _)
  pointwise []
  rfl

theorem same_out1 : Ref.out1 (mixE m' c) = Cert.Kernel3Ideal.Value.G12 m c := by
  funext z
  idx_vars z
  refine Eq.trans ?_ (out12_at m c z0 z1).symm
  unfold Ref.out1
  rw [Ref.rows_apply]
  refine Eq.trans ?_ (mix_same ha _ _ _)
  pointwise []
  rfl

theorem same_out2 : Ref.out2 (mixE m' c) = Cert.Kernel3Ideal.Value.G13 m c := by
  funext z
  idx_vars z
  refine Eq.trans ?_ (out13_at m c z0 z1).symm
  unfold Ref.out2
  rw [Ref.rows_apply]
  refine Eq.trans ?_ (mix_same ha _ _ _)
  pointwise []
  rfl

theorem same_decay : Ref.rows (Ref.decays (Ref.decayIn (mixE m' c) (E5 m' c) (E6 m' c))) = Cert.Kernel3Ideal.Value.G14 m c := by
  funext z
  idx_vars z
  refine Eq.trans ?_ (out14_at m c z0 z1).symm
  rw [Ref.rows_apply, Ref.decays_apply, Ref.decayIn_apply, same5 ha, same6 ha]
  simp only [mix_same ha]
  rfl

theorem same_rate : Ref.rows (Ref.rates (Ref.rateIn (mixE m' c) (E7 m' c) (E8 m' c))) = Cert.Kernel3Ideal.Value.G15 m c := by
  funext z
  idx_vars z
  refine Eq.trans ?_ (out15_at m c z0 z1).symm
  rw [Ref.rows_apply, Ref.rates_apply, Ref.rateIn_apply, same7 ha, same8 ha]
  simp only [mix_same ha]
  rfl

theorem same_gate : Ref.rows (Ref.gates (mixE m' c) (E9 m' c)) = Cert.Kernel3Ideal.Value.G16 m c := by
  funext z
  idx_vars z
  refine Eq.trans ?_ (out16_at m c z0 z1).symm
  rw [Ref.rows_apply, Ref.gates_apply, same9 ha]
  simp only [mix_same ha]
  rfl

theorem same_conv : Ref.out6 (E1 m' c) (E3 m' c) (E10 m' c) = Cert.Kernel3Ideal.Value.G17 m c := by
  funext z
  idx_vars z
  refine Eq.trans ?_ (out17_at m c z0 z1).symm
  refine Eq.trans (b := Ref.rows (Ref.convs (E1 m' c) (E3 m' c) (E10 m' c)) (ix2 z0 z1)) rfl ?_
  rw [Ref.rows_apply, Ref.convs_apply, same1 ha, same3 ha, same10 ha]
  rfl

theorem same_cu : Ref.out7 (E1 m' c) (E3 m' c) = Cert.Kernel3Ideal.Value.G18 m c := by
  funext z
  idx_vars z
  refine Eq.trans ?_ (out18_at m c z0 z1).symm
  unfold Ref.out7
  rw [Ref.rows_apply]
  refine Eq.trans ?_ ((Ref.padded_zero (seqR z0) (posR z0) (E1 m' c) (E3 m' c) z1).trans (by rw [same1 ha]; rfl))
  pointwise []
  rfl

end

/-- The reference declares no semaphore and its run leaves the arguments. -/
theorem ref_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
        ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
        ∧ r.2.sem = fun _ => 0) :=
  (θ_run _ _ _).mono (fun r h => ⟨fun c => (h c).2.2.2.2.2.2.2.2, sem_eq_zero_of_no_sems (by decide) r.2⟩) (Cert.Reference3Ideal.Value.run (F := Ideal) m ρ)

theorem algebraic : Cert.algebraic_Kernel3Ideal_Reference3Ideal
    (hKernel3Ideal := Cert.Kernel3Ideal.Gen.facts) (hReference3Ideal := Cert.Reference3Ideal.Gen.facts) :=
  fun m ρ m' ρ' _ hag => ⟨fun c => Cert.Kernel3Ideal.Value.G11 m c, fun c => Cert.Kernel3Ideal.Value.G12 m c, fun c => Cert.Kernel3Ideal.Value.G13 m c, fun c => Cert.Kernel3Ideal.Value.G14 m c, fun c => Cert.Kernel3Ideal.Value.G15 m c, fun c => Cert.Kernel3Ideal.Value.G16 m c, fun c => Cert.Kernel3Ideal.Value.G17 m c, fun c => Cert.Kernel3Ideal.Value.G18 m c,
    Cert.Kernel3Ideal.Value.run (F := Ideal) m ρ,
    (θ_run _ _ _).mono (fun _ h c => ⟨(h c).1.trans (same_out0 (hag c)),
        (h c).2.1.trans (same_out1 (hag c)),
        (h c).2.2.1.trans (same_out2 (hag c)),
        (h c).2.2.2.1.trans (same_decay (hag c)),
        (h c).2.2.2.2.1.trans (same_rate (hag c)),
        (h c).2.2.2.2.2.1.trans (same_gate (hag c)),
        (h c).2.2.2.2.2.2.1.trans (same_conv (hag c)),
        (h c).2.2.2.2.2.2.2.1.trans (same_cu (hag c)), (h c).2.2.2.2.2.2.2.2⟩)
      (Cert.Reference3Ideal.Value.run (F := Ideal) m' ρ')⟩

end Cert.Mix
end
-- ==== Proof.SampFinite.lean ====
/- THE PRECONDITION of the input projection of the sample batch, read: every entry of its eight arguments is a real number. -/
module

public import proofs.«01_k».proof.Pre_finite4
public import proofs.«01_k».proof.Proof.Finite
public import proofs.«01_k».proof.Proof.ProjFinite

@[expose] public section

set_option maxRecDepth 16384

noncomputable section

namespace Cert.Samp

open Cert.Pre_finite4 Idealize.ShloMosaic Cert.Proj

instance finiteFacts4 : Cert.Pre_finite4.Facts where
  bcast_S_S128x4x1024 := by decide
  reducesTo_S128x4x1024_S_d0_1_2 := by decide
  h_S_ := by decide
  bcast_S_S1024 := by decide
  reducesTo_S1024_S_d0 := by decide
  bcast_S_S1024x2144 := by decide
  reducesTo_S1024x2144_S_d0_1 := by decide
  bcast_S_S192 := by decide
  reducesTo_S192_S_d0 := by decide
  bcast_S_S192x8x96 := by decide
  reducesTo_S192x8x96_S_d0_1_2 := by decide
  bcast_S_S128 := by decide
  reducesTo_S128_S_d0 := by decide
  bcast_S_S128x8x64 := by decide
  reducesTo_S128x8x64_S_d0_1_2 := by decide

theorem real_args (a0 : FVec Ideal S128x4x1024 .f32) (a1 : FVec Ideal S1024 .f32) (a2 : FVec Ideal S1024 .f32) (a3 : FVec Ideal S1024x2144 .f32) (a4 : FVec Ideal S192 .f32) (a5 : FVec Ideal S192x8x96 .f32) (a6 : FVec Ideal S128 .f32) (a7 : FVec Ideal S128x8x64 .f32)
    (h : Cert.Pre_finite4.fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  unfold Cert.Pre_finite4.fn Cert.Pre_finite4.fn_part1 Cert.Pre_finite4.fn_part2 at h0
  dsimp only at h0
  obtain ⟨h0, h7⟩ := Cert.Attn.and_split h0
  obtain ⟨h0, h6⟩ := Cert.Attn.and_split h0
  obtain ⟨h0, h5⟩ := Cert.Attn.and_split h0
  obtain ⟨h0, h4⟩ := Cert.Attn.and_split h0
  obtain ⟨h0, h3⟩ := Cert.Attn.and_split h0
  obtain ⟨h0, h2⟩ := Cert.Attn.and_split h0
  obtain ⟨h0, h1⟩ := Cert.Attn.and_split h0
  exact ⟨Cert.Attn.real_of_all _ _ _ _ h0, Cert.Attn.real_of_all _ _ _ _ h1, Cert.Attn.real_of_all _ _ _ _ h2, Cert.Attn.real_of_all _ _ _ _ h3, Cert.Attn.real_of_all _ _ _ _ h4, Cert.Attn.real_of_all _ _ _ _ h5, Cert.Attn.real_of_all _ _ _ _ h6, Cert.Attn.real_of_all _ _ _ _ h7⟩

end Cert.Samp
end
-- ==== Proof.ProjOut.lean ====
/- A ROW OF A POINT'S BLOCKS: what the input projection stores of it, of blocks that hold the row's input, the prepared weights and the row's
   place in the tables. -/
module

public import proofs.«01_k».proof.Proof.ProjBlock
public import proofs.«01_k».proof.Proof.ProjPads
public import proofs.«01_k».proof.Proof.ProjReal
public import proofs.«01_k».proof.Proof.ProjLayer

@[expose] public section

set_option maxRecDepth 16384

noncomputable section

namespace Cert.Proj.Out

open Cert.Kernel2Ideal Cert.Kernel2Ideal.Gen Idealize.ShloMosaic Idealize.ShloMosaic.TcCoe

/-- The nine blocks a point reads. -/
structure Blocks where
  x : FVec Ideal S512x1024 .f32
  g1 : FVec Ideal S1x1024 .f32
  b1 : FVec Ideal S1x1024 .f32
  w : FVec Ideal S1024x2304 .bf16
  gq : FVec Ideal S1x256 .f32
  wq : FVec Ideal S256x2048 .bf16
  gk : FVec Ideal S1x128 .f32
  ct : FVec Ideal S512x128 .f32
  st : FVec Ideal S512x128 .f32

/-- A row's input and position, and the seven weights. -/
structure Args where
  x : Fin 1024 → EReal
  a1 : FVec Ideal S1024 .f32
  a2 : FVec Ideal S1024 .f32
  a3 : FVec Ideal S1024x2144 .f32
  a4 : FVec Ideal S192 .f32
  a5 : FVec Ideal S192x8x96 .f32
  a6 : FVec Ideal S128 .f32
  a7 : FVec Ideal S128x8x64 .f32
  t : ℕ

def Args.row (A : Args) : Row where
  x := A.x
  g k := A.a1 (ix1 k)
  b k := A.a2 (ix1 k)
  w k j := A.a3 (ix2 k j)
  gq j := A.a4 (ix1 j)
  uq j h d := A.a5 (ix3 j h d)
  gk j := A.a6 (ix1 j)
  uk l h d := A.a7 (ix3 l h d)
  t := A.t

/-- Row `p` of the blocks is that row. -/
structure Reads (B : Blocks) (A : Args) (p : Fin 512) : Prop where
  x : ∀ k : Fin 1024, B.x (ix2 p k) = A.x k
  g1 : ∀ k : Fin 1024, B.g1 (ix2 0 k) = A.a1 (ix1 k)
  b1 : ∀ k : Fin 1024, B.b1 (ix2 0 k) = A.a2 (ix1 k)
  w : ∀ (k : Fin 1024) (j : Fin 2304), B.w (ix2 k j) = wIn A.a3 (ix2 k j)
  gq : ∀ j : Fin 256, B.gq (ix2 0 j) = gqOp A.a4 (ix2 0 j)
  wq : ∀ (j : Fin 256) (n : Fin 2048), B.wq (ix2 j n) = wqOp A.a5 A.a7 (ix2 j n)
  gk : ∀ l : Fin 128, B.gk (ix2 0 l) = A.a6 (ix1 l)
  ct : ∀ l : Fin 128, B.ct (ix2 p l) = cosTab (angle A.t) l
  st : ∀ l : Fin 128, B.st (ix2 p l) = sinTab (angle A.t) l

variable (B : Blocks) (A : Args) (p : Fin 512) (H : Reads B A p)

/-- The projection of the blocks' rows, with its padded columns. -/
def tileP : FVec Ideal S512x2304 .f32 := k0_pay6 (F := Ideal) B.x B.g1 B.b1 B.w

include H

theorem tile_h (k : Fin 1024) : k0_pay5 (F := Ideal) B.x B.g1 B.b1 (ix2 p k) = A.row.h k := by
  have hx : (fun k => B.x (ix2 p k)) = A.row.x := funext fun k =>
    H.x k
  have hg : (fun k => B.g1 (ix2 0 k)) = A.row.g := funext fun k => H.g1 k
  have hb : (fun k => B.b1 (ix2 0 k)) = A.row.b := funext fun k => H.b1 k
  exact (pay5_apply _ _ _ p k).trans (congrFun (congr (congrArg₂ ln hx hg) hb) k)

/-- Column `j` of the padded projection is column `j'` of the projection. -/
theorem tile_p (j : Fin 2304) (j' : Fin 2144)
    (h : (j.val < 192 ∧ j'.val = j.val) ∨ (256 ≤ j.val ∧ j.val < 416 ∧ j'.val = j.val - 64)
      ∨ (416 ≤ j.val ∧ j.val < 448 ∧ j'.val = 320 + (j.val - 416 + 16) % 32) ∨ (512 ≤ j.val ∧ j'.val = j.val - 160)) :
    tileP B (ix2 p j) = A.row.p j' :=
  (pay6_apply _ _ _ _ p j).trans (congrArg₂ col (funext fun k => tile_h B A p H k)
    (funext fun k => (H.w k j).trans (wIn_at _ k j j' h)))

theorem tile_p_zero (j : Fin 2304) (h : (192 ≤ j.val ∧ j.val < 256) ∨ (448 ≤ j.val ∧ j.val < 512)) : tileP B (ix2 p j) = (0 : EReal) := by
  refine (pay6_apply _ _ _ _ p j).trans ?_
  refine (congrArg (col _) (funext fun k => (H.w k j).trans (wIn_zero _ k j h))).trans ?_
  unfold col
  simp only [mul_zero, Finset.sum_const_zero]

/-- The latent. -/
theorem tile_ckv (j : Fin 128) : k0_pay33 (F := Ideal) (tileP B) B.gk (ix2 p j) = A.row.ckv j :=
  (pay33_apply _ _ p j).trans (congrFun (congrArg₂ rms128
    (funext fun l => tile_p B A p H _ _ (Or.inr (Or.inl ⟨by show 256 ≤ 256 + l.val; omega, by show 256 + l.val < 416; omega, by show 192 + l.val = 256 + l.val - 64; omega⟩)))
    (funext fun l => H.gk l)) j)

theorem tile_cos (l : Fin 128) : k0_pay7 (F := Ideal) B.ct (ix2 p l) = cosTab (angle A.row.t) l := (pay7_apply _ p l).trans (H.ct l)

theorem tile_sin (l : Fin 128) : k0_pay8 (F := Ideal) B.st (ix2 p l) = sinTab (angle A.row.t) l := (pay8_apply _ p l).trans (H.st l)

/-- The rotated key part and the zeros past it. -/
theorem tile_turn (l : Fin 128) : k0_pay34 (F := Ideal) (tileP B) (k0_pay7 (F := Ideal) B.ct) (k0_pay8 (F := Ideal) B.st) (ix2 p l)
    = turn (fun l => tileP B (ix2 p ⟨384 + l.val, by omega⟩)) (cosTab (angle A.row.t)) (sinTab (angle A.row.t)) l :=
  (pay34_apply _ _ _ p l).trans (congrFun (congrArg₂ (turn _) (funext fun l => tile_cos B A p H l) (funext fun l => tile_sin B A p H l)) l)

theorem tile_kr (l : Fin 32) :
    k0_pay34 (F := Ideal) (tileP B) (k0_pay7 (F := Ideal) B.ct) (k0_pay8 (F := Ideal) B.st) (ix2 p ⟨l.val, by omega⟩) = A.row.kr l := by
  rw [tile_turn B A p H, turn_low]
  · exact congrFun (congrArg (fun y => rot y _) (funext fun l => tile_p B A p H _ _
      (Or.inr (Or.inl ⟨by show 256 ≤ 384 + l.val; omega, by show 384 + l.val < 416; omega, by show 320 + l.val = 384 + l.val - 64; omega⟩)))) l
  · intro l
    have hl := l.isLt
    rw [tile_p B A p H ⟨384 + (32 + l.val), by omega⟩ ⟨320 + (l.val + 16) % 32, by omega⟩
        (Or.inr (Or.inr (Or.inl ⟨by show 416 ≤ 384 + (32 + l.val); omega, by show 384 + (32 + l.val) < 448; omega,
          by show 320 + (l.val + 16) % 32 = 320 + (384 + (32 + l.val) - 416 + 16) % 32; omega⟩))),
      tile_p B A p H ⟨384 + (l.val + 16) % 32, by omega⟩ ⟨320 + (l.val + 16) % 32, by omega⟩
        (Or.inr (Or.inl ⟨by show 256 ≤ 384 + (l.val + 16) % 32; omega, by show 384 + (l.val + 16) % 32 < 416; omega,
          by show 320 + (l.val + 16) % 32 = 384 + (l.val + 16) % 32 - 64; omega⟩))]

theorem tile_kr_zero (l : Fin 128) (h : 32 ≤ l.val) :
    k0_pay34 (F := Ideal) (tileP B) (k0_pay7 (F := Ideal) B.ct) (k0_pay8 (F := Ideal) B.st) (ix2 p l) = (0 : EReal) :=
  (tile_turn B A p H l).trans (turn_high _ _ l h)

/-! ## The seven results but the queries -/

theorem out_h (k : Fin 1024) : out0_9 (F := Ideal) B.x B.g1 B.b1 B.w B.gq B.wq B.gk B.ct B.st (ix2 p k) = A.row.h k := by
  rw [out9_eq]
  exact tile_h B A p H k

theorem out_key (e : Fin 256) : out0_11 (F := Ideal) B.x B.g1 B.b1 B.w B.gq B.wq B.gk B.ct B.st (ix2 p e) = A.row.key e := by
  refine (out11_apply _ _ _ _ _ _ _ _ _ p e).trans ?_
  unfold Row.key
  by_cases h1 : e.val < 128
  · rw [dif_pos h1, dif_pos h1]
    exact tile_ckv B A p H _
  · rw [dif_neg h1, dif_neg h1]
    by_cases h2 : e.val - 128 < 32
    · rw [dif_pos h2, if_neg (by omega)]
      exact tile_kr B A p H ⟨e.val - 128, h2⟩
    · rw [dif_neg h2]
      by_cases h3 : e.val - 128 = 127
      · rw [if_pos h3, if_neg (by omega)]
      · rw [if_neg h3, if_pos (by omega)]
        exact tile_kr_zero B A p H _ (by show 32 ≤ e.val - 128; omega)

theorem out_ckv (j : Fin 128) : out0_12 (F := Ideal) B.x B.g1 B.b1 B.w B.gq B.wq B.gk B.ct B.st (ix2 p j) = A.row.ckv j := by
  rw [out12_eq]
  exact tile_ckv B A p H j

theorem out_kr (l : Fin 32) : out0_13 (F := Ideal) B.x B.g1 B.b1 B.w B.gq B.wq B.gk B.ct B.st (ix2 p l) = A.row.kr l := by
  rw [out13_eq]
  exact (pay35_apply _ _ _ p l).trans (tile_kr B A p H l)

theorem out_rwkv (j : Fin 1024) : out0_14 (F := Ideal) B.x B.g1 B.b1 B.w B.gq B.wq B.gk B.ct B.st (ix2 p j) = A.row.p ⟨352 + j.val, by omega⟩ := by
  rw [out14_eq]
  exact (pay3_apply _ p j).trans (tile_p B A p H _ _ (Or.inr (Or.inr (Or.inr ⟨by show 512 ≤ 512 + j.val; omega, by show 352 + j.val = 512 + j.val - 160; omega⟩))))

theorem out_conv (j : Fin 768) : out0_15 (F := Ideal) B.x B.g1 B.b1 B.w B.gq B.wq B.gk B.ct B.st (ix2 p j) = A.row.p ⟨1376 + j.val, by omega⟩ := by
  rw [out15_eq]
  exact (pay4_apply _ p j).trans (tile_p B A p H _ _ (Or.inr (Or.inr (Or.inr ⟨by show 512 ≤ 1536 + j.val; omega, by show 1376 + j.val = 1536 + j.val - 160; omega⟩))))

/-! ## The queries -/

/-- The scaled queries of the blocks, all heads' lanes in a row. -/
def tileQ : FVec Ideal S512x2048 .f32 :=
  k0_pay11 (F := Ideal) (k0_pay9 (F := Ideal) B.x B.g1 B.b1 B.w)
    (k0_pay10 (F := Ideal) B.x B.g1 B.b1 B.w) B.gq B.wq

/-- A lane of them is the normed latent times a column of the prepared weights: the padding adds zeros. -/
theorem tile_q (n : Fin 2048) :
    tileQ B (ix2 p n) = ∑ j : Fin 192, A.row.cq j * (wqOp A.a5 A.a7 (ix2 ⟨j.val, by omega⟩ n) : EReal) := by
  have hs : (∑ l : Fin 256, (k0_pay10 (F := Ideal) B.x B.g1 B.b1 B.w (ix2 p l) : EReal))
      = ∑ l : Fin 192, A.row.p ⟨l.val, by omega⟩ * A.row.p ⟨l.val, by omega⟩ := by
    refine sum_pad (fun l => ?_) (fun l hl => ?_)
    · refine (pay10_apply _ _ _ _ p _).trans ?_
      have e := tile_p B A p H ⟨l.val, by omega⟩ ⟨l.val, by omega⟩ (Or.inl ⟨by show l.val < 192; omega, rfl⟩)
      exact congrArg₂ (fun a b : EReal => a * b) e e
    · refine (pay10_apply _ _ _ _ p _).trans ?_
      have e := tile_p_zero B A p H ⟨l.val, by omega⟩ (Or.inl ⟨hl, l.isLt⟩)
      exact (congrArg₂ (fun a b : EReal => a * b) e e).trans (mul_zero _)
  refine (pay11_apply _ _ _ _ p n).trans ?_
  rw [hs, mul_inv_192]
  refine sum_pad (fun j => ?_) (fun j hj => ?_)
  · have e := tile_p B A p H ⟨j.val, by omega⟩ ⟨j.val, by omega⟩ (Or.inl ⟨by show j.val < 192; omega, rfl⟩)
    have e' := (pay9_apply B.x B.g1 B.b1 B.w p ⟨j.val, by omega⟩).trans e
    refine congrArg₂ (fun a b : EReal => a * b) (congrArg₂ (fun a b : EReal => a * b) (congrArg (fun a : EReal => a * _) e') ?_) (H.wq _ n)
    exact (H.gq _).trans (gqOp_at _ j)
  · have e : k0_pay9 (F := Ideal) B.x B.g1 B.b1 B.w (ix2 p j) = (0 : EReal) :=
      (pay9_apply _ _ _ _ p j).trans (tile_p_zero B A p H ⟨j.val, by omega⟩ (Or.inl ⟨hj, j.isLt⟩))
    rw [e, zero_mul, zero_mul, zero_mul]

/-- The queries, of real arguments. -/
theorem out_query (hR : A.row.IsReal) (h : Fin 8) (e : Fin 256) : out0_10 (F := Ideal) B.x B.g1 B.b1 B.w B.gq B.wq B.gk B.ct B.st (ix3 h p e) = A.row.query h e := by
  refine (out10_apply _ _ _ _ _ _ _ _ _ h p e).trans ?_
  show qTile (tileQ B) (k0_pay7 (F := Ideal) B.ct) (k0_pay8 (F := Ideal) B.st) h p e = _
  unfold qTile Row.query
  by_cases h1 : e.val < 128
  · rw [dif_pos h1, dif_pos h1, tile_q B A p H]
    refine Eq.trans ?_ (lat_swap (c := A.row.cq) (u := fun j d => A.row.uq j h ⟨d.val, by omega⟩) (k := fun d => A.row.uk ⟨e.val, h1⟩ h d)
      hR.cq (fun j d => hR.uq j h _) (fun d => hR.uk _ h d) real_scale)
    refine Finset.sum_congr rfl fun j _ => congrArg (fun a : EReal => A.row.cq j * a) ?_
    refine (wqOp_lat _ _ j h ⟨e.val, h1⟩ _ rfl).trans ?_
    rw [uLat_apply]
    rfl
  · have hcol : ∀ (n : Fin 2048) (d : Fin 96), n.val / 256 = h.val →
        ((128 ≤ n.val % 256 ∧ n.val % 256 < 160 ∧ d.val = 64 + (n.val % 256 - 128))
          ∨ (160 ≤ n.val % 256 ∧ n.val % 256 < 192 ∧ d.val = 64 + (n.val % 256 - 160 + 16) % 32)) →
        tileQ B (ix2 p n) = A.row.q h d * Ideal.ofBits .f32 0x3E16C740#32 := fun n d hn hd => by
      rw [tile_q B A p H]
      refine Eq.trans ?_ (col_scale (c := A.row.cq) (u := fun j => A.row.uq j h d) hR.cq (fun j => hR.uq j h d) real_scale)
      exact Finset.sum_congr rfl fun j _ => congrArg (fun a : EReal => A.row.cq j * a) (wqOp_rope _ _ j h n d hn hd)
    rw [dif_neg h1, dif_neg h1]
    have ht : (fun l => k0_pay7 (F := Ideal) B.ct (ix2 p l)) = cosTab (angle A.row.t) := funext fun l => tile_cos B A p H l
    have hs : (fun l => k0_pay8 (F := Ideal) B.st (ix2 p l)) = sinTab (angle A.row.t) := funext fun l => tile_sin B A p H l
    refine (congrFun (congrArg₂ (turn _) ht hs) _).trans ?_
    by_cases h2 : e.val - 128 < 32
    · rw [dif_pos h2]
      refine (turn_low (fun l => ?_) _ ⟨e.val - 128, h2⟩).trans ?_
      · have hl := l.isLt
        have hh := h.isLt
        rw [hcol _ ⟨64 + (l.val + 16) % 32, by omega⟩ (by show (256 * h.val + 128 + (32 + l.val)) / 256 = h.val; omega)
            (Or.inr ⟨by show 160 ≤ (256 * h.val + 128 + (32 + l.val)) % 256; omega, by show (256 * h.val + 128 + (32 + l.val)) % 256 < 192; omega,
              by show 64 + (l.val + 16) % 32 = 64 + ((256 * h.val + 128 + (32 + l.val)) % 256 - 160 + 16) % 32; omega⟩),
          hcol _ ⟨64 + (l.val + 16) % 32, by omega⟩ (by show (256 * h.val + 128 + (l.val + 16) % 32) / 256 = h.val; omega)
            (Or.inl ⟨by show 128 ≤ (256 * h.val + 128 + (l.val + 16) % 32) % 256; omega, by show (256 * h.val + 128 + (l.val + 16) % 32) % 256 < 160; omega,
              by show 64 + (l.val + 16) % 32 = 64 + ((256 * h.val + 128 + (l.val + 16) % 32) % 256 - 128); omega⟩)]
      · refine Eq.trans ?_ (rot_scale (y := fun l => A.row.q h ⟨64 + l.val, by omega⟩) (fun l => hR.q h _) (real_angle _) real_scale ⟨e.val - 128, h2⟩)
        refine congrFun (congrArg (fun y => rot y _) (funext fun l => ?_)) _
        have hl := l.isLt
        have hh := h.isLt
        exact hcol _ ⟨64 + l.val, by omega⟩ (by show (256 * h.val + 128 + l.val) / 256 = h.val; omega)
          (Or.inl ⟨by show 128 ≤ (256 * h.val + 128 + l.val) % 256; omega, by show (256 * h.val + 128 + l.val) % 256 < 160; omega,
            by show 64 + l.val = 64 + ((256 * h.val + 128 + l.val) % 256 - 128); omega⟩)
    · rw [dif_neg h2, zero_mul]
      exact turn_high _ _ _ (by show 32 ≤ e.val - 128; omega)

end Cert.Proj.Out
end
-- ==== Proof.SampOut.lean ====
/- WHAT THE SAMPLE BATCH'S TILE leaves is what a tile of the prompt batch leaves of the same blocks. -/
module

public import proofs.«01_k».proof.Proof.Gen.Kernel4Ideal.Frame
public import proofs.«01_k».proof.Proof.ProjOut

@[expose] public section

set_option maxRecDepth 16384

noncomputable section

namespace Cert.Samp

open Cert.Kernel4Ideal Cert.Kernel4Ideal.Gen Idealize.ShloMosaic Idealize.ShloMosaic.TcCoe

variable (x : FVec Ideal S512x1024 .f32) (g1 b1 : FVec Ideal S1x1024 .f32) (w : FVec Ideal S1024x2304 .bf16) (gq : FVec Ideal S1x256 .f32)
  (wq : FVec Ideal S256x2048 .bf16) (gk : FVec Ideal S1x128 .f32) (ct st : FVec Ideal S512x128 .f32)

theorem same_h : out0_9 (F := Ideal) x g1 b1 w gq wq gk ct st = Cert.Kernel2Ideal.Gen.out0_9 (F := Ideal) x g1 b1 w gq wq gk ct st := rfl

theorem same_key : out0_11 (F := Ideal) x g1 b1 w gq wq gk ct st = Cert.Kernel2Ideal.Gen.out0_11 (F := Ideal) x g1 b1 w gq wq gk ct st := rfl

theorem same_ckv : out0_12 (F := Ideal) x g1 b1 w gq wq gk ct st = Cert.Kernel2Ideal.Gen.out0_12 (F := Ideal) x g1 b1 w gq wq gk ct st := rfl

theorem same_kr : out0_13 (F := Ideal) x g1 b1 w gq wq gk ct st = Cert.Kernel2Ideal.Gen.out0_13 (F := Ideal) x g1 b1 w gq wq gk ct st := rfl

theorem same_rwkv : out0_14 (F := Ideal) x g1 b1 w gq wq gk ct st = Cert.Kernel2Ideal.Gen.out0_14 (F := Ideal) x g1 b1 w gq wq gk ct st := rfl

theorem same_conv : out0_15 (F := Ideal) x g1 b1 w gq wq gk ct st = Cert.Kernel2Ideal.Gen.out0_15 (F := Ideal) x g1 b1 w gq wq gk ct st := rfl

theorem same_query : out0_10 (F := Ideal) x g1 b1 w gq wq gk ct st = Cert.Kernel2Ideal.Gen.out0_10 (F := Ideal) x g1 b1 w gq wq gk ct st := rfl

variable (X : Fin 1024 → EReal) (a1 a2 : FVec Ideal S1024 .f32) (a3 : FVec Ideal S1024x2144 .f32) (a4 : FVec Ideal S192 .f32)
  (a5 : FVec Ideal S192x8x96 .f32) (a6 : FVec Ideal S128 .f32) (a7 : FVec Ideal S128x8x64 .f32) (t : ℕ) (p : Fin 512)

/-- Row `p` of the blocks is the row of these arguments. -/
structure Reads : Prop where
  x : ∀ k : Fin 1024, x (ix2 p k) = X k
  g1 : ∀ k : Fin 1024, g1 (ix2 0 k) = a1 (ix1 k)
  b1 : ∀ k : Fin 1024, b1 (ix2 0 k) = a2 (ix1 k)
  w : ∀ (k : Fin 1024) (j : Fin 2304), w (ix2 k j) = Cert.Proj.wIn a3 (ix2 k j)
  gq : ∀ j : Fin 256, gq (ix2 0 j) = Cert.Proj.gqOp a4 (ix2 0 j)
  wq : ∀ (j : Fin 256) (n : Fin 2048), wq (ix2 j n) = Cert.Proj.wqOp a5 a7 (ix2 j n)
  gk : ∀ l : Fin 128, gk (ix2 0 l) = a6 (ix1 l)
  ct : ∀ l : Fin 128, ct (ix2 p l) = Cert.Proj.cosTab (Cert.Proj.angle t) l
  st : ∀ l : Fin 128, st (ix2 p l) = Cert.Proj.sinTab (Cert.Proj.angle t) l

variable {x g1 b1 w gq wq gk ct st X a1 a2 a3 a4 a5 a6 a7 t p} (H : Reads x g1 b1 w gq wq gk ct st X a1 a2 a3 a4 a5 a6 a7 t p)
include H

theorem Reads.out : Cert.Proj.Out.Reads ⟨x, g1, b1, w, gq, wq, gk, ct, st⟩ ⟨X, a1, a2, a3, a4, a5, a6, a7, t⟩ p :=
  ⟨H.x, H.g1, H.b1, H.w, H.gq, H.wq, H.gk, H.ct, H.st⟩

theorem Reads.h (j : Fin 1024) : out0_9 (F := Ideal) x g1 b1 w gq wq gk ct st (ix2 p j) = (Cert.Proj.Out.Args.mk X a1 a2 a3 a4 a5 a6 a7 t).row.h j := by
  rw [same_h]
  exact Cert.Proj.Out.out_h _ _ _ H.out j

theorem Reads.key (j : Fin 256) : out0_11 (F := Ideal) x g1 b1 w gq wq gk ct st (ix2 p j) = (Cert.Proj.Out.Args.mk X a1 a2 a3 a4 a5 a6 a7 t).row.key j := by
  rw [same_key]
  exact Cert.Proj.Out.out_key _ _ _ H.out j

theorem Reads.ckv (j : Fin 128) : out0_12 (F := Ideal) x g1 b1 w gq wq gk ct st (ix2 p j) = (Cert.Proj.Out.Args.mk X a1 a2 a3 a4 a5 a6 a7 t).row.ckv j := by
  rw [same_ckv]
  exact Cert.Proj.Out.out_ckv _ _ _ H.out j

theorem Reads.kr (j : Fin 32) : out0_13 (F := Ideal) x g1 b1 w gq wq gk ct st (ix2 p j) = (Cert.Proj.Out.Args.mk X a1 a2 a3 a4 a5 a6 a7 t).row.kr j := by
  rw [same_kr]
  exact Cert.Proj.Out.out_kr _ _ _ H.out j

theorem Reads.rwkv (j : Fin 1024) : out0_14 (F := Ideal) x g1 b1 w gq wq gk ct st (ix2 p j) = (Cert.Proj.Out.Args.mk X a1 a2 a3 a4 a5 a6 a7 t).row.p ⟨352 + j.val, by omega⟩ := by
  rw [same_rwkv]
  exact Cert.Proj.Out.out_rwkv _ _ _ H.out j

theorem Reads.conv (j : Fin 768) : out0_15 (F := Ideal) x g1 b1 w gq wq gk ct st (ix2 p j) = (Cert.Proj.Out.Args.mk X a1 a2 a3 a4 a5 a6 a7 t).row.p ⟨1376 + j.val, by omega⟩ := by
  rw [same_conv]
  exact Cert.Proj.Out.out_conv _ _ _ H.out j

theorem Reads.query (hR : (Cert.Proj.Out.Args.mk X a1 a2 a3 a4 a5 a6 a7 t).row.IsReal) (h : Fin 8) (j : Fin 256) : out0_10 (F := Ideal) x g1 b1 w gq wq gk ct st (ix3 h p j) = (Cert.Proj.Out.Args.mk X a1 a2 a3 a4 a5 a6 a7 t).row.query h j := by
  rw [same_query]
  exact Cert.Proj.Out.out_query _ _ _ H.out hR h j

end Cert.Samp
end
-- ==== Proof.SampKernel.lean ====
/- OPERANDS, BLOCKS AND ARRAYS OF THE SAMPLE BATCH'S INPUT PROJECTION: its one point reads whole arrays and stores whole results; the payloads and
   the prepared weights are those of the prompt batch. -/
module

public import proofs.«01_k».proof.Proof.Gen.Kernel4Ideal.Value
public import proofs.«01_k».proof.Proof.SampOut
public import Idealize.ShloMosaic.Lib.Pointwise

@[expose] public section

set_option maxRecDepth 16384

noncomputable section

namespace Cert.Samp

open Cert.Kernel4Ideal Cert.Kernel4Ideal.Gen Idealize.ShloMosaic Idealize.ShloMosaic.TcCoe

section anyFloats
variable {F : FTy → Type} [FloatOps F]

/-- The input's rows by time. -/
def xOp (x : FVec F S128x4x1024 .f32) : FVec F S512x1024 .f32 :=
  shapeCast S512x1024 (transpose S4x128x1024 [1, 0, 2] x transposes_S128x4x1024_S4x128x1024_1_0_2) shapeCasts_S4x128x1024_S512x1024

/-- The angles of the rotation and their two tables. -/
def angK : FVec F S512x16 .f32 :=
  mulf
    (broadcastInDim S512x16 ![0, 1] bcast_S512x1_S512x16_0_1 (broadcastInDim S512x1 ![0] bcast_S512_S512x1_0
      (sitofp .f32 (shapeCast S512 (broadcastInDim S4x128 ![0, 1] bcast_S4x1_S4x128_0_1 (broadcastInDim S4x1 ![0] bcast_S4_S4x1_0
        (addi (broadcastInDim S4 ![] bcast_S_S4 (constantI S_ 32 16384#32)) (iotaInDim S4 32 0)))) shapeCasts_S4x128_S512))))
    (broadcastInDim S512x16 ![0, 1] bcast_S1x16_S512x16_0_1
      (broadcastInDim S1x16 ![1] bcast_S16_S1x16_1
        (Host.powf (broadcastInDim S16 ![] bcast_S_S16 (constant S_ .f32 0x461C4000#32))
          (Host.divf (Host.negf (sitofp .f32 (iotaInDim S16 32 0))) (broadcastInDim S16 ![] bcast_S_S16 (constant S_ .f32 0x41800000#32))))))

def cosOp : FVec F S512x128 .f32 :=
  concatenate S512x128 1 [⟨S512x16, Host.cos angK⟩, ⟨S512x16, Host.cos angK⟩,
    ⟨S512x96, broadcastInDim S512x96 ![] bcast_S_S512x96 (constant S_ .f32 0x00000000#32)⟩] concatenates_S512x16_S512x16_S512x96_S512x128_d1

def sinOp : FVec F S512x128 .f32 :=
  concatenate S512x128 1 [⟨S512x16, Host.negf (Host.sin angK)⟩, ⟨S512x16, Host.sin angK⟩,
    ⟨S512x96, broadcastInDim S512x96 ![] bcast_S_S512x96 (constant S_ .f32 0x00000000#32)⟩] concatenates_S512x16_S512x16_S512x96_S512x128_d1

variable (m : (ℓ : Loc nD τ sig) → Buf (Elt F) ℓ) (c : Dev nD)

/-- The eight arguments as launched. -/
def B0 : FVec F S128x4x1024 .f32 := m ((c : Thread nD τ).loc main_arg0)
def B1 : FVec F S1024 .f32 := m ((c : Thread nD τ).loc main_arg1)
def B2 : FVec F S1024 .f32 := m ((c : Thread nD τ).loc main_arg2)
def B3 : FVec F S1024x2144 .f32 := m ((c : Thread nD τ).loc main_arg3)
def B4 : FVec F S192 .f32 := m ((c : Thread nD τ).loc main_arg4)
def B5 : FVec F S192x8x96 .f32 := m ((c : Thread nD τ).loc main_arg5)
def B6 : FVec F S128 .f32 := m ((c : Thread nD τ).loc main_arg6)
def B7 : FVec F S128x8x64 .f32 := m ((c : Thread nD τ).loc main_arg7)

theorem V_x : V m c main_v53 = xOp (B0 m c) := by
  dsimp only [V, hostOps0]
  after_results
  rfl

theorem V_g1 : V m c main_v55 = shapeCast S1x1024 (B1 m c) shapeCasts_S1024_S1x1024 := by
  dsimp only [V, hostOps0]
  after_results
  rfl

theorem V_b1 : V m c main_v56 = shapeCast S1x1024 (B2 m c) shapeCasts_S1024_S1x1024 := by
  dsimp only [V, hostOps0]
  after_results
  rfl

theorem V_w : V m c main_v9 = Cert.Proj.wIn (B3 m c) := by
  dsimp only [V, hostOps0]
  after_results
  rfl

theorem V_gq : V m c main_v12 = Cert.Proj.gqOp (B4 m c) := by
  dsimp only [V, hostOps0]
  after_results
  rfl

theorem V_wq : V m c main_v27 = Cert.Proj.wqOp (B5 m c) (B7 m c) := by
  dsimp only [V, hostOps0]
  after_results
  rfl

theorem V_gk : V m c main_v54 = shapeCast S1x128 (B6 m c) shapeCasts_S128_S1x128 := by
  dsimp only [V, hostOps0]
  after_results
  rfl

theorem V_cos : V m c main_v49 = cosOp := by
  dsimp only [V, hostOps0]
  after_results
  rfl

theorem V_sin : V m c main_v51 = sinOp := by
  dsimp only [V, hostOps0]
  after_results
  rfl

end anyFloats

theorem angK_apply (r : Fin 512) (j : Fin 16) : angK (F := Ideal) (ix2 r j) = Cert.Proj.angle (16384 + r.val / 128) j := by
  pointwise [angK]
  unfold Cert.Proj.angle
  rw [BitVec.ofNat_add]
  rfl

theorem cosOp_apply (r : Fin 512) (l : Fin 128) : cosOp (F := Ideal) (ix2 r l) = Cert.Proj.cosTab (Cert.Proj.angle (16384 + r.val / 128)) l := by
  pointwise [cosOp]
  simp only [angK_apply]
  rfl

theorem sinOp_apply (r : Fin 512) (l : Fin 128) : sinOp (F := Ideal) (ix2 r l) = Cert.Proj.sinTab (Cert.Proj.angle (16384 + r.val / 128)) l := by
  pointwise [sinOp]
  simp only [angK_apply]
  rfl

theorem xOp_apply (x : FVec Ideal S128x4x1024 .f32) (r : Fin 512) (k : Fin 1024) :
    xOp x (ix2 r k) = x (ix3 ⟨r.val % 128, by omega⟩ ⟨r.val / 128, by omega⟩ k) := by
  pointwise [xOp]

theorem flat_g (y : FVec Ideal S1024 .f32) (k : Fin 1024) : shapeCast S1x1024 y shapeCasts_S1024_S1x1024 (ix2 0 k) = y (ix1 k) := by
  pointwise []

theorem flat_gk (y : FVec Ideal S128 .f32) (k : Fin 128) : shapeCast S1x128 y shapeCasts_S128_S1x128 (ix2 0 k) = y (ix1 k) := by
  pointwise []

variable (m : (ℓ : Loc nD τ sig) → Buf (Elt Ideal) ℓ) (c : Dev nD)

/-- The one point. -/
def pt : Fin cfg0.N := ⟨0, lt_of_lt_of_eq Nat.zero_lt_one N_0.symm⟩

theorem at0 : win0_0.index pt (0 : Fin 2) = 0 ∧ win0_0.index pt (1 : Fin 2) = 0 := by decide +kernel

theorem at1 : win0_1.index pt (0 : Fin 2) = 0 ∧ win0_1.index pt (1 : Fin 2) = 0 := by decide +kernel

theorem at2 : win0_2.index pt (0 : Fin 2) = 0 ∧ win0_2.index pt (1 : Fin 2) = 0 := by decide +kernel

theorem at3 : win0_3.index pt (0 : Fin 2) = 0 ∧ win0_3.index pt (1 : Fin 2) = 0 := by decide +kernel

theorem at4 : win0_4.index pt (0 : Fin 2) = 0 ∧ win0_4.index pt (1 : Fin 2) = 0 := by decide +kernel

theorem at5 : win0_5.index pt (0 : Fin 2) = 0 ∧ win0_5.index pt (1 : Fin 2) = 0 := by decide +kernel

theorem at6 : win0_6.index pt (0 : Fin 2) = 0 ∧ win0_6.index pt (1 : Fin 2) = 0 := by decide +kernel

theorem at7 : win0_7.index pt (0 : Fin 2) = 0 ∧ win0_7.index pt (1 : Fin 2) = 0 := by decide +kernel

theorem at8 : win0_8.index pt (0 : Fin 2) = 0 ∧ win0_8.index pt (1 : Fin 2) = 0 := by decide +kernel

theorem at9 : win0_9.index pt (0 : Fin 2) = 0 ∧ win0_9.index pt (1 : Fin 2) = 0 := by decide +kernel

theorem at10 : win0_10.index pt (0 : Fin 3) = 0 ∧ win0_10.index pt (1 : Fin 3) = 0 ∧ win0_10.index pt (2 : Fin 3) = 0 := by decide +kernel

theorem at11 : win0_11.index pt (0 : Fin 2) = 0 ∧ win0_11.index pt (1 : Fin 2) = 0 := by decide +kernel

theorem at12 : win0_12.index pt (0 : Fin 2) = 0 ∧ win0_12.index pt (1 : Fin 2) = 0 := by decide +kernel

theorem at13 : win0_13.index pt (0 : Fin 2) = 0 ∧ win0_13.index pt (1 : Fin 2) = 0 := by decide +kernel

theorem at14 : win0_14.index pt (0 : Fin 2) = 0 ∧ win0_14.index pt (1 : Fin 2) = 0 := by decide +kernel

theorem at15 : win0_15.index pt (0 : Fin 2) = 0 ∧ win0_15.index pt (1 : Fin 2) = 0 := by decide +kernel

theorem read_x (p : Fin 512) (j : Fin 1024) : iblk m c 0 pt (ix2 p j) = xOp (B0 m c) (ix2 p j) := by
  rw [← V_x]
  show V m c main_v53 (((cfg0.win 0).blk pt).view.emb (ix2 p j)) = _
  obtain ⟨i0, i1⟩ := at0
  congr 1
  funext a
  apply Fin.ext
  match a with
  | ⟨0, _⟩ => show win0_0.index pt (0 : Fin 2) * 512 + 1 * p.val = p.val; rw [i0]; omega
  | ⟨1, _⟩ => show win0_0.index pt (1 : Fin 2) * 1024 + 1 * j.val = j.val; rw [i1]; omega

theorem read_g1 (p : Fin 1) (j : Fin 1024) : iblk m c 1 pt (ix2 p j) = shapeCast S1x1024 (B1 m c) shapeCasts_S1024_S1x1024 (ix2 p j) := by
  rw [← V_g1]
  show V m c main_v55 (((cfg0.win 1).blk pt).view.emb (ix2 p j)) = _
  obtain ⟨i0, i1⟩ := at1
  congr 1
  funext a
  apply Fin.ext
  match a with
  | ⟨0, _⟩ => show win0_1.index pt (0 : Fin 2) * 1 + 1 * p.val = p.val; rw [i0]; omega
  | ⟨1, _⟩ => show win0_1.index pt (1 : Fin 2) * 1024 + 1 * j.val = j.val; rw [i1]; omega

theorem read_b1 (p : Fin 1) (j : Fin 1024) : iblk m c 2 pt (ix2 p j) = shapeCast S1x1024 (B2 m c) shapeCasts_S1024_S1x1024 (ix2 p j) := by
  rw [← V_b1]
  show V m c main_v56 (((cfg0.win 2).blk pt).view.emb (ix2 p j)) = _
  obtain ⟨i0, i1⟩ := at2
  congr 1
  funext a
  apply Fin.ext
  match a with
  | ⟨0, _⟩ => show win0_2.index pt (0 : Fin 2) * 1 + 1 * p.val = p.val; rw [i0]; omega
  | ⟨1, _⟩ => show win0_2.index pt (1 : Fin 2) * 1024 + 1 * j.val = j.val; rw [i1]; omega

theorem read_w (p : Fin 1024) (j : Fin 2304) : iblk m c 3 pt (ix2 p j) = Cert.Proj.wIn (B3 m c) (ix2 p j) := by
  rw [← V_w]
  show V m c main_v9 (((cfg0.win 3).blk pt).view.emb (ix2 p j)) = _
  obtain ⟨i0, i1⟩ := at3
  congr 1
  funext a
  apply Fin.ext
  match a with
  | ⟨0, _⟩ => show win0_3.index pt (0 : Fin 2) * 1024 + 1 * p.val = p.val; rw [i0]; omega
  | ⟨1, _⟩ => show win0_3.index pt (1 : Fin 2) * 2304 + 1 * j.val = j.val; rw [i1]; omega

theorem read_gq (p : Fin 1) (j : Fin 256) : iblk m c 4 pt (ix2 p j) = Cert.Proj.gqOp (B4 m c) (ix2 p j) := by
  rw [← V_gq]
  show V m c main_v12 (((cfg0.win 4).blk pt).view.emb (ix2 p j)) = _
  obtain ⟨i0, i1⟩ := at4
  congr 1
  funext a
  apply Fin.ext
  match a with
  | ⟨0, _⟩ => show win0_4.index pt (0 : Fin 2) * 1 + 1 * p.val = p.val; rw [i0]; omega
  | ⟨1, _⟩ => show win0_4.index pt (1 : Fin 2) * 256 + 1 * j.val = j.val; rw [i1]; omega

theorem read_wq (p : Fin 256) (j : Fin 2048) : iblk m c 5 pt (ix2 p j) = Cert.Proj.wqOp (B5 m c) (B7 m c) (ix2 p j) := by
  rw [← V_wq]
  show V m c main_v27 (((cfg0.win 5).blk pt).view.emb (ix2 p j)) = _
  obtain ⟨i0, i1⟩ := at5
  congr 1
  funext a
  apply Fin.ext
  match a with
  | ⟨0, _⟩ => show win0_5.index pt (0 : Fin 2) * 256 + 1 * p.val = p.val; rw [i0]; omega
  | ⟨1, _⟩ => show win0_5.index pt (1 : Fin 2) * 2048 + 1 * j.val = j.val; rw [i1]; omega

theorem read_gk (p : Fin 1) (j : Fin 128) : iblk m c 6 pt (ix2 p j) = shapeCast S1x128 (B6 m c) shapeCasts_S128_S1x128 (ix2 p j) := by
  rw [← V_gk]
  show V m c main_v54 (((cfg0.win 6).blk pt).view.emb (ix2 p j)) = _
  obtain ⟨i0, i1⟩ := at6
  congr 1
  funext a
  apply Fin.ext
  match a with
  | ⟨0, _⟩ => show win0_6.index pt (0 : Fin 2) * 1 + 1 * p.val = p.val; rw [i0]; omega
  | ⟨1, _⟩ => show win0_6.index pt (1 : Fin 2) * 128 + 1 * j.val = j.val; rw [i1]; omega

theorem read_cos (p : Fin 512) (j : Fin 128) : iblk m c 7 pt (ix2 p j) = cosOp (F := Ideal) (ix2 p j) := by
  rw [← V_cos m c]
  show V m c main_v49 (((cfg0.win 7).blk pt).view.emb (ix2 p j)) = _
  obtain ⟨i0, i1⟩ := at7
  congr 1
  funext a
  apply Fin.ext
  match a with
  | ⟨0, _⟩ => show win0_7.index pt (0 : Fin 2) * 512 + 1 * p.val = p.val; rw [i0]; omega
  | ⟨1, _⟩ => show win0_7.index pt (1 : Fin 2) * 128 + 1 * j.val = j.val; rw [i1]; omega

theorem read_sin (p : Fin 512) (j : Fin 128) : iblk m c 8 pt (ix2 p j) = sinOp (F := Ideal) (ix2 p j) := by
  rw [← V_sin m c]
  show V m c main_v51 (((cfg0.win 8).blk pt).view.emb (ix2 p j)) = _
  obtain ⟨i0, i1⟩ := at8
  congr 1
  funext a
  apply Fin.ext
  match a with
  | ⟨0, _⟩ => show win0_8.index pt (0 : Fin 2) * 512 + 1 * p.val = p.val; rw [i0]; omega
  | ⟨1, _⟩ => show win0_8.index pt (1 : Fin 2) * 128 + 1 * j.val = j.val; rw [i1]; omega

/-- The row's input and place, and the weights as they are. -/
def args (r : Fin 512) : Cert.Proj.Out.Args :=
  ⟨fun k => B0 m c (ix3 ⟨r.val % 128, by omega⟩ ⟨r.val / 128, by omega⟩ k), B1 m c, B2 m c, B3 m c, B4 m c, B5 m c, B6 m c, B7 m c, 16384 + r.val / 128⟩

theorem at_x (r : Fin 512) (k : Fin 1024) : iblk m c 0 pt (ix2 r k) = B0 m c (ix3 ⟨r.val % 128, by omega⟩ ⟨r.val / 128, by omega⟩ k) := by
  rw [read_x, xOp_apply]
theorem at_g1 (k : Fin 1024) : iblk m c 1 pt (ix2 0 k) = B1 m c (ix1 k) := by
  rw [read_g1, flat_g]
theorem at_b1 (k : Fin 1024) : iblk m c 2 pt (ix2 0 k) = B2 m c (ix1 k) := by
  rw [read_b1, flat_g]
theorem at_gk (l : Fin 128) : iblk m c 6 pt (ix2 0 l) = B6 m c (ix1 l) := by
  rw [read_gk, flat_gk]
theorem at_cos (r : Fin 512) (l : Fin 128) : iblk m c 7 pt (ix2 r l) = Cert.Proj.cosTab (Cert.Proj.angle (16384 + r.val / 128)) l := by
  rw [read_cos, cosOp_apply]
theorem at_sin (r : Fin 512) (l : Fin 128) : iblk m c 8 pt (ix2 r l) = Cert.Proj.sinTab (Cert.Proj.angle (16384 + r.val / 128)) l := by
  rw [read_sin, sinOp_apply]

theorem reads (r : Fin 512) : Reads (iblk m c 0 pt) (iblk m c 1 pt) (iblk m c 2 pt) (iblk m c 3 pt) (iblk m c 4 pt) (iblk m c 5 pt) (iblk m c 6 pt) (iblk m c 7 pt) (iblk m c 8 pt)
    (fun k => B0 m c (ix3 ⟨r.val % 128, by omega⟩ ⟨r.val / 128, by omega⟩ k)) (B1 m c) (B2 m c) (B3 m c) (B4 m c) (B5 m c) (B6 m c) (B7 m c)
    (16384 + r.val / 128) r where
  x := at_x m c r
  g1 := at_g1 m c
  b1 := at_b1 m c
  w := read_w m c
  gq := read_gq m c 0
  wq := read_wq m c
  gk := at_gk m c
  ct := at_cos m c r
  st := at_sin m c r

theorem left_h (r : Fin 512) (j : Fin 1024) : (dats m 0 c).arrAt 9 cfg0.N (ix2 r j) = out0_9 (iblk m c 0 pt) (iblk m c 1 pt) (iblk m c 2 pt) (iblk m c 3 pt) (iblk m c 4 pt) (iblk m c 5 pt) (iblk m c 6 pt) (iblk m c 7 pt) (iblk m c 8 pt) (ix2 r j) := by
  have h := congrFun (Value.blocks9 m c pt (by decide +kernel)) (ix2 r j)
  rw [Value.flushed9] at h
  refine Eq.trans ?_ h
  obtain ⟨i0, i1⟩ := at9
  show _ = (dats m 0 c).arrAt 9 cfg0.N (((cfg0.win 9).blk pt).view.emb (ix2 r j))
  congr 1
  funext a
  apply Fin.ext
  match a with
  | ⟨0, _⟩ => show r.val = win0_9.index pt (0 : Fin 2) * 512 + 1 * r.val; rw [i0]; omega
  | ⟨1, _⟩ => show j.val = win0_9.index pt (1 : Fin 2) * 1024 + 1 * j.val; rw [i1]; omega

theorem arr_h (r : Fin 512) (j : Fin 1024) : (dats m 0 c).arrAt 9 cfg0.N (ix2 r j) = (args m c r).row.h j :=
  (left_h m c r j).trans ((reads m c r).h j)

theorem left_key (r : Fin 512) (j : Fin 256) : (dats m 0 c).arrAt 11 cfg0.N (ix2 r j) = out0_11 (iblk m c 0 pt) (iblk m c 1 pt) (iblk m c 2 pt) (iblk m c 3 pt) (iblk m c 4 pt) (iblk m c 5 pt) (iblk m c 6 pt) (iblk m c 7 pt) (iblk m c 8 pt) (ix2 r j) := by
  have h := congrFun (Value.blocks11 m c pt (by decide +kernel)) (ix2 r j)
  rw [Value.flushed11] at h
  refine Eq.trans ?_ h
  obtain ⟨i0, i1⟩ := at11
  show _ = (dats m 0 c).arrAt 11 cfg0.N (((cfg0.win 11).blk pt).view.emb (ix2 r j))
  congr 1
  funext a
  apply Fin.ext
  match a with
  | ⟨0, _⟩ => show r.val = win0_11.index pt (0 : Fin 2) * 512 + 1 * r.val; rw [i0]; omega
  | ⟨1, _⟩ => show j.val = win0_11.index pt (1 : Fin 2) * 256 + 1 * j.val; rw [i1]; omega

theorem arr_key (r : Fin 512) (j : Fin 256) : (dats m 0 c).arrAt 11 cfg0.N (ix2 r j) = (args m c r).row.key j :=
  (left_key m c r j).trans ((reads m c r).key j)

theorem left_ckv (r : Fin 512) (j : Fin 128) : (dats m 0 c).arrAt 12 cfg0.N (ix2 r j) = out0_12 (iblk m c 0 pt) (iblk m c 1 pt) (iblk m c 2 pt) (iblk m c 3 pt) (iblk m c 4 pt) (iblk m c 5 pt) (iblk m c 6 pt) (iblk m c 7 pt) (iblk m c 8 pt) (ix2 r j) := by
  have h := congrFun (Value.blocks12 m c pt (by decide +kernel)) (ix2 r j)
  rw [Value.flushed12] at h
  refine Eq.trans ?_ h
  obtain ⟨i0, i1⟩ := at12
  show _ = (dats m 0 c).arrAt 12 cfg0.N (((cfg0.win 12).blk pt).view.emb (ix2 r j))
  congr 1
  funext a
  apply Fin.ext
  match a with
  | ⟨0, _⟩ => show r.val = win0_12.index pt (0 : Fin 2) * 512 + 1 * r.val; rw [i0]; omega
  | ⟨1, _⟩ => show j.val = win0_12.index pt (1 : Fin 2) * 128 + 1 * j.val; rw [i1]; omega

theorem arr_ckv (r : Fin 512) (j : Fin 128) : (dats m 0 c).arrAt 12 cfg0.N (ix2 r j) = (args m c r).row.ckv j :=
  (left_ckv m c r j).trans ((reads m c r).ckv j)

theorem left_kr (r : Fin 512) (j : Fin 32) : (dats m 0 c).arrAt 13 cfg0.N (ix2 r j) = out0_13 (iblk m c 0 pt) (iblk m c 1 pt) (iblk m c 2 pt) (iblk m c 3 pt) (iblk m c 4 pt) (iblk m c 5 pt) (iblk m c 6 pt) (iblk m c 7 pt) (iblk m c 8 pt) (ix2 r j) := by
  have h := congrFun (Value.blocks13 m c pt (by decide +kernel)) (ix2 r j)
  rw [Value.flushed13] at h
  refine Eq.trans ?_ h
  obtain ⟨i0, i1⟩ := at13
  show _ = (dats m 0 c).arrAt 13 cfg0.N (((cfg0.win 13).blk pt).view.emb (ix2 r j))
  congr 1
  funext a
  apply Fin.ext
  match a with
  | ⟨0, _⟩ => show r.val = win0_13.index pt (0 : Fin 2) * 512 + 1 * r.val; rw [i0]; omega
  | ⟨1, _⟩ => show j.val = win0_13.index pt (1 : Fin 2) * 32 + 1 * j.val; rw [i1]; omega

theorem arr_kr (r : Fin 512) (j : Fin 32) : (dats m 0 c).arrAt 13 cfg0.N (ix2 r j) = (args m c r).row.kr j :=
  (left_kr m c r j).trans ((reads m c r).kr j)

theorem left_rwkv (r : Fin 512) (j : Fin 1024) : (dats m 0 c).arrAt 14 cfg0.N (ix2 r j) = out0_14 (iblk m c 0 pt) (iblk m c 1 pt) (iblk m c 2 pt) (iblk m c 3 pt) (iblk m c 4 pt) (iblk m c 5 pt) (iblk m c 6 pt) (iblk m c 7 pt) (iblk m c 8 pt) (ix2 r j) := by
  have h := congrFun (Value.blocks14 m c pt (by decide +kernel)) (ix2 r j)
  rw [Value.flushed14] at h
  refine Eq.trans ?_ h
  obtain ⟨i0, i1⟩ := at14
  show _ = (dats m 0 c).arrAt 14 cfg0.N (((cfg0.win 14).blk pt).view.emb (ix2 r j))
  congr 1
  funext a
  apply Fin.ext
  match a with
  | ⟨0, _⟩ => show r.val = win0_14.index pt (0 : Fin 2) * 512 + 1 * r.val; rw [i0]; omega
  | ⟨1, _⟩ => show j.val = win0_14.index pt (1 : Fin 2) * 1024 + 1 * j.val; rw [i1]; omega

theorem arr_rwkv (r : Fin 512) (j : Fin 1024) : (dats m 0 c).arrAt 14 cfg0.N (ix2 r j) = (args m c r).row.p ⟨352 + j.val, by omega⟩ :=
  (left_rwkv m c r j).trans ((reads m c r).rwkv j)

theorem left_conv (r : Fin 512) (j : Fin 768) : (dats m 0 c).arrAt 15 cfg0.N (ix2 r j) = out0_15 (iblk m c 0 pt) (iblk m c 1 pt) (iblk m c 2 pt) (iblk m c 3 pt) (iblk m c 4 pt) (iblk m c 5 pt) (iblk m c 6 pt) (iblk m c 7 pt) (iblk m c 8 pt) (ix2 r j) := by
  have h := congrFun (Value.blocks15 m c pt (by decide +kernel)) (ix2 r j)
  rw [Value.flushed15] at h
  refine Eq.trans ?_ h
  obtain ⟨i0, i1⟩ := at15
  show _ = (dats m 0 c).arrAt 15 cfg0.N (((cfg0.win 15).blk pt).view.emb (ix2 r j))
  congr 1
  funext a
  apply Fin.ext
  match a with
  | ⟨0, _⟩ => show r.val = win0_15.index pt (0 : Fin 2) * 512 + 1 * r.val; rw [i0]; omega
  | ⟨1, _⟩ => show j.val = win0_15.index pt (1 : Fin 2) * 768 + 1 * j.val; rw [i1]; omega

theorem arr_conv (r : Fin 512) (j : Fin 768) : (dats m 0 c).arrAt 15 cfg0.N (ix2 r j) = (args m c r).row.p ⟨1376 + j.val, by omega⟩ :=
  (left_conv m c r j).trans ((reads m c r).conv j)

theorem left_query (r : Fin 512) (h : Fin 8) (j : Fin 256) : (dats m 0 c).arrAt 10 cfg0.N (ix3 h r j) = out0_10 (iblk m c 0 pt) (iblk m c 1 pt) (iblk m c 2 pt) (iblk m c 3 pt) (iblk m c 4 pt) (iblk m c 5 pt) (iblk m c 6 pt) (iblk m c 7 pt) (iblk m c 8 pt) (ix3 h r j) := by
  have e := congrFun (Value.blocks10 m c pt (by decide +kernel)) (ix3 h r j)
  rw [Value.flushed10] at e
  refine Eq.trans ?_ e
  obtain ⟨i0, i1, i2⟩ := at10
  show _ = (dats m 0 c).arrAt 10 cfg0.N (((cfg0.win 10).blk pt).view.emb (ix3 h r j))
  congr 1
  funext a
  apply Fin.ext
  match a with
  | ⟨0, _⟩ => show h.val = win0_10.index pt (0 : Fin 3) * 8 + 1 * h.val; rw [i0]; omega
  | ⟨1, _⟩ => show r.val = win0_10.index pt (1 : Fin 3) * 512 + 1 * r.val; rw [i1]; omega
  | ⟨2, _⟩ => show j.val = win0_10.index pt (2 : Fin 3) * 256 + 1 * j.val; rw [i2]; omega

theorem arr_query (r : Fin 512) (hR : (args m c r).row.IsReal) (h : Fin 8) (j : Fin 256) :
    (dats m 0 c).arrAt 10 cfg0.N (ix3 h r j) = (args m c r).row.query h j :=
  (left_query m c r h j).trans ((reads m c r).query hR h j)

end Cert.Samp
end
-- ==== Proof.SampRef.lean ====
/- THE REFERENCE OF THE INPUT PROJECTION OF THE SAMPLE BATCH, read at an index. -/
module

public import proofs.«01_k».proof.Proof.Gen.Reference4Ideal.Run
public import proofs.«01_k».proof.Proof.ProjRows
public import Idealize.ShloMosaic.Lib.Pointwise

@[expose] public section

set_option maxRecDepth 16384

noncomputable section

namespace Cert.Samp.Ref

open Cert.Reference4Ideal Cert.Reference4Ideal.Gen Idealize.ShloMosaic Idealize.ShloMosaic.TcCoe Cert.Proj

section anyFloats
variable {F : FTy → Type} [FloatOps F]

/-- The mean of each row of the input, and the input less it. -/
def mu (x : FVec F S128x4x1024 .f32) : FVec F S128x4x1 .f32 :=
  Host.divf (broadcastInDim S128x4x1 ![0, 1] bcast_S128x4_S128x4x1_0_1 (Host.reduceAdd x (constant S_ .f32 0x00000000#32) reducesTo_S128x4x1024_S128x4_d2 h_S_))
    (broadcastInDim S128x4x1 ![] bcast_S_S128x4x1 (constant S_ .f32 0x44800000#32))

def centred (x : FVec F S128x4x1024 .f32) : FVec F S128x4x1024 .f32 :=
  subf x (broadcastInDim S128x4x1024 ![0, 1, 2] bcast_S128x4x1_S128x4x1024_0_1_2 (mu x))

/-- Layer norm. -/
def norm (x : FVec F S128x4x1024 .f32) (g b : FVec F S1024 .f32) : FVec F S128x4x1024 .f32 :=
  addf
    (mulf
      (mulf (centred x)
        (broadcastInDim S128x4x1024 ![0, 1, 2] bcast_S128x4x1_S128x4x1024_0_1_2
          (Host.rsqrt (addf
            (Host.divf (broadcastInDim S128x4x1 ![0, 1] bcast_S128x4_S128x4x1_0_1
                (Host.reduceAdd (mulf (centred x) (centred x)) (constant S_ .f32 0x00000000#32) reducesTo_S128x4x1024_S128x4_d2 h_S_))
              (broadcastInDim S128x4x1 ![] bcast_S_S128x4x1 (constant S_ .f32 0x44800000#32)))
            (broadcastInDim S128x4x1 ![] bcast_S_S128x4x1 (constant S_ .f32 0x3727C5AC#32))))))
      (broadcastInDim S128x4x1024 ![0, 1, 2] bcast_S1x1x1024_S128x4x1024_0_1_2 (broadcastInDim S1x1x1024 ![2] bcast_S1024_S1x1x1024_2 g)))
    (broadcastInDim S128x4x1024 ![0, 1, 2] bcast_S1x1x1024_S128x4x1024_0_1_2 (broadcastInDim S1x1x1024 ![2] bcast_S1024_S1x1x1024_2 b))

/-- The projection of the normed input, and its five parts. -/
def proj (h : FVec F S128x4x1024 .f32) (w : FVec F S1024x2144 .f32) : FVec F S128x4x2144 .f32 :=
  Host.dotGeneral dot_S128x4x1024_S1024x2144_S128x4x2144_2_0_01_1_n_n none h w

def cqPart (p : FVec F S128x4x2144 .f32) : FVec F S128x4x192 .f32 :=
  extractStridedSlice S128x4x192 ![0, 0, 0] p slices_S128x4x2144_S128x4x192_0_0_0

def ckvPart (p : FVec F S128x4x2144 .f32) : FVec F S128x4x128 .f32 :=
  extractStridedSlice S128x4x128 ![0, 0, 192] p slices_S128x4x2144_S128x4x128_0_0_192

def krPart (p : FVec F S128x4x2144 .f32) : FVec F S128x4x32 .f32 :=
  extractStridedSlice S128x4x32 ![0, 0, 320] p slices_S128x4x2144_S128x4x32_0_0_320

/-- rms norm of the query part and of the latent part. -/
def normQ (y : FVec F S128x4x192 .f32) (g : FVec F S192 .f32) : FVec F S128x4x192 .f32 :=
  mulf
    (mulf y
      (broadcastInDim S128x4x192 ![0, 1, 2] bcast_S128x4x1_S128x4x192_0_1_2
        (Host.rsqrt (addf
          (Host.divf (broadcastInDim S128x4x1 ![0, 1] bcast_S128x4_S128x4x1_0_1
              (Host.reduceAdd (mulf y y) (constant S_ .f32 0x00000000#32) reducesTo_S128x4x192_S128x4_d2 h_S_))
            (broadcastInDim S128x4x1 ![] bcast_S_S128x4x1 (constant S_ .f32 0x43400000#32)))
          (broadcastInDim S128x4x1 ![] bcast_S_S128x4x1 (constant S_ .f32 0x358637BD#32))))))
    (broadcastInDim S128x4x192 ![0, 1, 2] bcast_S1x1x192_S128x4x192_0_1_2 (broadcastInDim S1x1x192 ![2] bcast_S192_S1x1x192_2 g))

def normKV (y : FVec F S128x4x128 .f32) (g : FVec F S128 .f32) : FVec F S128x4x128 .f32 :=
  mulf
    (mulf y
      (broadcastInDim S128x4x128 ![0, 1, 2] bcast_S128x4x1_S128x4x128_0_1_2
        (Host.rsqrt (addf
          (Host.divf (broadcastInDim S128x4x1 ![0, 1] bcast_S128x4_S128x4x1_0_1
              (Host.reduceAdd (mulf y y) (constant S_ .f32 0x00000000#32) reducesTo_S128x4x128_S128x4_d2 h_S_))
            (broadcastInDim S128x4x1 ![] bcast_S_S128x4x1 (constant S_ .f32 0x43000000#32)))
          (broadcastInDim S128x4x1 ![] bcast_S_S128x4x1 (constant S_ .f32 0x358637BD#32))))))
    (broadcastInDim S128x4x128 ![0, 1, 2] bcast_S1x1x128_S128x4x128_0_1_2 (broadcastInDim S1x1x128 ![2] bcast_S128_S1x1x128_2 g))

/-- The angles of the rotation. -/
def ang : FVec F S4x16 .f32 :=
  mulf
    (broadcastInDim S4x16 ![0, 1] bcast_S4x1_S4x16_0_1 (broadcastInDim S4x1 ![0] bcast_S4_S4x1_0 (sitofp .f32 (addi (broadcastInDim S4 ![] bcast_S_S4 (constantI S_ 32 16384#32)) (iotaInDim S4 32 0)))))
    (broadcastInDim S4x16 ![0, 1] bcast_S1x16_S4x16_0_1
      (broadcastInDim S1x16 ![1] bcast_S16_S1x16_1
        (Host.powf (broadcastInDim S16 ![] bcast_S_S16 (constant S_ .f32 0x461C4000#32))
          (Host.divf (Host.negf (sitofp .f32 (iotaInDim S16 32 0))) (broadcastInDim S16 ![] bcast_S_S16 (constant S_ .f32 0x41800000#32))))))

/-- The rotated key part. -/
def ropeK (y : FVec F S128x4x32 .f32) (a : FVec F S4x16 .f32) : FVec F S128x4x32 .f32 :=
  concatenate S128x4x32 2
    [⟨S128x4x16, subf
        (mulf (extractStridedSlice S128x4x16 ![0, 0, 0] y slices_S128x4x32_S128x4x16_0_0_0)
          (broadcastInDim S128x4x16 ![0, 1, 2] bcast_S1x4x16_S128x4x16_0_1_2 (Host.cos (shapeCast S1x4x16 a shapeCasts_S4x16_S1x4x16))))
        (mulf (extractStridedSlice S128x4x16 ![0, 0, 16] y slices_S128x4x32_S128x4x16_0_0_16)
          (broadcastInDim S128x4x16 ![0, 1, 2] bcast_S1x4x16_S128x4x16_0_1_2 (Host.sin (shapeCast S1x4x16 a shapeCasts_S4x16_S1x4x16))))⟩,
      ⟨S128x4x16, addf
        (mulf (extractStridedSlice S128x4x16 ![0, 0, 0] y slices_S128x4x32_S128x4x16_0_0_0)
          (broadcastInDim S128x4x16 ![0, 1, 2] bcast_S1x4x16_S128x4x16_0_1_2 (Host.sin (shapeCast S1x4x16 a shapeCasts_S4x16_S1x4x16))))
        (mulf (extractStridedSlice S128x4x16 ![0, 0, 16] y slices_S128x4x32_S128x4x16_0_0_16)
          (broadcastInDim S128x4x16 ![0, 1, 2] bcast_S1x4x16_S128x4x16_0_1_2 (Host.cos (shapeCast S1x4x16 a shapeCasts_S4x16_S1x4x16))))⟩]
    concatenates_S128x4x16_S128x4x16_S128x4x32_d2

/-- The queries of every head, their latent part and their rotated part. -/
def heads (c : FVec F S128x4x192 .f32) (uq : FVec F S192x8x96 .f32) : FVec F S128x4x8x96 .f32 :=
  Host.dotGeneral dot_S128x4x192_S192x8x96_S128x4x8x96_2_0_01_12_n_n none c uq

def latent (q : FVec F S128x4x8x96 .f32) (uk : FVec F S128x8x64 .f32) : FVec F S128x4x8x128 .f32 :=
  transpose S128x4x8x128 [2, 3, 0, 1]
    (Host.dotGeneral dot_S128x8x64_S128x4x8x64_S8x128x128x4_2_3_0_01_1_2 none uk
      (extractStridedSlice S128x4x8x64 ![0, 0, 0, 0] q slices_S128x4x8x96_S128x4x8x64_0_0_0_0))
    transposes_S8x128x128x4_S128x4x8x128_2_3_0_1

def turned (q : FVec F S128x4x8x96 .f32) : FVec F S128x4x8x32 .f32 :=
  extractStridedSlice S128x4x8x32 ![0, 0, 0, 64] q slices_S128x4x8x96_S128x4x8x32_0_0_0_64

def ropeQ (y : FVec F S128x4x8x32 .f32) (a : FVec F S4x16 .f32) : FVec F S128x4x8x32 .f32 :=
  concatenate S128x4x8x32 3
    [⟨S128x4x8x16, subf
        (mulf (extractStridedSlice S128x4x8x16 ![0, 0, 0, 0] y slices_S128x4x8x32_S128x4x8x16_0_0_0_0)
          (broadcastInDim S128x4x8x16 ![0, 1, 2, 3] bcast_S1x4x1x16_S128x4x8x16_0_1_2_3 (Host.cos (shapeCast S1x4x1x16 a shapeCasts_S4x16_S1x4x1x16))))
        (mulf (extractStridedSlice S128x4x8x16 ![0, 0, 0, 16] y slices_S128x4x8x32_S128x4x8x16_0_0_0_16)
          (broadcastInDim S128x4x8x16 ![0, 1, 2, 3] bcast_S1x4x1x16_S128x4x8x16_0_1_2_3 (Host.sin (shapeCast S1x4x1x16 a shapeCasts_S4x16_S1x4x1x16))))⟩,
      ⟨S128x4x8x16, addf
        (mulf (extractStridedSlice S128x4x8x16 ![0, 0, 0, 0] y slices_S128x4x8x32_S128x4x8x16_0_0_0_0)
          (broadcastInDim S128x4x8x16 ![0, 1, 2, 3] bcast_S1x4x1x16_S128x4x8x16_0_1_2_3 (Host.sin (shapeCast S1x4x1x16 a shapeCasts_S4x16_S1x4x1x16))))
        (mulf (extractStridedSlice S128x4x8x16 ![0, 0, 0, 16] y slices_S128x4x8x32_S128x4x8x16_0_0_0_16)
          (broadcastInDim S128x4x8x16 ![0, 1, 2, 3] bcast_S1x4x1x16_S128x4x8x16_0_1_2_3 (Host.cos (shapeCast S1x4x1x16 a shapeCasts_S4x16_S1x4x1x16))))⟩]
    concatenates_S128x4x8x16_S128x4x8x16_S128x4x8x32_d3

/-- The scaled queries, one plane a head, the rows by time. -/
def queries (l : FVec F S128x4x8x128 .f32) (r : FVec F S128x4x8x32 .f32) : FVec F S8x512x256 .bf16 :=
  truncf .bf16
    (shapeCast S8x512x256
      (transpose S8x4x128x256 [2, 1, 0, 3]
        (mulf
          (concatenate S128x4x8x256 3 [⟨S128x4x8x128, l⟩, ⟨S128x4x8x32, r⟩,
            ⟨S128x4x8x96, broadcastInDim S128x4x8x96 ![] bcast_S_S128x4x8x96 (constant S_ .f32 0x00000000#32)⟩]
            concatenates_S128x4x8x128_S128x4x8x32_S128x4x8x96_S128x4x8x256_d3)
          (broadcastInDim S128x4x8x256 ![] bcast_S_S128x4x8x256 (constant S_ .f32 0x3E16C740#32)))
        transposes_S128x4x8x256_S8x4x128x256_2_1_0_3) shapeCasts_S8x4x128x256_S8x512x256) bitsLt_bf16_f32

/-- The keys, the rows by time. -/
def keys (k : FVec F S128x4x128 .f32) (r : FVec F S128x4x32 .f32) : FVec F S512x256 .bf16 :=
  truncf .bf16
    (shapeCast S512x256
      (transpose S4x128x256 [1, 0, 2]
        (concatenate S128x4x256 2 [⟨S128x4x128, k⟩, ⟨S128x4x32, r⟩,
          ⟨S128x4x95, broadcastInDim S128x4x95 ![] bcast_S_S128x4x95 (constant S_ .f32 0x00000000#32)⟩,
          ⟨S128x4x1, broadcastInDim S128x4x1 ![] bcast_S_S128x4x1 (constant S_ .f32 0x3F800000#32)⟩]
          concatenates_S128x4x128_S128x4x32_S128x4x95_S128x4x1_S128x4x256_d2)
        transposes_S128x4x256_S4x128x256_1_0_2) shapeCasts_S4x128x256_S512x256) bitsLt_bf16_f32

/-- The five other results, their rows by time. -/
def rowsH (y : FVec F S128x4x1024 .f32) : FVec F S512x1024 .f32 :=
  shapeCast S512x1024 (transpose S4x128x1024 [1, 0, 2] y transposes_S128x4x1024_S4x128x1024_1_0_2) shapeCasts_S4x128x1024_S512x1024

def rowsC (y : FVec F S128x4x128 .f32) : FVec F S512x128 .f32 :=
  shapeCast S512x128 (transpose S4x128x128 [1, 0, 2] y transposes_S128x4x128_S4x128x128_1_0_2) shapeCasts_S4x128x128_S512x128

def rowsK (y : FVec F S128x4x32 .f32) : FVec F S512x32 .f32 :=
  shapeCast S512x32 (transpose S4x128x32 [1, 0, 2] y transposes_S128x4x32_S4x128x32_1_0_2) shapeCasts_S4x128x32_S512x32

def rwkv (p : FVec F S128x4x2144 .f32) : FVec F S512x1024 .f32 :=
  rowsH (extractStridedSlice S128x4x1024 ![0, 0, 352] p slices_S128x4x2144_S128x4x1024_0_0_352)

def conv (p : FVec F S128x4x2144 .f32) : FVec F S512x768 .f32 :=
  shapeCast S512x768 (transpose S4x128x768 [1, 0, 2]
    (extractStridedSlice S128x4x768 ![0, 0, 1376] p slices_S128x4x2144_S128x4x768_0_0_1376)
    transposes_S128x4x768_S4x128x768_1_0_2) shapeCasts_S4x128x768_S512x768

variable (m : (ℓ : Loc nD τ sig) → Buf (Elt F) ℓ) (c : Dev nD)

/-- The normed input of the arguments as launched, and its projection. -/
def hOf : FVec F S128x4x1024 .f32 :=
  norm (m ((c.tc : Thread nD τ).loc main_arg0)) (m ((c.tc : Thread nD τ).loc main_arg1)) (m ((c.tc : Thread nD τ).loc main_arg2))

def pOf : FVec F S128x4x2144 .f32 := proj (hOf m c) (m ((c.tc : Thread nD τ).loc main_arg3))

def ckvOf : FVec F S128x4x128 .f32 := normKV (ckvPart (pOf m c)) (m ((c.tc : Thread nD τ).loc main_arg6))

def krOf : FVec F S128x4x32 .f32 := ropeK (krPart (pOf m c)) ang

def qOf : FVec F S128x4x8x96 .f32 :=
  heads (normQ (cqPart (pOf m c)) (m ((c.tc : Thread nD τ).loc main_arg4))) (m ((c.tc : Thread nD τ).loc main_arg5))

theorem res_q : Value.res_main_v134 m c
    = queries (latent (qOf m c) (m ((c.tc : Thread nD τ).loc main_arg7))) (ropeQ (turned (qOf m c)) ang) := rfl

theorem res_keys : Value.res_main_v137 m c = keys (ckvOf m c) (krOf m c) := rfl

theorem res_ckv : Value.res_main_v139 m c = rowsC (ckvOf m c) := rfl

theorem res_kr : Value.res_main_v141 m c = rowsK (krOf m c) := rfl

end anyFloats

theorem norm_apply (x : FVec Ideal S128x4x1024 .f32) (g b : FVec Ideal S1024 .f32) (n : Fin 128) (t : Fin 4) (k : Fin 1024) :
    norm x g b (ix3 n t k) = ln (fun k => x (ix3 n t k)) (fun k => g (ix1 k)) (fun k => b (ix1 k)) k := by
  pointwise [norm, centred, mu]
  rfl

theorem proj_apply (h : FVec Ideal S128x4x1024 .f32) (w : FVec Ideal S1024x2144 .f32) (n : Fin 128) (t : Fin 4) (j : Fin 2144) :
    proj h w (ix3 n t j) = col (fun k => h (ix3 n t k)) (fun k => w (ix2 k j)) := by
  pointwise [proj]
  rfl

theorem normKV_apply (p : FVec Ideal S128x4x2144 .f32) (g : FVec Ideal S128 .f32) (n : Fin 128) (t : Fin 4) (j : Fin 128) :
    normKV (ckvPart p) g (ix3 n t j) = rms128 (fun j => p (ix3 n t ⟨192 + j.val, by omega⟩)) (fun j => g (ix1 j)) j := by
  pointwise [normKV, ckvPart]
  rfl

theorem normQ_apply (p : FVec Ideal S128x4x2144 .f32) (g : FVec Ideal S192 .f32) (n : Fin 128) (t : Fin 4) (j : Fin 192) :
    normQ (cqPart p) g (ix3 n t j) = rms192 (fun j => p (ix3 n t ⟨j.val, by omega⟩)) (fun j => g (ix1 j)) j := by
  pointwise [normQ, cqPart]
  rfl

theorem ang_apply (t : Fin 4) (j : Fin 16) : ang (F := Ideal) (ix2 t j) = angle (16384 + t.val) j := by
  pointwise [ang]
  unfold angle
  rw [BitVec.ofNat_add]
  rfl

theorem ropeK_apply (p : FVec Ideal S128x4x2144 .f32) (a : FVec Ideal S4x16 .f32) (n : Fin 128) (t : Fin 4) (l : Fin 32) :
    ropeK (krPart p) a (ix3 n t l) = rot (fun l => p (ix3 n t ⟨320 + l.val, by omega⟩)) (fun j => a (ix2 t j)) l := by
  pointwise [ropeK, krPart]
  rfl

theorem heads_apply (c : FVec Ideal S128x4x192 .f32) (uq : FVec Ideal S192x8x96 .f32) (n : Fin 128) (t : Fin 4) (h : Fin 8) (d : Fin 96) :
    heads c uq (ix4 n t h d) = ∑ j : Fin 192, (c (ix3 n t j) : EReal) * uq (ix3 j h d) := by
  pointwise [heads]

theorem latent_apply (q : FVec Ideal S128x4x8x96 .f32) (uk : FVec Ideal S128x8x64 .f32) (n : Fin 128) (t : Fin 4) (h : Fin 8) (l : Fin 128) :
    latent q uk (ix4 n t h l) = ∑ d : Fin 64, (uk (ix3 l h d) : EReal) * q (ix4 n t h ⟨d.val, by omega⟩) := by
  pointwise [latent]

theorem ropeQ_apply (q : FVec Ideal S128x4x8x96 .f32) (a : FVec Ideal S4x16 .f32) (n : Fin 128) (t : Fin 4) (h : Fin 8) (l : Fin 32) :
    ropeQ (turned q) a (ix4 n t h l) = rot (fun l => q (ix4 n t h ⟨64 + l.val, by omega⟩)) (fun j => a (ix2 t j)) l := by
  pointwise [ropeQ, turned]
  rfl

theorem queries_apply (l : FVec Ideal S128x4x8x128 .f32) (r : FVec Ideal S128x4x8x32 .f32) (h : Fin 8) (n : Fin 512) (e : Fin 256) :
    queries l r (ix3 h n e)
      = (if h1 : e.val < 128 then l (ix4 ⟨n.val % 128, by omega⟩ ⟨n.val / 128, by omega⟩ h ⟨e.val, h1⟩)
          else if h2 : e.val - 128 < 32 then r (ix4 ⟨n.val % 128, by omega⟩ ⟨n.val / 128, by omega⟩ h ⟨e.val - 128, h2⟩)
          else (0 : EReal)) * Ideal.ofBits .f32 0x3E16C740#32 := by
  pointwise [queries]

theorem keys_apply (k : FVec Ideal S128x4x128 .f32) (r : FVec Ideal S128x4x32 .f32) (n : Fin 512) (e : Fin 256) :
    keys k r (ix2 n e)
      = if h1 : e.val < 128 then k (ix3 ⟨n.val % 128, by omega⟩ ⟨n.val / 128, by omega⟩ ⟨e.val, h1⟩)
          else if h2 : e.val - 128 < 32 then r (ix3 ⟨n.val % 128, by omega⟩ ⟨n.val / 128, by omega⟩ ⟨e.val - 128, h2⟩)
          else if e.val - 128 - 32 < 95 then (0 : EReal) else 1 := by
  pointwise [keys]
  simp only [dite_eq_ite]

theorem rowsH_apply (y : FVec Ideal S128x4x1024 .f32) (r : Fin 512) (k : Fin 1024) :
    rowsH y (ix2 r k) = y (ix3 ⟨r.val % 128, by omega⟩ ⟨r.val / 128, by omega⟩ k) := by
  pointwise [rowsH]

theorem rowsC_apply (y : FVec Ideal S128x4x128 .f32) (r : Fin 512) (k : Fin 128) :
    rowsC y (ix2 r k) = y (ix3 ⟨r.val % 128, by omega⟩ ⟨r.val / 128, by omega⟩ k) := by
  pointwise [rowsC]

theorem rowsK_apply (y : FVec Ideal S128x4x32 .f32) (r : Fin 512) (k : Fin 32) :
    rowsK y (ix2 r k) = y (ix3 ⟨r.val % 128, by omega⟩ ⟨r.val / 128, by omega⟩ k) := by
  pointwise [rowsK]

theorem rwkv_apply (p : FVec Ideal S128x4x2144 .f32) (r : Fin 512) (j : Fin 1024) :
    rwkv p (ix2 r j) = p (ix3 ⟨r.val % 128, by omega⟩ ⟨r.val / 128, by omega⟩ ⟨352 + j.val, by omega⟩) := by
  pointwise [rwkv, rowsH]

theorem conv_apply (p : FVec Ideal S128x4x2144 .f32) (r : Fin 512) (j : Fin 768) :
    conv p (ix2 r j) = p (ix3 ⟨r.val % 128, by omega⟩ ⟨r.val / 128, by omega⟩ ⟨1376 + j.val, by omega⟩) := by
  pointwise [conv]

end Cert.Samp.Ref
end
-- ==== Proof.SampRefRows.lean ====
/- THE REFERENCE'S RESULTS OF THE SAMPLE BATCH, row by row. -/
module

public import proofs.«01_k».proof.Proof.SampRef
public import proofs.«01_k».proof.Proof.ProjOut

@[expose] public section

set_option maxRecDepth 16384

noncomputable section

namespace Cert.Samp.Ref

open Cert.Proj.Out Cert.Reference4Ideal Cert.Reference4Ideal.Gen Idealize.ShloMosaic Idealize.ShloMosaic.TcCoe Cert.Proj

variable (m : (ℓ : Loc nD τ sig) → Buf (Elt Ideal) ℓ) (c : Dev nD)

/-- Row `t` of batch `n` of the eight arguments. -/
def args (n : Fin 128) (t : Fin 4) : Args where
  x k := (m ((c.tc : Thread nD τ).loc main_arg0) : FVec Ideal S128x4x1024 .f32) (ix3 n t k)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  t := 16384 + t.val

def row (n : Fin 128) (t : Fin 4) : Row := (args m c n t).row

theorem h_row (n : Fin 128) (t : Fin 4) (k : Fin 1024) : hOf m c (ix3 n t k) = (row m c n t).h k := norm_apply _ _ _ n t k

theorem p_row (n : Fin 128) (t : Fin 4) (j : Fin 2144) : pOf m c (ix3 n t j) = (row m c n t).p j :=
  (proj_apply _ _ n t j).trans (congrArg₂ col (funext fun k => h_row m c n t k) rfl)

theorem ckv_row (n : Fin 128) (t : Fin 4) (j : Fin 128) : ckvOf m c (ix3 n t j) = (row m c n t).ckv j :=
  (normKV_apply _ _ n t j).trans (congrArg (fun y => rms128 y _ j) (funext fun l => p_row m c n t _))

theorem kr_row (n : Fin 128) (t : Fin 4) (l : Fin 32) : krOf m c (ix3 n t l) = (row m c n t).kr l :=
  (ropeK_apply _ _ n t l).trans (congrFun (congrArg₂ rot (funext fun l => p_row m c n t _) (funext fun j => ang_apply t j)) l)

theorem q_row (n : Fin 128) (t : Fin 4) (h : Fin 8) (d : Fin 96) : qOf m c (ix4 n t h d) = (row m c n t).q h d :=
  (heads_apply _ _ n t h d).trans (Finset.sum_congr rfl fun j _ => congrArg (fun y : EReal => y * _)
    ((normQ_apply _ _ n t j).trans (congrArg (fun y => rms192 y _ j) (funext fun l => p_row m c n t _))))

theorem key_row (r : Fin 512) (e : Fin 256) :
    keys (ckvOf m c) (krOf m c) (ix2 r e) = (row m c ⟨r.val % 128, by omega⟩ ⟨r.val / 128, by omega⟩).key e := by
  rw [keys_apply]
  simp only [ckv_row, kr_row]
  rfl

theorem query_row (h : Fin 8) (r : Fin 512) (e : Fin 256) :
    queries (latent (qOf m c) (m ((c.tc : Thread nD τ).loc main_arg7))) (ropeQ (turned (qOf m c)) ang) (ix3 h r e)
      = (row m c ⟨r.val % 128, by omega⟩ ⟨r.val / 128, by omega⟩).query h e := by
  rw [queries_apply]
  simp only [latent_apply, ropeQ_apply, q_row, ang_apply]
  rfl

end Cert.Samp.Ref
end
-- ==== Proof.SampClaims.lean ====
/- THE CLAIMS OF THE IN-PROJECTION OF THE SAMPLE BATCH: the two idealized programs compute the same seven arrays of finite arguments. -/
module

public import proofs.«01_k».proof.Defs
public import proofs.«01_k».proof.Proof.SampFinite
public import proofs.«01_k».proof.Proof.SampKernel
public import proofs.«01_k».proof.Proof.SampRefRows
public import proofs.«01_k».proof.Proof.ProjClaims

@[expose] public section

set_option maxRecDepth 16384

noncomputable section

namespace Cert.Samp

open Idealize.ShloMosaic Idealize.SL.Sem

open Cert.Proj (isReal_of Row)

/-- The reference declares no semaphore and its run leaves the arguments. -/
theorem ref_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
        r.2.mem ((c.tc : Thread Cert.Reference4Ideal.nD Cert.Reference4Ideal.τ).loc Cert.Reference4Ideal.main_arg0)
            = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1)
            = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2)
            = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3)
            = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4)
            = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5)
            = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6)
            = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7)
            = m ((c.tc : Thread Cert.Reference4Ideal.nD Cert.Reference4Ideal.τ).loc Cert.Reference4Ideal.main_arg7))
        ∧ r.2.sem = fun _ => 0) :=
  (θ_run _ _ _).mono (fun r h => ⟨fun c => (h c).2.2.2.2.2.2.2, sem_eq_zero_of_no_sems (by decide) r.2⟩) (Cert.Reference4Ideal.Value.run (F := Ideal) m ρ)

/-- The factor the kernel's last mean multiplies by is the float nearest to the reciprocal of its width. -/
theorem preserves : Cert.preserves_Kernel4_Kernel4Ideal :=
  IdealRules.named_const.statement Cert.Kernel4Ideal.κ "inv_q_rank" .f32 0x3BAAAAAB#32 ((192⁻¹ : ℝ) : EReal) rfl

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The arguments are finite. -/
def Finite : Prop := Cert.Pre_finite4.fn (F := Ideal) (B0 m c) (B1 m c) (B2 m c) (B3 m c) (B4 m c) (B5 m c) (B6 m c) (B7 m c) = fun _ => 1#1

/-- The reference's arguments are the kernel's. -/
def Agree : Prop := m' ((c.tc : Thread Cert.Reference4Ideal.nD Cert.Reference4Ideal.τ).loc Cert.Reference4Ideal.main_arg0) = B0 m c
      ∧ m' ((c.tc : Thread Cert.Reference4Ideal.nD Cert.Reference4Ideal.τ).loc Cert.Reference4Ideal.main_arg1) = B1 m c
      ∧ m' ((c.tc : Thread Cert.Reference4Ideal.nD Cert.Reference4Ideal.τ).loc Cert.Reference4Ideal.main_arg2) = B2 m c
      ∧ m' ((c.tc : Thread Cert.Reference4Ideal.nD Cert.Reference4Ideal.τ).loc Cert.Reference4Ideal.main_arg3) = B3 m c
      ∧ m' ((c.tc : Thread Cert.Reference4Ideal.nD Cert.Reference4Ideal.τ).loc Cert.Reference4Ideal.main_arg4) = B4 m c
      ∧ m' ((c.tc : Thread Cert.Reference4Ideal.nD Cert.Reference4Ideal.τ).loc Cert.Reference4Ideal.main_arg5) = B5 m c
      ∧ m' ((c.tc : Thread Cert.Reference4Ideal.nD Cert.Reference4Ideal.τ).loc Cert.Reference4Ideal.main_arg6) = B6 m c
      ∧ m' ((c.tc : Thread Cert.Reference4Ideal.nD Cert.Reference4Ideal.τ).loc Cert.Reference4Ideal.main_arg7) = B7 m c

theorem row_real (hf : Finite m c) (r : Fin 512) : (args m c r).row.IsReal := by
  obtain ⟨f0, f1, f2, f3, f4, f5, f6, f7⟩ := real_args _ _ _ _ _ _ _ _ hf
  exact ⟨fun _ => isReal_of (f0 _), fun _ => isReal_of (f1 _), fun _ => isReal_of (f2 _), fun _ _ => isReal_of (f3 _), fun _ => isReal_of (f4 _),
    fun _ _ _ => isReal_of (f5 _), fun _ _ _ => isReal_of (f7 _)⟩

variable {m m' c} (ha : Agree m m' c)
include ha

theorem row_same (r : Fin 512) : Ref.row m' c ⟨r.val % 128, by omega⟩ ⟨r.val / 128, by omega⟩ = (args m c r).row := by
  obtain ⟨h0, h1, h2, h3, h4, h5, h6, h7⟩ := ha
  unfold Ref.row Ref.args args
  rw [h0, h1, h2, h3, h4, h5, h6, h7]

theorem res_h : (Ref.rowsH (Ref.hOf m' c) : FVec Ideal Cert.Reference4Ideal.S512x1024 .f32) = ((Cert.Kernel4Ideal.Gen.dats m 0 c).arrAt 9 Cert.Kernel4Ideal.cfg0.N) := by
  funext z
  idx_vars z
  exact ((Ref.rowsH_apply _ z0 z1).trans (Ref.h_row m' c ⟨z0.val % 128, by omega⟩ ⟨z0.val / 128, by omega⟩ z1)).trans ((congrArg (fun R : Row => R.h z1) (row_same ha z0)).trans (arr_h m c z0 z1).symm)

theorem res_query (hf : Finite m c) : (Cert.Reference4Ideal.Value.res_main_v134 m' c : FVec Ideal Cert.Reference4Ideal.S8x512x256 .bf16) = ((Cert.Kernel4Ideal.Gen.dats m 0 c).arrAt 10 Cert.Kernel4Ideal.cfg0.N) := by
  funext z
  idx_vars z
  exact ((congrFun (Ref.res_q m' c) _).trans (Ref.query_row m' c z0 z1 z2)).trans ((congrArg (fun R : Row => R.query z0 z2) (row_same ha z1)).trans (arr_query m c z1 (row_real m c hf z1) z0 z2).symm)

theorem res_key : (Cert.Reference4Ideal.Value.res_main_v137 m' c : FVec Ideal Cert.Reference4Ideal.S512x256 .bf16) = ((Cert.Kernel4Ideal.Gen.dats m 0 c).arrAt 11 Cert.Kernel4Ideal.cfg0.N) := by
  funext z
  idx_vars z
  exact ((congrFun (Ref.res_keys m' c) _).trans (Ref.key_row m' c z0 z1)).trans ((congrArg (fun R : Row => R.key z1) (row_same ha z0)).trans (arr_key m c z0 z1).symm)

theorem res_ckv : (Cert.Reference4Ideal.Value.res_main_v139 m' c : FVec Ideal Cert.Reference4Ideal.S512x128 .f32) = ((Cert.Kernel4Ideal.Gen.dats m 0 c).arrAt 12 Cert.Kernel4Ideal.cfg0.N) := by
  funext z
  idx_vars z
  exact ((congrFun (Ref.res_ckv m' c) _).trans ((Ref.rowsC_apply _ z0 z1).trans (Ref.ckv_row m' c ⟨z0.val % 128, by omega⟩ ⟨z0.val / 128, by omega⟩ z1))).trans ((congrArg (fun R : Row => R.ckv z1) (row_same ha z0)).trans (arr_ckv m c z0 z1).symm)

theorem res_kr : (Cert.Reference4Ideal.Value.res_main_v141 m' c : FVec Ideal Cert.Reference4Ideal.S512x32 .f32) = ((Cert.Kernel4Ideal.Gen.dats m 0 c).arrAt 13 Cert.Kernel4Ideal.cfg0.N) := by
  funext z
  idx_vars z
  exact ((congrFun (Ref.res_kr m' c) _).trans ((Ref.rowsK_apply _ z0 z1).trans (Ref.kr_row m' c ⟨z0.val % 128, by omega⟩ ⟨z0.val / 128, by omega⟩ z1))).trans ((congrArg (fun R : Row => R.kr z1) (row_same ha z0)).trans (arr_kr m c z0 z1).symm)

theorem res_rwkv : (Ref.rwkv (Ref.pOf m' c) : FVec Ideal Cert.Reference4Ideal.S512x1024 .f32) = ((Cert.Kernel4Ideal.Gen.dats m 0 c).arrAt 14 Cert.Kernel4Ideal.cfg0.N) := by
  funext z
  idx_vars z
  exact ((Ref.rwkv_apply _ z0 z1).trans (Ref.p_row m' c ⟨z0.val % 128, by omega⟩ ⟨z0.val / 128, by omega⟩ ⟨352 + z1.val, by omega⟩)).trans ((congrArg (fun R : Row => R.p ⟨352 + z1.val, by omega⟩) (row_same ha z0)).trans (arr_rwkv m c z0 z1).symm)

theorem res_conv : (Ref.conv (Ref.pOf m' c) : FVec Ideal Cert.Reference4Ideal.S512x768 .f32) = ((Cert.Kernel4Ideal.Gen.dats m 0 c).arrAt 15 Cert.Kernel4Ideal.cfg0.N) := by
  funext z
  idx_vars z
  exact ((Ref.conv_apply _ z0 z1).trans (Ref.p_row m' c ⟨z0.val % 128, by omega⟩ ⟨z0.val / 128, by omega⟩ ⟨1376 + z1.val, by omega⟩)).trans ((congrArg (fun R : Row => R.p ⟨1376 + z1.val, by omega⟩) (row_same ha z0)).trans (arr_conv m c z0 z1).symm)

end

theorem algebraic : Cert.algebraic_Kernel4Ideal_Reference4Ideal_pre_finite4
    (hKernel4Ideal := Cert.Kernel4Ideal.Gen.facts) (hReference4Ideal := Cert.Reference4Ideal.Gen.facts) (hPre_finite4 := finiteFacts4) :=
  fun m ρ m' ρ' hpre hag => ⟨fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N,
    Cert.Kernel4Ideal.Value.run_blocks (F := Ideal) m ρ,
    (θ_run _ _ _).mono (fun _ h c => ⟨(h c).1.trans (res_h (hag c)), (h c).2.1.trans (res_query (hag c) (hpre c)), (h c).2.2.1.trans (res_key (hag c)),
        (h c).2.2.2.1.trans (res_ckv (hag c)), (h c).2.2.2.2.1.trans (res_kr (hag c)), (h c).2.2.2.2.2.1.trans (res_rwkv (hag c)),
        (h c).2.2.2.2.2.2.1.trans (res_conv (hag c)), (h c).2.2.2.2.2.2.2⟩)
      (Cert.Reference4Ideal.Value.run (F := Ideal) m' ρ')⟩

end Cert.Samp
end
-- ==== Proof.SampMixTile.lean ====
/- THE SAMPLE BATCH'S TOKEN MIXING, of its rows by time: the row before a row is 128 rows up, or the state's. The kernel's eight payloads at a row. -/
module

public import proofs.«01_k».proof.Proof.Gen.Kernel5Ideal.Frame
public import proofs.«01_k».proof.Proof.MixRows
public import Idealize.ShloMosaic.Lib.Pointwise

@[expose] public section

set_option maxRecDepth 16384

noncomputable section

namespace Cert.SampMix

open Cert.Kernel5Ideal Cert.Kernel5Ideal.Gen Cert.Mix Idealize.ShloMosaic Idealize.ShloMosaic.TcCoe

/-- The flat row of position `s` of sequence `b`. -/
def rowS (b : Fin 128) (s : Fin 4) : Fin 512 := ⟨s.val * 128 + b.val, by omega⟩

section mix
variable (X : Fin 512 → Fin 1024 → EReal) (S : Fin 128 → Fin 1024 → EReal) (mu : Fin 1024 → EReal)

/-- The row before row `r`. -/
def beforeS (r : Fin 512) (k : Fin 1024) : EReal := if h : r.val < 128 then S ⟨r.val, h⟩ k else X ⟨r.val - 128, by omega⟩ k

def mixRowS (r : Fin 512) (k : Fin 1024) : EReal := mixed (X r k) (beforeS X S r k) (mu k)

def decayS (w0 : Fin 256 → EReal) (W : Fin 64 → Fin 256 → EReal) (r : Fin 512) (j : Fin 256) : EReal :=
  decay (w0 j + ∑ x : Fin 64, Ideal.tanh (mixRowS X S mu r ⟨768 + x.val, by omega⟩) * W x j)

def rateS (a0 : Fin 256 → EReal) (W : Fin 64 → Fin 256 → EReal) (r : Fin 512) (j : Fin 256) : EReal :=
  sigm (a0 j + ∑ x : Fin 64, mixRowS X S mu r ⟨832 + x.val, by omega⟩ * W x j)

def gateS (W : Fin 128 → Fin 256 → EReal) (r : Fin 512) (j : Fin 256) : EReal :=
  ∑ x : Fin 128, sigm (mixRowS X S mu r ⟨896 + x.val, by omega⟩) * W x j
end mix

section conv
variable (U : Fin 512 → Fin 768 → EReal) (C : Fin 128 → Fin 2 → Fin 256 → EReal) (cw : Fin 3 → Fin 256 → EReal)

/-- The convolution's input at a row, and one and two positions before. -/
def cuS (r : Fin 512) (j : Fin 256) : EReal := U r ⟨256 + j.val, by omega⟩ * U r ⟨512 + j.val, by omega⟩
def oneS (r : Fin 512) (j : Fin 256) : EReal := if h : r.val < 128 then C ⟨r.val, h⟩ 1 j else cuS U ⟨r.val - 128, by omega⟩ j
def twoS (r : Fin 512) (j : Fin 256) : EReal := if h : r.val < 128 then C ⟨r.val, h⟩ 0 j else oneS U C ⟨r.val - 128, by omega⟩ j

def convS (r : Fin 512) (j : Fin 256) : EReal :=
  U r ⟨j.val, by omega⟩ * (cw 0 j * twoS U C r j + cw 1 j * oneS U C r j + cw 2 j * cuS U r j)
end conv

section anyFloats
variable {F : FTy → Type} [FloatOps F]

def decayOf (p : Vec F S128x1024 .f32) (x0 : Vec F S512x1024 .f32) (x4 : Vec F S1x1024 .f32) (x5 : Vec F S1x256 .f32) (x7 : Vec F S128x256 .bf16) :
    Vec F S512x256 .f32 := k0_pay13 (k0_pay11 p x0 x4 x5 x7) k0_pay12
def rateOf (p : Vec F S128x1024 .f32) (x0 : Vec F S512x1024 .f32) (x4 : Vec F S1x1024 .f32) (x6 : Vec F S1x256 .f32) (x8 : Vec F S128x256 .bf16) :
    Vec F S512x256 .f32 := k0_pay14 (k0_pay10 p x0 x4) x6 x8
def gateOf (p : Vec F S128x1024 .f32) (x0 : Vec F S512x1024 .f32) (x4 : Vec F S1x1024 .f32) (x9 : Vec F S128x256 .bf16) : Vec F S512x256 .f32 :=
  k0_pay1 (k0_pay15 (k0_pay6 p x0 x4)) x9
/-- The convolution's input one and two positions before. -/
def oneOf (y : FVec F S512x256 .f32) (q : FVec F S128x256 .f32) : FVec F S512x256 .f32 :=
  concatenate S512x256 0 [⟨S128x256, q⟩, ⟨S384x256, extractStridedSlice S384x256 ![0, 0] y slices_S512x256_o0_0_S384x256⟩] concatenates_S128x256_S384x256_S512x256_d0
end anyFloats

variable (p : Vec Ideal S128x1024 .f32) (q r' : FVec Ideal S128x256 .f32) (x0 : Vec Ideal S512x1024 .f32) (x1 : Vec Ideal S512x768 .f32)
  (x4 : Vec Ideal S1x1024 .f32) (x5 x6 : Vec Ideal S1x256 .f32) (x7 x8 x9 : Vec Ideal S128x256 .bf16) (x10 : Vec Ideal S3x256 .f32)

theorem mix_apply (r : Fin 512) (k : Fin 1024) :
    k0_pay6 p x0 x4 (ix2 r k) = mixRowS (fun r k => x0 (ix2 r k)) (fun b k => p (ix2 b k)) (fun k => x4 (ix2 0 k)) r k := by
  pointwise [k0_pay6]
  rfl

theorem r_apply (r : Fin 512) (j : Fin 256) : k0_pay7 p x0 x4 (ix2 r j) = k0_pay6 p x0 x4 (ix2 r ⟨j.val, by omega⟩) := by
  pointwise [k0_pay7]

theorem k_apply (r : Fin 512) (j : Fin 256) : k0_pay8 p x0 x4 (ix2 r j) = k0_pay6 p x0 x4 (ix2 r ⟨256 + j.val, by omega⟩) := by
  pointwise [k0_pay8]

theorem v_apply (r : Fin 512) (j : Fin 256) : k0_pay9 p x0 x4 (ix2 r j) = k0_pay6 p x0 x4 (ix2 r ⟨512 + j.val, by omega⟩) := by
  pointwise [k0_pay9]

theorem decay_apply (r : Fin 512) (j : Fin 256) :
    decayOf p x0 x4 x5 x7 (ix2 r j)
      = decay (x5 (ix2 0 j) + ∑ x : Fin 128, Ideal.tanh (k0_pay6 p x0 x4 (ix2 r ⟨768 + x.val, by omega⟩)) * (x7 (ix2 x j) : EReal)) := by
  pointwise [decayOf, k0_pay13, k0_pay12, k0_pay11, k0_pay10]
  simp only [zero_sub]
  rfl

theorem rate_apply (r : Fin 512) (j : Fin 256) :
    rateOf p x0 x4 x6 x8 (ix2 r j)
      = sigm (x6 (ix2 0 j) + ∑ x : Fin 128, (k0_pay6 p x0 x4 (ix2 r ⟨768 + x.val, by omega⟩) : EReal) * (x8 (ix2 x j) : EReal)) := by
  pointwise [rateOf, k0_pay14, k0_pay10]
  simp only [zero_sub]
  rfl

theorem gate_apply (r : Fin 512) (j : Fin 256) :
    gateOf p x0 x4 x9 (ix2 r j)
      = ∑ x : Fin 128, sigm (k0_pay6 p x0 x4 (ix2 r ⟨896 + x.val, by omega⟩)) * (x9 (ix2 x j) : EReal) := by
  pointwise [gateOf, k0_pay1, k0_pay15]
  simp only [zero_sub]
  rfl

theorem cu_apply (r : Fin 512) (j : Fin 256) : k0_pay2 x1 (ix2 r j) = cuS (fun r k => x1 (ix2 r k)) r j := by
  pointwise [k0_pay2]
  rfl

theorem one_apply (y : FVec Ideal S512x256 .f32) (r : Fin 512) (j : Fin 256) :
    oneOf y q (ix2 r j) = if h : r.val < 128 then q (ix2 ⟨r.val, h⟩ j) else y (ix2 ⟨r.val - 128, by omega⟩ j) := by
  pointwise [oneOf]

theorem conv_apply (r : Fin 512) (j : Fin 256) :
    k0_pay3 q r' x1 x10 (ix2 r j)
      = (x1 (ix2 r ⟨j.val, by omega⟩) : EReal)
        * ((x10 (ix2 0 j) : EReal) * oneOf (oneOf (k0_pay2 x1) q) r' (ix2 r j)
            + (x10 (ix2 1 j) : EReal) * oneOf (k0_pay2 x1) q (ix2 r j) + (x10 (ix2 2 j) : EReal) * k0_pay2 x1 (ix2 r j)) := by
  pointwise [k0_pay3, oneOf]

theorem initOne (x : Vec Ideal S1x128x256 .f32) (b : Fin 128) (j : Fin 256) : k0_pay4 x (ix2 b j) = x (ix3 0 b j) := by pointwise [k0_pay4]
theorem initTwo (x : Vec Ideal S1x128x256 .f32) (b : Fin 128) (j : Fin 256) : k0_pay5 x (ix2 b j) = x (ix3 0 b j) := by pointwise [k0_pay5]

end Cert.SampMix
end
-- ==== Proof.SampMixCases.lean ====
/- WHAT THE SAMPLE BATCH'S ONE TILE leaves: its eight output blocks, from its input blocks. -/
module

public import proofs.«01_k».proof.Proof.SampMixTile
public import Idealize.ShloMosaic.Lib.Pipeline.Value
public import Idealize.ShloMosaic.Lib.VecWindow

@[expose] public section

set_option maxRecDepth 16384

noncomputable section

namespace Cert.SampMix

open Cert.Kernel5Ideal Cert.Kernel5Ideal.Gen Idealize.ShloMosaic

section anyFloats
variable {F : FTy → Type} [FloatOps F]

theorem hz2 : (![0, 0] : Fin 2 → ℕ) = fun _ => 0 := by decide

/-- The two rows of the convolution's initial states. -/
def conv0 (x3 : Vec F S2x128x256 .f32) : Vec F S1x128x256 .f32 := View.ld x3 (Rect.unit ![0, 0, 0] ![1, 128, 256] inb_S2x128x256_S1x128x256_0_0_0)
def conv1 (x3 : Vec F S2x128x256 .f32) : Vec F S1x128x256 .f32 := View.ld x3 (Rect.unit ![1, 0, 0] ![1, 128, 256] inb_S2x128x256_S1x128x256_1_0_0)

variable (c : Dev nD) (i : grid0.Coords) (arg2 : Memref sig .tc .vmem S512x1024 .f32) (harg2 : arg2.IsWhole)
  (arg3 : Memref sig .tc .vmem S512x768 .f32) (harg3 : arg3.IsWhole)
  (arg4 : Memref sig .tc .vmem S128x1024 .f32) (harg4 : arg4.IsWhole)
  (arg5 : Memref sig .tc .vmem S2x128x256 .f32) (harg5 : arg5.IsWhole)
  (arg6 : Memref sig .tc .vmem S1x1024 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S128x256 .bf16) (harg9 : arg9.IsWhole)
  (arg10 : Memref sig .tc .vmem S128x256 .bf16) (harg10 : arg10.IsWhole)
  (arg11 : Memref sig .tc .vmem S128x256 .bf16) (harg11 : arg11.IsWhole)
  (arg12 : Memref sig .tc .vmem S3x256 .f32) (harg12 : arg12.IsWhole)
  (arg13 : Memref sig .tc .vmem S512x256 .f32) (harg13 : arg13.IsWhole)
  (arg14 : Memref sig .tc .vmem S512x256 .f32) (harg14 : arg14.IsWhole)
  (arg15 : Memref sig .tc .vmem S512x256 .f32) (harg15 : arg15.IsWhole)
  (arg16 : Memref sig .tc .vmem S512x256 .f32) (harg16 : arg16.IsWhole)
  (arg17 : Memref sig .tc .vmem S512x256 .f32) (harg17 : arg17.IsWhole)
  (arg18 : Memref sig .tc .vmem S512x256 .f32) (harg18 : arg18.IsWhole)
  (arg19 : Memref sig .tc .vmem S512x256 .bf16) (harg19 : arg19.IsWhole)
  (arg20 : Memref sig .tc .vmem S512x256 .f32) (harg20 : arg20.IsWhole)
  (arg21 : Memref sig .tc .vmem S128x1024 .f32) (harg21 : arg21.IsWhole)
  (arg22 : Memref sig .tc .vmem S128x256 .f32) (harg22 : arg22.IsWhole)
  (arg23 : Memref sig .tc .vmem S128x256 .f32) (harg23 : arg23.IsWhole)
  (x0 : Vec F S512x1024 .f32) (x1 : Vec F S512x768 .f32) (x2 : Vec F S128x1024 .f32) (x3 : Vec F S2x128x256 .f32) (x4 : Vec F S1x1024 .f32) (x5 : Vec F S1x256 .f32) (x6 : Vec F S1x256 .f32) (x7 : Vec F S128x256 .bf16) (x8 : Vec F S128x256 .bf16) (x9 : Vec F S128x256 .bf16) (x10 : Vec F S3x256 .f32)

theorem out_11 :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = k0_pay7 x2 x0 x4 := by
  unfold out0_A_11 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]

theorem out_12 :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = k0_pay8 x2 x0 x4 := by
  unfold out0_A_12 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]

theorem out_13 :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = k0_pay9 x2 x0 x4 := by
  unfold out0_A_13 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]

theorem out_14 :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = decayOf x2 x0 x4 x5 x7 := by
  unfold out0_A_14 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]
  rfl

theorem out_15 :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = rateOf x2 x0 x4 x6 x8 := by
  unfold out0_A_15 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]
  rfl

theorem out_16 :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = gateOf x2 x0 x4 x9 := by
  unfold out0_A_16 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]
  rfl

theorem out_17 :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = k0_pay3 (k0_pay4 (conv1 x3)) (k0_pay5 (conv0 x3)) x1 x10 := by
  unfold out0_A_17 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]
  rfl

theorem out_18 :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10
      = k0_pay2 x1 := by
  unfold out0_A_18 kernelRun0_A
  dsimp only
  sl_unfold_words
  rw [View.read_writes_full]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S512x768) hz2, View.ld_unit_zero (S := S128x1024) hz2, View.ld_unit_zero (S := S1x1024) hz2, View.ld_unit_zero (S := S1x256) hz2, View.ld_unit_zero (S := S128x256) hz2, View.ld_unit_zero (S := S3x256) hz2]

end anyFloats

end Cert.SampMix
end
-- ==== Proof.SampMixKernel.lean ====
/- OPERANDS, BLOCKS AND ARRAYS of the sample batch's token mixing: its one point reads whole arrays and stores whole results. -/
module

public import proofs.«01_k».proof.Proof.Gen.Kernel5Ideal.Value
public import proofs.«01_k».proof.Proof.SampMixCases

@[expose] public section

set_option maxRecDepth 16384

noncomputable section

namespace Cert.SampMix

open Cert.Kernel5Ideal Cert.Kernel5Ideal.Gen Cert.Mix Idealize.ShloMosaic Idealize.ShloMosaic.TcCoe

section anyFloats
variable {F : FTy → Type} [FloatOps F]

/-- The padded weights. -/
def zeros : FVec F S64x256 .f32 := broadcastInDim S64x256 ![] bcast_S_S64x256 (constant S_ .f32 0x00000000#32)
def wDecay (w : FVec F S64x256 .f32) : FVec F S128x256 .bf16 :=
  truncf .bf16 (concatenate S128x256 0 [⟨S64x256, w⟩, ⟨S64x256, zeros⟩] concatenates_S64x256_S64x256_S128x256_d0) bitsLt_bf16_f32
def wRate (w : FVec F S64x256 .f32) : FVec F S128x256 .bf16 :=
  truncf .bf16 (concatenate S128x256 0 [⟨S64x256, zeros⟩, ⟨S64x256, w⟩] concatenates_S64x256_S64x256_S128x256_d0) bitsLt_bf16_f32

variable (m : (ℓ : Loc nD τ sig) → Buf (Elt F) ℓ) (c : Dev nD)

/-- The eleven arguments as launched. -/
def D0 : FVec F S512x1024 .f32 := m ((c : Thread nD τ).loc main_arg0)
def D1 : FVec F S512x768 .f32 := m ((c : Thread nD τ).loc main_arg1)
def D2 : FVec F S128x1024 .f32 := m ((c : Thread nD τ).loc main_arg2)
def D3 : FVec F S128x2x256 .f32 := m ((c : Thread nD τ).loc main_arg3)
def D4 : FVec F S1024 .f32 := m ((c : Thread nD τ).loc main_arg4)
def D5 : FVec F S256 .f32 := m ((c : Thread nD τ).loc main_arg5)
def D6 : FVec F S64x256 .f32 := m ((c : Thread nD τ).loc main_arg6)
def D7 : FVec F S256 .f32 := m ((c : Thread nD τ).loc main_arg7)
def D8 : FVec F S64x256 .f32 := m ((c : Thread nD τ).loc main_arg8)
def D9 : FVec F S128x256 .f32 := m ((c : Thread nD τ).loc main_arg9)
def D10 : FVec F S3x256 .f32 := m ((c : Thread nD τ).loc main_arg10)

theorem V_0 : V m c main_arg0 = D0 m c := by
  dsimp only [V, hostOps0]
  after_results
  rfl

theorem V_1 : V m c main_arg1 = D1 m c := by
  dsimp only [V, hostOps0]
  after_results
  rfl

theorem V_2 : V m c main_arg2 = D2 m c := by
  dsimp only [V, hostOps0]
  after_results
  rfl

theorem V_3 : V m c main_v6 = transpose S2x128x256 [1, 0, 2] (D3 m c) transposes_S128x2x256_S2x128x256_1_0_2 := by
  dsimp only [V, hostOps0]
  after_results
  rfl

theorem V_4 : V m c main_v7 = shapeCast S1x1024 (D4 m c) shapeCasts_S1024_S1x1024 := by
  dsimp only [V, hostOps0]
  after_results
  rfl

theorem V_5 : V m c main_v8 = shapeCast S1x256 (D5 m c) shapeCasts_S256_S1x256 := by
  dsimp only [V, hostOps0]
  after_results
  rfl

theorem V_6 : V m c main_v9 = shapeCast S1x256 (D7 m c) shapeCasts_S256_S1x256 := by
  dsimp only [V, hostOps0]
  after_results
  rfl

theorem V_7 : V m c main_v2 = wDecay (D6 m c) := by
  dsimp only [V, hostOps0]
  after_results
  rfl

theorem V_8 : V m c main_v4 = wRate (D8 m c) := by
  dsimp only [V, hostOps0]
  after_results
  rfl

theorem V_9 : V m c main_v5 = truncf .bf16 (D9 m c) bitsLt_bf16_f32 := by
  dsimp only [V, hostOps0]
  after_results
  rfl

theorem V_10 : V m c main_arg10 = D10 m c := by
  dsimp only [V, hostOps0]
  after_results
  rfl

end anyFloats

variable (m : (ℓ : Loc nD τ sig) → Buf (Elt Ideal) ℓ) (c : Dev nD)

/-- The one point. -/
def pt : Fin cfg0.N := ⟨0, lt_of_lt_of_eq Nat.zero_lt_one N_0.symm⟩

theorem at0 : win0_0.index pt (0 : Fin 2) = 0 ∧ win0_0.index pt (1 : Fin 2) = 0 := by decide +kernel

theorem at1 : win0_1.index pt (0 : Fin 2) = 0 ∧ win0_1.index pt (1 : Fin 2) = 0 := by decide +kernel

theorem at2 : win0_2.index pt (0 : Fin 2) = 0 ∧ win0_2.index pt (1 : Fin 2) = 0 := by decide +kernel

theorem at3 : win0_3.index pt (0 : Fin 3) = 0 ∧ win0_3.index pt (1 : Fin 3) = 0 ∧ win0_3.index pt (2 : Fin 3) = 0 := by decide +kernel

theorem at4 : win0_4.index pt (0 : Fin 2) = 0 ∧ win0_4.index pt (1 : Fin 2) = 0 := by decide +kernel

theorem at5 : win0_5.index pt (0 : Fin 2) = 0 ∧ win0_5.index pt (1 : Fin 2) = 0 := by decide +kernel

theorem at6 : win0_6.index pt (0 : Fin 2) = 0 ∧ win0_6.index pt (1 : Fin 2) = 0 := by decide +kernel

theorem at7 : win0_7.index pt (0 : Fin 2) = 0 ∧ win0_7.index pt (1 : Fin 2) = 0 := by decide +kernel

theorem at8 : win0_8.index pt (0 : Fin 2) = 0 ∧ win0_8.index pt (1 : Fin 2) = 0 := by decide +kernel

theorem at9 : win0_9.index pt (0 : Fin 2) = 0 ∧ win0_9.index pt (1 : Fin 2) = 0 := by decide +kernel

theorem at10 : win0_10.index pt (0 : Fin 2) = 0 ∧ win0_10.index pt (1 : Fin 2) = 0 := by decide +kernel

theorem at11 : win0_11.index pt (0 : Fin 2) = 0 ∧ win0_11.index pt (1 : Fin 2) = 0 := by decide +kernel

theorem at12 : win0_12.index pt (0 : Fin 2) = 0 ∧ win0_12.index pt (1 : Fin 2) = 0 := by decide +kernel

theorem at13 : win0_13.index pt (0 : Fin 2) = 0 ∧ win0_13.index pt (1 : Fin 2) = 0 := by decide +kernel

theorem at14 : win0_14.index pt (0 : Fin 2) = 0 ∧ win0_14.index pt (1 : Fin 2) = 0 := by decide +kernel

theorem at15 : win0_15.index pt (0 : Fin 2) = 0 ∧ win0_15.index pt (1 : Fin 2) = 0 := by decide +kernel

theorem at16 : win0_16.index pt (0 : Fin 2) = 0 ∧ win0_16.index pt (1 : Fin 2) = 0 := by decide +kernel

theorem at17 : win0_17.index pt (0 : Fin 2) = 0 ∧ win0_17.index pt (1 : Fin 2) = 0 := by decide +kernel

theorem at18 : win0_18.index pt (0 : Fin 2) = 0 ∧ win0_18.index pt (1 : Fin 2) = 0 := by decide +kernel

theorem read0 (p : Fin 512) (q : Fin 1024) : iblk m c 0 pt (ix2 p q) = (D0 m c) (ix2 p q) := by
  rw [← V_0]
  show V m c main_arg0 (((cfg0.win 0).blk pt).view.emb (ix2 p q)) = _
  obtain ⟨i0, i1⟩ := at0
  congr 1
  funext a
  apply Fin.ext
  match a with
  | ⟨0, _⟩ => show win0_0.index pt (0 : Fin 2) * 512 + 1 * p.val = p.val; rw [i0]; omega
  | ⟨1, _⟩ => show win0_0.index pt (1 : Fin 2) * 1024 + 1 * q.val = q.val; rw [i1]; omega

theorem read1 (p : Fin 512) (q : Fin 768) : iblk m c 1 pt (ix2 p q) = (D1 m c) (ix2 p q) := by
  rw [← V_1]
  show V m c main_arg1 (((cfg0.win 1).blk pt).view.emb (ix2 p q)) = _
  obtain ⟨i0, i1⟩ := at1
  congr 1
  funext a
  apply Fin.ext
  match a with
  | ⟨0, _⟩ => show win0_1.index pt (0 : Fin 2) * 512 + 1 * p.val = p.val; rw [i0]; omega
  | ⟨1, _⟩ => show win0_1.index pt (1 : Fin 2) * 768 + 1 * q.val = q.val; rw [i1]; omega

theorem read2 (p : Fin 128) (q : Fin 1024) : iblk m c 2 pt (ix2 p q) = (D2 m c) (ix2 p q) := by
  rw [← V_2]
  show V m c main_arg2 (((cfg0.win 2).blk pt).view.emb (ix2 p q)) = _
  obtain ⟨i0, i1⟩ := at2
  congr 1
  funext a
  apply Fin.ext
  match a with
  | ⟨0, _⟩ => show win0_2.index pt (0 : Fin 2) * 128 + 1 * p.val = p.val; rw [i0]; omega
  | ⟨1, _⟩ => show win0_2.index pt (1 : Fin 2) * 1024 + 1 * q.val = q.val; rw [i1]; omega

theorem read3 (p : Fin 2) (q : Fin 128) (r : Fin 256) : iblk m c 3 pt (ix3 p q r) = (transpose S2x128x256 [1, 0, 2] (D3 m c) transposes_S128x2x256_S2x128x256_1_0_2) (ix3 p q r) := by
  rw [← V_3]
  show V m c main_v6 (((cfg0.win 3).blk pt).view.emb (ix3 p q r)) = _
  obtain ⟨i0, i1, i2⟩ := at3
  congr 1
  funext a
  apply Fin.ext
  match a with
  | ⟨0, _⟩ => show win0_3.index pt (0 : Fin 3) * 2 + 1 * p.val = p.val; rw [i0]; omega
  | ⟨1, _⟩ => show win0_3.index pt (1 : Fin 3) * 128 + 1 * q.val = q.val; rw [i1]; omega
  | ⟨2, _⟩ => show win0_3.index pt (2 : Fin 3) * 256 + 1 * r.val = r.val; rw [i2]; omega

theorem read4 (p : Fin 1) (q : Fin 1024) : iblk m c 4 pt (ix2 p q) = (shapeCast S1x1024 (D4 m c) shapeCasts_S1024_S1x1024) (ix2 p q) := by
  rw [← V_4]
  show V m c main_v7 (((cfg0.win 4).blk pt).view.emb (ix2 p q)) = _
  obtain ⟨i0, i1⟩ := at4
  congr 1
  funext a
  apply Fin.ext
  match a with
  | ⟨0, _⟩ => show win0_4.index pt (0 : Fin 2) * 1 + 1 * p.val = p.val; rw [i0]; omega
  | ⟨1, _⟩ => show win0_4.index pt (1 : Fin 2) * 1024 + 1 * q.val = q.val; rw [i1]; omega

theorem read5 (p : Fin 1) (q : Fin 256) : iblk m c 5 pt (ix2 p q) = (shapeCast S1x256 (D5 m c) shapeCasts_S256_S1x256) (ix2 p q) := by
  rw [← V_5]
  show V m c main_v8 (((cfg0.win 5).blk pt).view.emb (ix2 p q)) = _
  obtain ⟨i0, i1⟩ := at5
  congr 1
  funext a
  apply Fin.ext
  match a with
  | ⟨0, _⟩ => show win0_5.index pt (0 : Fin 2) * 1 + 1 * p.val = p.val; rw [i0]; omega
  | ⟨1, _⟩ => show win0_5.index pt (1 : Fin 2) * 256 + 1 * q.val = q.val; rw [i1]; omega

theorem read6 (p : Fin 1) (q : Fin 256) : iblk m c 6 pt (ix2 p q) = (shapeCast S1x256 (D7 m c) shapeCasts_S256_S1x256) (ix2 p q) := by
  rw [← V_6]
  show V m c main_v9 (((cfg0.win 6).blk pt).view.emb (ix2 p q)) = _
  obtain ⟨i0, i1⟩ := at6
  congr 1
  funext a
  apply Fin.ext
  match a with
  | ⟨0, _⟩ => show win0_6.index pt (0 : Fin 2) * 1 + 1 * p.val = p.val; rw [i0]; omega
  | ⟨1, _⟩ => show win0_6.index pt (1 : Fin 2) * 256 + 1 * q.val = q.val; rw [i1]; omega

theorem read7 (p : Fin 128) (q : Fin 256) : iblk m c 7 pt (ix2 p q) = (wDecay (D6 m c)) (ix2 p q) := by
  rw [← V_7]
  show V m c main_v2 (((cfg0.win 7).blk pt).view.emb (ix2 p q)) = _
  obtain ⟨i0, i1⟩ := at7
  congr 1
  funext a
  apply Fin.ext
  match a with
  | ⟨0, _⟩ => show win0_7.index pt (0 : Fin 2) * 128 + 1 * p.val = p.val; rw [i0]; omega
  | ⟨1, _⟩ => show win0_7.index pt (1 : Fin 2) * 256 + 1 * q.val = q.val; rw [i1]; omega

theorem read8 (p : Fin 128) (q : Fin 256) : iblk m c 8 pt (ix2 p q) = (wRate (D8 m c)) (ix2 p q) := by
  rw [← V_8]
  show V m c main_v4 (((cfg0.win 8).blk pt).view.emb (ix2 p q)) = _
  obtain ⟨i0, i1⟩ := at8
  congr 1
  funext a
  apply Fin.ext
  match a with
  | ⟨0, _⟩ => show win0_8.index pt (0 : Fin 2) * 128 + 1 * p.val = p.val; rw [i0]; omega
  | ⟨1, _⟩ => show win0_8.index pt (1 : Fin 2) * 256 + 1 * q.val = q.val; rw [i1]; omega

theorem read9 (p : Fin 128) (q : Fin 256) : iblk m c 9 pt (ix2 p q) = (truncf .bf16 (D9 m c) bitsLt_bf16_f32) (ix2 p q) := by
  rw [← V_9]
  show V m c main_v5 (((cfg0.win 9).blk pt).view.emb (ix2 p q)) = _
  obtain ⟨i0, i1⟩ := at9
  congr 1
  funext a
  apply Fin.ext
  match a with
  | ⟨0, _⟩ => show win0_9.index pt (0 : Fin 2) * 128 + 1 * p.val = p.val; rw [i0]; omega
  | ⟨1, _⟩ => show win0_9.index pt (1 : Fin 2) * 256 + 1 * q.val = q.val; rw [i1]; omega

theorem read10 (p : Fin 3) (q : Fin 256) : iblk m c 10 pt (ix2 p q) = (D10 m c) (ix2 p q) := by
  rw [← V_10]
  show V m c main_arg10 (((cfg0.win 10).blk pt).view.emb (ix2 p q)) = _
  obtain ⟨i0, i1⟩ := at10
  congr 1
  funext a
  apply Fin.ext
  match a with
  | ⟨0, _⟩ => show win0_10.index pt (0 : Fin 2) * 3 + 1 * p.val = p.val; rw [i0]; omega
  | ⟨1, _⟩ => show win0_10.index pt (1 : Fin 2) * 256 + 1 * q.val = q.val; rw [i1]; omega

theorem left11 (r : Fin 512) (j : Fin 256) : (dats m 0 c).arrAt 11 cfg0.N (ix2 r j)
    = k0_pay7 (iblk m c 2 pt) (iblk m c 0 pt) (iblk m c 4 pt) (ix2 r j) := by
  have h := congrFun (Value.blocks11 m c pt (by decide +kernel)) (ix2 r j)
  rw [Value.flushed11_A, out_11] at h
  refine Eq.trans ?_ h
  obtain ⟨i0, i1⟩ := at11
  show _ = (dats m 0 c).arrAt 11 cfg0.N (((cfg0.win 11).blk pt).view.emb (ix2 r j))
  congr 1
  funext a
  apply Fin.ext
  match a with
  | ⟨0, _⟩ => show r.val = win0_11.index pt (0 : Fin 2) * 512 + 1 * r.val; rw [i0]; omega
  | ⟨1, _⟩ => show j.val = win0_11.index pt (1 : Fin 2) * 256 + 1 * j.val; rw [i1]; omega

theorem left12 (r : Fin 512) (j : Fin 256) : (dats m 0 c).arrAt 12 cfg0.N (ix2 r j)
    = k0_pay8 (iblk m c 2 pt) (iblk m c 0 pt) (iblk m c 4 pt) (ix2 r j) := by
  have h := congrFun (Value.blocks12 m c pt (by decide +kernel)) (ix2 r j)
  rw [Value.flushed12_A, out_12] at h
  refine Eq.trans ?_ h
  obtain ⟨i0, i1⟩ := at12
  show _ = (dats m 0 c).arrAt 12 cfg0.N (((cfg0.win 12).blk pt).view.emb (ix2 r j))
  congr 1
  funext a
  apply Fin.ext
  match a with
  | ⟨0, _⟩ => show r.val = win0_12.index pt (0 : Fin 2) * 512 + 1 * r.val; rw [i0]; omega
  | ⟨1, _⟩ => show j.val = win0_12.index pt (1 : Fin 2) * 256 + 1 * j.val; rw [i1]; omega

theorem left13 (r : Fin 512) (j : Fin 256) : (dats m 0 c).arrAt 13 cfg0.N (ix2 r j)
    = k0_pay9 (iblk m c 2 pt) (iblk m c 0 pt) (iblk m c 4 pt) (ix2 r j) := by
  have h := congrFun (Value.blocks13 m c pt (by decide +kernel)) (ix2 r j)
  rw [Value.flushed13_A, out_13] at h
  refine Eq.trans ?_ h
  obtain ⟨i0, i1⟩ := at13
  show _ = (dats m 0 c).arrAt 13 cfg0.N (((cfg0.win 13).blk pt).view.emb (ix2 r j))
  congr 1
  funext a
  apply Fin.ext
  match a with
  | ⟨0, _⟩ => show r.val = win0_13.index pt (0 : Fin 2) * 512 + 1 * r.val; rw [i0]; omega
  | ⟨1, _⟩ => show j.val = win0_13.index pt (1 : Fin 2) * 256 + 1 * j.val; rw [i1]; omega

theorem left14 (r : Fin 512) (j : Fin 256) : (dats m 0 c).arrAt 14 cfg0.N (ix2 r j)
    = decayOf (iblk m c 2 pt) (iblk m c 0 pt) (iblk m c 4 pt) (iblk m c 5 pt) (iblk m c 7 pt) (ix2 r j) := by
  have h := congrFun (Value.blocks14 m c pt (by decide +kernel)) (ix2 r j)
  rw [Value.flushed14_A, out_14] at h
  refine Eq.trans ?_ h
  obtain ⟨i0, i1⟩ := at14
  show _ = (dats m 0 c).arrAt 14 cfg0.N (((cfg0.win 14).blk pt).view.emb (ix2 r j))
  congr 1
  funext a
  apply Fin.ext
  match a with
  | ⟨0, _⟩ => show r.val = win0_14.index pt (0 : Fin 2) * 512 + 1 * r.val; rw [i0]; omega
  | ⟨1, _⟩ => show j.val = win0_14.index pt (1 : Fin 2) * 256 + 1 * j.val; rw [i1]; omega

theorem left15 (r : Fin 512) (j : Fin 256) : (dats m 0 c).arrAt 15 cfg0.N (ix2 r j)
    = rateOf (iblk m c 2 pt) (iblk m c 0 pt) (iblk m c 4 pt) (iblk m c 6 pt) (iblk m c 8 pt) (ix2 r j) := by
  have h := congrFun (Value.blocks15 m c pt (by decide +kernel)) (ix2 r j)
  rw [Value.flushed15_A, out_15] at h
  refine Eq.trans ?_ h
  obtain ⟨i0, i1⟩ := at15
  show _ = (dats m 0 c).arrAt 15 cfg0.N (((cfg0.win 15).blk pt).view.emb (ix2 r j))
  congr 1
  funext a
  apply Fin.ext
  match a with
  | ⟨0, _⟩ => show r.val = win0_15.index pt (0 : Fin 2) * 512 + 1 * r.val; rw [i0]; omega
  | ⟨1, _⟩ => show j.val = win0_15.index pt (1 : Fin 2) * 256 + 1 * j.val; rw [i1]; omega

theorem left16 (r : Fin 512) (j : Fin 256) : (dats m 0 c).arrAt 16 cfg0.N (ix2 r j)
    = gateOf (iblk m c 2 pt) (iblk m c 0 pt) (iblk m c 4 pt) (iblk m c 9 pt) (ix2 r j) := by
  have h := congrFun (Value.blocks16 m c pt (by decide +kernel)) (ix2 r j)
  rw [Value.flushed16_A, out_16] at h
  refine Eq.trans ?_ h
  obtain ⟨i0, i1⟩ := at16
  show _ = (dats m 0 c).arrAt 16 cfg0.N (((cfg0.win 16).blk pt).view.emb (ix2 r j))
  congr 1
  funext a
  apply Fin.ext
  match a with
  | ⟨0, _⟩ => show r.val = win0_16.index pt (0 : Fin 2) * 512 + 1 * r.val; rw [i0]; omega
  | ⟨1, _⟩ => show j.val = win0_16.index pt (1 : Fin 2) * 256 + 1 * j.val; rw [i1]; omega

theorem left17 (r : Fin 512) (j : Fin 256) : (dats m 0 c).arrAt 17 cfg0.N (ix2 r j)
    = k0_pay3 (k0_pay4 (conv1 (iblk m c 3 pt))) (k0_pay5 (conv0 (iblk m c 3 pt))) (iblk m c 1 pt) (iblk m c 10 pt) (ix2 r j) := by
  have h := congrFun (Value.blocks17 m c pt (by decide +kernel)) (ix2 r j)
  rw [Value.flushed17_A, out_17] at h
  refine Eq.trans ?_ h
  obtain ⟨i0, i1⟩ := at17
  show _ = (dats m 0 c).arrAt 17 cfg0.N (((cfg0.win 17).blk pt).view.emb (ix2 r j))
  congr 1
  funext a
  apply Fin.ext
  match a with
  | ⟨0, _⟩ => show r.val = win0_17.index pt (0 : Fin 2) * 512 + 1 * r.val; rw [i0]; omega
  | ⟨1, _⟩ => show j.val = win0_17.index pt (1 : Fin 2) * 256 + 1 * j.val; rw [i1]; omega

theorem left18 (r : Fin 512) (j : Fin 256) : (dats m 0 c).arrAt 18 cfg0.N (ix2 r j)
    = k0_pay2 (iblk m c 1 pt) (ix2 r j) := by
  have h := congrFun (Value.blocks18 m c pt (by decide +kernel)) (ix2 r j)
  rw [Value.flushed18_A, out_18] at h
  refine Eq.trans ?_ h
  obtain ⟨i0, i1⟩ := at18
  show _ = (dats m 0 c).arrAt 18 cfg0.N (((cfg0.win 18).blk pt).view.emb (ix2 r j))
  congr 1
  funext a
  apply Fin.ext
  match a with
  | ⟨0, _⟩ => show r.val = win0_18.index pt (0 : Fin 2) * 512 + 1 * r.val; rw [i0]; omega
  | ⟨1, _⟩ => show j.val = win0_18.index pt (1 : Fin 2) * 256 + 1 * j.val; rw [i1]; omega

theorem conv0_at (b : Fin 128) (j : Fin 256) : conv0 (iblk m c 3 pt) (ix3 0 b j) = D3 m c (ix3 b 0 j) := by
  have e : conv0 (iblk m c 3 pt) (ix3 0 b j) = iblk m c 3 pt (ix3 0 b j) := congrArg (iblk m c 3 pt) (funext fun a => Fin.ext (by
    match a with
    | ⟨0, _⟩ => rfl
    | ⟨1, _⟩ => show 0 + 1 * b.val = b.val; omega
    | ⟨2, _⟩ => show 0 + 1 * j.val = j.val; omega))
  rw [e, read3]
  pointwise []

theorem conv1_at (b : Fin 128) (j : Fin 256) : conv1 (iblk m c 3 pt) (ix3 0 b j) = D3 m c (ix3 b 1 j) := by
  have e : conv1 (iblk m c 3 pt) (ix3 0 b j) = iblk m c 3 pt (ix3 1 b j) := congrArg (iblk m c 3 pt) (funext fun a => Fin.ext (by
    match a with
    | ⟨0, _⟩ => rfl
    | ⟨1, _⟩ => show 0 + 1 * b.val = b.val; omega
    | ⟨2, _⟩ => show 0 + 1 * j.val = j.val; omega))
  rw [e, read3]
  pointwise []

theorem mu_at (j : Fin 1024) : iblk m c 4 pt (ix2 0 j) = D4 m c (ix1 j) := by
  rw [read4]
  pointwise []

theorem w0_at (j : Fin 256) : iblk m c 5 pt (ix2 0 j) = D5 m c (ix1 j) := by
  rw [read5]
  pointwise []

theorem a0_at (j : Fin 256) : iblk m c 6 pt (ix2 0 j) = D7 m c (ix1 j) := by
  rw [read6]
  pointwise []

theorem wDecay_low (w : FVec Ideal S64x256 .f32) (p : Fin 64) (j : Fin 256) : wDecay w (ix2 ⟨p.val, by omega⟩ j) = w (ix2 p j) := by
  pointwise [wDecay]

theorem wDecay_high (w : FVec Ideal S64x256 .f32) (p : Fin 64) (j : Fin 256) : wDecay w (ix2 ⟨64 + p.val, by omega⟩ j) = (0 : EReal) := by
  pointwise [wDecay, zeros]

theorem wRate_low (w : FVec Ideal S64x256 .f32) (p : Fin 64) (j : Fin 256) : wRate w (ix2 ⟨p.val, by omega⟩ j) = (0 : EReal) := by
  pointwise [wRate, zeros]

theorem wRate_high (w : FVec Ideal S64x256 .f32) (p : Fin 64) (j : Fin 256) : wRate w (ix2 ⟨64 + p.val, by omega⟩ j) = w (ix2 p j) := by
  pointwise [wRate]

/-- The arguments as functions of their coordinates. -/
def aX : Fin 512 → Fin 1024 → EReal := v2 (D0 m c)
def aU : Fin 512 → Fin 768 → EReal := v2 (D1 m c)
def aS : Fin 128 → Fin 1024 → EReal := v2 (D2 m c)
def aC : Fin 128 → Fin 2 → Fin 256 → EReal := v3 (D3 m c)
def aMu : Fin 1024 → EReal := v1 (D4 m c)
def aW0 : Fin 256 → EReal := v1 (D5 m c)
def aWd : Fin 64 → Fin 256 → EReal := v2 (D6 m c)
def aA0 : Fin 256 → EReal := v1 (D7 m c)
def aWi : Fin 64 → Fin 256 → EReal := v2 (D8 m c)
def aWg : Fin 128 → Fin 256 → EReal := v2 (D9 m c)
def aCw : Fin 3 → Fin 256 → EReal := v2 (D10 m c)

theorem mixRow_at (r : Fin 512) (k : Fin 1024) :
    k0_pay6 (iblk m c 2 pt) (iblk m c 0 pt) (iblk m c 4 pt) (ix2 r k) = mixRowS (aX m c) (aS m c) (aMu m c) r k := by
  have e0 : (fun (r : Fin 512) (k : Fin 1024) => (iblk m c 0 pt : Vec Ideal S512x1024 .f32) (ix2 r k)) = aX m c := by
    funext a b; exact read0 m c a b
  have e2 : (fun (r : Fin 128) (k : Fin 1024) => (iblk m c 2 pt : Vec Ideal S128x1024 .f32) (ix2 r k)) = aS m c := by
    funext a b; exact read2 m c a b
  have e4 : (fun (k : Fin 1024) => (iblk m c 4 pt : Vec Ideal S1x1024 .f32) (ix2 0 k)) = aMu m c := by
    funext b; exact mu_at m c b
  rw [← e0, ← e2, ← e4]
  exact mix_apply _ _ _ r k

theorem decay_at (r : Fin 512) (j : Fin 256) :
    decayOf (iblk m c 2 pt) (iblk m c 0 pt) (iblk m c 4 pt) (iblk m c 5 pt) (iblk m c 7 pt) (ix2 r j)
      = decayS (aX m c) (aS m c) (aMu m c) (aW0 m c) (aWd m c) r j := by
  refine (decay_apply _ _ _ _ _ r j).trans ?_
  unfold decayS
  refine congrArg decay (congrArg₂ (· + ·) (w0_at m c j) ?_)
  refine (sum_low _ _ (fun x => aWd m c x j) (fun x => (read7 m c _ j).trans (wDecay_low _ x j)) (fun x => (read7 m c _ j).trans (wDecay_high _ x j))).trans ?_
  exact Finset.sum_congr rfl fun x _ => congrArg (fun y => Ideal.tanh y * aWd m c x j) (mixRow_at m c r _)

theorem rate_at (r : Fin 512) (j : Fin 256) :
    rateOf (iblk m c 2 pt) (iblk m c 0 pt) (iblk m c 4 pt) (iblk m c 6 pt) (iblk m c 8 pt) (ix2 r j)
      = rateS (aX m c) (aS m c) (aMu m c) (aA0 m c) (aWi m c) r j := by
  refine (rate_apply _ _ _ _ _ r j).trans ?_
  unfold rateS
  refine congrArg sigm (congrArg₂ (· + ·) (a0_at m c j) ?_)
  refine (sum_high _ _ (fun x => aWi m c x j) (fun x => (read8 m c _ j).trans (wRate_low _ x j)) (fun x => (read8 m c _ j).trans (wRate_high _ x j))).trans ?_
  exact Finset.sum_congr rfl fun x _ => congrArg (fun y => y * aWi m c x j)
    ((mixRow_at m c r ⟨768 + (64 + x.val), by omega⟩).trans (congrArg (mixRowS (aX m c) (aS m c) (aMu m c) r) (Fin.ext (by show 768 + (64 + x.val) = 832 + x.val; omega))))

theorem gate_at (r : Fin 512) (j : Fin 256) :
    gateOf (iblk m c 2 pt) (iblk m c 0 pt) (iblk m c 4 pt) (iblk m c 9 pt) (ix2 r j)
      = gateS (aX m c) (aS m c) (aMu m c) (aWg m c) r j := by
  refine (gate_apply _ _ _ _ r j).trans ?_
  unfold gateS
  exact Finset.sum_congr rfl fun x _ => congrArg₂ (fun y z => sigm y * z) (mixRow_at m c r _) (read9 m c x j)

theorem cu_at (r : Fin 512) (j : Fin 256) : k0_pay2 (iblk m c 1 pt) (ix2 r j) = cuS (aU m c) r j :=
  (cu_apply _ r j).trans (congrArg₂ (· * ·) (read1 m c r _) (read1 m c r _))

theorem one_at (r : Fin 512) (j : Fin 256) :
    oneOf (k0_pay2 (iblk m c 1 pt)) (k0_pay4 (conv1 (iblk m c 3 pt))) (ix2 r j) = oneS (aU m c) (aC m c) r j := by
  refine (one_apply _ _ r j).trans ?_
  unfold oneS
  by_cases h : r.val < 128
  · rw [dif_pos h, dif_pos h]
    exact (initOne _ _ _).trans (conv1_at m c _ j)
  · rw [dif_neg h, dif_neg h]
    exact cu_at m c _ j

theorem two_at (r : Fin 512) (j : Fin 256) :
    oneOf (oneOf (k0_pay2 (iblk m c 1 pt)) (k0_pay4 (conv1 (iblk m c 3 pt)))) (k0_pay5 (conv0 (iblk m c 3 pt))) (ix2 r j) = twoS (aU m c) (aC m c) r j := by
  refine (one_apply _ _ r j).trans ?_
  unfold twoS
  by_cases h : r.val < 128
  · rw [dif_pos h, dif_pos h]
    exact (initTwo _ _ _).trans (conv0_at m c _ j)
  · rw [dif_neg h, dif_neg h]
    exact one_at m c _ j

theorem conv_at (r : Fin 512) (j : Fin 256) :
    k0_pay3 (k0_pay4 (conv1 (iblk m c 3 pt))) (k0_pay5 (conv0 (iblk m c 3 pt))) (iblk m c 1 pt) (iblk m c 10 pt) (ix2 r j)
      = convS (aU m c) (aC m c) (aCw m c) r j := by
  refine (conv_apply _ _ _ _ r j).trans ?_
  unfold convS
  refine congrArg₂ (· * ·) (read1 m c r _) (congrArg₂ (· + ·) (congrArg₂ (· + ·) ?_ ?_) ?_)
  · exact congrArg₂ (· * ·) (read10 m c 0 j) (two_at m c r j)
  · exact congrArg₂ (· * ·) (read10 m c 1 j) (one_at m c r j)
  · exact congrArg₂ (· * ·) (read10 m c 2 j) (cu_at m c r j)

theorem arr11 (r : Fin 512) (j : Fin 256) : (dats m 0 c).arrAt 11 cfg0.N (ix2 r j) = mixRowS (aX m c) (aS m c) (aMu m c) r ⟨j.val, by omega⟩ :=
  ((left11 m c r j).trans (r_apply _ _ _ r j)).trans (mixRow_at m c r _)
theorem arr12 (r : Fin 512) (j : Fin 256) : (dats m 0 c).arrAt 12 cfg0.N (ix2 r j) = mixRowS (aX m c) (aS m c) (aMu m c) r ⟨256 + j.val, by omega⟩ :=
  ((left12 m c r j).trans (k_apply _ _ _ r j)).trans (mixRow_at m c r _)
theorem arr13 (r : Fin 512) (j : Fin 256) : (dats m 0 c).arrAt 13 cfg0.N (ix2 r j) = mixRowS (aX m c) (aS m c) (aMu m c) r ⟨512 + j.val, by omega⟩ :=
  ((left13 m c r j).trans (v_apply _ _ _ r j)).trans (mixRow_at m c r _)
theorem arr14 (r : Fin 512) (j : Fin 256) : (dats m 0 c).arrAt 14 cfg0.N (ix2 r j) = decayS (aX m c) (aS m c) (aMu m c) (aW0 m c) (aWd m c) r j :=
  (left14 m c r j).trans (decay_at m c r j)
theorem arr15 (r : Fin 512) (j : Fin 256) : (dats m 0 c).arrAt 15 cfg0.N (ix2 r j) = rateS (aX m c) (aS m c) (aMu m c) (aA0 m c) (aWi m c) r j :=
  (left15 m c r j).trans (rate_at m c r j)
theorem arr16 (r : Fin 512) (j : Fin 256) : (dats m 0 c).arrAt 16 cfg0.N (ix2 r j) = gateS (aX m c) (aS m c) (aMu m c) (aWg m c) r j :=
  (left16 m c r j).trans (gate_at m c r j)
theorem arr17 (r : Fin 512) (j : Fin 256) : (dats m 0 c).arrAt 17 cfg0.N (ix2 r j) = convS (aU m c) (aC m c) (aCw m c) r j :=
  (left17 m c r j).trans (conv_at m c r j)
theorem arr18 (r : Fin 512) (j : Fin 256) : (dats m 0 c).arrAt 18 cfg0.N (ix2 r j) = cuS (aU m c) r j :=
  (left18 m c r j).trans (cu_at m c r j)

end Cert.SampMix
end
-- ==== Proof.SampMixRef.lean ====
/- THE SAMPLE BATCH'S TOKEN MIXING OF THE REFERENCE: its operations, in groups, and what each group is at a position of a sequence. -/
module

public import proofs.«01_k».proof.Proof.Gen.Reference5Ideal.Run
public import proofs.«01_k».proof.Proof.SampMixTile
public import Idealize.ShloMosaic.Lib.Pointwise

@[expose] public section

set_option maxRecDepth 16384

noncomputable section

namespace Cert.SampMix.Ref

open Cert.Mix Cert.Reference5Ideal Cert.Reference5Ideal.Gen Idealize.ShloMosaic Idealize.ShloMosaic.TcCoe

section anyFloats
variable {F : FTy → Type} [FloatOps F]

/-- The sequences' rows, and the rows before them. -/
def seqs (x : FVec F S512x1024 .f32) : FVec F S128x4x1024 .f32 := transpose S128x4x1024 [1, 0, 2] (shapeCast S4x128x1024 x shapeCasts_S512x1024_S4x128x1024) transposes_S4x128x1024_S128x4x1024_1_0_2

def shifted (x : FVec F S512x1024 .f32) (s : FVec F S128x1024 .f32) : FVec F S128x4x1024 .f32 :=
  concatenate S128x4x1024 1 [⟨S128x1x1024, broadcastInDim S128x1x1024 ![0, 2] bcast_S128x1024_S128x1x1024_0_2 s⟩,
    ⟨S128x3x1024, extractStridedSlice S128x3x1024 ![0, 0, 0] (seqs x) slices_S128x4x1024_S128x3x1024_0_0_0⟩]
    concatenates_S128x1x1024_S128x3x1024_S128x4x1024_d1

/-- The token shift. -/
def mix (x : FVec F S512x1024 .f32) (s : FVec F S128x1024 .f32) (mu : FVec F S1024 .f32) : FVec F S128x4x1024 .f32 :=
  addf (seqs x) (mulf (subf (shifted x s) (seqs x))
    (broadcastInDim S128x4x1024 ![0, 1, 2] bcast_S1x1x1024_S128x4x1024_0_1_2 (broadcastInDim S1x1x1024 ![2] bcast_S1024_S1x1x1024_2 mu)))

/-- A row of 256 at every position; one number everywhere. -/
def every (w : FVec F S256 .f32) : FVec F S128x4x256 .f32 :=
  broadcastInDim S128x4x256 ![0, 1, 2] bcast_S1x1x256_S128x4x256_0_1_2 (broadcastInDim S1x1x256 ![2] bcast_S256_S1x1x256_2 w)
def all (b : BitVec 32) : FVec F S128x4x256 .f32 := broadcastInDim S128x4x256 ![] bcast_S_S128x4x256 (constant S_ .f32 b)
def allG (b : BitVec 32) : FVec F S128x4x128 .f32 := broadcastInDim S128x4x128 ![] bcast_S_S128x4x128 (constant S_ .f32 b)

/-- `log (1 + exp y)`. -/
def softplus (y : FVec F S128x4x256 .f32) : FVec F S128x4x256 .f32 :=
  select (cmpf .une (subf y (all 0x00000000#32)) (subf y (all 0x00000000#32))) (addf y (all 0x00000000#32))
    (addf (maximumf y (all 0x00000000#32)) (Host.log1p (Host.exp (Host.negf (Host.absf (subf y (all 0x00000000#32)))))))

def decayIn (p : FVec F S128x4x1024 .f32) (w0 : FVec F S256 .f32) (W : FVec F S64x256 .f32) : FVec F S128x4x256 .f32 :=
  addf (every w0) (Host.dotGeneral dot_S128x4x64_S64x256_S128x4x256_2_0_01_1_n_n none
    (Host.tanh (extractStridedSlice S128x4x64 ![0, 0, 768] p slices_S128x4x1024_S128x4x64_0_0_768)) W)

def decays (z : FVec F S128x4x256 .f32) : FVec F S128x4x256 .f32 :=
  Host.exp (Host.negf (Host.exp (subf (Host.negf (softplus (Host.negf z))) (all 0x3F000000#32))))

def rateIn (p : FVec F S128x4x1024 .f32) (a0 : FVec F S256 .f32) (W : FVec F S64x256 .f32) : FVec F S128x4x256 .f32 :=
  addf (every a0) (Host.dotGeneral dot_S128x4x64_S64x256_S128x4x256_2_0_01_1_n_n none
    (extractStridedSlice S128x4x64 ![0, 0, 832] p slices_S128x4x1024_S128x4x64_0_0_832) W)

def rates (z : FVec F S128x4x256 .f32) : FVec F S128x4x256 .f32 :=
  Host.divf (all 0x3F800000#32) (addf (all 0x3F800000#32) (Host.exp (Host.negf z)))

def gates (p : FVec F S128x4x1024 .f32) (W : FVec F S128x256 .f32) : FVec F S128x4x256 .f32 :=
  Host.dotGeneral dot_S128x4x128_S128x256_S128x4x256_2_0_01_1_n_n none
    (Host.divf (allG 0x3F800000#32) (addf (allG 0x3F800000#32)
      (Host.exp (Host.negf (extractStridedSlice S128x4x128 ![0, 0, 896] p slices_S128x4x1024_S128x4x128_0_0_896))))) W

/-- The convolution's columns; its input, after the state's two rows. -/
def cseqs (u : FVec F S512x768 .f32) : FVec F S128x4x768 .f32 := transpose S128x4x768 [1, 0, 2] (shapeCast S4x128x768 u shapeCasts_S512x768_S4x128x768) transposes_S4x128x768_S128x4x768_1_0_2

def padded (u : FVec F S512x768 .f32) (s : FVec F S128x2x256 .f32) : FVec F S128x6x256 .f32 :=
  concatenate S128x6x256 1 [⟨S128x2x256, s⟩,
    ⟨S128x4x256, mulf (extractStridedSlice S128x4x256 ![0, 0, 256] (cseqs u) slices_S128x4x768_S128x4x256_0_0_256)
      (extractStridedSlice S128x4x256 ![0, 0, 512] (cseqs u) slices_S128x4x768_S128x4x256_0_0_512)⟩]
    concatenates_S128x2x256_S128x4x256_S128x6x256_d1

def convs (u : FVec F S512x768 .f32) (s : FVec F S128x2x256 .f32) (w : FVec F S3x256 .f32) : FVec F S128x4x256 .f32 :=
  mulf (extractStridedSlice S128x4x256 ![0, 0, 0] (cseqs u) slices_S128x4x768_S128x4x256_0_0_0)
    (addf
      (addf
        (mulf (every (shapeCast S256 (extractStridedSlice S1x256 ![0, 0] w slices_S3x256_S1x256_0_0) shapeCasts_S1x256_S256))
          (extractStridedSlice S128x4x256 ![0, 0, 0] (padded u s) slices_S128x6x256_S128x4x256_0_0_0))
        (mulf (every (shapeCast S256 (extractStridedSlice S1x256 ![1, 0] w slices_S3x256_S1x256_1_0) shapeCasts_S1x256_S256))
          (extractStridedSlice S128x4x256 ![0, 1, 0] (padded u s) slices_S128x6x256_S128x4x256_0_1_0)))
      (mulf (every (shapeCast S256 (extractStridedSlice S1x256 ![2, 0] w slices_S3x256_S1x256_2_0) shapeCasts_S1x256_S256))
        (extractStridedSlice S128x4x256 ![0, 2, 0] (padded u s) slices_S128x6x256_S128x4x256_0_2_0)))

/-- The sequences' rows again as one list. -/
def rows (y : FVec F S128x4x256 .f32) : FVec F S512x256 .f32 := shapeCast S512x256 (transpose S4x128x256 [1, 0, 2] y transposes_S128x4x256_S4x128x256_1_0_2) shapeCasts_S4x128x256_S512x256

def out0 (p : FVec F S128x4x1024 .f32) : FVec F S512x256 .f32 := rows (extractStridedSlice S128x4x256 ![0, 0, 0] p slices_S128x4x1024_S128x4x256_0_0_0)
def out1 (p : FVec F S128x4x1024 .f32) : FVec F S512x256 .f32 := rows (extractStridedSlice S128x4x256 ![0, 0, 256] p slices_S128x4x1024_S128x4x256_0_0_256)
def out2 (p : FVec F S128x4x1024 .f32) : FVec F S512x256 .f32 := rows (extractStridedSlice S128x4x256 ![0, 0, 512] p slices_S128x4x1024_S128x4x256_0_0_512)
def out6 (u : FVec F S512x768 .f32) (s : FVec F S128x2x256 .f32) (w : FVec F S3x256 .f32) : FVec F S512x256 .bf16 := truncf .bf16 (rows (convs u s w)) bitsLt_bf16_f32
def out7 (u : FVec F S512x768 .f32) (s : FVec F S128x2x256 .f32) : FVec F S512x256 .f32 :=
  rows (extractStridedSlice S128x4x256 ![0, 2, 0] (padded u s) slices_S128x6x256_S128x4x256_0_2_0)
end anyFloats

variable (x : FVec Ideal S512x1024 .f32) (s : FVec Ideal S128x1024 .f32) (mu : FVec Ideal S1024 .f32) (b : Fin 128) (t : Fin 4)

theorem seqs_apply (k : Fin 1024) : seqs x (ix3 b t k) = v2 x (rowS b t) k := by
  pointwise [seqs]
  rfl

theorem shifted_apply (k : Fin 1024) : shifted x s (ix3 b t k) = beforeS (v2 x) (v2 s) (rowS b t) k := by
  pointwise [shifted]
  unfold beforeS
  by_cases h : t.val = 0
  · rw [dif_pos (by omega), dif_pos (by show t.val * 128 + b.val < 128; omega)]
    exact congrArg (fun i => v2 s i k) (Fin.ext (by show b.val = t.val * 128 + b.val; omega))
  · rw [dif_neg (by omega), dif_neg (by show ¬t.val * 128 + b.val < 128; omega), seqs_apply]
    exact congrArg (fun R => v2 x R k) (Fin.ext (by show (t.val - 1) * 128 + b.val = t.val * 128 + b.val - 128; omega))

theorem mix_apply (k : Fin 1024) : mix x s mu (ix3 b t k) = mixRowS (v2 x) (v2 s) (v1 mu) (rowS b t) k := by
  pointwise [mix]
  rw [seqs_apply, shifted_apply]
  rfl

theorem softplus_apply (y : FVec Ideal S128x4x256 .f32) (j : Fin 256) : softplus y (ix3 b t j) = soft (y (ix3 b t j)) := by
  pointwise [softplus, all]
  rw [if_neg (by simp)]
  rfl

theorem decayIn_apply (p : FVec Ideal S128x4x1024 .f32) (w0 : FVec Ideal S256 .f32) (W : FVec Ideal S64x256 .f32) (j : Fin 256) :
    decayIn p w0 W (ix3 b t j) = (w0 (ix1 j) : EReal) + ∑ x : Fin 64, Ideal.tanh (p (ix3 b t ⟨768 + x.val, by omega⟩)) * (W (ix2 x j) : EReal) := by
  pointwise [decayIn, every]

theorem decays_apply (z : FVec Ideal S128x4x256 .f32) (j : Fin 256) : decays z (ix3 b t j) = decay (z (ix3 b t j)) := by
  pointwise [decays, all]
  rw [softplus_apply]
  rfl

theorem rateIn_apply (p : FVec Ideal S128x4x1024 .f32) (w0 : FVec Ideal S256 .f32) (W : FVec Ideal S64x256 .f32) (j : Fin 256) :
    rateIn p w0 W (ix3 b t j) = (w0 (ix1 j) : EReal) + ∑ x : Fin 64, (p (ix3 b t ⟨832 + x.val, by omega⟩) : EReal) * (W (ix2 x j) : EReal) := by
  pointwise [rateIn, every]

theorem rates_apply (z : FVec Ideal S128x4x256 .f32) (j : Fin 256) : rates z (ix3 b t j) = sigm (z (ix3 b t j)) := by
  pointwise [rates, all]
  rfl

theorem gates_apply (p : FVec Ideal S128x4x1024 .f32) (W : FVec Ideal S128x256 .f32) (j : Fin 256) :
    gates p W (ix3 b t j) = ∑ x : Fin 128, sigm (p (ix3 b t ⟨896 + x.val, by omega⟩)) * (W (ix2 x j) : EReal) := by
  pointwise [gates, allG]
  rfl

variable (u : FVec Ideal S512x768 .f32) (cs : FVec Ideal S128x2x256 .f32) (w : FVec Ideal S3x256 .f32)

theorem cseqs_apply (k : Fin 768) : cseqs u (ix3 b t k) = v2 u (rowS b t) k := by
  pointwise [cseqs]
  rfl

theorem padded_apply (i : Fin 6) (j : Fin 256) : padded u cs (ix3 b i j)
    = if h : i.val < 2 then v3 cs b ⟨i.val, h⟩ j else cuS (v2 u) (rowS b ⟨i.val - 2, by omega⟩) j := by
  pointwise [padded]
  by_cases h : i.val < 2
  · rw [dif_pos h, dif_pos h]
    rfl
  · rw [dif_neg h, dif_neg h, cseqs_apply, cseqs_apply]
    rfl

theorem padded_one (j : Fin 256) : padded u cs (ix3 b ⟨1 + t.val, by omega⟩ j) = oneS (v2 u) (v3 cs) (rowS b t) j := by
  rw [padded_apply]
  unfold oneS
  by_cases h : t.val = 0
  · rw [dif_pos (by show 1 + t.val < 2; omega), dif_pos (by show t.val * 128 + b.val < 128; omega)]
    exact congrArg₂ (fun i k => v3 cs i k j) (Fin.ext (by show b.val = t.val * 128 + b.val; omega)) (Fin.ext (by show 1 + t.val = 1; omega))
  · rw [dif_neg (by show ¬1 + t.val < 2; omega), dif_neg (by show ¬t.val * 128 + b.val < 128; omega)]
    exact congrArg (fun R => cuS (v2 u) R j) (Fin.ext (by show (1 + t.val - 2) * 128 + b.val = t.val * 128 + b.val - 128; omega))

theorem padded_two (j : Fin 256) : padded u cs (ix3 b ⟨t.val, by omega⟩ j) = twoS (v2 u) (v3 cs) (rowS b t) j := by
  unfold twoS
  by_cases h : t.val = 0
  · rw [padded_apply, dif_pos (by show t.val < 2; omega), dif_pos (by show t.val * 128 + b.val < 128; omega)]
    exact congrArg₂ (fun i k => v3 cs i k j) (Fin.ext (by show b.val = t.val * 128 + b.val; omega)) (Fin.ext h)
  · rw [dif_neg (by show ¬t.val * 128 + b.val < 128; omega)]
    have e : (⟨t.val, by omega⟩ : Fin 6) = ⟨1 + (⟨t.val - 1, by omega⟩ : Fin 4).val, by show 1 + (t.val - 1) < 6; omega⟩ :=
      Fin.ext (by show t.val = 1 + (t.val - 1); omega)
    rw [e, padded_one b ⟨t.val - 1, by omega⟩ u cs j]
    exact congrArg (fun R => oneS (v2 u) (v3 cs) R j) (Fin.ext (by show (t.val - 1) * 128 + b.val = t.val * 128 + b.val - 128; omega))

theorem padded_zero (j : Fin 256) : padded u cs (ix3 b ⟨2 + t.val, by omega⟩ j) = cuS (v2 u) (rowS b t) j := by
  rw [padded_apply, dif_neg (by show ¬2 + t.val < 2; omega)]
  exact congrArg (fun R => cuS (v2 u) R j) (Fin.ext (by show (2 + t.val - 2) * 128 + b.val = t.val * 128 + b.val; omega))

theorem convs_apply (j : Fin 256) : convs u cs w (ix3 b t j) = convS (v2 u) (v3 cs) (v2 w) (rowS b t) j := by
  pointwise [convs, every]
  rw [cseqs_apply, padded_two, padded_one, padded_zero]
  rfl

theorem rows_apply (y : FVec Ideal S128x4x256 .f32) (R : Fin 512) (j : Fin 256) :
    rows y (ix2 R j) = y (ix3 ⟨R.val % 128, by omega⟩ ⟨R.val / 128, by omega⟩ j) := by
  pointwise [rows]

end Cert.SampMix.Ref
end
-- ==== Proof.SampMixClaims.lean ====
/- THE CLAIMS OF THE SAMPLE BATCH'S TOKEN MIXING: the kernel's eight results are the reference's. -/
module

public import proofs.«01_k».proof.Defs
public import proofs.«01_k».proof.Proof.SampMixKernel
public import proofs.«01_k».proof.Proof.SampMixRef

@[expose] public section

set_option maxRecDepth 16384

noncomputable section

namespace Cert.SampMix

open Cert.Mix Idealize.ShloMosaic Idealize.SL.Sem

theorem row_of (r : Fin 512) (h : r.val % 128 < 128) (h' : r.val / 128 < 4) : rowS ⟨r.val % 128, h⟩ ⟨r.val / 128, h'⟩ = r :=
  Fin.ext (by show r.val / 128 * 128 + r.val % 128 = r.val; omega)

section
variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The reference's arguments are the kernel's. -/
def Agree : Prop := m' ((c.tc : Thread Cert.Reference5Ideal.nD Cert.Reference5Ideal.τ).loc Cert.Reference5Ideal.main_arg0) = D0 m c
      ∧ m' ((c.tc : Thread Cert.Reference5Ideal.nD Cert.Reference5Ideal.τ).loc Cert.Reference5Ideal.main_arg1) = D1 m c
      ∧ m' ((c.tc : Thread Cert.Reference5Ideal.nD Cert.Reference5Ideal.τ).loc Cert.Reference5Ideal.main_arg2) = D2 m c
      ∧ m' ((c.tc : Thread Cert.Reference5Ideal.nD Cert.Reference5Ideal.τ).loc Cert.Reference5Ideal.main_arg3) = D3 m c
      ∧ m' ((c.tc : Thread Cert.Reference5Ideal.nD Cert.Reference5Ideal.τ).loc Cert.Reference5Ideal.main_arg4) = D4 m c
      ∧ m' ((c.tc : Thread Cert.Reference5Ideal.nD Cert.Reference5Ideal.τ).loc Cert.Reference5Ideal.main_arg5) = D5 m c
      ∧ m' ((c.tc : Thread Cert.Reference5Ideal.nD Cert.Reference5Ideal.τ).loc Cert.Reference5Ideal.main_arg6) = D6 m c
      ∧ m' ((c.tc : Thread Cert.Reference5Ideal.nD Cert.Reference5Ideal.τ).loc Cert.Reference5Ideal.main_arg7) = D7 m c
      ∧ m' ((c.tc : Thread Cert.Reference5Ideal.nD Cert.Reference5Ideal.τ).loc Cert.Reference5Ideal.main_arg8) = D8 m c
      ∧ m' ((c.tc : Thread Cert.Reference5Ideal.nD Cert.Reference5Ideal.τ).loc Cert.Reference5Ideal.main_arg9) = D9 m c
      ∧ m' ((c.tc : Thread Cert.Reference5Ideal.nD Cert.Reference5Ideal.τ).loc Cert.Reference5Ideal.main_arg10) = D10 m c

/-- The reference's arguments. -/
def E0 : FVec Ideal Cert.Reference5Ideal.S512x1024 .f32 := m' ((c.tc : Thread Cert.Reference5Ideal.nD Cert.Reference5Ideal.τ).loc Cert.Reference5Ideal.main_arg0)
def E1 : FVec Ideal Cert.Reference5Ideal.S512x768 .f32 := m' ((c.tc : Thread Cert.Reference5Ideal.nD Cert.Reference5Ideal.τ).loc Cert.Reference5Ideal.main_arg1)
def E2 : FVec Ideal Cert.Reference5Ideal.S128x1024 .f32 := m' ((c.tc : Thread Cert.Reference5Ideal.nD Cert.Reference5Ideal.τ).loc Cert.Reference5Ideal.main_arg2)
def E3 : FVec Ideal Cert.Reference5Ideal.S128x2x256 .f32 := m' ((c.tc : Thread Cert.Reference5Ideal.nD Cert.Reference5Ideal.τ).loc Cert.Reference5Ideal.main_arg3)
def E4 : FVec Ideal Cert.Reference5Ideal.S1024 .f32 := m' ((c.tc : Thread Cert.Reference5Ideal.nD Cert.Reference5Ideal.τ).loc Cert.Reference5Ideal.main_arg4)
def E5 : FVec Ideal Cert.Reference5Ideal.S256 .f32 := m' ((c.tc : Thread Cert.Reference5Ideal.nD Cert.Reference5Ideal.τ).loc Cert.Reference5Ideal.main_arg5)
def E6 : FVec Ideal Cert.Reference5Ideal.S64x256 .f32 := m' ((c.tc : Thread Cert.Reference5Ideal.nD Cert.Reference5Ideal.τ).loc Cert.Reference5Ideal.main_arg6)
def E7 : FVec Ideal Cert.Reference5Ideal.S256 .f32 := m' ((c.tc : Thread Cert.Reference5Ideal.nD Cert.Reference5Ideal.τ).loc Cert.Reference5Ideal.main_arg7)
def E8 : FVec Ideal Cert.Reference5Ideal.S64x256 .f32 := m' ((c.tc : Thread Cert.Reference5Ideal.nD Cert.Reference5Ideal.τ).loc Cert.Reference5Ideal.main_arg8)
def E9 : FVec Ideal Cert.Reference5Ideal.S128x256 .f32 := m' ((c.tc : Thread Cert.Reference5Ideal.nD Cert.Reference5Ideal.τ).loc Cert.Reference5Ideal.main_arg9)
def E10 : FVec Ideal Cert.Reference5Ideal.S3x256 .f32 := m' ((c.tc : Thread Cert.Reference5Ideal.nD Cert.Reference5Ideal.τ).loc Cert.Reference5Ideal.main_arg10)

/-- The reference's columns after the shift. -/
def mixE : FVec Ideal Cert.Reference5Ideal.S128x4x1024 .f32 := Ref.mix (E0 m' c) (E2 m' c) (E4 m' c)

variable {m m' c} (ha : Agree m m' c)
include ha

theorem same0 : E0 m' c = D0 m c := ha.1
theorem same1 : E1 m' c = D1 m c := ha.2.1
theorem same2 : E2 m' c = D2 m c := ha.2.2.1
theorem same3 : E3 m' c = D3 m c := ha.2.2.2.1
theorem same4 : E4 m' c = D4 m c := ha.2.2.2.2.1
theorem same5 : E5 m' c = D5 m c := ha.2.2.2.2.2.1
theorem same6 : E6 m' c = D6 m c := ha.2.2.2.2.2.2.1
theorem same7 : E7 m' c = D7 m c := ha.2.2.2.2.2.2.2.1
theorem same8 : E8 m' c = D8 m c := ha.2.2.2.2.2.2.2.2.1
theorem same9 : E9 m' c = D9 m c := ha.2.2.2.2.2.2.2.2.2.1
theorem same10 : E10 m' c = D10 m c := ha.2.2.2.2.2.2.2.2.2.2

theorem mix_same (b : Fin 128) (s : Fin 4) (k : Fin 1024) : mixE m' c (ix3 b s k) = mixRowS (aX m c) (aS m c) (aMu m c) (rowS b s) k := by
  unfold mixE
  rw [Ref.mix_apply, same0 ha, same2 ha, same4 ha]
  rfl

theorem same_out0 : Ref.out0 (mixE m' c) = (Cert.Kernel5Ideal.Gen.dats m 0 c).arrAt 11 Cert.Kernel5Ideal.cfg0.N := by
  funext z
  idx_vars z
  refine Eq.trans ?_ (arr11 m c z0 z1).symm
  unfold Ref.out0
  rw [Ref.rows_apply]
  refine Eq.trans ?_ ((mix_same ha ⟨z0.val % 128, by omega⟩ ⟨z0.val / 128, by omega⟩ _).trans (by rw [row_of]))
  pointwise []

theorem same_out1 : Ref.out1 (mixE m' c) = (Cert.Kernel5Ideal.Gen.dats m 0 c).arrAt 12 Cert.Kernel5Ideal.cfg0.N := by
  funext z
  idx_vars z
  refine Eq.trans ?_ (arr12 m c z0 z1).symm
  unfold Ref.out1
  rw [Ref.rows_apply]
  refine Eq.trans ?_ ((mix_same ha ⟨z0.val % 128, by omega⟩ ⟨z0.val / 128, by omega⟩ _).trans (by rw [row_of]))
  pointwise []

theorem same_out2 : Ref.out2 (mixE m' c) = (Cert.Kernel5Ideal.Gen.dats m 0 c).arrAt 13 Cert.Kernel5Ideal.cfg0.N := by
  funext z
  idx_vars z
  refine Eq.trans ?_ (arr13 m c z0 z1).symm
  unfold Ref.out2
  rw [Ref.rows_apply]
  refine Eq.trans ?_ ((mix_same ha ⟨z0.val % 128, by omega⟩ ⟨z0.val / 128, by omega⟩ _).trans (by rw [row_of]))
  pointwise []

theorem same_decay : Ref.rows (Ref.decays (Ref.decayIn (mixE m' c) (E5 m' c) (E6 m' c))) = (Cert.Kernel5Ideal.Gen.dats m 0 c).arrAt 14 Cert.Kernel5Ideal.cfg0.N := by
  funext z
  idx_vars z
  refine Eq.trans ?_ (arr14 m c z0 z1).symm
  rw [Ref.rows_apply, Ref.decays_apply, Ref.decayIn_apply, same5 ha, same6 ha]
  simp only [mix_same ha, row_of]
  rfl

theorem same_rate : Ref.rows (Ref.rates (Ref.rateIn (mixE m' c) (E7 m' c) (E8 m' c))) = (Cert.Kernel5Ideal.Gen.dats m 0 c).arrAt 15 Cert.Kernel5Ideal.cfg0.N := by
  funext z
  idx_vars z
  refine Eq.trans ?_ (arr15 m c z0 z1).symm
  rw [Ref.rows_apply, Ref.rates_apply, Ref.rateIn_apply, same7 ha, same8 ha]
  simp only [mix_same ha, row_of]
  rfl

theorem same_gate : Ref.rows (Ref.gates (mixE m' c) (E9 m' c)) = (Cert.Kernel5Ideal.Gen.dats m 0 c).arrAt 16 Cert.Kernel5Ideal.cfg0.N := by
  funext z
  idx_vars z
  refine Eq.trans ?_ (arr16 m c z0 z1).symm
  rw [Ref.rows_apply, Ref.gates_apply, same9 ha]
  simp only [mix_same ha, row_of]
  rfl

theorem same_conv : Ref.out6 (E1 m' c) (E3 m' c) (E10 m' c) = (Cert.Kernel5Ideal.Gen.dats m 0 c).arrAt 17 Cert.Kernel5Ideal.cfg0.N := by
  funext z
  idx_vars z
  refine Eq.trans ?_ (arr17 m c z0 z1).symm
  refine Eq.trans (b := Ref.rows (Ref.convs (E1 m' c) (E3 m' c) (E10 m' c)) (ix2 z0 z1)) rfl ?_
  rw [Ref.rows_apply, Ref.convs_apply, same1 ha, same3 ha, same10 ha, row_of]
  rfl

theorem same_cu : Ref.out7 (E1 m' c) (E3 m' c) = (Cert.Kernel5Ideal.Gen.dats m 0 c).arrAt 18 Cert.Kernel5Ideal.cfg0.N := by
  funext z
  idx_vars z
  refine Eq.trans ?_ (arr18 m c z0 z1).symm
  unfold Ref.out7
  rw [Ref.rows_apply]
  refine Eq.trans ?_ ((Ref.padded_zero ⟨z0.val % 128, by omega⟩ ⟨z0.val / 128, by omega⟩ (E1 m' c) (E3 m' c) z1).trans (by rw [same1 ha, row_of]; rfl))
  pointwise []

end

/-- The reference declares no semaphore and its run leaves the arguments. -/
theorem ref_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal)))
      ⟨m, fun _ => 0, ρ⟩ (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
        ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
        ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
        ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
        ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
        ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
        ∧ r.2.sem = fun _ => 0) :=
  (θ_run _ _ _).mono (fun r h => ⟨fun c => (h c).2.2.2.2.2.2.2.2, sem_eq_zero_of_no_sems (by decide) r.2⟩) (Cert.Reference5Ideal.Value.run (F := Ideal) m ρ)

theorem algebraic : Cert.algebraic_Kernel5Ideal_Reference5Ideal
    (hKernel5Ideal := Cert.Kernel5Ideal.Gen.facts) (hReference5Ideal := Cert.Reference5Ideal.Gen.facts) :=
  fun m ρ m' ρ' _ hag => ⟨fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N, fun c => (Cert.Kernel5Ideal.Gen.dats m 0 c).arrAt 17 Cert.Kernel5Ideal.cfg0.N, fun c => (Cert.Kernel5Ideal.Gen.dats m 0 c).arrAt 18 Cert.Kernel5Ideal.cfg0.N,
    Cert.Kernel5Ideal.Value.run_blocks (F := Ideal) m ρ,
    (θ_run _ _ _).mono (fun _ h c => ⟨(h c).1.trans (same_out0 (hag c)),
        (h c).2.1.trans (same_out1 (hag c)),
        (h c).2.2.1.trans (same_out2 (hag c)),
        (h c).2.2.2.1.trans (same_decay (hag c)),
        (h c).2.2.2.2.1.trans (same_rate (hag c)),
        (h c).2.2.2.2.2.1.trans (same_gate (hag c)),
        (h c).2.2.2.2.2.2.1.trans (same_conv (hag c)),
        (h c).2.2.2.2.2.2.2.1.trans (same_cu (hag c)), (h c).2.2.2.2.2.2.2.2⟩)
      (Cert.Reference5Ideal.Value.run (F := Ideal) m' ρ')⟩

end Cert.SampMix
end
-- ==== Proof.lean ====
/- The assembly of `Cert.Claim`: the frames are the generated ones, the value claims are proved in Proof/Attention.lean,
   Proof/ProjClaims.lean, Proof/MixClaims.lean, Proof/SampClaims.lean and Proof/SampMixClaims.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Attention
public import proofs.«01_k».proof.Proof.ProjClaims
public import proofs.«01_k».proof.Proof.MixClaims
public import proofs.«01_k».proof.Proof.SampClaims
public import proofs.«01_k».proof.Proof.SampMixClaims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Attn.finiteFacts, Cert.Proj.finiteFacts2, Cert.Samp.finiteFacts4,
  fun m ρ _ => Cert.Kernel.Gen.frame m ρ,
  fun m ρ _ => Cert.KernelIdeal.Gen.frame m ρ,
  fun m ρ _ => Cert.KernelIdeal.Gen.frame m ρ,
  fun m ρ _ => Cert.Attn.ref_frame m ρ,
  fun m ρ _ => Cert.Attn.ref_frame m ρ,
  fun m ρ _ => Cert.Kernel2.Gen.frame m ρ,
  fun m ρ _ => Cert.Kernel2Ideal.Gen.frame m ρ,
  fun m ρ _ => Cert.Kernel2Ideal.Gen.frame m ρ,
  fun m ρ _ => Cert.Proj.ref_frame m ρ,
  fun m ρ _ => Cert.Proj.ref_frame m ρ,
  fun m ρ _ => Cert.Kernel3.Gen.frame m ρ,
  fun m ρ _ => Cert.Kernel3Ideal.Gen.frame m ρ,
  fun m ρ _ => Cert.Mix.ref_frame m ρ,
  fun m ρ _ => Cert.Kernel4.Gen.frame m ρ,
  fun m ρ _ => Cert.Kernel4Ideal.Gen.frame m ρ,
  fun m ρ _ => Cert.Kernel4Ideal.Gen.frame m ρ,
  fun m ρ _ => Cert.Samp.ref_frame m ρ,
  fun m ρ _ => Cert.Samp.ref_frame m ρ,
  fun m ρ _ => Cert.Kernel5.Gen.frame m ρ,
  fun m ρ _ => Cert.Kernel5Ideal.Gen.frame m ρ,
  fun m ρ _ => Cert.SampMix.ref_frame m ρ,
  trivial,
  Cert.Attn.algebraic,
  Cert.Proj.preserves,
  Cert.Proj.algebraic,
  trivial,
  Cert.Mix.algebraic,
  Cert.Samp.preserves,
  Cert.Samp.algebraic,
  trivial,
  Cert.SampMix.algebraic⟩

end Cert.Proof

end
